-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_settled [hKernelIdeal : Cert.KernelIdeal.Facts] [hReferenceIdeal : Cert.ReferenceIdeal.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v86)) (v2 : (c : Dev Cert.KernelIdeal.nD) → Buf (Elt Ideal) ((c.tc : Thread Cert.KernelIdeal.nD Cert.KernelIdeal.τ).loc Cert.KernelIdeal.main_v84)) (v3 : (c : Dev Cert.KernelIdeal.nD) → Buf (Elt Ideal) ((c.tc : Thread Cert.KernelIdeal.nD Cert.KernelIdeal.τ).loc Cert.KernelIdeal.main_v91)) (v4 : (c : Dev Cert.KernelIdeal.nD) → Buf (Elt Ideal) ((c.tc : Thread Cert.KernelIdeal.nD Cert.KernelIdeal.τ).loc Cert.KernelIdeal.main_v92)) (v5 : (c : Dev Cert.KernelIdeal.nD) → Buf (Elt Ideal) ((c.tc : Thread Cert.KernelIdeal.nD Cert.KernelIdeal.τ).loc Cert.KernelIdeal.main_v93)) (v6 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 i = 1#1 → r.2.mem ((c.tc : Thread Cert.KernelIdeal.nD Cert.KernelIdeal.τ).loc Cert.KernelIdeal.main_v90) i = v0 c i)
          ∧ (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 i = 1#1 → r.2.mem ((c.tc : Thread Cert.KernelIdeal.nD Cert.KernelIdeal.τ).loc Cert.KernelIdeal.main_v86) i = v1 c i)
          ∧ (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 i = 1#1 → r.2.mem ((c.tc : Thread Cert.KernelIdeal.nD Cert.KernelIdeal.τ).loc Cert.KernelIdeal.main_v84) i = v2 c i)
          ∧ (∀ i : (⟨2, ![1024, 10]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 i = 1#1 → r.2.mem ((c.tc : Thread Cert.KernelIdeal.nD Cert.KernelIdeal.τ).loc Cert.KernelIdeal.main_v91) i = v3 c i)
          ∧ (∀ i : (⟨2, ![1024, 10]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 i = 1#1 → r.2.mem ((c.tc : Thread Cert.KernelIdeal.nD Cert.KernelIdeal.τ).loc Cert.KernelIdeal.main_v92) i = v4 c i)
          ∧ (∀ i : (⟨2, ![1024, 2]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 i = 1#1 → r.2.mem ((c.tc : Thread Cert.KernelIdeal.nD Cert.KernelIdeal.τ).loc Cert.KernelIdeal.main_v93) i = v5 c i)
          ∧ (∀ i : (⟨2, ![1024, 4]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2 i = 1#1 → r.2.mem ((c.tc : Thread Cert.KernelIdeal.nD Cert.KernelIdeal.τ).loc Cert.KernelIdeal.main_v94) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 i = 1#1 → r.2.mem ((c.tc : Thread Cert.ReferenceIdeal.nD Cert.ReferenceIdeal.τ).loc Cert.ReferenceIdeal.main_v166) i = v0 c i)
          ∧ (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 i = 1#1 → r.2.mem ((c.tc : Thread Cert.ReferenceIdeal.nD Cert.ReferenceIdeal.τ).loc Cert.ReferenceIdeal.main_v127) i = v1 c i)
          ∧ (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 i = 1#1 → r.2.mem ((c.tc : Thread Cert.ReferenceIdeal.nD Cert.ReferenceIdeal.τ).loc Cert.ReferenceIdeal.main_v164) i = v2 c i)
          ∧ (∀ i : (⟨2, ![1024, 10]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 i = 1#1 → r.2.mem ((c.tc : Thread Cert.ReferenceIdeal.nD Cert.ReferenceIdeal.τ).loc Cert.ReferenceIdeal.main_v121) i = v3 c i)
          ∧ (∀ i : (⟨2, ![1024, 10]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 i = 1#1 → r.2.mem ((c.tc : Thread Cert.ReferenceIdeal.nD Cert.ReferenceIdeal.τ).loc Cert.ReferenceIdeal.main_v138) i = v4 c i)
          ∧ (∀ i : (⟨2, ![1024, 2]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 i = 1#1 → r.2.mem ((c.tc : Thread Cert.ReferenceIdeal.nD Cert.ReferenceIdeal.τ).loc Cert.ReferenceIdeal.main_v58) i = v5 c i)
          ∧ (∀ i : (⟨2, ![1024, 4]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2 i = 1#1 → r.2.mem ((c.tc : Thread Cert.ReferenceIdeal.nD Cert.ReferenceIdeal.τ).loc Cert.ReferenceIdeal.main_v116) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hOn_settled : Cert.On_settled.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_settled (hKernelIdeal := hKernelIdeal) (hReferenceIdeal := hReferenceIdeal) (hOn_settled := hOn_settled)
-- ==== On_settled.lean ====
abbrev S1024x32x32x3 : Shape := ⟨4, ![1024, 32, 32, 3]⟩
abbrev S1024 : Shape := ⟨1, ![1024]⟩
abbrev S_ : Shape := ⟨0, ![]⟩
abbrev S3072x2048 : Shape := ⟨2, ![3072, 2048]⟩
abbrev S2048 : Shape := ⟨1, ![2048]⟩
abbrev S2048x128 : Shape := ⟨2, ![2048, 128]⟩
abbrev S128 : Shape := ⟨1, ![128]⟩
abbrev S128x2 : Shape := ⟨2, ![128, 2]⟩
abbrev S2 : Shape := ⟨1, ![2]⟩
abbrev S2x2048x1024 : Shape := ⟨3, ![2, 2048, 1024]⟩
abbrev S2x1024 : Shape := ⟨2, ![2, 1024]⟩
abbrev S1024x128 : Shape := ⟨2, ![1024, 128]⟩
abbrev S128x4 : Shape := ⟨2, ![128, 4]⟩
abbrev S4 : Shape := ⟨1, ![4]⟩
abbrev S4x1024x10 : Shape := ⟨3, ![4, 1024, 10]⟩
abbrev S4x10 : Shape := ⟨2, ![4, 10]⟩
abbrev S1024x10 : Shape := ⟨2, ![1024, 10]⟩
abbrev S1024x2 : Shape := ⟨2, ![1024, 2]⟩
abbrev S1024x4 : Shape := ⟨2, ![1024, 4]⟩

class Facts : Prop where
  bcast_S_S1024x32x32x3 : S_.BroadcastsInDim S1024x32x32x3 (![] : Fin 0 → Fin S1024x32x32x3.rank)
  reducesTo_S1024x32x32x3_S_d0_1_2_3 : S1024x32x32x3.ReducesTo [0, 1, 2, 3] S_
  h_S_ : 0 < S_.numel
  bcast_S_S3072x2048 : S_.BroadcastsInDim S3072x2048 (![] : Fin 0 → Fin S3072x2048.rank)
  reducesTo_S3072x2048_S_d0_1 : S3072x2048.ReducesTo [0, 1] S_
  bcast_S_S2048 : S_.BroadcastsInDim S2048 (![] : Fin 0 → Fin S2048.rank)
  reducesTo_S2048_S_d0 : S2048.ReducesTo [0] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S4x1024x10 : S_.BroadcastsInDim S4x1024x10 (![] : Fin 0 → Fin S4x1024x10.rank)
  reducesTo_S4x1024x10_S_d0_1_2 : S4x1024x10.ReducesTo [0, 1, 2] S_
  bcast_S_S4x10 : S_.BroadcastsInDim S4x10 (![] : Fin 0 → Fin S4x10.rank)
  reducesTo_S4x10_S_d0_1 : S4x10.ReducesTo [0, 1] S_
  bcast_S_S1024x10 : S_.BroadcastsInDim S1024x10 (![] : Fin 0 → Fin S1024x10.rank)
  bcast_S_S1024x2 : S_.BroadcastsInDim S1024x2 (![] : Fin 0 → Fin S1024x2.rank)
  bcast_S_S1024x4 : S_.BroadcastsInDim S1024x4 (![] : Fin 0 → Fin S1024x4.rank)

variable [Facts]

def fn_part2 {F : FTy → Type} [FloatOps F] (main_v29 : IVec S_ 1) (main_v32 : IVec S4x10 1) (main_c_12 : IVec S_ 1) : IVec S_ 1 × IVec S_ 1 × IVec S_ 1 × IVec S1024x10 1 × IVec S1024x10 1 × IVec S1024x2 1 × IVec S1024x4 1 :=
  let main_v33 : IVec S_ 1 := (fun x v => Host.reduce IntOp.andi x v reducesTo_S4x10_S_d0_1 h_S_) main_v32 main_c_12
  let main_v34 : IVec S_ 1 := andi main_v29 main_v33
  let main_c_13 : IVec S_ 1 := constantI S_ 1 1#1
  let main_v35 : IVec S1024x10 1 := broadcastInDim S1024x10 ![] bcast_S_S1024x10 main_c_13
  let main_c_14 : IVec S_ 1 := constantI S_ 1 1#1
  let main_v36 : IVec S1024x10 1 := broadcastInDim S1024x10 ![] bcast_S_S1024x10 main_c_14
  let main_c_15 : IVec S_ 1 := constantI S_ 1 1#1
  let main_v37 : IVec S1024x2 1 := broadcastInDim S1024x2 ![] bcast_S_S1024x2 main_c_15
  let main_c_16 : IVec S_ 1 := constantI S_ 1 1#1
  let main_v38 : IVec S1024x4 1 := broadcastInDim S1024x4 ![] bcast_S_S1024x4 main_c_16
  let main_c_17 : IVec S_ 1 := constantI S_ 1 1#1
  (main_v34, main_v34, main_c_17, main_v35, main_v36, main_v37, main_v38)

def fn_part1 {F : FTy → Type} [FloatOps F] (main_arg11 : FVec F S2x1024 .f32) (main_arg16 : FVec F S4x1024x10 .f32) (main_arg17 : FVec F S4x10 .f32) (main_v14 : IVec S_ 1) (main_v15 : FVec F S2x2048x1024 .f32) (main_cst_5 : FVec F S_ .f32) : IVec S_ 1 × IVec S_ 1 × IVec S_ 1 × IVec S1024x10 1 × IVec S1024x10 1 × IVec S1024x2 1 × IVec S1024x4 1 :=
  let main_v16 : FVec F S2x2048x1024 .f32 := broadcastInDim S2x2048x1024 ![] bcast_S_S2x2048x1024 main_cst_5
  let main_v17 : IVec S2x2048x1024 1 := cmpf .olt main_v15 main_v16
  let main_c_6 : IVec S_ 1 := constantI S_ 1 1#1
  let main_v18 : IVec S_ 1 := (fun x v => Host.reduce IntOp.andi x v reducesTo_S2x2048x1024_S_d0_1_2 h_S_) main_v17 main_c_6
  let main_v19 : IVec S_ 1 := andi main_v14 main_v18
  let main_v20 : FVec F S2x1024 .f32 := Host.absf main_arg11
  let main_cst_7 : FVec F S_ .f32 := constant S_ .f32 0x7F800000#32
  let main_v21 : FVec F S2x1024 .f32 := broadcastInDim S2x1024 ![] bcast_S_S2x1024 main_cst_7
  let main_v22 : IVec S2x1024 1 := cmpf .olt main_v20 main_v21
  let main_c_8 : IVec S_ 1 := constantI S_ 1 1#1
  let main_v23 : IVec S_ 1 := (fun x v => Host.reduce IntOp.andi x v reducesTo_S2x1024_S_d0_1 h_S_) main_v22 main_c_8
  let main_v24 : IVec S_ 1 := andi main_v19 main_v23
  let main_v25 : FVec F S4x1024x10 .f32 := Host.absf main_arg16
  let main_cst_9 : FVec F S_ .f32 := constant S_ .f32 0x7F800000#32
  let main_v26 : FVec F S4x1024x10 .f32 := broadcastInDim S4x1024x10 ![] bcast_S_S4x1024x10 main_cst_9
  let main_v27 : IVec S4x1024x10 1 := cmpf .olt main_v25 main_v26
  let main_c_10 : IVec S_ 1 := constantI S_ 1 1#1
  let main_v28 : IVec S_ 1 := (fun x v => Host.reduce IntOp.andi x v reducesTo_S4x1024x10_S_d0_1_2 h_S_) main_v27 main_c_10
  let main_v29 : IVec S_ 1 := andi main_v24 main_v28
  let main_v30 : FVec F S4x10 .f32 := Host.absf main_arg17
  let main_cst_11 : FVec F S_ .f32 := constant S_ .f32 0x7F800000#32
  let main_v31 : FVec F S4x10 .f32 := broadcastInDim S4x10 ![] bcast_S_S4x10 main_cst_11
  let main_v32 : IVec S4x10 1 := cmpf .olt main_v30 main_v31
  let main_c_12 : IVec S_ 1 := constantI S_ 1 1#1
  fn_part2 (F := F) main_v29 main_v32 main_c_12

def fn {F : FTy → Type} [FloatOps F] (main_arg0 : FVec F S1024x32x32x3 .f32) (main_arg1 : IVec S1024 32) (main_arg2 : FVec F S_ .f32) (main_arg3 : IVec S_ 1) (main_arg4 : FVec F S3072x2048 .f32) (main_arg5 : FVec F S2048 .f32) (main_arg6 : FVec F S2048x128 .f32) (main_arg7 : FVec F S128 .f32) (main_arg8 : FVec F S128x2 .f32) (main_arg9 : FVec F S2 .f32) (main_arg10 : FVec F S2x2048x1024 .f32) (main_arg11 : FVec F S2x1024 .f32) (main_arg12 : FVec F S1024x128 .f32) (main_arg13 : FVec F S128 .f32) (main_arg14 : FVec F S128x4 .f32) (main_arg15 : FVec F S4 .f32) (main_arg16 : FVec F S4x1024x10 .f32) (main_arg17 : FVec F S4x10 .f32) : IVec S_ 1 × IVec S_ 1 × IVec S_ 1 × IVec S1024x10 1 × IVec S1024x10 1 × IVec S1024x2 1 × IVec S1024x4 1 :=
  let main_v0 : FVec F S1024x32x32x3 .f32 := Host.absf main_arg0
  let main_cst : FVec F S_ .f32 := constant S_ .f32 0x7F800000#32
  let main_v1 : FVec F S1024x32x32x3 .f32 := broadcastInDim S1024x32x32x3 ![] bcast_S_S1024x32x32x3 main_cst
  let main_v2 : IVec S1024x32x32x3 1 := cmpf .olt main_v0 main_v1
  let main_c : IVec S_ 1 := constantI S_ 1 1#1
  let main_v3 : IVec S_ 1 := (fun x v => Host.reduce IntOp.andi x v reducesTo_S1024x32x32x3_S_d0_1_2_3 h_S_) main_v2 main_c
  let main_c_0 : IVec S_ 1 := constantI S_ 1 1#1
  let main_v4 : IVec S_ 1 := andi main_c_0 main_v3
  let main_v5 : FVec F S3072x2048 .f32 := Host.absf main_arg4
  let main_cst_1 : FVec F S_ .f32 := constant S_ .f32 0x7F800000#32
  let main_v6 : FVec F S3072x2048 .f32 := broadcastInDim S3072x2048 ![] bcast_S_S3072x2048 main_cst_1
  let main_v7 : IVec S3072x2048 1 := cmpf .olt main_v5 main_v6
  let main_c_2 : IVec S_ 1 := constantI S_ 1 1#1
  let main_v8 : IVec S_ 1 := (fun x v => Host.reduce IntOp.andi x v reducesTo_S3072x2048_S_d0_1 h_S_) main_v7 main_c_2
  let main_v9 : IVec S_ 1 := andi main_v4 main_v8
  let main_v10 : FVec F S2048 .f32 := Host.absf main_arg5
  let main_cst_3 : FVec F S_ .f32 := constant S_ .f32 0x7F800000#32
  let main_v11 : FVec F S2048 .f32 := broadcastInDim S2048 ![] bcast_S_S2048 main_cst_3
  let main_v12 : IVec S2048 1 := cmpf .olt main_v10 main_v11
  let main_c_4 : IVec S_ 1 := constantI S_ 1 1#1
  let main_v13 : IVec S_ 1 := (fun x v => Host.reduce IntOp.andi x v reducesTo_S2048_S_d0 h_S_) main_v12 main_c_4
  let main_v14 : IVec S_ 1 := andi main_v9 main_v13
  let main_v15 : FVec F S2x2048x1024 .f32 := Host.absf main_arg10
  let main_cst_5 : FVec F S_ .f32 := constant S_ .f32 0x7F800000#32
  fn_part1 (F := F) main_arg11 main_arg16 main_arg17 main_v14 main_v15 main_cst_5
-- ==== Kernel.lean ====
abbrev S1024x32x32x3 : Shape := ⟨4, ![1024, 32, 32, 3]⟩
abbrev S1024 : Shape := ⟨1, ![1024]⟩
abbrev S_ : Shape := ⟨0, ![]⟩
abbrev S3072x2048 : Shape := ⟨2, ![3072, 2048]⟩
abbrev S2048 : Shape := ⟨1, ![2048]⟩
abbrev S2048x128 : Shape := ⟨2, ![2048, 128]⟩
abbrev S128 : Shape := ⟨1, ![128]⟩
abbrev S128x2 : Shape := ⟨2, ![128, 2]⟩
abbrev S2 : Shape := ⟨1, ![2]⟩
abbrev S2x2048x1024 : Shape := ⟨3, ![2, 2048, 1024]⟩
abbrev S2x1024 : Shape := ⟨2, ![2, 1024]⟩
abbrev S1024x128 : Shape := ⟨2, ![1024, 128]⟩
abbrev S128x4 : Shape := ⟨2, ![128, 4]⟩
abbrev S4 : Shape := ⟨1, ![4]⟩
abbrev S4x1024x10 : Shape := ⟨3, ![4, 1024, 10]⟩
abbrev S4x10 : Shape := ⟨2, ![4, 10]⟩
abbrev S1024x3072 : Shape := ⟨2, ![1024, 3072]⟩
abbrev S1024x1 : Shape := ⟨2, ![1024, 1]⟩
abbrev S1x10 : Shape := ⟨2, ![1, 10]⟩
abbrev S1024x10 : Shape := ⟨2, ![1024, 10]⟩
abbrev S1x1 : Shape := ⟨2, ![1, 1]⟩
abbrev S1x2 : Shape := ⟨2, ![1, 2]⟩
abbrev S128x8 : Shape := ⟨2, ![128, 8]⟩
abbrev S1x8 : Shape := ⟨2, ![1, 8]⟩
abbrev S1x4 : Shape := ⟨2, ![1, 4]⟩
abbrev S1024x4x10 : Shape := ⟨3, ![1024, 4, 10]⟩
abbrev S1024x4x128 : Shape := ⟨3, ![1024, 4, 128]⟩
abbrev S1024x512 : Shape := ⟨2, ![1024, 512]⟩
abbrev S4x128 : Shape := ⟨2, ![4, 128]⟩
abbrev S1x512 : Shape := ⟨2, ![1, 512]⟩
abbrev S1x2048 : Shape := ⟨2, ![1, 2048]⟩
abbrev S1024x2048 : Shape := ⟨2, ![1024, 2048]⟩
abbrev S1x128 : Shape := ⟨2, ![1, 128]⟩
abbrev S3072x512 : Shape := ⟨2, ![3072, 512]⟩
abbrev S1x3072x512 : Shape := ⟨3, ![1, 3072, 512]⟩
abbrev S1 : Shape := ⟨1, ![1]⟩
abbrev S1x1x1 : Shape := ⟨3, ![1, 1, 1]⟩
abbrev S2x1x1024 : Shape := ⟨3, ![2, 1, 1024]⟩
abbrev S1024x8 : Shape := ⟨2, ![1024, 8]⟩
abbrev S10x8 : Shape := ⟨2, ![10, 8]⟩
abbrev S1024x2 : Shape := ⟨2, ![1024, 2]⟩
abbrev S1024x4 : Shape := ⟨2, ![1024, 4]⟩
abbrev S1x2048x256 : Shape := ⟨3, ![1, 2048, 256]⟩
abbrev S1x1x256 : Shape := ⟨3, ![1, 1, 256]⟩
abbrev S1024x1024 : Shape := ⟨2, ![1024, 1024]⟩
abbrev S1x1x2 : Shape := ⟨3, ![1, 1, 2]⟩
abbrev S1x2048x128 : Shape := ⟨3, ![1, 2048, 128]⟩
abbrev S1x128x8 : Shape := ⟨3, ![1, 128, 8]⟩
abbrev S2048x256 : Shape := ⟨2, ![2048, 256]⟩
abbrev S1024x256 : Shape := ⟨2, ![1024, 256]⟩
abbrev S1x256 : Shape := ⟨2, ![1, 256]⟩
abbrev S1x1024x10 : Shape := ⟨3, ![1, 1024, 10]⟩
abbrev S1x1x128 : Shape := ⟨3, ![1, 1, 128]⟩
abbrev S1x1024x512 : Shape := ⟨3, ![1, 1024, 512]⟩
abbrev S1x1024x128 : Shape := ⟨3, ![1, 1024, 128]⟩
abbrev S10x2 : Shape := ⟨2, ![10, 2]⟩
abbrev S10 : Shape := ⟨1, ![10]⟩
abbrev S10x4 : Shape := ⟨2, ![10, 4]⟩

abbrev nBuf : Space → Nat
  | .hbm => 166
  | .vmem => 39
  | .smem => 0
  | _ => 0

abbrev hbmTy0_0 (i : Nat) : BufTy := match i % 128 with
  | 0 => ⟨S1024x32x32x3, .f32⟩
  | 1 => ⟨S1024, .i32⟩
  | 2 => ⟨S_, .f32⟩
  | 3 => ⟨S_, .i1⟩
  | 4 => ⟨S3072x2048, .f32⟩
  | 5 => ⟨S2048, .f32⟩
  | 6 => ⟨S2048x128, .f32⟩
  | 7 => ⟨S128, .f32⟩
  | 8 => ⟨S128x2, .f32⟩
  | 9 => ⟨S2, .f32⟩
  | 10 => ⟨S2x2048x1024, .f32⟩
  | 11 => ⟨S2x1024, .f32⟩
  | 12 => ⟨S1024x128, .f32⟩
  | 13 => ⟨S128, .f32⟩
  | 14 => ⟨S128x4, .f32⟩
  | 15 => ⟨S4, .f32⟩
  | 16 => ⟨S4x1024x10, .f32⟩
  | 17 => ⟨S4x10, .f32⟩
  | 18 => ⟨S1024x3072, .f32⟩
  | 19 => ⟨S1024x3072, .bf16⟩
  | 20 => ⟨S1024x1, .i32⟩
  | 21 => ⟨S1x10, .i32⟩
  | 22 => ⟨S1024x10, .i32⟩
  | 23 => ⟨S1024x10, .i32⟩
  | 24 => ⟨S1024x10, .i1⟩
  | 25 => ⟨S1024x10, .f32⟩
  | 26 => ⟨S1x1, .f32⟩
  | 27 => ⟨S_, .f32⟩
  | 28 => ⟨S1x1, .f32⟩
  | 29 => ⟨S1x2, .f32⟩
  | 30 => ⟨S_, .i32⟩
  | 31 => ⟨S_, .f32⟩
  | 32 => ⟨S128x8, .f32⟩
  | 33 => ⟨S1x2, .f32⟩
  | 34 => ⟨S_, .i32⟩
  | 35 => ⟨S_, .f32⟩
  | 36 => ⟨S1x8, .f32⟩
  | 37 => ⟨S_, .i32⟩
  | 38 => ⟨S_, .f32⟩
  | 39 => ⟨S128x8, .f32⟩
  | 40 => ⟨S1x4, .f32⟩
  | 41 => ⟨S_, .i32⟩
  | 42 => ⟨S_, .f32⟩
  | 43 => ⟨S1x8, .f32⟩
  | 44 => ⟨S1024x4x10, .f32⟩
  | 45 => ⟨S_, .i32⟩
  | 46 => ⟨S_, .f32⟩
  | 47 => ⟨S1024x4x128, .f32⟩
  | 48 => ⟨S1024x512, .f32⟩
  | 49 => ⟨S_, .i32⟩
  | 50 => ⟨S_, .f32⟩
  | 51 => ⟨S4x128, .f32⟩
  | 52 => ⟨S1x512, .f32⟩
  | 53 => ⟨S1x2048, .f32⟩
  | 54 => ⟨S1024x2048, .bf16⟩
  | 55 => ⟨S1x128, .f32⟩
  | 56 => ⟨S2x1x1024, .f32⟩
  | 57 => ⟨S1x128, .f32⟩
  | 58 => ⟨S1x128, .f32⟩
  | 59 => ⟨S1024x128, .f32⟩
  | 60 => ⟨S1024x128, .f32⟩
  | 61 => ⟨S1024x8, .f32⟩
  | 62 => ⟨S1024x8, .f32⟩
  | 63 => ⟨S1x128, .f32⟩
  | 64 => ⟨S10x8, .f32⟩
  | 65 => ⟨S10x8, .f32⟩
  | 66 => ⟨S1024x2, .f32⟩
  | 67 => ⟨S1024x4, .f32⟩
  | 68 => ⟨S1024x2, .f32⟩
  | 69 => ⟨S1024x4, .f32⟩
  | 70 => ⟨S1024x1, .i32⟩
  | 71 => ⟨S1x10, .i32⟩
  | 72 => ⟨S1024x10, .i32⟩
  | 73 => ⟨S1024x10, .i32⟩
  | 74 => ⟨S1024x10, .i1⟩
  | 75 => ⟨S1024x10, .f32⟩
  | 76 => ⟨S1024x10, .bf16⟩
  | 77 => ⟨S1024x2, .bf16⟩
  | 78 => ⟨S10x2, .f32⟩
  | 79 => ⟨S_, .f32⟩
  | 80 => ⟨S10x2, .f32⟩
  | 81 => ⟨S10x2, .f32⟩
  | 82 => ⟨S_, .f32⟩
  | 83 => ⟨S10, .f32⟩
  | 84 => ⟨S_, .f32⟩
  | 85 => ⟨S2, .f32⟩
  | 86 => ⟨S_, .f32⟩
  | 87 => ⟨S10x2, .f32⟩
  | 88 => ⟨S10x2, .f32⟩
  | 89 => ⟨S10x2, .f32⟩
  | 90 => ⟨S10x2, .f32⟩
  | 91 => ⟨S_, .f32⟩
  | 92 => ⟨S_, .f32⟩
  | 93 => ⟨S_, .f32⟩
  | 94 => ⟨S_, .f32⟩
  | 95 => ⟨S10, .f32⟩
  | 96 => ⟨S10, .f32⟩
  | 97 => ⟨S10, .f32⟩
  | 98 => ⟨S10, .f32⟩
  | 99 => ⟨S_, .f32⟩
  | 100 => ⟨S_, .f32⟩
  | 101 => ⟨S_, .f32⟩
  | 102 => ⟨S_, .f32⟩
  | 103 => ⟨S2, .f32⟩
  | 104 => ⟨S2, .f32⟩
  | 105 => ⟨S2, .f32⟩
  | 106 => ⟨S2, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S1024x10, .bf16⟩
  | 114 => ⟨S1024x4, .bf16⟩
  | 115 => ⟨S10x4, .f32⟩
  | 116 => ⟨S_, .f32⟩
  | 117 => ⟨S10x4, .f32⟩
  | 118 => ⟨S10x4, .f32⟩
  | 119 => ⟨S_, .f32⟩
  | 120 => ⟨S10, .f32⟩
  | 121 => ⟨S_, .f32⟩
  | 122 => ⟨S4, .f32⟩
  | 123 => ⟨S_, .f32⟩
  | 124 => ⟨S10x4, .f32⟩
  | 125 => ⟨S10x4, .f32⟩
  | 126 => ⟨S10x4, .f32⟩
  | 127 => ⟨S10x4, .f32⟩
  | _ => ⟨S1024x32x32x3, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S10, .f32⟩
  | 5 => ⟨S10, .f32⟩
  | 6 => ⟨S10, .f32⟩
  | 7 => ⟨S10, .f32⟩
  | 8 => ⟨S_, .f32⟩
  | 9 => ⟨S_, .f32⟩
  | 10 => ⟨S_, .f32⟩
  | 11 => ⟨S_, .f32⟩
  | 12 => ⟨S4, .f32⟩
  | 13 => ⟨S4, .f32⟩
  | 14 => ⟨S4, .f32⟩
  | 15 => ⟨S4, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S1x1, .f32⟩
  | 29 => ⟨S_, .f32⟩
  | 30 => ⟨S_, .f32⟩
  | 31 => ⟨S1x1, .f32⟩
  | 32 => ⟨S_, .f32⟩
  | 33 => ⟨S_, .f32⟩
  | 34 => ⟨S1024x10, .f32⟩
  | 35 => ⟨S1024x10, .f32⟩
  | 36 => ⟨S1024x2, .f32⟩
  | 37 => ⟨S1024x4, .f32⟩
  | _ => ⟨S1024x32x32x3, .f32⟩

abbrev hbmTy (i : Nat) : BufTy := match i / 128 with
  | 0 => hbmTy0_0 i
  | 1 => hbmTy0_1 i
  | _ => ⟨S1024x32x32x3, .f32⟩

abbrev bufTy : (tb : Table) → Fin (tcTables nBuf tb) → BufTy
  | .hbm, ⟨i, _⟩ => hbmTy i
  | .local _ .vmem, ⟨0, _⟩ => ⟨S1024x3072, .bf16⟩
  | .local _ .vmem, ⟨1, _⟩ => ⟨S3072x512, .f32⟩
  | .local _ .vmem, ⟨2, _⟩ => ⟨S3072x512, .f32⟩
  | .local _ .vmem, ⟨3, _⟩ => ⟨S1x512, .f32⟩
  | .local _ .vmem, ⟨4, _⟩ => ⟨S1x512, .f32⟩
  | .local _ .vmem, ⟨5, _⟩ => ⟨S1024x512, .bf16⟩
  | .local _ .vmem, ⟨6, _⟩ => ⟨S1024x512, .bf16⟩
  | .local _ .vmem, ⟨7, _⟩ => ⟨S1x128, .f32⟩
  | .local _ .vmem, ⟨8, _⟩ => ⟨S1024x2048, .bf16⟩
  | .local _ .vmem, ⟨9, _⟩ => ⟨S1x2048x256, .f32⟩
  | .local _ .vmem, ⟨10, _⟩ => ⟨S1x2048x256, .f32⟩
  | .local _ .vmem, ⟨11, _⟩ => ⟨S1x1x256, .f32⟩
  | .local _ .vmem, ⟨12, _⟩ => ⟨S1x1x256, .f32⟩
  | .local _ .vmem, ⟨13, _⟩ => ⟨S2048x128, .f32⟩
  | .local _ .vmem, ⟨14, _⟩ => ⟨S1x128, .f32⟩
  | .local _ .vmem, ⟨15, _⟩ => ⟨S128x8, .f32⟩
  | .local _ .vmem, ⟨16, _⟩ => ⟨S1x8, .f32⟩
  | .local _ .vmem, ⟨17, _⟩ => ⟨S1024x128, .f32⟩
  | .local _ .vmem, ⟨18, _⟩ => ⟨S1x128, .f32⟩
  | .local _ .vmem, ⟨19, _⟩ => ⟨S128x8, .f32⟩
  | .local _ .vmem, ⟨20, _⟩ => ⟨S1x8, .f32⟩
  | .local _ .vmem, ⟨21, _⟩ => ⟨S1024x512, .f32⟩
  | .local _ .vmem, ⟨22, _⟩ => ⟨S1x512, .f32⟩
  | .local _ .vmem, ⟨23, _⟩ => ⟨S1024x10, .f32⟩
  | .local _ .vmem, ⟨24, _⟩ => ⟨S1x128, .f32⟩
  | .local _ .vmem, ⟨25, _⟩ => ⟨S1x2, .f32⟩
  | .local _ .vmem, ⟨26, _⟩ => ⟨S1024x128, .f32⟩
  | .local _ .vmem, ⟨27, _⟩ => ⟨S1024x128, .f32⟩
  | .local _ .vmem, ⟨28, _⟩ => ⟨S1024x8, .f32⟩
  | .local _ .vmem, ⟨29, _⟩ => ⟨S1024x8, .f32⟩
  | .local _ .vmem, ⟨30, _⟩ => ⟨S1x128, .f32⟩
  | .local _ .vmem, ⟨31, _⟩ => ⟨S10x8, .f32⟩
  | .local _ .vmem, ⟨32, _⟩ => ⟨S10x8, .f32⟩
  | .local _ .vmem, ⟨33, _⟩ => ⟨S1024x2, .f32⟩
  | .local _ .vmem, ⟨34, _⟩ => ⟨S1024x4, .f32⟩
  | .local _ .vmem, ⟨35, _⟩ => ⟨S1024x2, .f32⟩
  | .local _ .vmem, ⟨36, _⟩ => ⟨S1024x4, .f32⟩
  | .local _ .vmem, ⟨37, _⟩ => ⟨S1024x8, .f32⟩
  | .local _ .vmem, ⟨38, _⟩ => ⟨S1024x1024, .f32⟩
  | _, _ => ⟨S1024x32x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c : Ref sig .tc := ⟨.hbm, 30, rfl⟩
abbrev main_call1_v0 : Ref sig .tc := ⟨.hbm, 31, rfl⟩
abbrev main_v7 : Ref sig .tc := ⟨.hbm, 32, rfl⟩
abbrev main_v8 : Ref sig .tc := ⟨.hbm, 33, rfl⟩
abbrev main_c_0 : Ref sig .tc := ⟨.hbm, 34, rfl⟩
abbrev main_call2_v0 : Ref sig .tc := ⟨.hbm, 35, rfl⟩
abbrev main_v9 : Ref sig .tc := ⟨.hbm, 36, rfl⟩
abbrev main_c_1 : Ref sig .tc := ⟨.hbm, 37, rfl⟩
abbrev main_call3_v0 : Ref sig .tc := ⟨.hbm, 38, rfl⟩
abbrev main_v10 : Ref sig .tc := ⟨.hbm, 39, rfl⟩
abbrev main_v11 : Ref sig .tc := ⟨.hbm, 40, rfl⟩
abbrev main_c_2 : Ref sig .tc := ⟨.hbm, 41, rfl⟩
abbrev main_call4_v0 : Ref sig .tc := ⟨.hbm, 42, rfl⟩
abbrev main_v12 : Ref sig .tc := ⟨.hbm, 43, rfl⟩
abbrev main_v13 : Ref sig .tc := ⟨.hbm, 44, rfl⟩
abbrev main_c_3 : Ref sig .tc := ⟨.hbm, 45, rfl⟩
abbrev main_call5_v0 : Ref sig .tc := ⟨.hbm, 46, rfl⟩
abbrev main_v14 : Ref sig .tc := ⟨.hbm, 47, rfl⟩
abbrev main_v15 : Ref sig .tc := ⟨.hbm, 48, rfl⟩
abbrev main_c_4 : Ref sig .tc := ⟨.hbm, 49, rfl⟩
abbrev main_call6_v0 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19_0 : Ref sig .tc := ⟨.hbm, 54, rfl⟩
abbrev main_v19_1 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23_0 : Ref sig .tc := ⟨.hbm, 59, rfl⟩
abbrev main_v23_1 : Ref sig .tc := ⟨.hbm, 60, rfl⟩
abbrev main_v23_2 : Ref sig .tc := ⟨.hbm, 61, rfl⟩
abbrev main_v23_3 : Ref sig .tc := ⟨.hbm, 62, rfl⟩
abbrev main_v23_4 : Ref sig .tc := ⟨.hbm, 63, rfl⟩
abbrev main_v23_5 : Ref sig .tc := ⟨.hbm, 64, rfl⟩
abbrev main_v23_6 : Ref sig .tc := ⟨.hbm, 65, rfl⟩
abbrev main_v23_7 : Ref sig .tc := ⟨.hbm, 66, rfl⟩
abbrev main_v23_8 : Ref sig .tc := ⟨.hbm, 67, rfl⟩
abbrev main_v23_9 : Ref sig .tc := ⟨.hbm, 68, rfl⟩
abbrev main_v23_10 : Ref sig .tc := ⟨.hbm, 69, rfl⟩
abbrev main_call7_v0 : Ref sig .tc := ⟨.hbm, 70, rfl⟩
abbrev main_call7_v1 : Ref sig .tc := ⟨.hbm, 71, rfl⟩
abbrev main_call7_v2 : Ref sig .tc := ⟨.hbm, 72, rfl⟩
abbrev main_call7_v3 : Ref sig .tc := ⟨.hbm, 73, rfl⟩
abbrev main_call7_v4 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst : Ref sig .tc := ⟨.hbm, 79, rfl⟩
abbrev main_v28 : Ref sig .tc := ⟨.hbm, 80, rfl⟩
abbrev main_v29 : Ref sig .tc := ⟨.hbm, 81, rfl⟩
abbrev main_cst_5 : Ref sig .tc := ⟨.hbm, 82, rfl⟩
abbrev main_v30 : Ref sig .tc := ⟨.hbm, 83, rfl⟩
abbrev main_cst_6 : Ref sig .tc := ⟨.hbm, 84, rfl⟩
abbrev main_v31 : Ref sig .tc := ⟨.hbm, 85, rfl⟩
abbrev main_cst_7 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst_8 : Ref sig .tc := ⟨.hbm, 91, rfl⟩
abbrev main_v36 : Ref sig .tc := ⟨.hbm, 92, rfl⟩
abbrev main_v37 : Ref sig .tc := ⟨.hbm, 93, rfl⟩
abbrev main_cst_9 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_10 : Ref sig .tc := ⟨.hbm, 99, rfl⟩
abbrev main_v42 : Ref sig .tc := ⟨.hbm, 100, rfl⟩
abbrev main_v43 : Ref sig .tc := ⟨.hbm, 101, rfl⟩
abbrev main_cst_11 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_12 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_13 : Ref sig .tc := ⟨.hbm, 116, rfl⟩
abbrev main_v56 : Ref sig .tc := ⟨.hbm, 117, rfl⟩
abbrev main_v57 : Ref sig .tc := ⟨.hbm, 118, rfl⟩
abbrev main_cst_14 : Ref sig .tc := ⟨.hbm, 119, rfl⟩
abbrev main_v58 : Ref sig .tc := ⟨.hbm, 120, rfl⟩
abbrev main_cst_15 : Ref sig .tc := ⟨.hbm, 121, rfl⟩
abbrev main_v59 : Ref sig .tc := ⟨.hbm, 122, rfl⟩
abbrev main_cst_16 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_17 : Ref sig .tc := ⟨.hbm, 128, rfl⟩
abbrev main_v64 : Ref sig .tc := ⟨.hbm, 129, rfl⟩
abbrev main_v65 : Ref sig .tc := ⟨.hbm, 130, rfl⟩
abbrev main_cst_18 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_19 : Ref sig .tc := ⟨.hbm, 136, rfl⟩
abbrev main_v70 : Ref sig .tc := ⟨.hbm, 137, rfl⟩
abbrev main_v71 : Ref sig .tc := ⟨.hbm, 138, rfl⟩
abbrev main_cst_20 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_cst_21 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_22 : Ref sig .tc := ⟨.hbm, 151, rfl⟩
abbrev main_v82 : Ref sig .tc := ⟨.hbm, 152, rfl⟩
abbrev main_cst_23 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg17_0 : Ref sig .tc := ⟨.vmem, 27, rfl⟩
abbrev cc1_stg18_0 : Ref sig .tc := ⟨.vmem, 28, rfl⟩
abbrev cc1_stg19_0 : Ref sig .tc := ⟨.vmem, 29, rfl⟩
abbrev cc1_stg20_0 : Ref sig .tc := ⟨.vmem, 30, rfl⟩
abbrev cc1_stg21_0 : Ref sig .tc := ⟨.vmem, 31, rfl⟩
abbrev cc1_stg22_0 : Ref sig .tc := ⟨.vmem, 32, rfl⟩
abbrev cc1_stg23_0 : Ref sig .tc := ⟨.vmem, 33, rfl⟩
abbrev cc1_stg24_0 : Ref sig .tc := ⟨.vmem, 34, rfl⟩
abbrev cc1_stg25_0 : Ref sig .tc := ⟨.vmem, 35, rfl⟩
abbrev cc1_stg26_0 : Ref sig .tc := ⟨.vmem, 36, rfl⟩
abbrev cc1_scratch0 : Ref sig .tc := ⟨.vmem, 37, rfl⟩
abbrev cc1_scratch1 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem15_0 : DmaSem sig := 25
abbrev cc1_sem16_0 : DmaSem sig := 26
abbrev cc1_sem17_0 : DmaSem sig := 27
abbrev cc1_sem18_0 : DmaSem sig := 28
abbrev cc1_sem19_0 : DmaSem sig := 29
abbrev cc1_sem20_0 : DmaSem sig := 30
abbrev cc1_sem21_0 : DmaSem sig := 31
abbrev cc1_sem22_0 : DmaSem sig := 32
abbrev cc1_sem23_0 : DmaSem sig := 33
abbrev cc1_sem24_0 : DmaSem sig := 34
abbrev cc1_sem25_0 : DmaSem sig := 35
abbrev cc1_sem26_0 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![4, 2], ![false, false]⟩

def k1_cond2 (i : grid1.Coords) : BitVec 1 :=
  let arg1 : BitVec 32 := BitVec.ofNat 32 (i 1).val
  let c0_i32_25 : BitVec 32 := 0#32
  let v68 : BitVec 1 := Scalar.cmpi .eq arg1 c0_i32_25
  let v69 : BitVec 32 := Scalar.extui v68
  let c0_i32_26 : BitVec 32 := 0#32
  let v70 : BitVec 1 := Scalar.cmpi .ne v69 c0_i32_26
  v70

def k1_off1 (i : grid1.Coords) : Fin 2 → Nat :=
  let c0_31 : Index := 0#32
  let arg0 : BitVec 32 := BitVec.ofNat 32 (i 0).val
  let c256_i32 : BitVec 32 := 256#32
  let v81 : BitVec 32 := Scalar.muli arg0 c256_i32
  let v82 : Index := Scalar.indexCast v81
  ![0, v82.toNat]
def k1_cond3 (i : grid1.Coords) : BitVec 1 :=
  let arg1 : BitVec 32 := BitVec.ofNat 32 (i 1).val
  let c1_i32_27 : BitVec 32 := 1#32
  let v71 : BitVec 1 := Scalar.cmpi .eq arg1 c1_i32_27
  let v72 : BitVec 32 := Scalar.extui v71
  let c0_i32_28 : BitVec 32 := 0#32
  let v73 : BitVec 1 := Scalar.cmpi .ne v72 c0_i32_28
  v73

def k1_off2 (i : grid1.Coords) : Fin 2 → Nat :=
  let c0_31 : Index := 0#32
  let arg0 : BitVec 32 := BitVec.ofNat 32 (i 0).val
  let c256_i32 : BitVec 32 := 256#32
  let v79 : BitVec 32 := Scalar.muli arg0 c256_i32
  let v80 : Index := Scalar.indexCast v79
  ![0, v80.toNat]
def k1_cond4 (i : grid1.Coords) : BitVec 1 :=
  let arg0 : BitVec 32 := BitVec.ofNat 32 (i 0).val
  let c3_i32 : BitVec 32 := 3#32
  let v74 : BitVec 1 := Scalar.cmpi .eq arg0 c3_i32
  let arg1 : BitVec 32 := BitVec.ofNat 32 (i 1).val
  let c1_i32_29 : BitVec 32 := 1#32
  let v75 : BitVec 1 := Scalar.cmpi .eq arg1 c1_i32_29
  let v76 : BitVec 1 := Scalar.andi v74 v75
  let v77 : BitVec 32 := Scalar.extui v76
  let c0_i32_30 : BitVec 32 := 0#32
  let v78 : BitVec 1 := Scalar.cmpi .ne v77 c0_i32_30
  v78

def k1_cond1 (i : grid1.Coords) : BitVec 1 :=
  let arg0 : BitVec 32 := BitVec.ofNat 32 (i 0).val
  let c0_i32_4 : BitVec 32 := 0#32
  let v24 : BitVec 1 := Scalar.cmpi .eq arg0 c0_i32_4
  let arg1 : BitVec 32 := BitVec.ofNat 32 (i 1).val
  let c0_i32_5 : BitVec 32 := 0#32
  let v25 : BitVec 1 := Scalar.cmpi .eq arg1 c0_i32_5
  let v26 : BitVec 1 := Scalar.andi v24 v25
  let v27 : BitVec 32 := Scalar.extui v26
  let c0_i32_6 : BitVec 32 := 0#32
  let v28 : BitVec 1 := Scalar.cmpi .ne v27 c0_i32_6
  v28

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S128x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x8 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1024x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1024x10 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x2 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S1024x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1024x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1024x8 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 1 → Memref sig .tc .vmem S1024x8 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false, false]

abbrev stage1_20 : Fin 1 → Memref sig .tc .vmem S1x128 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false, false]

abbrev stage1_21 : Fin 1 → Memref sig .tc .vmem S10x8 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false, false]

abbrev stage1_22 : Fin 1 → Memref sig .tc .vmem S10x8 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false, false]

abbrev stage1_23 : Fin 1 → Memref sig .tc .vmem S1024x2 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false, false]

abbrev stage1_24 : Fin 1 → Memref sig .tc .vmem S1024x4 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false, false]

abbrev stage1_25 : Fin 1 → Memref sig .tc .vmem S1024x2 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false, false]

abbrev stage1_26 : Fin 1 → Memref sig .tc .vmem S1024x4 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false, false]
-- ==== KernelIdeal.lean ====
variable {F : FTy → Type} [FloatOps F] [Named F]
def κ : String → Option EReal := fun
  | "mask" => some ⊥
  | _ => none
-- ==== ReferenceIdeal.lean ====
abbrev S1024x32x32x3 : Shape := ⟨4, ![1024, 32, 32, 3]⟩
abbrev S1024 : Shape := ⟨1, ![1024]⟩
abbrev S_ : Shape := ⟨0, ![]⟩
abbrev S3072x2048 : Shape := ⟨2, ![3072, 2048]⟩
abbrev S2048 : Shape := ⟨1, ![2048]⟩
abbrev S2048x128 : Shape := ⟨2, ![2048, 128]⟩
abbrev S128 : Shape := ⟨1, ![128]⟩
abbrev S128x2 : Shape := ⟨2, ![128, 2]⟩
abbrev S2 : Shape := ⟨1, ![2]⟩
abbrev S2x2048x1024 : Shape := ⟨3, ![2, 2048, 1024]⟩
abbrev S2x1024 : Shape := ⟨2, ![2, 1024]⟩
abbrev S1024x128 : Shape := ⟨2, ![1024, 128]⟩
abbrev S128x4 : Shape := ⟨2, ![128, 4]⟩
abbrev S4 : Shape := ⟨1, ![4]⟩
abbrev S4x1024x10 : Shape := ⟨3, ![4, 1024, 10]⟩
abbrev S4x10 : Shape := ⟨2, ![4, 10]⟩
abbrev S1024x3072 : Shape := ⟨2, ![1024, 3072]⟩
abbrev S1024x1 : Shape := ⟨2, ![1024, 1]⟩
abbrev S1x10 : Shape := ⟨2, ![1, 10]⟩
abbrev S1024x10 : Shape := ⟨2, ![1024, 10]⟩
abbrev S1024x2048 : Shape := ⟨2, ![1024, 2048]⟩
abbrev S1x2048 : Shape := ⟨2, ![1, 2048]⟩
abbrev S1x128 : Shape := ⟨2, ![1, 128]⟩
abbrev S1024x2 : Shape := ⟨2, ![1024, 2]⟩
abbrev S1x2 : Shape := ⟨2, ![1, 2]⟩
abbrev S10x2 : Shape := ⟨2, ![10, 2]⟩
abbrev S10 : Shape := ⟨1, ![10]⟩
abbrev S1024x2x1024 : Shape := ⟨3, ![1024, 2, 1024]⟩
abbrev S1x2x1024 : Shape := ⟨3, ![1, 2, 1024]⟩
abbrev S1024x1024 : Shape := ⟨2, ![1024, 1024]⟩
abbrev S1024x4 : Shape := ⟨2, ![1024, 4]⟩
abbrev S1x4 : Shape := ⟨2, ![1, 4]⟩
abbrev S10x4 : Shape := ⟨2, ![10, 4]⟩
abbrev S1024x4x10 : Shape := ⟨3, ![1024, 4, 10]⟩
abbrev S1x4x10 : Shape := ⟨3, ![1, 4, 10]⟩

abbrev nBuf : Space → Nat
  | .hbm => 273
  | .vmem => 0
  | .smem => 0
  | _ => 0

abbrev hbmTy0_0 (i : Nat) : BufTy := match i % 128 with
  | 0 => ⟨S1024x32x32x3, .f32⟩
  | 1 => ⟨S1024, .i32⟩
  | 2 => ⟨S_, .f32⟩
  | 3 => ⟨S_, .i1⟩
  | 4 => ⟨S3072x2048, .f32⟩
  | 5 => ⟨S2048, .f32⟩
  | 6 => ⟨S2048x128, .f32⟩
  | 7 => ⟨S128, .f32⟩
  | 8 => ⟨S128x2, .f32⟩
  | 9 => ⟨S2, .f32⟩
  | 10 => ⟨S2x2048x1024, .f32⟩
  | 11 => ⟨S2x1024, .f32⟩
  | 12 => ⟨S1024x128, .f32⟩
  | 13 => ⟨S128, .f32⟩
  | 14 => ⟨S128x4, .f32⟩
  | 15 => ⟨S4, .f32⟩
  | 16 => ⟨S4x1024x10, .f32⟩
  | 17 => ⟨S4x10, .f32⟩
  | 18 => ⟨S1024x3072, .f32⟩
  | 19 => ⟨S1024x1, .i32⟩
  | 20 => ⟨S1x10, .i32⟩
  | 21 => ⟨S1024x10, .i32⟩
  | 22 => ⟨S1024x10, .i32⟩
  | 23 => ⟨S1024x10, .i1⟩
  | 24 => ⟨S1024x10, .f32⟩
  | 25 => ⟨S1024x2048, .f32⟩
  | 26 => ⟨S1x2048, .f32⟩
  | 27 => ⟨S1024x2048, .f32⟩
  | 28 => ⟨S1024x2048, .f32⟩
  | 29 => ⟨S_, .f32⟩
  | 30 => ⟨S1024x2048, .f32⟩
  | 31 => ⟨S1024x2048, .f32⟩
  | 32 => ⟨S1024x128, .f32⟩
  | 33 => ⟨S1x128, .f32⟩
  | 34 => ⟨S1024x128, .f32⟩
  | 35 => ⟨S1024x128, .f32⟩
  | 36 => ⟨S_, .f32⟩
  | 37 => ⟨S1024x128, .f32⟩
  | 38 => ⟨S1024x128, .f32⟩
  | 39 => ⟨S1024x2, .f32⟩
  | 40 => ⟨S1x2, .f32⟩
  | 41 => ⟨S1024x2, .f32⟩
  | 42 => ⟨S1024x2, .f32⟩
  | 43 => ⟨S1024x2, .f32⟩
  | 44 => ⟨S1024x2, .f32⟩
  | 45 => ⟨S_, .f32⟩
  | 46 => ⟨S1024, .f32⟩
  | 47 => ⟨S_, .f32⟩
  | 48 => ⟨S1024, .f32⟩
  | 49 => ⟨S1024, .f32⟩
  | 50 => ⟨S1024x1, .f32⟩
  | 51 => ⟨S1024x2, .f32⟩
  | 52 => ⟨S1024x2, .f32⟩
  | 53 => ⟨S1024x2, .f32⟩
  | 54 => ⟨S_, .f32⟩
  | 55 => ⟨S1024, .f32⟩
  | 56 => ⟨S1024x1, .f32⟩
  | 57 => ⟨S1024x2, .f32⟩
  | 58 => ⟨S1024x2, .f32⟩
  | 59 => ⟨S10x2, .f32⟩
  | 60 => ⟨S_, .f32⟩
  | 61 => ⟨S10x2, .f32⟩
  | 62 => ⟨S10x2, .f32⟩
  | 63 => ⟨S_, .f32⟩
  | 64 => ⟨S10, .f32⟩
  | 65 => ⟨S_, .f32⟩
  | 66 => ⟨S2, .f32⟩
  | 67 => ⟨S_, .f32⟩
  | 68 => ⟨S10x2, .f32⟩
  | 69 => ⟨S10x2, .f32⟩
  | 70 => ⟨S10x2, .f32⟩
  | 71 => ⟨S10x2, .f32⟩
  | 72 => ⟨S_, .f32⟩
  | 73 => ⟨S_, .f32⟩
  | 74 => ⟨S_, .f32⟩
  | 75 => ⟨S_, .f32⟩
  | 76 => ⟨S10, .f32⟩
  | 77 => ⟨S10, .f32⟩
  | 78 => ⟨S10, .f32⟩
  | 79 => ⟨S10, .f32⟩
  | 80 => ⟨S_, .f32⟩
  | 81 => ⟨S_, .f32⟩
  | 82 => ⟨S_, .f32⟩
  | 83 => ⟨S_, .f32⟩
  | 84 => ⟨S2, .f32⟩
  | 85 => ⟨S2, .f32⟩
  | 86 => ⟨S2, .f32⟩
  | 87 => ⟨S2, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S1024x2, .i32⟩
  | 95 => ⟨S_, .f32⟩
  | 96 => ⟨S_, .i32⟩
  | 97 => ⟨S1024, .f32⟩
  | 98 => ⟨S1024, .i32⟩
  | 99 => ⟨S1024x1, .i32⟩
  | 100 => ⟨S1x2, .i32⟩
  | 101 => ⟨S1024x2, .i32⟩
  | 102 => ⟨S1024x2, .i32⟩
  | 103 => ⟨S1024x2, .i1⟩
  | 104 => ⟨S1024x2, .f32⟩
  | 105 => ⟨S_, .f32⟩
  | 106 => ⟨S1024x2, .f32⟩
  | 107 => ⟨S1024x2, .f32⟩
  | 108 => ⟨S1024x2x1024, .f32⟩
  | 109 => ⟨S1x2x1024, .f32⟩
  | 110 => ⟨S1024x2x1024, .f32⟩
  | 111 => ⟨S1024x2x1024, .f32⟩
  | 112 => ⟨S_, .f32⟩
  | 113 => ⟨S1024x2x1024, .f32⟩
  | 114 => ⟨S1024x2x1024, .f32⟩
  | 115 => ⟨S1024x1024, .f32⟩
  | 116 => ⟨S1024x128, .f32⟩
  | 117 => ⟨S1x128, .f32⟩
  | 118 => ⟨S1024x128, .f32⟩
  | 119 => ⟨S1024x128, .f32⟩
  | 120 => ⟨S_, .f32⟩
  | 121 => ⟨S1024x128, .f32⟩
  | 122 => ⟨S1024x128, .f32⟩
  | 123 => ⟨S1024x4, .f32⟩
  | 124 => ⟨S1x4, .f32⟩
  | 125 => ⟨S1024x4, .f32⟩
  | 126 => ⟨S1024x4, .f32⟩
  | 127 => ⟨S1024x4, .f32⟩
  | _ => ⟨S1024x32x32x3, .f32⟩

abbrev hbmTy0_1 (i : Nat) : BufTy := match i % 128 with
  | 0 => ⟨S1024x4, .f32⟩
  | 1 => ⟨S_, .f32⟩
  | 2 => ⟨S1024, .f32⟩
  | 3 => ⟨S_, .f32⟩
  | 4 => ⟨S1024, .f32⟩
  | 5 => ⟨S1024, .f32⟩
  | 6 => ⟨S1024x1, .f32⟩
  | 7 => ⟨S1024x4, .f32⟩
  | 8 => ⟨S1024x4, .f32⟩
  | 9 => ⟨S1024x4, .f32⟩
  | 10 => ⟨S_, .f32⟩
  | 11 => ⟨S1024, .f32⟩
  | 12 => ⟨S1024x1, .f32⟩
  | 13 => ⟨S1024x4, .f32⟩
  | 14 => ⟨S1024x4, .f32⟩
  | 15 => ⟨S10x4, .f32⟩
  | 16 => ⟨S_, .f32⟩
  | 17 => ⟨S10x4, .f32⟩
  | 18 => ⟨S10x4, .f32⟩
  | 19 => ⟨S_, .f32⟩
  | 20 => ⟨S10, .f32⟩
  | 21 => ⟨S_, .f32⟩
  | 22 => ⟨S4, .f32⟩
  | 23 => ⟨S_, .f32⟩
  | 24 => ⟨S10x4, .f32⟩
  | 25 => ⟨S10x4, .f32⟩
  | 26 => ⟨S10x4, .f32⟩
  | 27 => ⟨S10x4, .f32⟩
  | 28 => ⟨S_, .f32⟩
  | 29 => ⟨S_, .f32⟩
  | 30 => ⟨S_, .f32⟩
  | 31 => ⟨S_, .f32⟩
  | 32 => ⟨S10, .f32⟩
  | 33 => ⟨S10, .f32⟩
  | 34 => ⟨S10, .f32⟩
  | 35 => ⟨S10, .f32⟩
  | 36 => ⟨S_, .f32⟩
  | 37 => ⟨S_, .f32⟩
  | 38 => ⟨S_, .f32⟩
  | 39 => ⟨S_, .f32⟩
  | 40 => ⟨S4, .f32⟩
  | 41 => ⟨S4, .f32⟩
  | 42 => ⟨S4, .f32⟩
  | 43 => ⟨S4, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S1024x4, .i32⟩
  | 51 => ⟨S_, .f32⟩
  | 52 => ⟨S_, .i32⟩
  | 53 => ⟨S1024, .f32⟩
  | 54 => ⟨S1024, .i32⟩
  | 55 => ⟨S1024x1, .i32⟩
  | 56 => ⟨S1x4, .i32⟩
  | 57 => ⟨S1024x4, .i32⟩
  | 58 => ⟨S1024x4, .i32⟩
  | 59 => ⟨S1024x4, .i1⟩
  | 60 => ⟨S1024x4, .f32⟩
  | 61 => ⟨S_, .f32⟩
  | 62 => ⟨S1024x4, .f32⟩
  | 63 => ⟨S1024x4, .f32⟩
  | 64 => ⟨S1024x4x10, .f32⟩
  | 65 => ⟨S1x4x10, .f32⟩
  | 66 => ⟨S1024x4x10, .f32⟩
  | 67 => ⟨S1024x4x10, .f32⟩
  | 68 => ⟨S1024x10, .f32⟩
  | 69 => ⟨S_, .f32⟩
  | 70 => ⟨S1024, .f32⟩
  | 71 => ⟨S_, .f32⟩
  | 72 => ⟨S1024, .f32⟩
  | 73 => ⟨S1024, .f32⟩
  | 74 => ⟨S1024x1, .f32⟩
  | 75 => ⟨S1024x10, .f32⟩
  | 76 => ⟨S1024x10, .f32⟩
  | 77 => ⟨S1024x10, .f32⟩
  | 78 => ⟨S_, .f32⟩
  | 79 => ⟨S1024, .f32⟩
  | 80 => ⟨S1024x1, .f32⟩
  | 81 => ⟨S1024x1, .f32⟩
  | 82 => ⟨S1024x10, .f32⟩
  | 83 => ⟨S1024x10, .f32⟩
  | 84 => ⟨S1024x10, .f32⟩
  | 85 => ⟨S_, .f32⟩
  | 86 => ⟨S1024, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S1024, .f32⟩
  | 94 => ⟨S_, .f32⟩
  | 95 => ⟨S1024, .f32⟩
  | 96 => ⟨S1024, .f32⟩
  | 97 => ⟨S1024x1, .f32⟩
  | 98 => ⟨S1024x10, .f32⟩
  | 99 => ⟨S1024x10, .f32⟩
  | 100 => ⟨S1024x10, .f32⟩
  | 101 => ⟨S_, .f32⟩
  | 102 => ⟨S1024, .f32⟩
  | 103 => ⟨S1024x1, .f32⟩
  | 104 => ⟨S1024x10, .f32⟩
  | 105 => ⟨S1024x10, .f32⟩
  | 106 => ⟨S3072x2048, .f32⟩
  | 107 => ⟨S_, .f32⟩
  | 108 => ⟨S_, .f32⟩
  | 109 => ⟨S2x2048x1024, .f32⟩
  | 110 => ⟨S_, .f32⟩
  | 111 => ⟨S_, .f32⟩
  | 112 => ⟨S_, .f32⟩
  | 113 => ⟨S4x1024x10, .f32⟩
  | 114 => ⟨S_, .f32⟩
  | 115 => ⟨S_, .f32⟩
  | 116 => ⟨S_, .f32⟩
  | 117 => ⟨S_, .f32⟩
  | 118 => ⟨S_, .f32⟩
  | 119 => ⟨S2048x128, .f32⟩
  | 120 => ⟨S_, .f32⟩
  | 121 => ⟨S_, .f32⟩
  | 122 => ⟨S128x2, .f32⟩
  | 123 => ⟨S_, .f32⟩
  | 124 => ⟨S_, .f32⟩
  | 125 => ⟨S_, .f32⟩
  | 126 => ⟨S1024x128, .f32⟩
  | 127 => ⟨S_, .f32⟩
  | _ => ⟨S1024x32x32x3, .f32⟩

abbrev hbmTy0_2 (i : Nat) : BufTy := match i % 128 with
  | 0 => ⟨S_, .f32⟩
  | 1 => ⟨S_, .f32⟩
  | 2 => ⟨S128x4, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | _ => ⟨S1024x32x32x3, .f32⟩

abbrev hbmTy (i : Nat) : BufTy := match i / 128 with
  | 0 => hbmTy0_0 i
  | 1 => hbmTy0_1 i
  | 2 => hbmTy0_2 i
  | _ => ⟨S1024x32x32x3, .f32⟩

abbrev bufTy : (tb : Table) → Fin (tcTables nBuf tb) → BufTy
  | .hbm, ⟨i, _⟩ => hbmTy i
  | _, _ => ⟨S1024x32x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_call1_cst : Ref sig .tc := ⟨.hbm, 29, rfl⟩
abbrev main_call1_v0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call2_cst : Ref sig .tc := ⟨.hbm, 36, rfl⟩
abbrev main_call2_v0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst : Ref sig .tc := ⟨.hbm, 45, rfl⟩
abbrev main_v18 : Ref sig .tc := ⟨.hbm, 46, rfl⟩
abbrev main_cst_0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_1 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_6 : Ref sig .tc := ⟨.hbm, 72, rfl⟩
abbrev main_v38 : Ref sig .tc := ⟨.hbm, 73, rfl⟩
abbrev main_v39 : Ref sig .tc := ⟨.hbm, 74, rfl⟩
abbrev main_cst_7 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_8 : Ref sig .tc := ⟨.hbm, 80, rfl⟩
abbrev main_v44 : Ref sig .tc := ⟨.hbm, 81, rfl⟩
abbrev main_v45 : Ref sig .tc := ⟨.hbm, 82, rfl⟩
abbrev main_cst_9 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_10 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call3_v0 : Ref sig .tc := ⟨.hbm, 94, rfl⟩
abbrev main_call3_cst : Ref sig .tc := ⟨.hbm, 95, rfl⟩
abbrev main_call3_c : Ref sig .tc := ⟨.hbm, 96, rfl⟩
abbrev main_call3_v1_0 : Ref sig .tc := ⟨.hbm, 97, rfl⟩
abbrev main_v55 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v56 : Ref sig .tc := ⟨.hbm, 104, rfl⟩
abbrev main_cst_11 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_call6_cst : Ref sig .tc := ⟨.hbm, 112, rfl⟩
abbrev main_call6_v0 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_call7_cst : Ref sig .tc := ⟨.hbm, 120, rfl⟩
abbrev main_call7_v0 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_12 : Ref sig .tc := ⟨.hbm, 129, rfl⟩
abbrev main_v76 : Ref sig .tc := ⟨.hbm, 130, rfl⟩
abbrev main_cst_13 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_14 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_15 : Ref sig .tc := ⟨.hbm, 144, rfl⟩
abbrev main_v88 : Ref sig .tc := ⟨.hbm, 145, rfl⟩
abbrev main_v89 : Ref sig .tc := ⟨.hbm, 146, rfl⟩
abbrev main_cst_16 : Ref sig .tc := ⟨.hbm, 147, rfl⟩
abbrev main_v90 : Ref sig .tc := ⟨.hbm, 148, rfl⟩
abbrev main_cst_17 : Ref sig .tc := ⟨.hbm, 149, rfl⟩
abbrev main_v91 : Ref sig .tc := ⟨.hbm, 150, rfl⟩
abbrev main_cst_18 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_cst_19 : Ref sig .tc := ⟨.hbm, 156, rfl⟩
abbrev main_v96 : Ref sig .tc := ⟨.hbm, 157, rfl⟩
abbrev main_v97 : Ref sig .tc := ⟨.hbm, 158, rfl⟩
abbrev main_cst_20 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_21 : Ref sig .tc := ⟨.hbm, 164, rfl⟩
abbrev main_v102 : Ref sig .tc := ⟨.hbm, 165, rfl⟩
abbrev main_v103 : Ref sig .tc := ⟨.hbm, 166, rfl⟩
abbrev main_cst_22 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_cst_23 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_call8_v0 : Ref sig .tc := ⟨.hbm, 178, rfl⟩
abbrev main_call8_cst : Ref sig .tc := ⟨.hbm, 179, rfl⟩
abbrev main_call8_c : Ref sig .tc := ⟨.hbm, 180, rfl⟩
abbrev main_call8_v1_0 : Ref sig .tc := ⟨.hbm, 181, rfl⟩
abbrev main_v113 : Ref sig .tc := ⟨.hbm, 182, rfl⟩
abbrev main_call9_v0 : Ref sig .tc := ⟨.hbm, 183, rfl⟩
abbrev main_call9_v1 : Ref sig .tc := ⟨.hbm, 184, rfl⟩
abbrev main_call9_v2 : Ref sig .tc := ⟨.hbm, 185, rfl⟩
abbrev main_call9_v3 : Ref sig .tc := ⟨.hbm, 186, rfl⟩
abbrev main_call9_v4 : Ref sig .tc := ⟨.hbm, 187, rfl⟩
abbrev main_v114 : Ref sig .tc := ⟨.hbm, 188, rfl⟩
abbrev main_cst_24 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_call11_cst : Ref sig .tc := ⟨.hbm, 197, rfl⟩
abbrev main_call11_v0 : Ref sig .tc := ⟨.hbm, 198, rfl⟩
abbrev main_call11_cst_0 : Ref sig .tc := ⟨.hbm, 199, rfl⟩
abbrev main_call11_v1 : Ref sig .tc := ⟨.hbm, 200, rfl⟩
abbrev main_call11_v2 : Ref sig .tc := ⟨.hbm, 201, rfl⟩
abbrev main_call11_v3 : Ref sig .tc := ⟨.hbm, 202, rfl⟩
abbrev main_call11_v4 : Ref sig .tc := ⟨.hbm, 203, rfl⟩
abbrev main_call11_v5 : Ref sig .tc := ⟨.hbm, 204, rfl⟩
abbrev main_call11_v6 : Ref sig .tc := ⟨.hbm, 205, rfl⟩
abbrev main_call11_cst_1 : Ref sig .tc := ⟨.hbm, 206, rfl⟩
abbrev main_call11_v7 : Ref sig .tc := ⟨.hbm, 207, rfl⟩
abbrev main_call11_v8 : Ref sig .tc := ⟨.hbm, 208, rfl⟩
abbrev main_call11_v9 : Ref sig .tc := ⟨.hbm, 209, rfl⟩
abbrev main_call11_v10 : Ref sig .tc := ⟨.hbm, 210, rfl⟩
abbrev main_v122 : Ref sig .tc := ⟨.hbm, 211, rfl⟩
abbrev main_v123 : Ref sig .tc := ⟨.hbm, 212, rfl⟩
abbrev main_cst_25 : Ref sig .tc := ⟨.hbm, 213, rfl⟩
abbrev main_v124 : Ref sig .tc := ⟨.hbm, 214, rfl⟩
abbrev main_cst_26 : Ref sig .tc := ⟨.hbm, 215, rfl⟩
abbrev main_v125 : Ref sig .tc := ⟨.hbm, 216, rfl⟩
abbrev main_cst_27 : Ref sig .tc := ⟨.hbm, 217, rfl⟩
abbrev main_v126 : Ref sig .tc := ⟨.hbm, 218, rfl⟩
abbrev main_v127 : Ref sig .tc := ⟨.hbm, 219, rfl⟩
abbrev main_cst_28 : Ref sig .tc := ⟨.hbm, 220, rfl⟩
abbrev main_v128 : Ref sig .tc := ⟨.hbm, 221, rfl⟩
abbrev main_cst_29 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_cst_30 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_cst_31 : Ref sig .tc := ⟨.hbm, 235, rfl⟩
abbrev main_v140 : Ref sig .tc := ⟨.hbm, 236, rfl⟩
abbrev main_v141 : Ref sig .tc := ⟨.hbm, 237, rfl⟩
abbrev main_cst_32 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_cst_33 : Ref sig .tc := ⟨.hbm, 242, rfl⟩
abbrev main_v145 : Ref sig .tc := ⟨.hbm, 243, rfl⟩
abbrev main_v146 : Ref sig .tc := ⟨.hbm, 244, rfl⟩
abbrev main_cst_34 : Ref sig .tc := ⟨.hbm, 245, rfl⟩
abbrev main_v147 : Ref sig .tc := ⟨.hbm, 246, rfl⟩
abbrev main_v148 : Ref sig .tc := ⟨.hbm, 247, rfl⟩
abbrev main_cst_35 : Ref sig .tc := ⟨.hbm, 248, rfl⟩
abbrev main_v149 : Ref sig .tc := ⟨.hbm, 249, rfl⟩
abbrev main_v150 : Ref sig .tc := ⟨.hbm, 250, rfl⟩
abbrev main_cst_36 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_cst_37 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_cst_38 : Ref sig .tc := ⟨.hbm, 259, rfl⟩
abbrev main_v157 : Ref sig .tc := ⟨.hbm, 260, rfl⟩
abbrev main_v158 : Ref sig .tc := ⟨.hbm, 261, rfl⟩
abbrev main_cst_39 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_cst_40 : Ref sig .tc := ⟨.hbm, 266, rfl⟩
abbrev main_v162 : Ref sig .tc := ⟨.hbm, 267, rfl⟩
abbrev main_cst_41 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩

abbrev nD : Nat := 1
abbrev τ : Topo := Topo.v7x

variable {F : FTy → Type} [FloatOps F]
-- ==== Proof.KernelIdealWork.RegionA.lean ====
/- The first launch as one pipeline: what it leaves in each buffer at each point, and that its body does so. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.VecWindow
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The first point is the one that zeroes the sums. -/
abbrev zeroes (i : grid0.Coords) : Prop := (Scalar.cmpi .ne (Scalar.extui (Scalar.cmpi .eq (BitVec.ofNat 32 (i 0).val) 0#32)) 0#32) = 1#1
theorem zeroes_iff : ∀ t : Fin cfg0.N, zeroes (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [zeroes, e0]
    word_cmp
   : ∀ t : Fin grid0.N, zeroes (grid0.coords t) ↔ t.val = 0)

set_option maxHeartbeats 1000000 in
/-- The body at the first point: the column block of the layer, and the sums started from zero. -/
theorem a_first (c : Dev nD) (i : grid0.Coords) (arg1 : Memref sig .tc .vmem S1024x3072 .bf16) (harg1 : arg1.IsWhole) (arg2 : Memref sig .tc .vmem S3072x512 .f32) (harg2 : arg2.IsWhole) (arg3 : Memref sig .tc .vmem S1x512 .f32) (harg3 : arg3.IsWhole) (arg4 : Memref sig .tc .vmem S1024x512 .bf16) (harg4 : arg4.IsWhole) (arg5 : Memref sig .tc .vmem S1x128 .f32) (harg5 : arg5.IsWhole) (hc : zeroes i) (x0 : Vec F S1024x3072 .bf16) (x1 : Vec F S3072x512 .f32) (x2 : Vec F S1x512 .f32) (x3 : Vec F S1024x512 .bf16) (x4 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
      ∗ (iprop(owns (c : Thread nD τ) arg1 fullShare x0 ∗ owns (c : Thread nD τ) arg2 fullShare x1 ∗ owns (c : Thread nD τ) arg3 fullShare x2 ∗ owns (c : Thread nD τ) arg4 fullShare (k0_pay1 x1 x0 x2) ∗ owns (c : Thread nD τ) arg5 fullShare (k0_pay3 x1 (k0_pay2 (F := F)))) -∗ K ⟨⟩))
      ⊢ wp frame (wpE (defs₀ (F := F)) Variants.none c none) E (cc0__stage_a i arg1 harg1 arg2 harg2 arg3 harg3 arg4 harg4 arg5 harg5) K := by
  simp only [cc0__stage_a_eq_skeleton]; unfold cc0__stage_a_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3; obtain rfl := harg5.eq_unread hf4
  have e0 : ∀ inb, View.readAt (Elt F) arg1.view (Rect.unit (s := S1024x3072) ![0, 0] ![1024, 3072] inb).toLoadRect (harg1.unread x0) = x0 :=
    fun inb => (View.readAt_full arg1.view _ inb).trans (harg1.read_unread _)
  have e1 : ∀ inb, View.readAt (Elt F) arg2.view (Rect.unit (s := S3072x512) ![0, 0] ![3072, 512] inb).toLoadRect (harg2.unread x1) = x1 :=
    fun inb => (View.readAt_full arg2.view _ inb).trans (harg2.read_unread _)
  have e2 : ∀ inb, View.readAt (Elt F) arg3.view (Rect.unit (s := S1x512) ![0, 0] ![1, 512] inb).toLoadRect (harg3.unread x2) = x2 :=
    fun inb => (View.readAt_full arg3.view _ inb).trans (harg3.read_unread _)
  have e3 : ∀ inb, View.readAt (Elt F) arg4.view (Rect.unit (s := S1024x512) ![0, 0] ![1024, 512] inb).toLoadRect (harg4.unread x3) = x3 :=
    fun inb => (View.readAt_full arg4.view _ inb).trans (harg4.read_unread _)
  have w3 : ∀ inb f w L, View.read (Elt F) arg4.view (arg4.view.writes (Elt F) f (⟨(Rect.unit (s := S1024x512) ![0, 0] ![1024, 512] inb), w⟩ :: L)) = w :=
    fun inb f w L => View.read_writes_full arg4.view f inb w L
  have c3 : ∀ inb inb' w L, arg4.view.readCov (Val := Elt F) (⟨(Rect.unit (s := S1024x512) ![0, 0] ![1024, 512] inb'), w⟩ :: L) (Rect.unit (s := S1024x512) ![0, 0] ![1024, 512] inb).toLoadRect = w :=
    fun inb inb' w L => View.readCov_full arg4.view inb inb' w L
  have l3 : ∀ inb inb' f w L, View.readAt (Elt F) arg4.view (Rect.unit (s := S1024x512) ![0, 0] ![1024, 512] inb).toLoadRect (arg4.view.writes (Elt F) f (⟨(Rect.unit (s := S1024x512) ![0, 0] ![1024, 512] inb'), w⟩ :: L)) = w :=
    fun inb inb' f w L => View.readAt_writes_full arg4.view f inb inb' w L
  have e4 : ∀ inb, View.readAt (Elt F) arg5.view (Rect.unit (s := S1x128) ![0, 0] ![1, 128] inb).toLoadRect (harg5.unread x4) = x4 :=
    fun inb => (View.readAt_full arg5.view _ inb).trans (harg5.read_unread _)
  have w4 : ∀ inb f w L, View.read (Elt F) arg5.view (arg5.view.writes (Elt F) f (⟨(Rect.unit (s := S1x128) ![0, 0] ![1, 128] inb), w⟩ :: L)) = w :=
    fun inb f w L => View.read_writes_full arg5.view f inb w L
  have c4 : ∀ inb inb' w L, arg5.view.readCov (Val := Elt F) (⟨(Rect.unit (s := S1x128) ![0, 0] ![1, 128] inb'), w⟩ :: L) (Rect.unit (s := S1x128) ![0, 0] ![1, 128] inb).toLoadRect = w :=
    fun inb inb' w L => View.readCov_full arg5.view inb inb' w L
  have l4 : ∀ inb inb' f w L, View.readAt (Elt F) arg5.view (Rect.unit (s := S1x128) ![0, 0] ![1, 128] inb).toLoadRect (arg5.view.writes (Elt F) f (⟨(Rect.unit (s := S1x128) ![0, 0] ![1, 128] inb'), w⟩ :: L)) = w :=
    fun inb inb' f w L => View.readAt_writes_full arg5.view f inb inb' w L
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    first
      | rfl
      | (sl_unfold_run_names; simp only [e0, e1, e2, e3, e4, w3, w4, c3, c4, l3, l4]; try rfl)
  iexists _; isplitr; swap; · iexact H4
  ipureintro
  first
    | rfl
    | (sl_unfold_run_names; simp only [e0, e1, e2, e3, e4, w3, w4, c3, c4, l3, l4]; try rfl)

set_option maxHeartbeats 1000000 in
/-- The body at a later point: the sums go on. -/
theorem a_later (c : Dev nD) (i : grid0.Coords) (arg1 : Memref sig .tc .vmem S1024x3072 .bf16) (harg1 : arg1.IsWhole) (arg2 : Memref sig .tc .vmem S3072x512 .f32) (harg2 : arg2.IsWhole) (arg3 : Memref sig .tc .vmem S1x512 .f32) (harg3 : arg3.IsWhole) (arg4 : Memref sig .tc .vmem S1024x512 .bf16) (harg4 : arg4.IsWhole) (arg5 : Memref sig .tc .vmem S1x128 .f32) (harg5 : arg5.IsWhole) (hc : ¬ zeroes i) (x0 : Vec F S1024x3072 .bf16) (x1 : Vec F S3072x512 .f32) (x2 : Vec F S1x512 .f32) (x3 : Vec F S1024x512 .bf16) (x4 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
      ∗ (iprop(owns (c : Thread nD τ) arg1 fullShare x0 ∗ owns (c : Thread nD τ) arg2 fullShare x1 ∗ owns (c : Thread nD τ) arg3 fullShare x2 ∗ owns (c : Thread nD τ) arg4 fullShare (k0_pay1 x1 x0 x2) ∗ owns (c : Thread nD τ) arg5 fullShare (k0_pay3 x1 x4)) -∗ K ⟨⟩))
      ⊢ wp frame (wpE (defs₀ (F := F)) Variants.none c none) E (cc0__stage_a i arg1 harg1 arg2 harg2 arg3 harg3 arg4 harg4 arg5 harg5) K := by
  simp only [cc0__stage_a_eq_skeleton]; unfold cc0__stage_a_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3; obtain rfl := harg5.eq_unread hf4
  have e0 : ∀ inb, View.readAt (Elt F) arg1.view (Rect.unit (s := S1024x3072) ![0, 0] ![1024, 3072] inb).toLoadRect (harg1.unread x0) = x0 :=
    fun inb => (View.readAt_full arg1.view _ inb).trans (harg1.read_unread _)
  have e1 : ∀ inb, View.readAt (Elt F) arg2.view (Rect.unit (s := S3072x512) ![0, 0] ![3072, 512] inb).toLoadRect (harg2.unread x1) = x1 :=
    fun inb => (View.readAt_full arg2.view _ inb).trans (harg2.read_unread _)
  have e2 : ∀ inb, View.readAt (Elt F) arg3.view (Rect.unit (s := S1x512) ![0, 0] ![1, 512] inb).toLoadRect (harg3.unread x2) = x2 :=
    fun inb => (View.readAt_full arg3.view _ inb).trans (harg3.read_unread _)
  have e3 : ∀ inb, View.readAt (Elt F) arg4.view (Rect.unit (s := S1024x512) ![0, 0] ![1024, 512] inb).toLoadRect (harg4.unread x3) = x3 :=
    fun inb => (View.readAt_full arg4.view _ inb).trans (harg4.read_unread _)
  have w3 : ∀ inb f w L, View.read (Elt F) arg4.view (arg4.view.writes (Elt F) f (⟨(Rect.unit (s := S1024x512) ![0, 0] ![1024, 512] inb), w⟩ :: L)) = w :=
    fun inb f w L => View.read_writes_full arg4.view f inb w L
  have c3 : ∀ inb inb' w L, arg4.view.readCov (Val := Elt F) (⟨(Rect.unit (s := S1024x512) ![0, 0] ![1024, 512] inb'), w⟩ :: L) (Rect.unit (s := S1024x512) ![0, 0] ![1024, 512] inb).toLoadRect = w :=
    fun inb inb' w L => View.readCov_full arg4.view inb inb' w L
  have l3 : ∀ inb inb' f w L, View.readAt (Elt F) arg4.view (Rect.unit (s := S1024x512) ![0, 0] ![1024, 512] inb).toLoadRect (arg4.view.writes (Elt F) f (⟨(Rect.unit (s := S1024x512) ![0, 0] ![1024, 512] inb'), w⟩ :: L)) = w :=
    fun inb inb' f w L => View.readAt_writes_full arg4.view f inb inb' w L
  have e4 : ∀ inb, View.readAt (Elt F) arg5.view (Rect.unit (s := S1x128) ![0, 0] ![1, 128] inb).toLoadRect (harg5.unread x4) = x4 :=
    fun inb => (View.readAt_full arg5.view _ inb).trans (harg5.read_unread _)
  have w4 : ∀ inb f w L, View.read (Elt F) arg5.view (arg5.view.writes (Elt F) f (⟨(Rect.unit (s := S1x128) ![0, 0] ![1, 128] inb), w⟩ :: L)) = w :=
    fun inb f w L => View.read_writes_full arg5.view f inb w L
  have c4 : ∀ inb inb' w L, arg5.view.readCov (Val := Elt F) (⟨(Rect.unit (s := S1x128) ![0, 0] ![1, 128] inb'), w⟩ :: L) (Rect.unit (s := S1x128) ![0, 0] ![1, 128] inb).toLoadRect = w :=
    fun inb inb' w L => View.readCov_full arg5.view inb inb' w L
  have l4 : ∀ inb inb' f w L, View.readAt (Elt F) arg5.view (Rect.unit (s := S1x128) ![0, 0] ![1, 128] inb).toLoadRect (arg5.view.writes (Elt F) f (⟨(Rect.unit (s := S1x128) ![0, 0] ![1, 128] inb'), w⟩ :: L)) = w :=
    fun inb inb' f w L => View.readAt_writes_full arg5.view f inb inb' w L
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    first
      | rfl
      | (sl_unfold_run_names; simp only [e0, e1, e2, e3, e4, w3, w4, c3, c4, l3, l4]; try rfl)
  iexists _; isplitr; swap; · iexact H4
  ipureintro
  first
    | rfl
    | (sl_unfold_run_names; simp only [e0, e1, e2, e3, e4, w3, w4, c3, c4, l3, l4]; try rfl)

variable (V : (c : Dev nD) → (b : Ref sig .tc) → Buf (Elt F) ((c : Thread nD τ).loc b))

/-- Window `w`'s block at point `t`, cut out of its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The column block point `t` leaves. -/
def layer (c : Dev nD) (t : Fin cfg0.N) : Vec F S1024x512 .bf16 := k0_pay1 (iblk0 V c 1 t) (iblk0 V c 0 t) (iblk0 V c 2 t)

/-- The row of sums after point `n`. -/
def sums (c : Dev nD) : (n : ℕ) → n < cfg0.N → Vec F S1x128 .f32
  | 0, h => k0_pay3 (iblk0 V c 1 ⟨0, h⟩) (k0_pay2 (F := F))
  | n + 1, h => k0_pay3 (iblk0 V c 1 ⟨n + 1, h⟩) (sums c n (Nat.lt_of_succ_lt h))

theorem sums_zero (c : Dev nD) (t : Fin cfg0.N) (h : t.val = 0) : sums V c t.val t.isLt = k0_pay3 (iblk0 V c 1 t) (k0_pay2 (F := F)) := by
  obtain ⟨n, hn⟩ := t; obtain rfl : n = 0 := h; rfl
theorem sums_pos (c : Dev nD) (t : Fin cfg0.N) (h : ¬ t.val = 0) :
    sums V c t.val t.isLt = k0_pay3 (iblk0 V c 1 t) (sums V c (t.val - 1) (Nat.lt_of_le_of_lt (Nat.sub_le _ _) t.isLt)) := by
  obtain ⟨n, hn⟩ := t
  cases n with
  | zero => exact absurd rfl h
  | succ n => rfl

/-- The pipeline's data: the inputs' buffers at their blocks, the outputs' at the layer's block and the sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => layer V c t
    | ⟨4, _⟩ => sums V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = layer V c t := by dsimp only [dat0]
theorem after0_4 (c : Dev nD) (t : Fin cfg0.N) : (dat0 V c).after 4 t = sums V c t.val t.isLt := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_4 (c : Dev nD) (t : Fin cfg0.N) (h0 : ¬ t.val = 0) (d) :
    (dat0 V c).before 4 t d = sums V c (t.val - 1) (Nat.lt_of_le_of_lt (Nat.sub_le _ _) t.isLt) := by
  have hN : t.val < 4 := lt_of_lt_of_eq t.isLt (show cfg0.N = 4 from N_0)
  rw [Dat.before_out_kept _ 4 rfl t h0 (Bool.eq_false_iff.mpr fun h => by have := (flush0_4 _).mp h; dsimp only at this; omega)
    (fun _ => rfl) (fun _ _ => rfl)]
  dsimp only [dat0]

abbrev ms0_0 (t : Fin cfg0.N) : Memref sig .tc .vmem S1024x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [sums_zero V c t h0]
    iintro ⟨HΦ, Ho, ⟨%d0, H0⟩, ⟨%d1, H1⟩, ⟨%d2, H2⟩, ⟨%d3, H3⟩, ⟨%d4, H4⟩⟩
    iapply (a_first c (grid0.coords t) (ms0_0 t) (hs0_0 t) (ms0_1 t) (hs0_1 t) (ms0_2 t) (hs0_2 t) (ms0_3 t) (hs0_3 t) (ms0_4 t) (hs0_4 t) ((zeroes_iff t).mpr h0) (iblk0 V c 0 t) (iblk0 V c 1 t) (iblk0 V c 2 t) ((dat0 V c).before 3 t d3) ((dat0 V c).before 4 t d4) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [sums_pos V c t h0]
    simp only [before0_4 V c t h0]
    iintro ⟨HΦ, Ho, ⟨%d0, H0⟩, ⟨%d1, H1⟩, ⟨%d2, H2⟩, ⟨%d3, H3⟩, ⟨%d4, H4⟩⟩
    iapply (a_later c (grid0.coords t) (ms0_0 t) (hs0_0 t) (ms0_1 t) (hs0_1 t) (ms0_2 t) (hs0_2 t) (ms0_3 t) (hs0_3 t) (ms0_4 t) (hs0_4 t) (mt (zeroes_iff t).mp h0) (iblk0 V c 0 t) (iblk0 V c 1 t) (iblk0 V c 2 t) ((dat0 V c).before 3 t d3) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Work

end
-- ==== Proof.KernelIdealWork.Bufs.lean ====
/- What one grid point of the second launch holds in its buffers, and how each guarded part of its body changes them. -/
module

public import proofs.«01_k».proof.Proof.Gen.KernelIdeal.Skeleton
public import proofs.«01_k».proof.Proof.Gen.KernelIdeal.Points
public import Idealize.ShloMosaic.Lib.VecWindow

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The contents of the buffers one grid point of the second launch works on: the sixteen inputs, the eleven outputs,
    and the two scratch buffers (the hard routing weights `s0`, the assembled hidden layer `s1`). -/
structure Bufs (F : FTy → Type) where
  x0 : Vec F S1024x2048 .bf16
  x1 : Vec F S1x2048x256 .f32
  x2 : Vec F S1x1x256 .f32
  x3 : Vec F S2048x128 .f32
  x4 : Vec F S1x128 .f32
  x5 : Vec F S128x8 .f32
  x6 : Vec F S1x8 .f32
  x7 : Vec F S1024x128 .f32
  x8 : Vec F S1x128 .f32
  x9 : Vec F S128x8 .f32
  x10 : Vec F S1x8 .f32
  x11 : Vec F S1024x512 .f32
  x12 : Vec F S1x512 .f32
  x13 : Vec F S1024x10 .f32
  x14 : Vec F S1x128 .f32
  x15 : Vec F S1x2 .f32
  o16 : Vec F S1024x128 .f32
  o17 : Vec F S1024x128 .f32
  o18 : Vec F S1024x8 .f32
  o19 : Vec F S1024x8 .f32
  o20 : Vec F S1x128 .f32
  o21 : Vec F S10x8 .f32
  o22 : Vec F S10x8 .f32
  o23 : Vec F S1024x2 .f32
  o24 : Vec F S1024x4 .f32
  o25 : Vec F S1024x2 .f32
  o26 : Vec F S1024x4 .f32
  s0 : Vec F S1024x8 .f32
  s1 : Vec F S1024x1024 .f32

/-- The column block of a point lies inside the hidden layer. -/
theorem off2_inb (i : grid1.Coords) : ∀ a, (![0, 256 * (i 0).val] : Fin 2 → ℕ) a + S1024x256.size a ≤ S1024x1024.size a := by
  revert i; decide +kernel

namespace Bufs

/-- The temperature and the warm-up switch, read off the schedule's pair of numbers. -/
def temp (b : Bufs F) : F .f32 := k1_pay33 b.x15
def warm (b : Bufs F) : F .f32 := k1_pay34 b.x15

/-- The first router's activations and routing probabilities. -/
def act0 (b : Bufs F) : FVec F S1024x8 .f32 := k1_pay3 b.x0 b.x3 b.x4 b.x5 b.x6
def probs0 (b : Bufs F) : FVec F S1024x8 .f32 := k1_pay4 b.temp b.x0 b.x3 b.x4 b.x5 b.x6

/-- The first point's opening: the totals are zeroed and the first router's squares entered, the first router's
    probabilities, activations and class statistics are stored, its hard weights go to the scratch. -/
def opening (b : Bufs F) : Bufs F :=
  { b with
    o20 := k1_pay36 b.x3 b.x3 b.x5 b.x5 (k1_pay2 (F := F))
    o21 := k1_pay7 b.probs0 b.x13
    o23 := k1_pay5 b.temp b.x0 b.x3 b.x4 b.x5 b.x6
    o25 := k1_pay6 b.act0
    s0 := k1_pay35 (k1_pay8 b.warm b.probs0) }

/-- Every point: the squares of the point's weight block join the totals. -/
def squares (b : Bufs F) : Bufs F := { b with o20 := k1_pay42 (k1_pay37 b.x1) b.o20 }

/-- Path 0: the column block is overwritten by the block's weighted activations. -/
def path0 (i : grid1.Coords) (b : Bufs F) : Bufs F :=
  { b with
    s1 := VecWindow.put b.s1 ![0, 256 * (i 0).val] S1024x256.size
      (k1_pay43 (BitVec.ofNat 32 (i 1).val) (k1_pay38 b.x1 b.x0) (k1_pay39 b.x2) b.s0) }

/-- Path 1: the block's weighted activations are added onto the column block. -/
def path1 (i : grid1.Coords) (b : Bufs F) : Bufs F :=
  { b with
    s1 := VecWindow.put b.s1 ![0, 256 * (i 0).val] S1024x256.size
      (k1_pay44 (BitVec.ofNat 32 (i 1).val) (k1_pay38 b.x1 b.x0) (k1_pay39 b.x2) b.s0
        (VecWindow.window b.s1 ![0, 256 * (i 0).val] S1024x256.size (off2_inb i))) }

/-- The second router's activations, probabilities and hard weights. -/
def act1 (b : Bufs F) : FVec F S1024x8 .f32 := k1_pay10 b.s1 b.x7 b.x8 b.x9 b.x10
def probs1 (b : Bufs F) : FVec F S1024x8 .f32 := k1_pay11 b.temp b.s1 b.x7 b.x8 b.x9 b.x10
def rm1 (b : Bufs F) : FVec F S1024x8 .f32 := k1_pay15 b.warm b.probs1

/-- The last layer's products, and the part of its routed sum the body forms first. -/
def lp (b : Bufs F) : FVec F S1024x512 .f32 := k1_pay16 b.s1 b.x11 b.x12
def part (b : Bufs F) : FVec F S1024x128 .f32 := k1_pay17 b.s1 b.rm1 b.x11 b.x12
def lanes8 : IVec S1024x8 32 := iota .tc S1024x8 32 [1] iota_S1024x8_d1_w32
def lanes128 : IVec S1x128 32 := iota .tc S1x128 32 [1] iota_S1x128_d1_w32

/-- The totals' row after the classification loss is entered. -/
def lossRow (b : Bufs F) : FVec F S1x128 .f32 :=
  k1_pay30 (k1_pay23 (k1_pay9 b.x13) b.rm1 b.lp b.part lanes8) b.o20

/-- The last point's close: the second router, the last layer, the posteriors and the losses. -/
def closing (b : Bufs F) : Bufs F :=
  { b with
    o16 := k1_pay18 b.rm1 b.lp b.part lanes8
    o17 := k1_pay24 b.rm1 b.lp b.part lanes8
    o18 := b.s0
    o19 := b.rm1
    o20 := k1_pay1 (k1_pay31 b.lossRow)
      (k1_pay32 (k1_pay26 (k1_pay25 b.x14) lanes128 1#32) (k1_pay27 b.o20) (k1_pay28 b.o20) (k1_pay29 b.x11 b.x11)
        b.x7 b.x7 b.x9 b.x9)
    o22 := k1_pay14 (k1_pay9 b.x13) b.probs1
    o24 := k1_pay12 b.temp b.s1 b.x7 b.x8 b.x9 b.x10
    o26 := k1_pay13 b.act1 }

end Bufs

/-- Core `c` owns the twenty-nine buffers at the contents `b`. -/
def held (c : Dev nD) (arg2 : Memref sig .tc .vmem S1024x2048 .bf16) (arg3 : Memref sig .tc .vmem S1x2048x256 .f32) (arg4 : Memref sig .tc .vmem S1x1x256 .f32) (arg5 : Memref sig .tc .vmem S2048x128 .f32) (arg6 : Memref sig .tc .vmem S1x128 .f32) (arg7 : Memref sig .tc .vmem S128x8 .f32) (arg8 : Memref sig .tc .vmem S1x8 .f32) (arg9 : Memref sig .tc .vmem S1024x128 .f32) (arg10 : Memref sig .tc .vmem S1x128 .f32) (arg11 : Memref sig .tc .vmem S128x8 .f32) (arg12 : Memref sig .tc .vmem S1x8 .f32) (arg13 : Memref sig .tc .vmem S1024x512 .f32) (arg14 : Memref sig .tc .vmem S1x512 .f32) (arg15 : Memref sig .tc .vmem S1024x10 .f32) (arg16 : Memref sig .tc .vmem S1x128 .f32) (arg17 : Memref sig .tc .vmem S1x2 .f32) (arg18 : Memref sig .tc .vmem S1024x128 .f32) (arg19 : Memref sig .tc .vmem S1024x128 .f32) (arg20 : Memref sig .tc .vmem S1024x8 .f32) (arg21 : Memref sig .tc .vmem S1024x8 .f32) (arg22 : Memref sig .tc .vmem S1x128 .f32) (arg23 : Memref sig .tc .vmem S10x8 .f32) (arg24 : Memref sig .tc .vmem S10x8 .f32) (arg25 : Memref sig .tc .vmem S1024x2 .f32) (arg26 : Memref sig .tc .vmem S1024x4 .f32) (arg27 : Memref sig .tc .vmem S1024x2 .f32) (arg28 : Memref sig .tc .vmem S1024x4 .f32) (arg29 : Memref sig .tc .vmem S1024x8 .f32) (arg30 : Memref sig .tc .vmem S1024x1024 .f32) (b : Bufs F) : sProp 𝕄 :=
  iprop(owns (c : Thread nD τ) arg2 fullShare b.x0 ∗ owns (c : Thread nD τ) arg3 fullShare b.x1 ∗ owns (c : Thread nD τ) arg4 fullShare b.x2 ∗ owns (c : Thread nD τ) arg5 fullShare b.x3 ∗ owns (c : Thread nD τ) arg6 fullShare b.x4 ∗ owns (c : Thread nD τ) arg7 fullShare b.x5 ∗ owns (c : Thread nD τ) arg8 fullShare b.x6 ∗ owns (c : Thread nD τ) arg9 fullShare b.x7 ∗ owns (c : Thread nD τ) arg10 fullShare b.x8 ∗ owns (c : Thread nD τ) arg11 fullShare b.x9 ∗ owns (c : Thread nD τ) arg12 fullShare b.x10 ∗ owns (c : Thread nD τ) arg13 fullShare b.x11 ∗ owns (c : Thread nD τ) arg14 fullShare b.x12 ∗ owns (c : Thread nD τ) arg15 fullShare b.x13 ∗ owns (c : Thread nD τ) arg16 fullShare b.x14 ∗ owns (c : Thread nD τ) arg17 fullShare b.x15 ∗ owns (c : Thread nD τ) arg18 fullShare b.o16 ∗ owns (c : Thread nD τ) arg19 fullShare b.o17 ∗ owns (c : Thread nD τ) arg20 fullShare b.o18 ∗ owns (c : Thread nD τ) arg21 fullShare b.o19 ∗ owns (c : Thread nD τ) arg22 fullShare b.o20 ∗ owns (c : Thread nD τ) arg23 fullShare b.o21 ∗ owns (c : Thread nD τ) arg24 fullShare b.o22 ∗ owns (c : Thread nD τ) arg25 fullShare b.o23 ∗ owns (c : Thread nD τ) arg26 fullShare b.o24 ∗ owns (c : Thread nD τ) arg27 fullShare b.o25 ∗ owns (c : Thread nD τ) arg28 fullShare b.o26 ∗ owns (c : Thread nD τ) arg29 fullShare b.s0 ∗ owns (c : Thread nD τ) arg30 fullShare b.s1)

end Cert.KernelIdeal.Work

end
-- ==== Proof.KernelIdealWork.PointsB.lean ====
/- The second launch point by point: the conditions of its body, what its buffers hold before and after each point. -/
module

public import proofs.«01_k».proof.Proof.KernelIdealWork.Bufs
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Where the four guarded parts of the body run -/

/-- Guard 1 of the body, from the number of the point. -/
theorem guard1 : ∀ t : Fin cfg1.N, k1_cond1 (grid1.coords t) = 1#1 ↔ t.val = 0 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [k1_cond1, e0, e1]
    word_cmp
   : ∀ t : Fin grid1.N, k1_cond1 (grid1.coords t) = 1#1 ↔ t.val = 0)

/-- Guard 2 of the body, from the number of the point. -/
theorem guard2 : ∀ t : Fin cfg1.N, k1_cond2 (grid1.coords t) = 1#1 ↔ t.val % 2 = 0 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [k1_cond2, e0, e1]
    word_cmp
   : ∀ t : Fin grid1.N, k1_cond2 (grid1.coords t) = 1#1 ↔ t.val % 2 = 0)

/-- Guard 3 of the body, from the number of the point. -/
theorem guard3 : ∀ t : Fin cfg1.N, k1_cond3 (grid1.coords t) = 1#1 ↔ t.val % 2 = 1 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [k1_cond3, e0, e1]
    word_cmp
   : ∀ t : Fin grid1.N, k1_cond3 (grid1.coords t) = 1#1 ↔ t.val % 2 = 1)

/-- Guard 4 of the body, from the number of the point. -/
theorem guard4 : ∀ t : Fin cfg1.N, k1_cond4 (grid1.coords t) = 1#1 ↔ t.val = 7 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [k1_cond4, e0, e1]
    word_cmp
   : ∀ t : Fin grid1.N, k1_cond4 (grid1.coords t) = 1#1 ↔ t.val = 7)

variable (V : (c : Dev nD) → (b : Ref sig .tc) → Buf (Elt F) ((c : Thread nD τ).loc b))

/-! ## What the buffers hold -/

/-- Window `w`'s block at point `t`, cut out of its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffers at a point with the inputs at their blocks and nothing known of the rest. -/
def ins (c : Dev nD) (t : Fin cfg1.N) : Bufs F where
  x0 := iblk1 V c 0 t
  x1 := iblk1 V c 1 t
  x2 := iblk1 V c 2 t
  x3 := iblk1 V c 3 t
  x4 := iblk1 V c 4 t
  x5 := iblk1 V c 5 t
  x6 := iblk1 V c 6 t
  x7 := iblk1 V c 7 t
  x8 := iblk1 V c 8 t
  x9 := iblk1 V c 9 t
  x10 := iblk1 V c 10 t
  x11 := iblk1 V c 11 t
  x12 := iblk1 V c 12 t
  x13 := iblk1 V c 13 t
  x14 := iblk1 V c 14 t
  x15 := iblk1 V c 15 t
  o16 := fun _ => Scalar.ofBits .f32 0#32
  o17 := fun _ => Scalar.ofBits .f32 0#32
  o18 := fun _ => Scalar.ofBits .f32 0#32
  o19 := fun _ => Scalar.ofBits .f32 0#32
  o20 := fun _ => Scalar.ofBits .f32 0#32
  o21 := fun _ => Scalar.ofBits .f32 0#32
  o22 := fun _ => Scalar.ofBits .f32 0#32
  o23 := fun _ => Scalar.ofBits .f32 0#32
  o24 := fun _ => Scalar.ofBits .f32 0#32
  o25 := fun _ => Scalar.ofBits .f32 0#32
  o26 := fun _ => Scalar.ofBits .f32 0#32
  s0 := fun _ => Scalar.ofBits .f32 0#32
  s1 := fun _ => Scalar.ofBits .f32 0#32

/-- The first router's hard weights, set at the first point and kept in the scratch from then on. -/
def hard (c : Dev nD) : Vec F S1024x8 .f32 := (ins V c t1_0).opening.s0

/-- The totals' row after point `n`, before the last point closes it. -/
def totals (c : Dev nD) : (n : ℕ) → n < cfg1.N → Vec F S1x128 .f32
  | 0, h => ((ins V c ⟨0, h⟩).opening.squares).o20
  | n + 1, h => (Bufs.squares { ins V c ⟨n + 1, h⟩ with o20 := totals c n (Nat.lt_of_succ_lt h) }).o20

/-- The hidden layer's scratch before point `n`, if it held `X` at first. -/
def hidden (c : Dev nD) (X : Vec F S1024x1024 .f32) : ℕ → Vec F S1024x1024 .f32
  | 0 => X
  | n + 1 =>
    if h : n < cfg1.N then
      if n % 2 = 0 then (Bufs.path0 (grid1.coords ⟨n, h⟩) { ins V c ⟨n, h⟩ with s0 := hard V c, s1 := hidden c X n }).s1
      else (Bufs.path1 (grid1.coords ⟨n, h⟩) { ins V c ⟨n, h⟩ with s0 := hard V c, s1 := hidden c X n }).s1
    else hidden c X n

theorem hidden_even (c : Dev nD) (X : Vec F S1024x1024 .f32) (t : Fin cfg1.N) (h : t.val % 2 = 0) :
    hidden V c X (t.val + 1) = (Bufs.path0 (grid1.coords t) { ins V c t with s0 := hard V c, s1 := hidden V c X t.val }).s1 := by
  rw [hidden, dif_pos t.isLt, if_pos h]

theorem hidden_odd (c : Dev nD) (X : Vec F S1024x1024 .f32) (t : Fin cfg1.N) (h : t.val % 2 = 1) :
    hidden V c X (t.val + 1) = (Bufs.path1 (grid1.coords t) { ins V c t with s0 := hard V c, s1 := hidden V c X t.val }).s1 := by
  rw [hidden, dif_pos t.isLt, if_neg (by omega)]

/-- The block a pair of points leaves in the hidden layer: path 0's weighted activations with path 1's added. -/
def pairBlock (c : Dev nD) (t t' : Fin cfg1.N) : Vec F S1024x256 .f32 :=
  k1_pay44 (BitVec.ofNat 32 (grid1.coords t' 1).val) (k1_pay38 (ins V c t').x1 (ins V c t').x0) (k1_pay39 (ins V c t').x2) (hard V c)
    (k1_pay43 (BitVec.ofNat 32 (grid1.coords t 1).val) (k1_pay38 (ins V c t).x1 (ins V c t).x0) (k1_pay39 (ins V c t).x2) (hard V c))

/-- Two points with the same column block: together they put the pair's block over it. -/
theorem hidden_pair (c : Dev nD) (X : Vec F S1024x1024 .f32) (t t' : Fin cfg1.N) (h : t.val % 2 = 0) (h' : t'.val = t.val + 1)
    (hc : (grid1.coords t' 0).val = (grid1.coords t 0).val) :
    hidden V c X (t'.val + 1) = VecWindow.put (hidden V c X t.val) ![0, 256 * (grid1.coords t 0).val] S1024x256.size (pairBlock V c t t') := by
  rw [hidden_odd V c X t' (by omega), h', hidden_even V c X t h]
  simp only [Bufs.path0, Bufs.path1, pairBlock]
  have e : ∀ (n : ℕ) (hn : n = (grid1.coords t 0).val) (inb : ∀ a, (![0, 256 * n] : Fin 2 → ℕ) a + S1024x256.size a ≤ S1024x1024.size a)
      (w : Vec F S1024x256 .f32), VecWindow.window (VecWindow.put (hidden V c X t.val) ![0, 256 * (grid1.coords t 0).val] S1024x256.size w)
        ![0, 256 * n] S1024x256.size inb = w := by
    intro n hn; subst hn; intro inb w; exact VecWindow.window_put_same _ _ _ inb _
  rw [e _ hc, hc, VecWindow.put_put_same]

/-- The hidden layer after the eight points, over whatever the scratch held at first. -/
theorem hidden_eight (c : Dev nD) (X : Vec F S1024x1024 .f32) :
    hidden V c X 8 = VecWindow.put (VecWindow.put (VecWindow.put (VecWindow.put X ![0, 0] S1024x256.size (pairBlock V c t1_0 t1_1))
      ![0, 256] S1024x256.size (pairBlock V c t1_2 t1_3)) ![0, 512] S1024x256.size (pairBlock V c t1_4 t1_5))
      ![0, 768] S1024x256.size (pairBlock V c t1_6 t1_7) := by
  rw [show hidden V c X 8 = hidden V c X (t1_7.val + 1) from rfl, hidden_pair V c X t1_6 t1_7 rfl rfl (by decide),
    show hidden V c X t1_6.val = hidden V c X (t1_5.val + 1) from rfl, hidden_pair V c X t1_4 t1_5 rfl rfl (by decide),
    show hidden V c X t1_4.val = hidden V c X (t1_3.val + 1) from rfl, hidden_pair V c X t1_2 t1_3 rfl rfl (by decide),
    show hidden V c X t1_2.val = hidden V c X (t1_1.val + 1) from rfl, hidden_pair V c X t1_0 t1_1 rfl rfl (by decide),
    show hidden V c X t1_0.val = X from rfl,
    show (grid1.coords t1_6 0).val = 3 by decide, show (grid1.coords t1_4 0).val = 2 by decide,
    show (grid1.coords t1_2 0).val = 1 by decide, show (grid1.coords t1_0 0).val = 0 by decide]

/-- What the eight points leave does not depend on what the scratch held at first: the four column blocks cover it. -/
theorem hidden_eight_any (c : Dev nD) (X Y : Vec F S1024x1024 .f32) : hidden V c X 8 = hidden V c Y 8 := by
  rw [hidden_eight, hidden_eight]
  funext y
  have h0 : (y 0).val < 1024 := (y 0).isLt
  have h1 : (y 1).val < 1024 := (y 1).isLt
  unfold VecWindow.put
  by_cases a3 : ∀ a, (![0, 768] : Fin 2 → ℕ) a ≤ (y a).val ∧ (y a).val < (![0, 768] : Fin 2 → ℕ) a + S1024x256.size a
  · rw [dif_pos a3, dif_pos a3]
  rw [dif_neg a3, dif_neg a3]
  by_cases a2 : ∀ a, (![0, 512] : Fin 2 → ℕ) a ≤ (y a).val ∧ (y a).val < (![0, 512] : Fin 2 → ℕ) a + S1024x256.size a
  · rw [dif_pos a2, dif_pos a2]
  rw [dif_neg a2, dif_neg a2]
  by_cases a1 : ∀ a, (![0, 256] : Fin 2 → ℕ) a ≤ (y a).val ∧ (y a).val < (![0, 256] : Fin 2 → ℕ) a + S1024x256.size a
  · rw [dif_pos a1, dif_pos a1]
  rw [dif_neg a1, dif_neg a1]
  by_cases a0 : ∀ a, (![0, 0] : Fin 2 → ℕ) a ≤ (y a).val ∧ (y a).val < (![0, 0] : Fin 2 → ℕ) a + S1024x256.size a
  · rw [dif_pos a0, dif_pos a0]
  exfalso
  have key : ∀ k : ℕ, ¬ (∀ a, (![0, k] : Fin 2 → ℕ) a ≤ (y a).val ∧ (y a).val < (![0, k] : Fin 2 → ℕ) a + S1024x256.size a) →
      ¬ (k ≤ (y 1).val ∧ (y 1).val < k + 256) := fun k hn hk => hn fun a => by
    match a with
    | ⟨0, _⟩ => exact ⟨Nat.zero_le _, by show (y 0).val < 0 + 1024; omega⟩
    | ⟨1, _⟩ => exact hk
  have b0 := key 0 a0; have b1 := key 256 a1; have b2 := key 512 a2; have b3 := key 768 a3
  omega

/-- The whole hidden layer. -/
def full (c : Dev nD) : Vec F S1024x1024 .f32 := hidden V c (fun _ => Scalar.ofBits .f32 0#32) 8

/-- The last point's buffers just before it closes, and what it leaves. -/
def last (c : Dev nD) : Bufs F :=
  { ins V c t1_7 with o20 := totals V c 7 (by rw [show cfg1.N = 8 from N_1]; decide), s0 := hard V c, s1 := full V c }
def final (c : Dev nD) : Bufs F := (last V c).closing

end Cert.KernelIdeal.Work

end
-- ==== Proof.KernelIdealWork.Body_A.lean ====
/- The body of the second launch at the first point: which buffers it changes, and to what. -/
module

public import proofs.«01_k».proof.Proof.KernelIdealWork.Bufs
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At the first point the body turns the contents `b` of its buffers into the contents named on the right. -/
theorem body_first (c : Dev nD) (i : grid1.Coords) (arg2 : Memref sig .tc .vmem S1024x2048 .bf16) (harg2 : arg2.IsWhole) (arg3 : Memref sig .tc .vmem S1x2048x256 .f32) (harg3 : arg3.IsWhole) (arg4 : Memref sig .tc .vmem S1x1x256 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S128x8 .f32) (harg7 : arg7.IsWhole) (arg8 : Memref sig .tc .vmem S1x8 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S1x8 .f32) (harg12 : arg12.IsWhole) (arg13 : Memref sig .tc .vmem S1024x512 .f32) (harg13 : arg13.IsWhole) (arg14 : Memref sig .tc .vmem S1x512 .f32) (harg14 : arg14.IsWhole) (arg15 : Memref sig .tc .vmem S1024x10 .f32) (harg15 : arg15.IsWhole) (arg16 : Memref sig .tc .vmem S1x128 .f32) (harg16 : arg16.IsWhole) (arg17 : Memref sig .tc .vmem S1x2 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x8 .f32) (harg20 : arg20.IsWhole) (arg21 : Memref sig .tc .vmem S1024x8 .f32) (harg21 : arg21.IsWhole) (arg22 : Memref sig .tc .vmem S1x128 .f32) (harg22 : arg22.IsWhole) (arg23 : Memref sig .tc .vmem S10x8 .f32) (harg23 : arg23.IsWhole) (arg24 : Memref sig .tc .vmem S10x8 .f32) (harg24 : arg24.IsWhole) (arg25 : Memref sig .tc .vmem S1024x2 .f32) (harg25 : arg25.IsWhole) (arg26 : Memref sig .tc .vmem S1024x4 .f32) (harg26 : arg26.IsWhole) (arg27 : Memref sig .tc .vmem S1024x2 .f32) (harg27 : arg27.IsWhole) (arg28 : Memref sig .tc .vmem S1024x4 .f32) (harg28 : arg28.IsWhole) (arg29 : Memref sig .tc .vmem S1024x8 .f32) (harg29 : arg29.IsWhole) (arg30 : Memref sig .tc .vmem S1024x1024 .f32) (harg30 : arg30.IsWhole)
    (hc1 : k1_cond1 i = 1#1) (hc2 : k1_cond2 i = 1#1) (hc3 : ¬ k1_cond3 i = 1#1) (hc4 : ¬ k1_cond4 i = 1#1) (b : Bufs F) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 arg24 arg25 arg26 arg27 arg28 arg29 arg30 b ∗ (held c arg2 arg3 arg4 arg5 arg6 arg7 arg8 arg9 arg10 arg11 arg12 arg13 arg14 arg15 arg16 arg17 arg18 arg19 arg20 arg21 arg22 arg23 arg24 arg25 arg26 arg27 arg28 arg29 arg30 ((b.opening.squares).path0 i) -∗ K ⟨⟩))
      ⊢ wp frame (wpE (defs₀ (F := F)) Variants.none c none) E (cc1__stage_b i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc1__stage_b_eq_skeleton]; unfold cc1__stage_b_skel
  simp only [k1_part9_eq_skeleton, k1_part1_eq_skeleton, k1_part2_eq_skeleton, k1_part10_eq_skeleton]
  generalize hP : held c arg2 arg3 arg4 arg5 arg6 arg7 arg8 arg9 arg10 arg11 arg12 arg13 arg14 arg15 arg16 arg17 arg18 arg19 arg20 arg21 arg22 arg23 arg24 arg25 arg26 arg27 arg28 arg29 arg30 ((b.opening.squares).path0 i) = P
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28
  have e0 : ∀ inb, View.readAt (Elt F) arg2.view (Rect.unit (s := S1024x2048) ![0, 0] ![1024, 2048] inb).toLoadRect (harg2.unread b.x0) = b.x0 :=
    fun inb => (View.readAt_full arg2.view _ inb).trans (harg2.read_unread _)
  have e1 : ∀ inb, View.readAt (Elt F) arg3.view (Rect.unit (s := S1x2048x256) ![0, 0, 0] ![1, 2048, 256] inb).toLoadRect (harg3.unread b.x1) = b.x1 :=
    fun inb => (View.readAt_full arg3.view _ inb).trans (harg3.read_unread _)
  have e2 : ∀ inb, View.readAt (Elt F) arg4.view (Rect.unit (s := S1x1x256) ![0, 0, 0] ![1, 1, 256] inb).toLoadRect (harg4.unread b.x2) = b.x2 :=
    fun inb => (View.readAt_full arg4.view _ inb).trans (harg4.read_unread _)
  have e3 : ∀ inb, View.readAt (Elt F) arg5.view (Rect.unit (s := S2048x128) ![0, 0] ![2048, 128] inb).toLoadRect (harg5.unread b.x3) = b.x3 :=
    fun inb => (View.readAt_full arg5.view _ inb).trans (harg5.read_unread _)
  have e4 : ∀ inb, View.readAt (Elt F) arg6.view (Rect.unit (s := S1x128) ![0, 0] ![1, 128] inb).toLoadRect (harg6.unread b.x4) = b.x4 :=
    fun inb => (View.readAt_full arg6.view _ inb).trans (harg6.read_unread _)
  have e5 : ∀ inb, View.readAt (Elt F) arg7.view (Rect.unit (s := S128x8) ![0, 0] ![128, 8] inb).toLoadRect (harg7.unread b.x5) = b.x5 :=
    fun inb => (View.readAt_full arg7.view _ inb).trans (harg7.read_unread _)
  have e6 : ∀ inb, View.readAt (Elt F) arg8.view (Rect.unit (s := S1x8) ![0, 0] ![1, 8] inb).toLoadRect (harg8.unread b.x6) = b.x6 :=
    fun inb => (View.readAt_full arg8.view _ inb).trans (harg8.read_unread _)
  have e7 : ∀ inb, View.readAt (Elt F) arg9.view (Rect.unit (s := S1024x128) ![0, 0] ![1024, 128] inb).toLoadRect (harg9.unread b.x7) = b.x7 :=
    fun inb => (View.readAt_full arg9.view _ inb).trans (harg9.read_unread _)
  have e8 : ∀ inb, View.readAt (Elt F) arg10.view (Rect.unit (s := S1x128) ![0, 0] ![1, 128] inb).toLoadRect (harg10.unread b.x8) = b.x8 :=
    fun inb => (View.readAt_full arg10.view _ inb).trans (harg10.read_unread _)
  have e9 : ∀ inb, View.readAt (Elt F) arg11.view (Rect.unit (s := S128x8) ![0, 0] ![128, 8] inb).toLoadRect (harg11.unread b.x9) = b.x9 :=
    fun inb => (View.readAt_full arg11.view _ inb).trans (harg11.read_unread _)
  have e10 : ∀ inb, View.readAt (Elt F) arg12.view (Rect.unit (s := S1x8) ![0, 0] ![1, 8] inb).toLoadRect (harg12.unread b.x10) = b.x10 :=
    fun inb => (View.readAt_full arg12.view _ inb).trans (harg12.read_unread _)
  have e11 : ∀ inb, View.readAt (Elt F) arg13.view (Rect.unit (s := S1024x512) ![0, 0] ![1024, 512] inb).toLoadRect (harg13.unread b.x11) = b.x11 :=
    fun inb => (View.readAt_full arg13.view _ inb).trans (harg13.read_unread _)
  have e12 : ∀ inb, View.readAt (Elt F) arg14.view (Rect.unit (s := S1x512) ![0, 0] ![1, 512] inb).toLoadRect (harg14.unread b.x12) = b.x12 :=
    fun inb => (View.readAt_full arg14.view _ inb).trans (harg14.read_unread _)
  have e13 : ∀ inb, View.readAt (Elt F) arg15.view (Rect.unit (s := S1024x10) ![0, 0] ![1024, 10] inb).toLoadRect (harg15.unread b.x13) = b.x13 :=
    fun inb => (View.readAt_full arg15.view _ inb).trans (harg15.read_unread _)
  have e14 : ∀ inb, View.readAt (Elt F) arg16.view (Rect.unit (s := S1x128) ![0, 0] ![1, 128] inb).toLoadRect (harg16.unread b.x14) = b.x14 :=
    fun inb => (View.readAt_full arg16.view _ inb).trans (harg16.read_unread _)
  have e15 : ∀ inb, View.readAt (Elt F) arg17.view (Rect.unit (s := S1x2) ![0, 0] ![1, 2] inb).toLoadRect (harg17.unread b.x15) = b.x15 :=
    fun inb => (View.readAt_full arg17.view _ inb).trans (harg17.read_unread _)
  have e16 : ∀ inb, View.readAt (Elt F) arg18.view (Rect.unit (s := S1024x128) ![0, 0] ![1024, 128] inb).toLoadRect (harg18.unread b.o16) = b.o16 :=
    fun inb => (View.readAt_full arg18.view _ inb).trans (harg18.read_unread _)
  have w16 : ∀ inb f w L, View.read (Elt F) arg18.view (arg18.view.writes (Elt F) f (⟨(Rect.unit (s := S1024x128) ![0, 0] ![1024, 128] inb), w⟩ :: L)) = w :=
    fun inb f w L => View.read_writes_full arg18.view f inb w L
  have e17 : ∀ inb, View.readAt (Elt F) arg19.view (Rect.unit (s := S1024x128) ![0, 0] ![1024, 128] inb).toLoadRect (harg19.unread b.o17) = b.o17 :=
    fun inb => (View.readAt_full arg19.view _ inb).trans (harg19.read_unread _)
  have w17 : ∀ inb f w L, View.read (Elt F) arg19.view (arg19.view.writes (Elt F) f (⟨(Rect.unit (s := S1024x128) ![0, 0] ![1024, 128] inb), w⟩ :: L)) = w :=
    fun inb f w L => View.read_writes_full arg19.view f inb w L
  have e18 : ∀ inb, View.readAt (Elt F) arg20.view (Rect.unit (s := S1024x8) ![0, 0] ![1024, 8] inb).toLoadRect (harg20.unread b.o18) = b.o18 :=
    fun inb => (View.readAt_full arg20.view _ inb).trans (harg20.read_unread _)
  have w18 : ∀ inb f w L, View.read (Elt F) arg20.view (arg20.view.writes (Elt F) f (⟨(Rect.unit (s := S1024x8) ![0, 0] ![1024, 8] inb), w⟩ :: L)) = w :=
    fun inb f w L => View.read_writes_full arg20.view f inb w L
  have e19 : ∀ inb, View.readAt (Elt F) arg21.view (Rect.unit (s := S1024x8) ![0, 0] ![1024, 8] inb).toLoadRect (harg21.unread b.o19) = b.o19 :=
    fun inb => (View.readAt_full arg21.view _ inb).trans (harg21.read_unread _)
  have w19 : ∀ inb f w L, View.read (Elt F) arg21.view (arg21.view.writes (Elt F) f (⟨(Rect.unit (s := S1024x8) ![0, 0] ![1024, 8] inb), w⟩ :: L)) = w :=
    fun inb f w L => View.read_writes_full arg21.view f inb w L
  have e20 : ∀ inb, View.readAt (Elt F) arg22.view (Rect.unit (s := S1x128) ![0, 0] ![1, 128] inb).toLoadRect (harg22.unread b.o20) = b.o20 :=
    fun inb => (View.readAt_full arg22.view _ inb).trans (harg22.read_unread _)
  have l20 : ∀ inb inb' f w L, View.readAt (Elt F) arg22.view (Rect.unit (s := S1x128) ![0, 0] ![1, 128] inb).toLoadRect (arg22.view.writes (Elt F) f (⟨(Rect.unit (s := S1x128) ![0, 0] ![1, 128] inb'), w⟩ :: L)) = w :=
    fun inb inb' f w L => View.readAt_writes_full arg22.view f inb inb' w L
  have c20 : ∀ inb inb' w L, arg22.view.readCov (Val := Elt F) (⟨(Rect.unit (s := S1x128) ![0, 0] ![1, 128] inb'), w⟩ :: L) (Rect.unit (s := S1x128) ![0, 0] ![1, 128] inb).toLoadRect = w :=
    fun inb inb' w L => View.readCov_full arg22.view inb inb' w L
  have w20 : ∀ inb f w L, View.read (Elt F) arg22.view (arg22.view.writes (Elt F) f (⟨(Rect.unit (s := S1x128) ![0, 0] ![1, 128] inb), w⟩ :: L)) = w :=
    fun inb f w L => View.read_writes_full arg22.view f inb w L
  have e21 : ∀ inb, View.readAt (Elt F) arg23.view (Rect.unit (s := S10x8) ![0, 0] ![10, 8] inb).toLoadRect (harg23.unread b.o21) = b.o21 :=
    fun inb => (View.readAt_full arg23.view _ inb).trans (harg23.read_unread _)
  have w21 : ∀ inb f w L, View.read (Elt F) arg23.view (arg23.view.writes (Elt F) f (⟨(Rect.unit (s := S10x8) ![0, 0] ![10, 8] inb), w⟩ :: L)) = w :=
    fun inb f w L => View.read_writes_full arg23.view f inb w L
  have e22 : ∀ inb, View.readAt (Elt F) arg24.view (Rect.unit (s := S10x8) ![0, 0] ![10, 8] inb).toLoadRect (harg24.unread b.o22) = b.o22 :=
    fun inb => (View.readAt_full arg24.view _ inb).trans (harg24.read_unread _)
  have w22 : ∀ inb f w L, View.read (Elt F) arg24.view (arg24.view.writes (Elt F) f (⟨(Rect.unit (s := S10x8) ![0, 0] ![10, 8] inb), w⟩ :: L)) = w :=
    fun inb f w L => View.read_writes_full arg24.view f inb w L
  have e23 : ∀ inb, View.readAt (Elt F) arg25.view (Rect.unit (s := S1024x2) ![0, 0] ![1024, 2] inb).toLoadRect (harg25.unread b.o23) = b.o23 :=
    fun inb => (View.readAt_full arg25.view _ inb).trans (harg25.read_unread _)
  have w23 : ∀ inb f w L, View.read (Elt F) arg25.view (arg25.view.writes (Elt F) f (⟨(Rect.unit (s := S1024x2) ![0, 0] ![1024, 2] inb), w⟩ :: L)) = w :=
    fun inb f w L => View.read_writes_full arg25.view f inb w L
  have e24 : ∀ inb, View.readAt (Elt F) arg26.view (Rect.unit (s := S1024x4) ![0, 0] ![1024, 4] inb).toLoadRect (harg26.unread b.o24) = b.o24 :=
    fun inb => (View.readAt_full arg26.view _ inb).trans (harg26.read_unread _)
  have w24 : ∀ inb f w L, View.read (Elt F) arg26.view (arg26.view.writes (Elt F) f (⟨(Rect.unit (s := S1024x4) ![0, 0] ![1024, 4] inb), w⟩ :: L)) = w :=
    fun inb f w L => View.read_writes_full arg26.view f inb w L
  have e25 : ∀ inb, View.readAt (Elt F) arg27.view (Rect.unit (s := S1024x2) ![0, 0] ![1024, 2] inb).toLoadRect (harg27.unread b.o25) = b.o25 :=
    fun inb => (View.readAt_full arg27.view _ inb).trans (harg27.read_unread _)
  have w25 : ∀ inb f w L, View.read (Elt F) arg27.view (arg27.view.writes (Elt F) f (⟨(Rect.unit (s := S1024x2) ![0, 0] ![1024, 2] inb), w⟩ :: L)) = w :=
    fun inb f w L => View.read_writes_full arg27.view f inb w L
  have e26 : ∀ inb, View.readAt (Elt F) arg28.view (Rect.unit (s := S1024x4) ![0, 0] ![1024, 4] inb).toLoadRect (harg28.unread b.o26) = b.o26 :=
    fun inb => (View.readAt_full arg28.view _ inb).trans (harg28.read_unread _)
  have w26 : ∀ inb f w L, View.read (Elt F) arg28.view (arg28.view.writes (Elt F) f (⟨(Rect.unit (s := S1024x4) ![0, 0] ![1024, 4] inb), w⟩ :: L)) = w :=
    fun inb f w L => View.read_writes_full arg28.view f inb w L
  have e27 : ∀ inb, View.readAt (Elt F) arg29.view (Rect.unit (s := S1024x8) ![0, 0] ![1024, 8] inb).toLoadRect (harg29.unread b.s0) = b.s0 :=
    fun inb => (View.readAt_full arg29.view _ inb).trans (harg29.read_unread _)
  have l27 : ∀ inb inb' f w L, View.readAt (Elt F) arg29.view (Rect.unit (s := S1024x8) ![0, 0] ![1024, 8] inb).toLoadRect (arg29.view.writes (Elt F) f (⟨(Rect.unit (s := S1024x8) ![0, 0] ![1024, 8] inb'), w⟩ :: L)) = w :=
    fun inb inb' f w L => View.readAt_writes_full arg29.view f inb inb' w L
  have c27 : ∀ inb inb' w L, arg29.view.readCov (Val := Elt F) (⟨(Rect.unit (s := S1024x8) ![0, 0] ![1024, 8] inb'), w⟩ :: L) (Rect.unit (s := S1024x8) ![0, 0] ![1024, 8] inb).toLoadRect = w :=
    fun inb inb' w L => View.readCov_full arg29.view inb inb' w L
  have w27 : ∀ inb f w L, View.read (Elt F) arg29.view (arg29.view.writes (Elt F) f (⟨(Rect.unit (s := S1024x8) ![0, 0] ![1024, 8] inb), w⟩ :: L)) = w :=
    fun inb f w L => View.read_writes_full arg29.view f inb w L
  have e28 : ∀ inb, View.readAt (Elt F) arg30.view (Rect.unit (s := S1024x1024) ![0, 0] ![1024, 1024] inb).toLoadRect (harg30.unread b.s1) = b.s1 :=
    fun inb => (View.readAt_full arg30.view _ inb).trans (harg30.read_unread _)
  have l28 : ∀ inb f, View.readAt (Elt F) arg30.view (Rect.unit (s := S1024x1024) ![0, 0] ![1024, 1024] inb).toLoadRect f = arg30.view.read (Elt F) f :=
    fun inb f => View.readAt_full arg30.view f inb
  have p1 : ∀ inb f w L, View.read (Elt F) arg30.view (arg30.view.writes (Elt F) f (⟨(Rect.unit (s := S1024x1024) (k1_off1 i) ![1024, 256] inb), w⟩ :: L)) = VecWindow.put (View.read (Elt F) arg30.view (arg30.view.writes (Elt F) f L)) ![0, 256 * (i 0).val] ![1024, 256] w :=
    fun inb f w L => View.read_writes_cons_put arg30.view f inb w L (k1_off1_eq i)
  have p2 : ∀ inb f w L, View.read (Elt F) arg30.view (arg30.view.writes (Elt F) f (⟨(Rect.unit (s := S1024x1024) (k1_off2 i) ![1024, 256] inb), w⟩ :: L)) = VecWindow.put (View.read (Elt F) arg30.view (arg30.view.writes (Elt F) f L)) ![0, 256 * (i 0).val] ![1024, 256] w :=
    fun inb f w L => View.read_writes_cons_put arg30.view f inb w L (k1_off2_eq i)
  have u2 : ∀ inb f, View.readAt (Elt F) arg30.view (Rect.unit (s := S1024x1024) (k1_off2 i) ![1024, 256] inb).toLoadRect f = VecWindow.window (arg30.view.read (Elt F) f) ![0, 256 * (i 0).val] ![1024, 256] (off2_inb i) :=
    fun inb f => View.readAt_unit arg30.view f inb (k1_off2_eq i) (off2_inb i)
  sl_exec (disch := first | sl_exact hc1 | sl_exact hc2 | sl_exact hc3 | sl_exact hc4)
  sl_step
  iapply Hk
  subst hP
  unfold held owns
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  isplitl [H19]
  · iexists _; isplitr; · ipureintro; exact harg21.read_unread _
    iexact H19
  isplitl [H20]
  · iexists _; isplitr
    swap; · iexact H20
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H21]
  · iexists _; isplitr
    swap; · iexact H21
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H22]
  · iexists _; isplitr; · ipureintro; exact harg24.read_unread _
    iexact H22
  isplitl [H23]
  · iexists _; isplitr
    swap; · iexact H23
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H24]
  · iexists _; isplitr; · ipureintro; exact harg26.read_unread _
    iexact H24
  isplitl [H25]
  · iexists _; isplitr
    swap; · iexact H25
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H26]
  · iexists _; isplitr; · ipureintro; exact harg28.read_unread _
    iexact H26
  isplitl [H27]
  · iexists _; isplitr
    swap; · iexact H27
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  · iexists _; isplitr
    swap; · iexact H28
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl

end Cert.KernelIdeal.Work

end
-- ==== Proof.KernelIdealWork.Body_B.lean ====
/- The body of the second launch at a later point of path 0: which buffers it changes, and to what. -/
module

public import proofs.«01_k».proof.Proof.KernelIdealWork.Bufs
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At a later point of path 0 the body turns the contents `b` of its buffers into the contents named on the right. -/
theorem body_even (c : Dev nD) (i : grid1.Coords) (arg2 : Memref sig .tc .vmem S1024x2048 .bf16) (harg2 : arg2.IsWhole) (arg3 : Memref sig .tc .vmem S1x2048x256 .f32) (harg3 : arg3.IsWhole) (arg4 : Memref sig .tc .vmem S1x1x256 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S128x8 .f32) (harg7 : arg7.IsWhole) (arg8 : Memref sig .tc .vmem S1x8 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S1x8 .f32) (harg12 : arg12.IsWhole) (arg13 : Memref sig .tc .vmem S1024x512 .f32) (harg13 : arg13.IsWhole) (arg14 : Memref sig .tc .vmem S1x512 .f32) (harg14 : arg14.IsWhole) (arg15 : Memref sig .tc .vmem S1024x10 .f32) (harg15 : arg15.IsWhole) (arg16 : Memref sig .tc .vmem S1x128 .f32) (harg16 : arg16.IsWhole) (arg17 : Memref sig .tc .vmem S1x2 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x8 .f32) (harg20 : arg20.IsWhole) (arg21 : Memref sig .tc .vmem S1024x8 .f32) (harg21 : arg21.IsWhole) (arg22 : Memref sig .tc .vmem S1x128 .f32) (harg22 : arg22.IsWhole) (arg23 : Memref sig .tc .vmem S10x8 .f32) (harg23 : arg23.IsWhole) (arg24 : Memref sig .tc .vmem S10x8 .f32) (harg24 : arg24.IsWhole) (arg25 : Memref sig .tc .vmem S1024x2 .f32) (harg25 : arg25.IsWhole) (arg26 : Memref sig .tc .vmem S1024x4 .f32) (harg26 : arg26.IsWhole) (arg27 : Memref sig .tc .vmem S1024x2 .f32) (harg27 : arg27.IsWhole) (arg28 : Memref sig .tc .vmem S1024x4 .f32) (harg28 : arg28.IsWhole) (arg29 : Memref sig .tc .vmem S1024x8 .f32) (harg29 : arg29.IsWhole) (arg30 : Memref sig .tc .vmem S1024x1024 .f32) (harg30 : arg30.IsWhole)
    (hc1 : ¬ k1_cond1 i = 1#1) (hc2 : k1_cond2 i = 1#1) (hc3 : ¬ k1_cond3 i = 1#1) (hc4 : ¬ k1_cond4 i = 1#1) (b : Bufs F) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 arg24 arg25 arg26 arg27 arg28 arg29 arg30 b ∗ (held c arg2 arg3 arg4 arg5 arg6 arg7 arg8 arg9 arg10 arg11 arg12 arg13 arg14 arg15 arg16 arg17 arg18 arg19 arg20 arg21 arg22 arg23 arg24 arg25 arg26 arg27 arg28 arg29 arg30 (b.squares.path0 i) -∗ K ⟨⟩))
      ⊢ wp frame (wpE (defs₀ (F := F)) Variants.none c none) E (cc1__stage_b i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc1__stage_b_eq_skeleton]; unfold cc1__stage_b_skel
  simp only [k1_part9_eq_skeleton, k1_part10_eq_skeleton]
  generalize hP : held c arg2 arg3 arg4 arg5 arg6 arg7 arg8 arg9 arg10 arg11 arg12 arg13 arg14 arg15 arg16 arg17 arg18 arg19 arg20 arg21 arg22 arg23 arg24 arg25 arg26 arg27 arg28 arg29 arg30 (b.squares.path0 i) = P
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28
  have e0 : ∀ inb, View.readAt (Elt F) arg2.view (Rect.unit (s := S1024x2048) ![0, 0] ![1024, 2048] inb).toLoadRect (harg2.unread b.x0) = b.x0 :=
    fun inb => (View.readAt_full arg2.view _ inb).trans (harg2.read_unread _)
  have e1 : ∀ inb, View.readAt (Elt F) arg3.view (Rect.unit (s := S1x2048x256) ![0, 0, 0] ![1, 2048, 256] inb).toLoadRect (harg3.unread b.x1) = b.x1 :=
    fun inb => (View.readAt_full arg3.view _ inb).trans (harg3.read_unread _)
  have e2 : ∀ inb, View.readAt (Elt F) arg4.view (Rect.unit (s := S1x1x256) ![0, 0, 0] ![1, 1, 256] inb).toLoadRect (harg4.unread b.x2) = b.x2 :=
    fun inb => (View.readAt_full arg4.view _ inb).trans (harg4.read_unread _)
  have e3 : ∀ inb, View.readAt (Elt F) arg5.view (Rect.unit (s := S2048x128) ![0, 0] ![2048, 128] inb).toLoadRect (harg5.unread b.x3) = b.x3 :=
    fun inb => (View.readAt_full arg5.view _ inb).trans (harg5.read_unread _)
  have e4 : ∀ inb, View.readAt (Elt F) arg6.view (Rect.unit (s := S1x128) ![0, 0] ![1, 128] inb).toLoadRect (harg6.unread b.x4) = b.x4 :=
    fun inb => (View.readAt_full arg6.view _ inb).trans (harg6.read_unread _)
  have e5 : ∀ inb, View.readAt (Elt F) arg7.view (Rect.unit (s := S128x8) ![0, 0] ![128, 8] inb).toLoadRect (harg7.unread b.x5) = b.x5 :=
    fun inb => (View.readAt_full arg7.view _ inb).trans (harg7.read_unread _)
  have e6 : ∀ inb, View.readAt (Elt F) arg8.view (Rect.unit (s := S1x8) ![0, 0] ![1, 8] inb).toLoadRect (harg8.unread b.x6) = b.x6 :=
    fun inb => (View.readAt_full arg8.view _ inb).trans (harg8.read_unread _)
  have e7 : ∀ inb, View.readAt (Elt F) arg9.view (Rect.unit (s := S1024x128) ![0, 0] ![1024, 128] inb).toLoadRect (harg9.unread b.x7) = b.x7 :=
    fun inb => (View.readAt_full arg9.view _ inb).trans (harg9.read_unread _)
  have e8 : ∀ inb, View.readAt (Elt F) arg10.view (Rect.unit (s := S1x128) ![0, 0] ![1, 128] inb).toLoadRect (harg10.unread b.x8) = b.x8 :=
    fun inb => (View.readAt_full arg10.view _ inb).trans (harg10.read_unread _)
  have e9 : ∀ inb, View.readAt (Elt F) arg11.view (Rect.unit (s := S128x8) ![0, 0] ![128, 8] inb).toLoadRect (harg11.unread b.x9) = b.x9 :=
    fun inb => (View.readAt_full arg11.view _ inb).trans (harg11.read_unread _)
  have e10 : ∀ inb, View.readAt (Elt F) arg12.view (Rect.unit (s := S1x8) ![0, 0] ![1, 8] inb).toLoadRect (harg12.unread b.x10) = b.x10 :=
    fun inb => (View.readAt_full arg12.view _ inb).trans (harg12.read_unread _)
  have e11 : ∀ inb, View.readAt (Elt F) arg13.view (Rect.unit (s := S1024x512) ![0, 0] ![1024, 512] inb).toLoadRect (harg13.unread b.x11) = b.x11 :=
    fun inb => (View.readAt_full arg13.view _ inb).trans (harg13.read_unread _)
  have e12 : ∀ inb, View.readAt (Elt F) arg14.view (Rect.unit (s := S1x512) ![0, 0] ![1, 512] inb).toLoadRect (harg14.unread b.x12) = b.x12 :=
    fun inb => (View.readAt_full arg14.view _ inb).trans (harg14.read_unread _)
  have e13 : ∀ inb, View.readAt (Elt F) arg15.view (Rect.unit (s := S1024x10) ![0, 0] ![1024, 10] inb).toLoadRect (harg15.unread b.x13) = b.x13 :=
    fun inb => (View.readAt_full arg15.view _ inb).trans (harg15.read_unread _)
  have e14 : ∀ inb, View.readAt (Elt F) arg16.view (Rect.unit (s := S1x128) ![0, 0] ![1, 128] inb).toLoadRect (harg16.unread b.x14) = b.x14 :=
    fun inb => (View.readAt_full arg16.view _ inb).trans (harg16.read_unread _)
  have e15 : ∀ inb, View.readAt (Elt F) arg17.view (Rect.unit (s := S1x2) ![0, 0] ![1, 2] inb).toLoadRect (harg17.unread b.x15) = b.x15 :=
    fun inb => (View.readAt_full arg17.view _ inb).trans (harg17.read_unread _)
  have e16 : ∀ inb, View.readAt (Elt F) arg18.view (Rect.unit (s := S1024x128) ![0, 0] ![1024, 128] inb).toLoadRect (harg18.unread b.o16) = b.o16 :=
    fun inb => (View.readAt_full arg18.view _ inb).trans (harg18.read_unread _)
  have w16 : ∀ inb f w L, View.read (Elt F) arg18.view (arg18.view.writes (Elt F) f (⟨(Rect.unit (s := S1024x128) ![0, 0] ![1024, 128] inb), w⟩ :: L)) = w :=
    fun inb f w L => View.read_writes_full arg18.view f inb w L
  have e17 : ∀ inb, View.readAt (Elt F) arg19.view (Rect.unit (s := S1024x128) ![0, 0] ![1024, 128] inb).toLoadRect (harg19.unread b.o17) = b.o17 :=
    fun inb => (View.readAt_full arg19.view _ inb).trans (harg19.read_unread _)
  have w17 : ∀ inb f w L, View.read (Elt F) arg19.view (arg19.view.writes (Elt F) f (⟨(Rect.unit (s := S1024x128) ![0, 0] ![1024, 128] inb), w⟩ :: L)) = w :=
    fun inb f w L => View.read_writes_full arg19.view f inb w L
  have e18 : ∀ inb, View.readAt (Elt F) arg20.view (Rect.unit (s := S1024x8) ![0, 0] ![1024, 8] inb).toLoadRect (harg20.unread b.o18) = b.o18 :=
    fun inb => (View.readAt_full arg20.view _ inb).trans (harg20.read_unread _)
  have w18 : ∀ inb f w L, View.read (Elt F) arg20.view (arg20.view.writes (Elt F) f (⟨(Rect.unit (s := S1024x8) ![0, 0] ![1024, 8] inb), w⟩ :: L)) = w :=
    fun inb f w L => View.read_writes_full arg20.view f inb w L
  have e19 : ∀ inb, View.readAt (Elt F) arg21.view (Rect.unit (s := S1024x8) ![0, 0] ![1024, 8] inb).toLoadRect (harg21.unread b.o19) = b.o19 :=
    fun inb => (View.readAt_full arg21.view _ inb).trans (harg21.read_unread _)
  have w19 : ∀ inb f w L, View.read (Elt F) arg21.view (arg21.view.writes (Elt F) f (⟨(Rect.unit (s := S1024x8) ![0, 0] ![1024, 8] inb), w⟩ :: L)) = w :=
    fun inb f w L => View.read_writes_full arg21.view f inb w L
  have e20 : ∀ inb, View.readAt (Elt F) arg22.view (Rect.unit (s := S1x128) ![0, 0] ![1, 128] inb).toLoadRect (harg22.unread b.o20) = b.o20 :=
    fun inb => (View.readAt_full arg22.view _ inb).trans (harg22.read_unread _)
  have l20 : ∀ inb inb' f w L, View.readAt (Elt F) arg22.view (Rect.unit (s := S1x128) ![0, 0] ![1, 128] inb).toLoadRect (arg22.view.writes (Elt F) f (⟨(Rect.unit (s := S1x128) ![0, 0] ![1, 128] inb'), w⟩ :: L)) = w :=
    fun inb inb' f w L => View.readAt_writes_full arg22.view f inb inb' w L
  have w20 : ∀ inb f w L, View.read (Elt F) arg22.view (arg22.view.writes (Elt F) f (⟨(Rect.unit (s := S1x128) ![0, 0] ![1, 128] inb), w⟩ :: L)) = w :=
    fun inb f w L => View.read_writes_full arg22.view f inb w L
  have e21 : ∀ inb, View.readAt (Elt F) arg23.view (Rect.unit (s := S10x8) ![0, 0] ![10, 8] inb).toLoadRect (harg23.unread b.o21) = b.o21 :=
    fun inb => (View.readAt_full arg23.view _ inb).trans (harg23.read_unread _)
  have w21 : ∀ inb f w L, View.read (Elt F) arg23.view (arg23.view.writes (Elt F) f (⟨(Rect.unit (s := S10x8) ![0, 0] ![10, 8] inb), w⟩ :: L)) = w :=
    fun inb f w L => View.read_writes_full arg23.view f inb w L
  have e22 : ∀ inb, View.readAt (Elt F) arg24.view (Rect.unit (s := S10x8) ![0, 0] ![10, 8] inb).toLoadRect (harg24.unread b.o22) = b.o22 :=
    fun inb => (View.readAt_full arg24.view _ inb).trans (harg24.read_unread _)
  have w22 : ∀ inb f w L, View.read (Elt F) arg24.view (arg24.view.writes (Elt F) f (⟨(Rect.unit (s := S10x8) ![0, 0] ![10, 8] inb), w⟩ :: L)) = w :=
    fun inb f w L => View.read_writes_full arg24.view f inb w L
  have e23 : ∀ inb, View.readAt (Elt F) arg25.view (Rect.unit (s := S1024x2) ![0, 0] ![1024, 2] inb).toLoadRect (harg25.unread b.o23) = b.o23 :=
    fun inb => (View.readAt_full arg25.view _ inb).trans (harg25.read_unread _)
  have w23 : ∀ inb f w L, View.read (Elt F) arg25.view (arg25.view.writes (Elt F) f (⟨(Rect.unit (s := S1024x2) ![0, 0] ![1024, 2] inb), w⟩ :: L)) = w :=
    fun inb f w L => View.read_writes_full arg25.view f inb w L
  have e24 : ∀ inb, View.readAt (Elt F) arg26.view (Rect.unit (s := S1024x4) ![0, 0] ![1024, 4] inb).toLoadRect (harg26.unread b.o24) = b.o24 :=
    fun inb => (View.readAt_full arg26.view _ inb).trans (harg26.read_unread _)
  have w24 : ∀ inb f w L, View.read (Elt F) arg26.view (arg26.view.writes (Elt F) f (⟨(Rect.unit (s := S1024x4) ![0, 0] ![1024, 4] inb), w⟩ :: L)) = w :=
    fun inb f w L => View.read_writes_full arg26.view f inb w L
  have e25 : ∀ inb, View.readAt (Elt F) arg27.view (Rect.unit (s := S1024x2) ![0, 0] ![1024, 2] inb).toLoadRect (harg27.unread b.o25) = b.o25 :=
    fun inb => (View.readAt_full arg27.view _ inb).trans (harg27.read_unread _)
  have w25 : ∀ inb f w L, View.read (Elt F) arg27.view (arg27.view.writes (Elt F) f (⟨(Rect.unit (s := S1024x2) ![0, 0] ![1024, 2] inb), w⟩ :: L)) = w :=
    fun inb f w L => View.read_writes_full arg27.view f inb w L
  have e26 : ∀ inb, View.readAt (Elt F) arg28.view (Rect.unit (s := S1024x4) ![0, 0] ![1024, 4] inb).toLoadRect (harg28.unread b.o26) = b.o26 :=
    fun inb => (View.readAt_full arg28.view _ inb).trans (harg28.read_unread _)
  have w26 : ∀ inb f w L, View.read (Elt F) arg28.view (arg28.view.writes (Elt F) f (⟨(Rect.unit (s := S1024x4) ![0, 0] ![1024, 4] inb), w⟩ :: L)) = w :=
    fun inb f w L => View.read_writes_full arg28.view f inb w L
  have e27 : ∀ inb, View.readAt (Elt F) arg29.view (Rect.unit (s := S1024x8) ![0, 0] ![1024, 8] inb).toLoadRect (harg29.unread b.s0) = b.s0 :=
    fun inb => (View.readAt_full arg29.view _ inb).trans (harg29.read_unread _)
  have l27 : ∀ inb inb' f w L, View.readAt (Elt F) arg29.view (Rect.unit (s := S1024x8) ![0, 0] ![1024, 8] inb).toLoadRect (arg29.view.writes (Elt F) f (⟨(Rect.unit (s := S1024x8) ![0, 0] ![1024, 8] inb'), w⟩ :: L)) = w :=
    fun inb inb' f w L => View.readAt_writes_full arg29.view f inb inb' w L
  have w27 : ∀ inb f w L, View.read (Elt F) arg29.view (arg29.view.writes (Elt F) f (⟨(Rect.unit (s := S1024x8) ![0, 0] ![1024, 8] inb), w⟩ :: L)) = w :=
    fun inb f w L => View.read_writes_full arg29.view f inb w L
  have e28 : ∀ inb, View.readAt (Elt F) arg30.view (Rect.unit (s := S1024x1024) ![0, 0] ![1024, 1024] inb).toLoadRect (harg30.unread b.s1) = b.s1 :=
    fun inb => (View.readAt_full arg30.view _ inb).trans (harg30.read_unread _)
  have l28 : ∀ inb f, View.readAt (Elt F) arg30.view (Rect.unit (s := S1024x1024) ![0, 0] ![1024, 1024] inb).toLoadRect f = arg30.view.read (Elt F) f :=
    fun inb f => View.readAt_full arg30.view f inb
  have p1 : ∀ inb f w L, View.read (Elt F) arg30.view (arg30.view.writes (Elt F) f (⟨(Rect.unit (s := S1024x1024) (k1_off1 i) ![1024, 256] inb), w⟩ :: L)) = VecWindow.put (View.read (Elt F) arg30.view (arg30.view.writes (Elt F) f L)) ![0, 256 * (i 0).val] ![1024, 256] w :=
    fun inb f w L => View.read_writes_cons_put arg30.view f inb w L (k1_off1_eq i)
  have p2 : ∀ inb f w L, View.read (Elt F) arg30.view (arg30.view.writes (Elt F) f (⟨(Rect.unit (s := S1024x1024) (k1_off2 i) ![1024, 256] inb), w⟩ :: L)) = VecWindow.put (View.read (Elt F) arg30.view (arg30.view.writes (Elt F) f L)) ![0, 256 * (i 0).val] ![1024, 256] w :=
    fun inb f w L => View.read_writes_cons_put arg30.view f inb w L (k1_off2_eq i)
  have u2 : ∀ inb f, View.readAt (Elt F) arg30.view (Rect.unit (s := S1024x1024) (k1_off2 i) ![1024, 256] inb).toLoadRect f = VecWindow.window (arg30.view.read (Elt F) f) ![0, 256 * (i 0).val] ![1024, 256] (off2_inb i) :=
    fun inb f => View.readAt_unit arg30.view f inb (k1_off2_eq i) (off2_inb i)
  sl_exec (disch := first | sl_exact hc1 | sl_exact hc2 | sl_exact hc3 | sl_exact hc4)
  sl_step
  iapply Hk
  subst hP
  unfold held owns
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  isplitl [H19]
  · iexists _; isplitr; · ipureintro; exact harg21.read_unread _
    iexact H19
  isplitl [H20]
  · iexists _; isplitr
    swap; · iexact H20
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, l28, w16, w17, w18, w19, w20, w21, w22, w23, w24, w25, w26, w27, p1, p2, u2, View.writes_nil, Memref.IsWhole.read_unread])
    try rfl
  isplitl [H21]
  · iexists _; isplitr; · ipureintro; exact harg23.read_unread _
    iexact H21
  isplitl [H22]
  · iexists _; isplitr; · ipureintro; exact harg24.read_unread _
    iexact H22
  isplitl [H23]
  · iexists _; isplitr; · ipureintro; exact harg25.read_unread _
    iexact H23
  isplitl [H24]
  · iexists _; isplitr; · ipureintro; exact harg26.read_unread _
    iexact H24
  isplitl [H25]
  · iexists _; isplitr; · ipureintro; exact harg27.read_unread _
    iexact H25
  isplitl [H26]
  · iexists _; isplitr; · ipureintro; exact harg28.read_unread _
    iexact H26
  isplitl [H27]
  · iexists _; isplitr; · ipureintro; exact harg29.read_unread _
    iexact H27
  · iexists _; isplitr
    swap; · iexact H28
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, l28, w16, w17, w18, w19, w20, w21, w22, w23, w24, w25, w26, w27, p1, p2, u2, View.writes_nil, Memref.IsWhole.read_unread])
    try rfl

end Cert.KernelIdeal.Work

end
-- ==== Proof.KernelIdealWork.Body_C.lean ====
/- The body of the second launch at a point of path 1 that is not the last: which buffers it changes, and to what. -/
module

public import proofs.«01_k».proof.Proof.KernelIdealWork.Bufs
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At a point of path 1 that is not the last the body turns the contents `b` of its buffers into the contents named on the right. -/
theorem body_odd (c : Dev nD) (i : grid1.Coords) (arg2 : Memref sig .tc .vmem S1024x2048 .bf16) (harg2 : arg2.IsWhole) (arg3 : Memref sig .tc .vmem S1x2048x256 .f32) (harg3 : arg3.IsWhole) (arg4 : Memref sig .tc .vmem S1x1x256 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S128x8 .f32) (harg7 : arg7.IsWhole) (arg8 : Memref sig .tc .vmem S1x8 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S1x8 .f32) (harg12 : arg12.IsWhole) (arg13 : Memref sig .tc .vmem S1024x512 .f32) (harg13 : arg13.IsWhole) (arg14 : Memref sig .tc .vmem S1x512 .f32) (harg14 : arg14.IsWhole) (arg15 : Memref sig .tc .vmem S1024x10 .f32) (harg15 : arg15.IsWhole) (arg16 : Memref sig .tc .vmem S1x128 .f32) (harg16 : arg16.IsWhole) (arg17 : Memref sig .tc .vmem S1x2 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x8 .f32) (harg20 : arg20.IsWhole) (arg21 : Memref sig .tc .vmem S1024x8 .f32) (harg21 : arg21.IsWhole) (arg22 : Memref sig .tc .vmem S1x128 .f32) (harg22 : arg22.IsWhole) (arg23 : Memref sig .tc .vmem S10x8 .f32) (harg23 : arg23.IsWhole) (arg24 : Memref sig .tc .vmem S10x8 .f32) (harg24 : arg24.IsWhole) (arg25 : Memref sig .tc .vmem S1024x2 .f32) (harg25 : arg25.IsWhole) (arg26 : Memref sig .tc .vmem S1024x4 .f32) (harg26 : arg26.IsWhole) (arg27 : Memref sig .tc .vmem S1024x2 .f32) (harg27 : arg27.IsWhole) (arg28 : Memref sig .tc .vmem S1024x4 .f32) (harg28 : arg28.IsWhole) (arg29 : Memref sig .tc .vmem S1024x8 .f32) (harg29 : arg29.IsWhole) (arg30 : Memref sig .tc .vmem S1024x1024 .f32) (harg30 : arg30.IsWhole)
    (hc1 : ¬ k1_cond1 i = 1#1) (hc2 : ¬ k1_cond2 i = 1#1) (hc3 : k1_cond3 i = 1#1) (hc4 : ¬ k1_cond4 i = 1#1) (b : Bufs F) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 arg24 arg25 arg26 arg27 arg28 arg29 arg30 b ∗ (held c arg2 arg3 arg4 arg5 arg6 arg7 arg8 arg9 arg10 arg11 arg12 arg13 arg14 arg15 arg16 arg17 arg18 arg19 arg20 arg21 arg22 arg23 arg24 arg25 arg26 arg27 arg28 arg29 arg30 (b.squares.path1 i) -∗ K ⟨⟩))
      ⊢ wp frame (wpE (defs₀ (F := F)) Variants.none c none) E (cc1__stage_b i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc1__stage_b_eq_skeleton]; unfold cc1__stage_b_skel
  simp only [k1_part9_eq_skeleton, k1_part10_eq_skeleton]
  generalize hP : held c arg2 arg3 arg4 arg5 arg6 arg7 arg8 arg9 arg10 arg11 arg12 arg13 arg14 arg15 arg16 arg17 arg18 arg19 arg20 arg21 arg22 arg23 arg24 arg25 arg26 arg27 arg28 arg29 arg30 (b.squares.path1 i) = P
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28
  have e0 : ∀ inb, View.readAt (Elt F) arg2.view (Rect.unit (s := S1024x2048) ![0, 0] ![1024, 2048] inb).toLoadRect (harg2.unread b.x0) = b.x0 :=
    fun inb => (View.readAt_full arg2.view _ inb).trans (harg2.read_unread _)
  have e1 : ∀ inb, View.readAt (Elt F) arg3.view (Rect.unit (s := S1x2048x256) ![0, 0, 0] ![1, 2048, 256] inb).toLoadRect (harg3.unread b.x1) = b.x1 :=
    fun inb => (View.readAt_full arg3.view _ inb).trans (harg3.read_unread _)
  have e2 : ∀ inb, View.readAt (Elt F) arg4.view (Rect.unit (s := S1x1x256) ![0, 0, 0] ![1, 1, 256] inb).toLoadRect (harg4.unread b.x2) = b.x2 :=
    fun inb => (View.readAt_full arg4.view _ inb).trans (harg4.read_unread _)
  have e3 : ∀ inb, View.readAt (Elt F) arg5.view (Rect.unit (s := S2048x128) ![0, 0] ![2048, 128] inb).toLoadRect (harg5.unread b.x3) = b.x3 :=
    fun inb => (View.readAt_full arg5.view _ inb).trans (harg5.read_unread _)
  have e4 : ∀ inb, View.readAt (Elt F) arg6.view (Rect.unit (s := S1x128) ![0, 0] ![1, 128] inb).toLoadRect (harg6.unread b.x4) = b.x4 :=
    fun inb => (View.readAt_full arg6.view _ inb).trans (harg6.read_unread _)
  have e5 : ∀ inb, View.readAt (Elt F) arg7.view (Rect.unit (s := S128x8) ![0, 0] ![128, 8] inb).toLoadRect (harg7.unread b.x5) = b.x5 :=
    fun inb => (View.readAt_full arg7.view _ inb).trans (harg7.read_unread _)
  have e6 : ∀ inb, View.readAt (Elt F) arg8.view (Rect.unit (s := S1x8) ![0, 0] ![1, 8] inb).toLoadRect (harg8.unread b.x6) = b.x6 :=
    fun inb => (View.readAt_full arg8.view _ inb).trans (harg8.read_unread _)
  have e7 : ∀ inb, View.readAt (Elt F) arg9.view (Rect.unit (s := S1024x128) ![0, 0] ![1024, 128] inb).toLoadRect (harg9.unread b.x7) = b.x7 :=
    fun inb => (View.readAt_full arg9.view _ inb).trans (harg9.read_unread _)
  have e8 : ∀ inb, View.readAt (Elt F) arg10.view (Rect.unit (s := S1x128) ![0, 0] ![1, 128] inb).toLoadRect (harg10.unread b.x8) = b.x8 :=
    fun inb => (View.readAt_full arg10.view _ inb).trans (harg10.read_unread _)
  have e9 : ∀ inb, View.readAt (Elt F) arg11.view (Rect.unit (s := S128x8) ![0, 0] ![128, 8] inb).toLoadRect (harg11.unread b.x9) = b.x9 :=
    fun inb => (View.readAt_full arg11.view _ inb).trans (harg11.read_unread _)
  have e10 : ∀ inb, View.readAt (Elt F) arg12.view (Rect.unit (s := S1x8) ![0, 0] ![1, 8] inb).toLoadRect (harg12.unread b.x10) = b.x10 :=
    fun inb => (View.readAt_full arg12.view _ inb).trans (harg12.read_unread _)
  have e11 : ∀ inb, View.readAt (Elt F) arg13.view (Rect.unit (s := S1024x512) ![0, 0] ![1024, 512] inb).toLoadRect (harg13.unread b.x11) = b.x11 :=
    fun inb => (View.readAt_full arg13.view _ inb).trans (harg13.read_unread _)
  have e12 : ∀ inb, View.readAt (Elt F) arg14.view (Rect.unit (s := S1x512) ![0, 0] ![1, 512] inb).toLoadRect (harg14.unread b.x12) = b.x12 :=
    fun inb => (View.readAt_full arg14.view _ inb).trans (harg14.read_unread _)
  have e13 : ∀ inb, View.readAt (Elt F) arg15.view (Rect.unit (s := S1024x10) ![0, 0] ![1024, 10] inb).toLoadRect (harg15.unread b.x13) = b.x13 :=
    fun inb => (View.readAt_full arg15.view _ inb).trans (harg15.read_unread _)
  have e14 : ∀ inb, View.readAt (Elt F) arg16.view (Rect.unit (s := S1x128) ![0, 0] ![1, 128] inb).toLoadRect (harg16.unread b.x14) = b.x14 :=
    fun inb => (View.readAt_full arg16.view _ inb).trans (harg16.read_unread _)
  have e15 : ∀ inb, View.readAt (Elt F) arg17.view (Rect.unit (s := S1x2) ![0, 0] ![1, 2] inb).toLoadRect (harg17.unread b.x15) = b.x15 :=
    fun inb => (View.readAt_full arg17.view _ inb).trans (harg17.read_unread _)
  have e16 : ∀ inb, View.readAt (Elt F) arg18.view (Rect.unit (s := S1024x128) ![0, 0] ![1024, 128] inb).toLoadRect (harg18.unread b.o16) = b.o16 :=
    fun inb => (View.readAt_full arg18.view _ inb).trans (harg18.read_unread _)
  have w16 : ∀ inb f w L, View.read (Elt F) arg18.view (arg18.view.writes (Elt F) f (⟨(Rect.unit (s := S1024x128) ![0, 0] ![1024, 128] inb), w⟩ :: L)) = w :=
    fun inb f w L => View.read_writes_full arg18.view f inb w L
  have e17 : ∀ inb, View.readAt (Elt F) arg19.view (Rect.unit (s := S1024x128) ![0, 0] ![1024, 128] inb).toLoadRect (harg19.unread b.o17) = b.o17 :=
    fun inb => (View.readAt_full arg19.view _ inb).trans (harg19.read_unread _)
  have w17 : ∀ inb f w L, View.read (Elt F) arg19.view (arg19.view.writes (Elt F) f (⟨(Rect.unit (s := S1024x128) ![0, 0] ![1024, 128] inb), w⟩ :: L)) = w :=
    fun inb f w L => View.read_writes_full arg19.view f inb w L
  have e18 : ∀ inb, View.readAt (Elt F) arg20.view (Rect.unit (s := S1024x8) ![0, 0] ![1024, 8] inb).toLoadRect (harg20.unread b.o18) = b.o18 :=
    fun inb => (View.readAt_full arg20.view _ inb).trans (harg20.read_unread _)
  have w18 : ∀ inb f w L, View.read (Elt F) arg20.view (arg20.view.writes (Elt F) f (⟨(Rect.unit (s := S1024x8) ![0, 0] ![1024, 8] inb), w⟩ :: L)) = w :=
    fun inb f w L => View.read_writes_full arg20.view f inb w L
  have e19 : ∀ inb, View.readAt (Elt F) arg21.view (Rect.unit (s := S1024x8) ![0, 0] ![1024, 8] inb).toLoadRect (harg21.unread b.o19) = b.o19 :=
    fun inb => (View.readAt_full arg21.view _ inb).trans (harg21.read_unread _)
  have w19 : ∀ inb f w L, View.read (Elt F) arg21.view (arg21.view.writes (Elt F) f (⟨(Rect.unit (s := S1024x8) ![0, 0] ![1024, 8] inb), w⟩ :: L)) = w :=
    fun inb f w L => View.read_writes_full arg21.view f inb w L
  have e20 : ∀ inb, View.readAt (Elt F) arg22.view (Rect.unit (s := S1x128) ![0, 0] ![1, 128] inb).toLoadRect (harg22.unread b.o20) = b.o20 :=
    fun inb => (View.readAt_full arg22.view _ inb).trans (harg22.read_unread _)
  have l20 : ∀ inb inb' f w L, View.readAt (Elt F) arg22.view (Rect.unit (s := S1x128) ![0, 0] ![1, 128] inb).toLoadRect (arg22.view.writes (Elt F) f (⟨(Rect.unit (s := S1x128) ![0, 0] ![1, 128] inb'), w⟩ :: L)) = w :=
    fun inb inb' f w L => View.readAt_writes_full arg22.view f inb inb' w L
  have w20 : ∀ inb f w L, View.read (Elt F) arg22.view (arg22.view.writes (Elt F) f (⟨(Rect.unit (s := S1x128) ![0, 0] ![1, 128] inb), w⟩ :: L)) = w :=
    fun inb f w L => View.read_writes_full arg22.view f inb w L
  have e21 : ∀ inb, View.readAt (Elt F) arg23.view (Rect.unit (s := S10x8) ![0, 0] ![10, 8] inb).toLoadRect (harg23.unread b.o21) = b.o21 :=
    fun inb => (View.readAt_full arg23.view _ inb).trans (harg23.read_unread _)
  have w21 : ∀ inb f w L, View.read (Elt F) arg23.view (arg23.view.writes (Elt F) f (⟨(Rect.unit (s := S10x8) ![0, 0] ![10, 8] inb), w⟩ :: L)) = w :=
    fun inb f w L => View.read_writes_full arg23.view f inb w L
  have e22 : ∀ inb, View.readAt (Elt F) arg24.view (Rect.unit (s := S10x8) ![0, 0] ![10, 8] inb).toLoadRect (harg24.unread b.o22) = b.o22 :=
    fun inb => (View.readAt_full arg24.view _ inb).trans (harg24.read_unread _)
  have w22 : ∀ inb f w L, View.read (Elt F) arg24.view (arg24.view.writes (Elt F) f (⟨(Rect.unit (s := S10x8) ![0, 0] ![10, 8] inb), w⟩ :: L)) = w :=
    fun inb f w L => View.read_writes_full arg24.view f inb w L
  have e23 : ∀ inb, View.readAt (Elt F) arg25.view (Rect.unit (s := S1024x2) ![0, 0] ![1024, 2] inb).toLoadRect (harg25.unread b.o23) = b.o23 :=
    fun inb => (View.readAt_full arg25.view _ inb).trans (harg25.read_unread _)
  have w23 : ∀ inb f w L, View.read (Elt F) arg25.view (arg25.view.writes (Elt F) f (⟨(Rect.unit (s := S1024x2) ![0, 0] ![1024, 2] inb), w⟩ :: L)) = w :=
    fun inb f w L => View.read_writes_full arg25.view f inb w L
  have e24 : ∀ inb, View.readAt (Elt F) arg26.view (Rect.unit (s := S1024x4) ![0, 0] ![1024, 4] inb).toLoadRect (harg26.unread b.o24) = b.o24 :=
    fun inb => (View.readAt_full arg26.view _ inb).trans (harg26.read_unread _)
  have w24 : ∀ inb f w L, View.read (Elt F) arg26.view (arg26.view.writes (Elt F) f (⟨(Rect.unit (s := S1024x4) ![0, 0] ![1024, 4] inb), w⟩ :: L)) = w :=
    fun inb f w L => View.read_writes_full arg26.view f inb w L
  have e25 : ∀ inb, View.readAt (Elt F) arg27.view (Rect.unit (s := S1024x2) ![0, 0] ![1024, 2] inb).toLoadRect (harg27.unread b.o25) = b.o25 :=
    fun inb => (View.readAt_full arg27.view _ inb).trans (harg27.read_unread _)
  have w25 : ∀ inb f w L, View.read (Elt F) arg27.view (arg27.view.writes (Elt F) f (⟨(Rect.unit (s := S1024x2) ![0, 0] ![1024, 2] inb), w⟩ :: L)) = w :=
    fun inb f w L => View.read_writes_full arg27.view f inb w L
  have e26 : ∀ inb, View.readAt (Elt F) arg28.view (Rect.unit (s := S1024x4) ![0, 0] ![1024, 4] inb).toLoadRect (harg28.unread b.o26) = b.o26 :=
    fun inb => (View.readAt_full arg28.view _ inb).trans (harg28.read_unread _)
  have w26 : ∀ inb f w L, View.read (Elt F) arg28.view (arg28.view.writes (Elt F) f (⟨(Rect.unit (s := S1024x4) ![0, 0] ![1024, 4] inb), w⟩ :: L)) = w :=
    fun inb f w L => View.read_writes_full arg28.view f inb w L
  have e27 : ∀ inb, View.readAt (Elt F) arg29.view (Rect.unit (s := S1024x8) ![0, 0] ![1024, 8] inb).toLoadRect (harg29.unread b.s0) = b.s0 :=
    fun inb => (View.readAt_full arg29.view _ inb).trans (harg29.read_unread _)
  have l27 : ∀ inb inb' f w L, View.readAt (Elt F) arg29.view (Rect.unit (s := S1024x8) ![0, 0] ![1024, 8] inb).toLoadRect (arg29.view.writes (Elt F) f (⟨(Rect.unit (s := S1024x8) ![0, 0] ![1024, 8] inb'), w⟩ :: L)) = w :=
    fun inb inb' f w L => View.readAt_writes_full arg29.view f inb inb' w L
  have w27 : ∀ inb f w L, View.read (Elt F) arg29.view (arg29.view.writes (Elt F) f (⟨(Rect.unit (s := S1024x8) ![0, 0] ![1024, 8] inb), w⟩ :: L)) = w :=
    fun inb f w L => View.read_writes_full arg29.view f inb w L
  have e28 : ∀ inb, View.readAt (Elt F) arg30.view (Rect.unit (s := S1024x1024) ![0, 0] ![1024, 1024] inb).toLoadRect (harg30.unread b.s1) = b.s1 :=
    fun inb => (View.readAt_full arg30.view _ inb).trans (harg30.read_unread _)
  have l28 : ∀ inb f, View.readAt (Elt F) arg30.view (Rect.unit (s := S1024x1024) ![0, 0] ![1024, 1024] inb).toLoadRect f = arg30.view.read (Elt F) f :=
    fun inb f => View.readAt_full arg30.view f inb
  have p1 : ∀ inb f w L, View.read (Elt F) arg30.view (arg30.view.writes (Elt F) f (⟨(Rect.unit (s := S1024x1024) (k1_off1 i) ![1024, 256] inb), w⟩ :: L)) = VecWindow.put (View.read (Elt F) arg30.view (arg30.view.writes (Elt F) f L)) ![0, 256 * (i 0).val] ![1024, 256] w :=
    fun inb f w L => View.read_writes_cons_put arg30.view f inb w L (k1_off1_eq i)
  have p2 : ∀ inb f w L, View.read (Elt F) arg30.view (arg30.view.writes (Elt F) f (⟨(Rect.unit (s := S1024x1024) (k1_off2 i) ![1024, 256] inb), w⟩ :: L)) = VecWindow.put (View.read (Elt F) arg30.view (arg30.view.writes (Elt F) f L)) ![0, 256 * (i 0).val] ![1024, 256] w :=
    fun inb f w L => View.read_writes_cons_put arg30.view f inb w L (k1_off2_eq i)
  have u2 : ∀ inb f, View.readAt (Elt F) arg30.view (Rect.unit (s := S1024x1024) (k1_off2 i) ![1024, 256] inb).toLoadRect f = VecWindow.window (arg30.view.read (Elt F) f) ![0, 256 * (i 0).val] ![1024, 256] (off2_inb i) :=
    fun inb f => View.readAt_unit arg30.view f inb (k1_off2_eq i) (off2_inb i)
  sl_exec (disch := first | sl_exact hc1 | sl_exact hc2 | sl_exact hc3 | sl_exact hc4)
  sl_step
  iapply Hk
  subst hP
  unfold held owns
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  isplitl [H19]
  · iexists _; isplitr; · ipureintro; exact harg21.read_unread _
    iexact H19
  isplitl [H20]
  · iexists _; isplitr
    swap; · iexact H20
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, l28, w16, w17, w18, w19, w20, w21, w22, w23, w24, w25, w26, w27, p1, p2, u2, View.writes_nil, Memref.IsWhole.read_unread])
    try rfl
  isplitl [H21]
  · iexists _; isplitr; · ipureintro; exact harg23.read_unread _
    iexact H21
  isplitl [H22]
  · iexists _; isplitr; · ipureintro; exact harg24.read_unread _
    iexact H22
  isplitl [H23]
  · iexists _; isplitr; · ipureintro; exact harg25.read_unread _
    iexact H23
  isplitl [H24]
  · iexists _; isplitr; · ipureintro; exact harg26.read_unread _
    iexact H24
  isplitl [H25]
  · iexists _; isplitr; · ipureintro; exact harg27.read_unread _
    iexact H25
  isplitl [H26]
  · iexists _; isplitr; · ipureintro; exact harg28.read_unread _
    iexact H26
  isplitl [H27]
  · iexists _; isplitr; · ipureintro; exact harg29.read_unread _
    iexact H27
  · iexists _; isplitr
    swap; · iexact H28
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, l28, w16, w17, w18, w19, w20, w21, w22, w23, w24, w25, w26, w27, p1, p2, u2, View.writes_nil, Memref.IsWhole.read_unread])
    try rfl

end Cert.KernelIdeal.Work

end
-- ==== Proof.KernelIdealWork.Body_D.lean ====
/- The body of the second launch at the last point: which buffers it changes, and to what. -/
module

public import proofs.«01_k».proof.Proof.KernelIdealWork.Bufs
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At the last point the body turns the contents `b` of its buffers into the contents named on the right. -/
theorem body_last (c : Dev nD) (i : grid1.Coords) (arg2 : Memref sig .tc .vmem S1024x2048 .bf16) (harg2 : arg2.IsWhole) (arg3 : Memref sig .tc .vmem S1x2048x256 .f32) (harg3 : arg3.IsWhole) (arg4 : Memref sig .tc .vmem S1x1x256 .f32) (harg4 : arg4.IsWhole) (arg5 : Memref sig .tc .vmem S2048x128 .f32) (harg5 : arg5.IsWhole) (arg6 : Memref sig .tc .vmem S1x128 .f32) (harg6 : arg6.IsWhole) (arg7 : Memref sig .tc .vmem S128x8 .f32) (harg7 : arg7.IsWhole) (arg8 : Memref sig .tc .vmem S1x8 .f32) (harg8 : arg8.IsWhole) (arg9 : Memref sig .tc .vmem S1024x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S1x8 .f32) (harg12 : arg12.IsWhole) (arg13 : Memref sig .tc .vmem S1024x512 .f32) (harg13 : arg13.IsWhole) (arg14 : Memref sig .tc .vmem S1x512 .f32) (harg14 : arg14.IsWhole) (arg15 : Memref sig .tc .vmem S1024x10 .f32) (harg15 : arg15.IsWhole) (arg16 : Memref sig .tc .vmem S1x128 .f32) (harg16 : arg16.IsWhole) (arg17 : Memref sig .tc .vmem S1x2 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x8 .f32) (harg20 : arg20.IsWhole) (arg21 : Memref sig .tc .vmem S1024x8 .f32) (harg21 : arg21.IsWhole) (arg22 : Memref sig .tc .vmem S1x128 .f32) (harg22 : arg22.IsWhole) (arg23 : Memref sig .tc .vmem S10x8 .f32) (harg23 : arg23.IsWhole) (arg24 : Memref sig .tc .vmem S10x8 .f32) (harg24 : arg24.IsWhole) (arg25 : Memref sig .tc .vmem S1024x2 .f32) (harg25 : arg25.IsWhole) (arg26 : Memref sig .tc .vmem S1024x4 .f32) (harg26 : arg26.IsWhole) (arg27 : Memref sig .tc .vmem S1024x2 .f32) (harg27 : arg27.IsWhole) (arg28 : Memref sig .tc .vmem S1024x4 .f32) (harg28 : arg28.IsWhole) (arg29 : Memref sig .tc .vmem S1024x8 .f32) (harg29 : arg29.IsWhole) (arg30 : Memref sig .tc .vmem S1024x1024 .f32) (harg30 : arg30.IsWhole)
    (hc1 : ¬ k1_cond1 i = 1#1) (hc2 : ¬ k1_cond2 i = 1#1) (hc3 : k1_cond3 i = 1#1) (hc4 : k1_cond4 i = 1#1) (b : Bufs F) (E : Set ℕ) (K : PUnit → sProp 𝕄) :
    iprop(held c arg2 arg3 arg4 arg5 arg6 arg7 arg8 arg9 arg10 arg11 arg12 arg13 arg14 arg15 arg16 arg17 arg18 arg19 arg20 arg21 arg22 arg23 arg24 arg25 arg26 arg27 arg28 arg29 arg30 b ∗ (held c arg2 arg3 arg4 arg5 arg6 arg7 arg8 arg9 arg10 arg11 arg12 arg13 arg14 arg15 arg16 arg17 arg18 arg19 arg20 arg21 arg22 arg23 arg24 arg25 arg26 arg27 arg28 arg29 arg30 ((b.squares.path1 i).closing) -∗ K ⟨⟩))
      ⊢ wp frame (wpE (defs₀ (F := F)) Variants.none c none) E (cc1__stage_b i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc1__stage_b_eq_skeleton]; unfold cc1__stage_b_skel
  simp only [k1_part9_eq_skeleton, k1_part10_eq_skeleton, k1_part3_eq_skeleton, k1_part4_eq_skeleton, k1_part5_eq_skeleton, k1_part6_eq_skeleton, k1_part7_eq_skeleton, k1_part8_eq_skeleton]
  generalize hP : held c arg2 arg3 arg4 arg5 arg6 arg7 arg8 arg9 arg10 arg11 arg12 arg13 arg14 arg15 arg16 arg17 arg18 arg19 arg20 arg21 arg22 arg23 arg24 arg25 arg26 arg27 arg28 arg29 arg30 ((b.squares.path1 i).closing) = P
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28
  have e0 : ∀ inb, View.readAt (Elt F) arg2.view (Rect.unit (s := S1024x2048) ![0, 0] ![1024, 2048] inb).toLoadRect (harg2.unread b.x0) = b.x0 :=
    fun inb => (View.readAt_full arg2.view _ inb).trans (harg2.read_unread _)
  have e1 : ∀ inb, View.readAt (Elt F) arg3.view (Rect.unit (s := S1x2048x256) ![0, 0, 0] ![1, 2048, 256] inb).toLoadRect (harg3.unread b.x1) = b.x1 :=
    fun inb => (View.readAt_full arg3.view _ inb).trans (harg3.read_unread _)
  have e2 : ∀ inb, View.readAt (Elt F) arg4.view (Rect.unit (s := S1x1x256) ![0, 0, 0] ![1, 1, 256] inb).toLoadRect (harg4.unread b.x2) = b.x2 :=
    fun inb => (View.readAt_full arg4.view _ inb).trans (harg4.read_unread _)
  have e3 : ∀ inb, View.readAt (Elt F) arg5.view (Rect.unit (s := S2048x128) ![0, 0] ![2048, 128] inb).toLoadRect (harg5.unread b.x3) = b.x3 :=
    fun inb => (View.readAt_full arg5.view _ inb).trans (harg5.read_unread _)
  have e4 : ∀ inb, View.readAt (Elt F) arg6.view (Rect.unit (s := S1x128) ![0, 0] ![1, 128] inb).toLoadRect (harg6.unread b.x4) = b.x4 :=
    fun inb => (View.readAt_full arg6.view _ inb).trans (harg6.read_unread _)
  have e5 : ∀ inb, View.readAt (Elt F) arg7.view (Rect.unit (s := S128x8) ![0, 0] ![128, 8] inb).toLoadRect (harg7.unread b.x5) = b.x5 :=
    fun inb => (View.readAt_full arg7.view _ inb).trans (harg7.read_unread _)
  have e6 : ∀ inb, View.readAt (Elt F) arg8.view (Rect.unit (s := S1x8) ![0, 0] ![1, 8] inb).toLoadRect (harg8.unread b.x6) = b.x6 :=
    fun inb => (View.readAt_full arg8.view _ inb).trans (harg8.read_unread _)
  have e7 : ∀ inb, View.readAt (Elt F) arg9.view (Rect.unit (s := S1024x128) ![0, 0] ![1024, 128] inb).toLoadRect (harg9.unread b.x7) = b.x7 :=
    fun inb => (View.readAt_full arg9.view _ inb).trans (harg9.read_unread _)
  have e8 : ∀ inb, View.readAt (Elt F) arg10.view (Rect.unit (s := S1x128) ![0, 0] ![1, 128] inb).toLoadRect (harg10.unread b.x8) = b.x8 :=
    fun inb => (View.readAt_full arg10.view _ inb).trans (harg10.read_unread _)
  have e9 : ∀ inb, View.readAt (Elt F) arg11.view (Rect.unit (s := S128x8) ![0, 0] ![128, 8] inb).toLoadRect (harg11.unread b.x9) = b.x9 :=
    fun inb => (View.readAt_full arg11.view _ inb).trans (harg11.read_unread _)
  have e10 : ∀ inb, View.readAt (Elt F) arg12.view (Rect.unit (s := S1x8) ![0, 0] ![1, 8] inb).toLoadRect (harg12.unread b.x10) = b.x10 :=
    fun inb => (View.readAt_full arg12.view _ inb).trans (harg12.read_unread _)
  have e11 : ∀ inb, View.readAt (Elt F) arg13.view (Rect.unit (s := S1024x512) ![0, 0] ![1024, 512] inb).toLoadRect (harg13.unread b.x11) = b.x11 :=
    fun inb => (View.readAt_full arg13.view _ inb).trans (harg13.read_unread _)
  have e12 : ∀ inb, View.readAt (Elt F) arg14.view (Rect.unit (s := S1x512) ![0, 0] ![1, 512] inb).toLoadRect (harg14.unread b.x12) = b.x12 :=
    fun inb => (View.readAt_full arg14.view _ inb).trans (harg14.read_unread _)
  have e13 : ∀ inb, View.readAt (Elt F) arg15.view (Rect.unit (s := S1024x10) ![0, 0] ![1024, 10] inb).toLoadRect (harg15.unread b.x13) = b.x13 :=
    fun inb => (View.readAt_full arg15.view _ inb).trans (harg15.read_unread _)
  have e14 : ∀ inb, View.readAt (Elt F) arg16.view (Rect.unit (s := S1x128) ![0, 0] ![1, 128] inb).toLoadRect (harg16.unread b.x14) = b.x14 :=
    fun inb => (View.readAt_full arg16.view _ inb).trans (harg16.read_unread _)
  have e15 : ∀ inb, View.readAt (Elt F) arg17.view (Rect.unit (s := S1x2) ![0, 0] ![1, 2] inb).toLoadRect (harg17.unread b.x15) = b.x15 :=
    fun inb => (View.readAt_full arg17.view _ inb).trans (harg17.read_unread _)
  have e16 : ∀ inb, View.readAt (Elt F) arg18.view (Rect.unit (s := S1024x128) ![0, 0] ![1024, 128] inb).toLoadRect (harg18.unread b.o16) = b.o16 :=
    fun inb => (View.readAt_full arg18.view _ inb).trans (harg18.read_unread _)
  have w16 : ∀ inb f w L, View.read (Elt F) arg18.view (arg18.view.writes (Elt F) f (⟨(Rect.unit (s := S1024x128) ![0, 0] ![1024, 128] inb), w⟩ :: L)) = w :=
    fun inb f w L => View.read_writes_full arg18.view f inb w L
  have e17 : ∀ inb, View.readAt (Elt F) arg19.view (Rect.unit (s := S1024x128) ![0, 0] ![1024, 128] inb).toLoadRect (harg19.unread b.o17) = b.o17 :=
    fun inb => (View.readAt_full arg19.view _ inb).trans (harg19.read_unread _)
  have w17 : ∀ inb f w L, View.read (Elt F) arg19.view (arg19.view.writes (Elt F) f (⟨(Rect.unit (s := S1024x128) ![0, 0] ![1024, 128] inb), w⟩ :: L)) = w :=
    fun inb f w L => View.read_writes_full arg19.view f inb w L
  have e18 : ∀ inb, View.readAt (Elt F) arg20.view (Rect.unit (s := S1024x8) ![0, 0] ![1024, 8] inb).toLoadRect (harg20.unread b.o18) = b.o18 :=
    fun inb => (View.readAt_full arg20.view _ inb).trans (harg20.read_unread _)
  have w18 : ∀ inb f w L, View.read (Elt F) arg20.view (arg20.view.writes (Elt F) f (⟨(Rect.unit (s := S1024x8) ![0, 0] ![1024, 8] inb), w⟩ :: L)) = w :=
    fun inb f w L => View.read_writes_full arg20.view f inb w L
  have e19 : ∀ inb, View.readAt (Elt F) arg21.view (Rect.unit (s := S1024x8) ![0, 0] ![1024, 8] inb).toLoadRect (harg21.unread b.o19) = b.o19 :=
    fun inb => (View.readAt_full arg21.view _ inb).trans (harg21.read_unread _)
  have w19 : ∀ inb f w L, View.read (Elt F) arg21.view (arg21.view.writes (Elt F) f (⟨(Rect.unit (s := S1024x8) ![0, 0] ![1024, 8] inb), w⟩ :: L)) = w :=
    fun inb f w L => View.read_writes_full arg21.view f inb w L
  have e20 : ∀ inb, View.readAt (Elt F) arg22.view (Rect.unit (s := S1x128) ![0, 0] ![1, 128] inb).toLoadRect (harg22.unread b.o20) = b.o20 :=
    fun inb => (View.readAt_full arg22.view _ inb).trans (harg22.read_unread _)
  have l20 : ∀ inb inb' f w L, View.readAt (Elt F) arg22.view (Rect.unit (s := S1x128) ![0, 0] ![1, 128] inb).toLoadRect (arg22.view.writes (Elt F) f (⟨(Rect.unit (s := S1x128) ![0, 0] ![1, 128] inb'), w⟩ :: L)) = w :=
    fun inb inb' f w L => View.readAt_writes_full arg22.view f inb inb' w L
  have c20 : ∀ inb inb' w L, arg22.view.readCov (Val := Elt F) (⟨(Rect.unit (s := S1x128) ![0, 0] ![1, 128] inb'), w⟩ :: L) (Rect.unit (s := S1x128) ![0, 0] ![1, 128] inb).toLoadRect = w :=
    fun inb inb' w L => View.readCov_full arg22.view inb inb' w L
  have w20 : ∀ inb f w L, View.read (Elt F) arg22.view (arg22.view.writes (Elt F) f (⟨(Rect.unit (s := S1x128) ![0, 0] ![1, 128] inb), w⟩ :: L)) = w :=
    fun inb f w L => View.read_writes_full arg22.view f inb w L
  have e21 : ∀ inb, View.readAt (Elt F) arg23.view (Rect.unit (s := S10x8) ![0, 0] ![10, 8] inb).toLoadRect (harg23.unread b.o21) = b.o21 :=
    fun inb => (View.readAt_full arg23.view _ inb).trans (harg23.read_unread _)
  have w21 : ∀ inb f w L, View.read (Elt F) arg23.view (arg23.view.writes (Elt F) f (⟨(Rect.unit (s := S10x8) ![0, 0] ![10, 8] inb), w⟩ :: L)) = w :=
    fun inb f w L => View.read_writes_full arg23.view f inb w L
  have e22 : ∀ inb, View.readAt (Elt F) arg24.view (Rect.unit (s := S10x8) ![0, 0] ![10, 8] inb).toLoadRect (harg24.unread b.o22) = b.o22 :=
    fun inb => (View.readAt_full arg24.view _ inb).trans (harg24.read_unread _)
  have w22 : ∀ inb f w L, View.read (Elt F) arg24.view (arg24.view.writes (Elt F) f (⟨(Rect.unit (s := S10x8) ![0, 0] ![10, 8] inb), w⟩ :: L)) = w :=
    fun inb f w L => View.read_writes_full arg24.view f inb w L
  have e23 : ∀ inb, View.readAt (Elt F) arg25.view (Rect.unit (s := S1024x2) ![0, 0] ![1024, 2] inb).toLoadRect (harg25.unread b.o23) = b.o23 :=
    fun inb => (View.readAt_full arg25.view _ inb).trans (harg25.read_unread _)
  have w23 : ∀ inb f w L, View.read (Elt F) arg25.view (arg25.view.writes (Elt F) f (⟨(Rect.unit (s := S1024x2) ![0, 0] ![1024, 2] inb), w⟩ :: L)) = w :=
    fun inb f w L => View.read_writes_full arg25.view f inb w L
  have e24 : ∀ inb, View.readAt (Elt F) arg26.view (Rect.unit (s := S1024x4) ![0, 0] ![1024, 4] inb).toLoadRect (harg26.unread b.o24) = b.o24 :=
    fun inb => (View.readAt_full arg26.view _ inb).trans (harg26.read_unread _)
  have w24 : ∀ inb f w L, View.read (Elt F) arg26.view (arg26.view.writes (Elt F) f (⟨(Rect.unit (s := S1024x4) ![0, 0] ![1024, 4] inb), w⟩ :: L)) = w :=
    fun inb f w L => View.read_writes_full arg26.view f inb w L
  have e25 : ∀ inb, View.readAt (Elt F) arg27.view (Rect.unit (s := S1024x2) ![0, 0] ![1024, 2] inb).toLoadRect (harg27.unread b.o25) = b.o25 :=
    fun inb => (View.readAt_full arg27.view _ inb).trans (harg27.read_unread _)
  have w25 : ∀ inb f w L, View.read (Elt F) arg27.view (arg27.view.writes (Elt F) f (⟨(Rect.unit (s := S1024x2) ![0, 0] ![1024, 2] inb), w⟩ :: L)) = w :=
    fun inb f w L => View.read_writes_full arg27.view f inb w L
  have e26 : ∀ inb, View.readAt (Elt F) arg28.view (Rect.unit (s := S1024x4) ![0, 0] ![1024, 4] inb).toLoadRect (harg28.unread b.o26) = b.o26 :=
    fun inb => (View.readAt_full arg28.view _ inb).trans (harg28.read_unread _)
  have w26 : ∀ inb f w L, View.read (Elt F) arg28.view (arg28.view.writes (Elt F) f (⟨(Rect.unit (s := S1024x4) ![0, 0] ![1024, 4] inb), w⟩ :: L)) = w :=
    fun inb f w L => View.read_writes_full arg28.view f inb w L
  have e27 : ∀ inb, View.readAt (Elt F) arg29.view (Rect.unit (s := S1024x8) ![0, 0] ![1024, 8] inb).toLoadRect (harg29.unread b.s0) = b.s0 :=
    fun inb => (View.readAt_full arg29.view _ inb).trans (harg29.read_unread _)
  have l27 : ∀ inb inb' f w L, View.readAt (Elt F) arg29.view (Rect.unit (s := S1024x8) ![0, 0] ![1024, 8] inb).toLoadRect (arg29.view.writes (Elt F) f (⟨(Rect.unit (s := S1024x8) ![0, 0] ![1024, 8] inb'), w⟩ :: L)) = w :=
    fun inb inb' f w L => View.readAt_writes_full arg29.view f inb inb' w L
  have c27 : ∀ inb inb' w L, arg29.view.readCov (Val := Elt F) (⟨(Rect.unit (s := S1024x8) ![0, 0] ![1024, 8] inb'), w⟩ :: L) (Rect.unit (s := S1024x8) ![0, 0] ![1024, 8] inb).toLoadRect = w :=
    fun inb inb' w L => View.readCov_full arg29.view inb inb' w L
  have w27 : ∀ inb f w L, View.read (Elt F) arg29.view (arg29.view.writes (Elt F) f (⟨(Rect.unit (s := S1024x8) ![0, 0] ![1024, 8] inb), w⟩ :: L)) = w :=
    fun inb f w L => View.read_writes_full arg29.view f inb w L
  have e28 : ∀ inb, View.readAt (Elt F) arg30.view (Rect.unit (s := S1024x1024) ![0, 0] ![1024, 1024] inb).toLoadRect (harg30.unread b.s1) = b.s1 :=
    fun inb => (View.readAt_full arg30.view _ inb).trans (harg30.read_unread _)
  have l28 : ∀ inb f, View.readAt (Elt F) arg30.view (Rect.unit (s := S1024x1024) ![0, 0] ![1024, 1024] inb).toLoadRect f = arg30.view.read (Elt F) f :=
    fun inb f => View.readAt_full arg30.view f inb
  have p1 : ∀ inb f w L, View.read (Elt F) arg30.view (arg30.view.writes (Elt F) f (⟨(Rect.unit (s := S1024x1024) (k1_off1 i) ![1024, 256] inb), w⟩ :: L)) = VecWindow.put (View.read (Elt F) arg30.view (arg30.view.writes (Elt F) f L)) ![0, 256 * (i 0).val] ![1024, 256] w :=
    fun inb f w L => View.read_writes_cons_put arg30.view f inb w L (k1_off1_eq i)
  have p2 : ∀ inb f w L, View.read (Elt F) arg30.view (arg30.view.writes (Elt F) f (⟨(Rect.unit (s := S1024x1024) (k1_off2 i) ![1024, 256] inb), w⟩ :: L)) = VecWindow.put (View.read (Elt F) arg30.view (arg30.view.writes (Elt F) f L)) ![0, 256 * (i 0).val] ![1024, 256] w :=
    fun inb f w L => View.read_writes_cons_put arg30.view f inb w L (k1_off2_eq i)
  have u2 : ∀ inb f, View.readAt (Elt F) arg30.view (Rect.unit (s := S1024x1024) (k1_off2 i) ![1024, 256] inb).toLoadRect f = VecWindow.window (arg30.view.read (Elt F) f) ![0, 256 * (i 0).val] ![1024, 256] (off2_inb i) :=
    fun inb f => View.readAt_unit arg30.view f inb (k1_off2_eq i) (off2_inb i)
  sl_exec (disch := first | sl_exact hc1 | sl_exact hc2 | sl_exact hc3 | sl_exact hc4)
  sl_step
  iapply Hk
  subst hP
  unfold held owns
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr
    swap; · iexact H16
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H17]
  · iexists _; isplitr
    swap; · iexact H17
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H18]
  · iexists _; isplitr
    swap; · iexact H18
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H19]
  · iexists _; isplitr
    swap; · iexact H19
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H20]
  · iexists _; isplitr
    swap; · iexact H20
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H21]
  · iexists _; isplitr; · ipureintro; exact harg23.read_unread _
    iexact H21
  isplitl [H22]
  · iexists _; isplitr
    swap; · iexact H22
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H23]
  · iexists _; isplitr; · ipureintro; exact harg25.read_unread _
    iexact H23
  isplitl [H24]
  · iexists _; isplitr
    swap; · iexact H24
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H25]
  · iexists _; isplitr; · ipureintro; exact harg27.read_unread _
    iexact H25
  isplitl [H26]
  · iexists _; isplitr
    swap; · iexact H26
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl
  isplitl [H27]
  · iexists _; isplitr; · ipureintro; exact harg29.read_unread _
    iexact H27
  · iexists _; isplitr
    swap; · iexact H28
    ipureintro; (try sl_unfold_run_names)
    (try simp only [Bufs.path0, Bufs.path1, Bufs.squares, Bufs.opening, Bufs.closing])
    (try simp only [View.read_writes_full, View.readAt_full, View.readAt_writes_full, View.readCov_full, Memref.IsWhole.read_unread])
    (try simp only [e0, e1, e2, e3, e4, e5, e6, e7, e8, e9, e10, e11, e12, e13, e14, e15, e16, e17, e18, e19, e20, e21, e22, e23, e24, e25, e26, e27, e28, l20, l27, c20, c27, l28, w16, w17, w18, w19, w20, w21, w22, w23, w24, w25, w26, w27, p1, p2, u2, View.writes_nil, Memref.IsWhole.read_unread])
    try rfl

end Cert.KernelIdeal.Work

end
-- ==== Proof.KernelIdealWork.RegionB.lean ====
/- The second launch as one pipeline: what it leaves in each buffer at each point, and that its body does so. -/
module

public import proofs.«01_k».proof.Proof.KernelIdealWork.PointsB
public import proofs.«01_k».proof.Proof.KernelIdealWork.Body_A
public import proofs.«01_k».proof.Proof.KernelIdealWork.Body_B
public import proofs.«01_k».proof.Proof.KernelIdealWork.Body_C
public import proofs.«01_k».proof.Proof.KernelIdealWork.Body_D

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The scratch buffers, and what the launch finds in them at its start. -/
abbrev scM0 : Memref sig .tc .vmem S1024x8 .f32 := Memref.whole cc1_scratch0
abbrev scM1 : Memref sig .tc .vmem S1024x1024 .f32 := Memref.whole cc1_scratch1

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f)
        ∗ (∃ d, owns (c : Thread nD τ) scM0 fullShare d) ∗ (∃ d, owns (c : Thread nD τ) scM1 fullShare d)) ∗ (∃ r, prngReg c r)) := by
  unfold Pipeline.ΦA; rw [scopedRest1_eq]; simp only [scM0, scM1, owns_whole]; try rfl

/-- Between points: the hard weights are in their scratch, the hidden layer's scratch is as far as the points so far
    have brought it, from whatever it held at first. -/
def Phi1 (c : Dev nD) : ℕ → sProp 𝕄
  | 0 => Pipeline.ΦA spec1 c
  | n + 1 => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f)
      ∗ owns (c : Thread nD τ) scM0 fullShare (hard V c)
      ∗ (∃ X, owns (c : Thread nD τ) scM1 fullShare (hidden V c X (n + 1)))) ∗ (∃ r, prngReg c r))

theorem Phi1_pos (c : Dev nD) (n : ℕ) (h : n ≠ 0) :
    Phi1 V c n = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f)
      ∗ owns (c : Thread nD τ) scM0 fullShare (hard V c)
      ∗ (∃ X, owns (c : Thread nD τ) scM1 fullShare (hidden V c X n))) ∗ (∃ r, prngReg c r)) := by
  cases n with
  | zero => exact absurd rfl h
  | succ n => rfl

/-- The pipeline's data: the inputs' buffers at their blocks, the outputs' at what the points leave. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => (final V c).o16
    | ⟨17, _⟩ => (final V c).o17
    | ⟨18, _⟩ => (final V c).o18
    | ⟨19, _⟩ => (final V c).o19
    | ⟨20, _⟩ => if t.val = 7 then (final V c).o20 else totals V c t.val t.isLt
    | ⟨21, _⟩ => (ins V c t1_0).opening.o21
    | ⟨22, _⟩ => (final V c).o22
    | ⟨23, _⟩ => (ins V c t1_0).opening.o23
    | ⟨24, _⟩ => (final V c).o24
    | ⟨25, _⟩ => (ins V c t1_0).opening.o25
    | ⟨26, _⟩ => (final V c).o26
    | ⟨_ + 27, h⟩ => absurd h (Nat.not_lt.2 (Nat.le_add_left _ _))
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = (iblk1 V c 0 t) := by dsimp only [dat1]
theorem after1_1 (c : Dev nD) (t : Fin cfg1.N) : (dat1 V c).after 1 t = (iblk1 V c 1 t) := by dsimp only [dat1]
theorem after1_2 (c : Dev nD) (t : Fin cfg1.N) : (dat1 V c).after 2 t = (iblk1 V c 2 t) := by dsimp only [dat1]
theorem after1_3 (c : Dev nD) (t : Fin cfg1.N) : (dat1 V c).after 3 t = (iblk1 V c 3 t) := by dsimp only [dat1]
theorem after1_4 (c : Dev nD) (t : Fin cfg1.N) : (dat1 V c).after 4 t = (iblk1 V c 4 t) := by dsimp only [dat1]
theorem after1_5 (c : Dev nD) (t : Fin cfg1.N) : (dat1 V c).after 5 t = (iblk1 V c 5 t) := by dsimp only [dat1]
theorem after1_6 (c : Dev nD) (t : Fin cfg1.N) : (dat1 V c).after 6 t = (iblk1 V c 6 t) := by dsimp only [dat1]
theorem after1_7 (c : Dev nD) (t : Fin cfg1.N) : (dat1 V c).after 7 t = (iblk1 V c 7 t) := by dsimp only [dat1]
theorem after1_8 (c : Dev nD) (t : Fin cfg1.N) : (dat1 V c).after 8 t = (iblk1 V c 8 t) := by dsimp only [dat1]
theorem after1_9 (c : Dev nD) (t : Fin cfg1.N) : (dat1 V c).after 9 t = (iblk1 V c 9 t) := by dsimp only [dat1]
theorem after1_10 (c : Dev nD) (t : Fin cfg1.N) : (dat1 V c).after 10 t = (iblk1 V c 10 t) := by dsimp only [dat1]
theorem after1_11 (c : Dev nD) (t : Fin cfg1.N) : (dat1 V c).after 11 t = (iblk1 V c 11 t) := by dsimp only [dat1]
theorem after1_12 (c : Dev nD) (t : Fin cfg1.N) : (dat1 V c).after 12 t = (iblk1 V c 12 t) := by dsimp only [dat1]
theorem after1_13 (c : Dev nD) (t : Fin cfg1.N) : (dat1 V c).after 13 t = (iblk1 V c 13 t) := by dsimp only [dat1]
theorem after1_14 (c : Dev nD) (t : Fin cfg1.N) : (dat1 V c).after 14 t = (iblk1 V c 14 t) := by dsimp only [dat1]
theorem after1_15 (c : Dev nD) (t : Fin cfg1.N) : (dat1 V c).after 15 t = (iblk1 V c 15 t) := by dsimp only [dat1]
theorem after1_16 (c : Dev nD) (t : Fin cfg1.N) : (dat1 V c).after 16 t = ((final V c).o16) := by dsimp only [dat1]
theorem after1_17 (c : Dev nD) (t : Fin cfg1.N) : (dat1 V c).after 17 t = ((final V c).o17) := by dsimp only [dat1]
theorem after1_18 (c : Dev nD) (t : Fin cfg1.N) : (dat1 V c).after 18 t = ((final V c).o18) := by dsimp only [dat1]
theorem after1_19 (c : Dev nD) (t : Fin cfg1.N) : (dat1 V c).after 19 t = ((final V c).o19) := by dsimp only [dat1]
theorem after1_20 (c : Dev nD) (t : Fin cfg1.N) : (dat1 V c).after 20 t = (if t.val = 7 then (final V c).o20 else totals V c t.val t.isLt) := by dsimp only [dat1]
theorem after1_21 (c : Dev nD) (t : Fin cfg1.N) : (dat1 V c).after 21 t = ((ins V c t1_0).opening.o21) := by dsimp only [dat1]
theorem after1_22 (c : Dev nD) (t : Fin cfg1.N) : (dat1 V c).after 22 t = ((final V c).o22) := by dsimp only [dat1]
theorem after1_23 (c : Dev nD) (t : Fin cfg1.N) : (dat1 V c).after 23 t = ((ins V c t1_0).opening.o23) := by dsimp only [dat1]
theorem after1_24 (c : Dev nD) (t : Fin cfg1.N) : (dat1 V c).after 24 t = ((final V c).o24) := by dsimp only [dat1]
theorem after1_25 (c : Dev nD) (t : Fin cfg1.N) : (dat1 V c).after 25 t = ((ins V c t1_0).opening.o25) := by dsimp only [dat1]
theorem after1_26 (c : Dev nD) (t : Fin cfg1.N) : (dat1 V c).after 26 t = ((final V c).o26) := by dsimp only [dat1]

/-! ## What each buffer holds before the body -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A_eq1]; try rfl) t d).trans
    (by unfold Dat.fetched Dat.blockOf iblk1; rw [A_eq1]; try rfl)
theorem before1_14 (c : Dev nD) (t : Fin cfg1.N) (d) : (dat1 V c).before 14 t d = iblk1 V c 14 t :=
  ((dat1 V c).before_in_eq_fetched 14 rfl (fun _ => rfl) (fun _ _ _ => rfl) (fun t => by rw [after1_14]; unfold Dat.blockOf iblk1; rw [A_eq1]; try rfl) t d).trans
    (by unfold Dat.fetched Dat.blockOf iblk1; rw [A_eq1]; try rfl)
theorem before1_15 (c : Dev nD) (t : Fin cfg1.N) (d) : (dat1 V c).before 15 t d = iblk1 V c 15 t :=
  ((dat1 V c).before_in_eq_fetched 15 rfl (fun _ => rfl) (fun _ _ _ => rfl) (fun t => by rw [after1_15]; unfold Dat.blockOf iblk1; rw [A_eq1]; try rfl) t d).trans
    (by unfold Dat.fetched Dat.blockOf iblk1; rw [A_eq1]; try rfl)

/-- The totals' row: after the first point, what the point before left. -/
theorem before1_20 (c : Dev nD) (t : Fin cfg1.N) (ht : t.val ≠ 0) (d) :
    (dat1 V c).before 20 t d = totals V c (t.val - 1) (Nat.lt_of_le_of_lt (Nat.sub_le _ _) t.isLt) := by
  have hN : t.val < 8 := lt_of_lt_of_eq t.isLt (show cfg1.N = 8 from N_1)
  rw [Dat.before_out_kept _ 20 rfl t ht (Bool.eq_false_iff.mpr fun h => by have := (flush1_20 _).mp h; dsimp only at this; omega)
    (fun _ => rfl) (fun _ _ => rfl), after1_20]
  exact if_neg (by show ¬ t.val - 1 = 7; omega)

/-- A window the body writes at the first point only keeps what was written there. -/
theorem before_kept_from_first {c : Dev nD} (dat : Dat τ (Elt F) Unit ℕ (UR sig nD τ) ℕ cfg1 c) (w : Fin cfg1.W)
    (ho : (cfg1.win w).isOut = true) (h0 : cfg1.idle w (cfg1.grid.coords t1_0) = false)
    (hi : ∀ t : Fin cfg1.N, t.val ≠ 0 → cfg1.idle w (cfg1.grid.coords t) = true)
    (hf : ∀ t : Fin cfg1.N, t.val ≠ 7 → (cfg1.win w).flush t = false)
    (hclip : ∀ (i : cfg1.grid.Coords) a, (cfg1.win w).clip i a = none) (d) :
    ∀ (n : ℕ) (hn : n < cfg1.N), n ≠ 0 → dat.before w ⟨n, hn⟩ d = dat.after w t1_0 := by
  intro n
  induction n with
  | zero => exact fun _ h => absurd rfl h
  | succ n ih =>
    intro hn _
    have hN : n + 1 < 8 := lt_of_lt_of_eq hn (show cfg1.N = 8 from N_1)
    rw [dat.before_of_pos w ⟨n + 1, hn⟩ (Nat.succ_ne_zero n) ((cfg1.win w).fetch_out ho _),
      show (⟨(⟨n + 1, hn⟩ : Fin cfg1.N).val - 1, Nat.lt_of_le_of_lt (Nat.sub_le _ _) hn⟩ : Fin cfg1.N) = ⟨n, Nat.lt_of_succ_lt hn⟩ from rfl,
      hf _ (by show ¬ n = 7; omega), if_neg Bool.false_ne_true]
    by_cases hz : n = 0
    · subst hz
      unfold Dat.left
      rw [show (⟨0, Nat.lt_of_succ_lt hn⟩ : Fin cfg1.N) = t1_0 from rfl, h0]
      show dat.kept w t1_0 d = _
      unfold Dat.kept
      rw [Pipeline.fill_of_clip_none w _ (hclip _) d (dat.after w _), Pipeline.Window.fill_cut]
    · unfold Dat.left
      rw [hi ⟨n, Nat.lt_of_succ_lt hn⟩ hz]
      exact ih _ hz

/-! ## The current buffers at a point -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x8 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x8 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x8 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1024x512 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x512 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1024x10 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x128 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x2 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1024x128 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1024x128 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1024x8 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S1024x8 .f32 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S1x128 .f32 := win1_20.stage (cfg1.slots t 20)
abbrev hs1_20 (t : Fin cfg1.N) : (ms1_20 t).IsWhole := hstage1_20 ((cfg1.slots t 20).cast nbuf1_20)
abbrev ms1_21 (t : Fin cfg1.N) : Memref sig .tc .vmem S10x8 .f32 := win1_21.stage (cfg1.slots t 21)
abbrev hs1_21 (t : Fin cfg1.N) : (ms1_21 t).IsWhole := hstage1_21 ((cfg1.slots t 21).cast nbuf1_21)
abbrev ms1_22 (t : Fin cfg1.N) : Memref sig .tc .vmem S10x8 .f32 := win1_22.stage (cfg1.slots t 22)
abbrev hs1_22 (t : Fin cfg1.N) : (ms1_22 t).IsWhole := hstage1_22 ((cfg1.slots t 22).cast nbuf1_22)
abbrev ms1_23 (t : Fin cfg1.N) : Memref sig .tc .vmem S1024x2 .f32 := win1_23.stage (cfg1.slots t 23)
abbrev hs1_23 (t : Fin cfg1.N) : (ms1_23 t).IsWhole := hstage1_23 ((cfg1.slots t 23).cast nbuf1_23)
abbrev ms1_24 (t : Fin cfg1.N) : Memref sig .tc .vmem S1024x4 .f32 := win1_24.stage (cfg1.slots t 24)
abbrev hs1_24 (t : Fin cfg1.N) : (ms1_24 t).IsWhole := hstage1_24 ((cfg1.slots t 24).cast nbuf1_24)
abbrev ms1_25 (t : Fin cfg1.N) : Memref sig .tc .vmem S1024x2 .f32 := win1_25.stage (cfg1.slots t 25)
abbrev hs1_25 (t : Fin cfg1.N) : (ms1_25 t).IsWhole := hstage1_25 ((cfg1.slots t 25).cast nbuf1_25)
abbrev ms1_26 (t : Fin cfg1.N) : Memref sig .tc .vmem S1024x4 .f32 := win1_26.stage (cfg1.slots t 26)
abbrev hs1_26 (t : Fin cfg1.N) : (ms1_26 t).IsWhole := hstage1_26 ((cfg1.slots t 26).cast nbuf1_26)

/-! ## What the body has to leave in each buffer -/

theorem leaves1_0 (c : Dev nD) (t : Fin cfg1.N) : (dat1 V c).leavesExact 0 t = owns (c : Thread nD τ) (ms1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (ms1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (ms1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (ms1_3 t) fullShare (iblk1 V c 3 t) := by
  unfold Dat.leavesExact; rw [show cfg1.idle 3 (cfg1.grid.coords t) = false from rfl, after1_3]
theorem leaves1_4 (c : Dev nD) (t : Fin cfg1.N) : (dat1 V c).leavesExact 4 t = owns (c : Thread nD τ) (ms1_4 t) fullShare (iblk1 V c 4 t) := by
  unfold Dat.leavesExact; rw [show cfg1.idle 4 (cfg1.grid.coords t) = false from rfl, after1_4]
theorem leaves1_5 (c : Dev nD) (t : Fin cfg1.N) : (dat1 V c).leavesExact 5 t = owns (c : Thread nD τ) (ms1_5 t) fullShare (iblk1 V c 5 t) := by
  unfold Dat.leavesExact; rw [show cfg1.idle 5 (cfg1.grid.coords t) = false from rfl, after1_5]
theorem leaves1_6 (c : Dev nD) (t : Fin cfg1.N) : (dat1 V c).leavesExact 6 t = owns (c : Thread nD τ) (ms1_6 t) fullShare (iblk1 V c 6 t) := by
  unfold Dat.leavesExact; rw [show cfg1.idle 6 (cfg1.grid.coords t) = false from rfl, after1_6]
theorem leaves1_7 (c : Dev nD) (t : Fin cfg1.N) : (dat1 V c).leavesExact 7 t = owns (c : Thread nD τ) (ms1_7 t) fullShare (iblk1 V c 7 t) := by
  unfold Dat.leavesExact; rw [show cfg1.idle 7 (cfg1.grid.coords t) = false from rfl, after1_7]
theorem leaves1_8 (c : Dev nD) (t : Fin cfg1.N) : (dat1 V c).leavesExact 8 t = owns (c : Thread nD τ) (ms1_8 t) fullShare (iblk1 V c 8 t) := by
  unfold Dat.leavesExact; rw [show cfg1.idle 8 (cfg1.grid.coords t) = false from rfl, after1_8]
theorem leaves1_9 (c : Dev nD) (t : Fin cfg1.N) : (dat1 V c).leavesExact 9 t = owns (c : Thread nD τ) (ms1_9 t) fullShare (iblk1 V c 9 t) := by
  unfold Dat.leavesExact; rw [show cfg1.idle 9 (cfg1.grid.coords t) = false from rfl, after1_9]
theorem leaves1_10 (c : Dev nD) (t : Fin cfg1.N) : (dat1 V c).leavesExact 10 t = owns (c : Thread nD τ) (ms1_10 t) fullShare (iblk1 V c 10 t) := by
  unfold Dat.leavesExact; rw [show cfg1.idle 10 (cfg1.grid.coords t) = false from rfl, after1_10]
theorem leaves1_11 (c : Dev nD) (t : Fin cfg1.N) : (dat1 V c).leavesExact 11 t = owns (c : Thread nD τ) (ms1_11 t) fullShare (iblk1 V c 11 t) := by
  unfold Dat.leavesExact; rw [show cfg1.idle 11 (cfg1.grid.coords t) = false from rfl, after1_11]
theorem leaves1_12 (c : Dev nD) (t : Fin cfg1.N) : (dat1 V c).leavesExact 12 t = owns (c : Thread nD τ) (ms1_12 t) fullShare (iblk1 V c 12 t) := by
  unfold Dat.leavesExact; rw [show cfg1.idle 12 (cfg1.grid.coords t) = false from rfl, after1_12]
theorem leaves1_13 (c : Dev nD) (t : Fin cfg1.N) : (dat1 V c).leavesExact 13 t = owns (c : Thread nD τ) (ms1_13 t) fullShare (iblk1 V c 13 t) := by
  unfold Dat.leavesExact; rw [show cfg1.idle 13 (cfg1.grid.coords t) = false from rfl, after1_13]
theorem leaves1_14 (c : Dev nD) (t : Fin cfg1.N) : (dat1 V c).leavesExact 14 t = owns (c : Thread nD τ) (ms1_14 t) fullShare (iblk1 V c 14 t) := by
  unfold Dat.leavesExact; rw [show cfg1.idle 14 (cfg1.grid.coords t) = false from rfl, after1_14]
theorem leaves1_15 (c : Dev nD) (t : Fin cfg1.N) : (dat1 V c).leavesExact 15 t = owns (c : Thread nD τ) (ms1_15 t) fullShare (iblk1 V c 15 t) := by
  unfold Dat.leavesExact; rw [show cfg1.idle 15 (cfg1.grid.coords t) = false from rfl, after1_15]
theorem leaves1_20 (c : Dev nD) (t : Fin cfg1.N) : (dat1 V c).leavesExact 20 t = owns (c : Thread nD τ) (ms1_20 t) fullShare (if t.val = 7 then (final V c).o20 else totals V c t.val t.isLt) := by
  unfold Dat.leavesExact; rw [show cfg1.idle 20 (cfg1.grid.coords t) = false from rfl, after1_20]
theorem leaves1_16_idle (c : Dev nD) (t : Fin cfg1.N) (h : ¬ t.val = 7) :
    (dat1 V c).leavesExact 16 t = iprop(∃ d, owns (c : Thread nD τ) (ms1_16 t) fullShare ((dat1 V c).before 16 t d)) := by
  have hN : t.val < 8 := lt_of_lt_of_eq t.isLt (show cfg1.N = 8 from N_1)
  have hi : (!(k1_cond4 (grid1.coords t) == 1#1)) = true := by simp [mt (guard4 t).mp h]
  exact Dat.leavesExact_idle (dat1 V c) 16 t hi (Bool.eq_false_iff.mpr fun hf => by have := (flush1_16 _).mp hf; omega)
theorem leaves1_16_last (c : Dev nD) (t : Fin cfg1.N) (h : t.val = 7) :
    (dat1 V c).leavesExact 16 t = owns (c : Thread nD τ) (ms1_16 t) fullShare ((final V c).o16) := by
  have hi : (!(k1_cond4 (grid1.coords t) == 1#1)) = false := by simp [(guard4 t).mpr h]
  unfold Dat.leavesExact; rw [show cfg1.idle 16 (cfg1.grid.coords t) = false from hi, after1_16]
theorem leaves1_17_idle (c : Dev nD) (t : Fin cfg1.N) (h : ¬ t.val = 7) :
    (dat1 V c).leavesExact 17 t = iprop(∃ d, owns (c : Thread nD τ) (ms1_17 t) fullShare ((dat1 V c).before 17 t d)) := by
  have hN : t.val < 8 := lt_of_lt_of_eq t.isLt (show cfg1.N = 8 from N_1)
  have hi : (!(k1_cond4 (grid1.coords t) == 1#1)) = true := by simp [mt (guard4 t).mp h]
  exact Dat.leavesExact_idle (dat1 V c) 17 t hi (Bool.eq_false_iff.mpr fun hf => by have := (flush1_17 _).mp hf; omega)
theorem leaves1_17_last (c : Dev nD) (t : Fin cfg1.N) (h : t.val = 7) :
    (dat1 V c).leavesExact 17 t = owns (c : Thread nD τ) (ms1_17 t) fullShare ((final V c).o17) := by
  have hi : (!(k1_cond4 (grid1.coords t) == 1#1)) = false := by simp [(guard4 t).mpr h]
  unfold Dat.leavesExact; rw [show cfg1.idle 17 (cfg1.grid.coords t) = false from hi, after1_17]
theorem leaves1_18_idle (c : Dev nD) (t : Fin cfg1.N) (h : ¬ t.val = 7) :
    (dat1 V c).leavesExact 18 t = iprop(∃ d, owns (c : Thread nD τ) (ms1_18 t) fullShare ((dat1 V c).before 18 t d)) := by
  have hN : t.val < 8 := lt_of_lt_of_eq t.isLt (show cfg1.N = 8 from N_1)
  have hi : (!(k1_cond4 (grid1.coords t) == 1#1)) = true := by simp [mt (guard4 t).mp h]
  exact Dat.leavesExact_idle (dat1 V c) 18 t hi (Bool.eq_false_iff.mpr fun hf => by have := (flush1_18 _).mp hf; omega)
theorem leaves1_18_last (c : Dev nD) (t : Fin cfg1.N) (h : t.val = 7) :
    (dat1 V c).leavesExact 18 t = owns (c : Thread nD τ) (ms1_18 t) fullShare ((final V c).o18) := by
  have hi : (!(k1_cond4 (grid1.coords t) == 1#1)) = false := by simp [(guard4 t).mpr h]
  unfold Dat.leavesExact; rw [show cfg1.idle 18 (cfg1.grid.coords t) = false from hi, after1_18]
theorem leaves1_19_idle (c : Dev nD) (t : Fin cfg1.N) (h : ¬ t.val = 7) :
    (dat1 V c).leavesExact 19 t = iprop(∃ d, owns (c : Thread nD τ) (ms1_19 t) fullShare ((dat1 V c).before 19 t d)) := by
  have hN : t.val < 8 := lt_of_lt_of_eq t.isLt (show cfg1.N = 8 from N_1)
  have hi : (!(k1_cond4 (grid1.coords t) == 1#1)) = true := by simp [mt (guard4 t).mp h]
  exact Dat.leavesExact_idle (dat1 V c) 19 t hi (Bool.eq_false_iff.mpr fun hf => by have := (flush1_19 _).mp hf; omega)
theorem leaves1_19_last (c : Dev nD) (t : Fin cfg1.N) (h : t.val = 7) :
    (dat1 V c).leavesExact 19 t = owns (c : Thread nD τ) (ms1_19 t) fullShare ((final V c).o19) := by
  have hi : (!(k1_cond4 (grid1.coords t) == 1#1)) = false := by simp [(guard4 t).mpr h]
  unfold Dat.leavesExact; rw [show cfg1.idle 19 (cfg1.grid.coords t) = false from hi, after1_19]
theorem leaves1_22_idle (c : Dev nD) (t : Fin cfg1.N) (h : ¬ t.val = 7) :
    (dat1 V c).leavesExact 22 t = iprop(∃ d, owns (c : Thread nD τ) (ms1_22 t) fullShare ((dat1 V c).before 22 t d)) := by
  have hN : t.val < 8 := lt_of_lt_of_eq t.isLt (show cfg1.N = 8 from N_1)
  have hi : (!(k1_cond4 (grid1.coords t) == 1#1)) = true := by simp [mt (guard4 t).mp h]
  exact Dat.leavesExact_idle (dat1 V c) 22 t hi (Bool.eq_false_iff.mpr fun hf => by have := (flush1_22 _).mp hf; omega)
theorem leaves1_22_last (c : Dev nD) (t : Fin cfg1.N) (h : t.val = 7) :
    (dat1 V c).leavesExact 22 t = owns (c : Thread nD τ) (ms1_22 t) fullShare ((final V c).o22) := by
  have hi : (!(k1_cond4 (grid1.coords t) == 1#1)) = false := by simp [(guard4 t).mpr h]
  unfold Dat.leavesExact; rw [show cfg1.idle 22 (cfg1.grid.coords t) = false from hi, after1_22]
theorem leaves1_24_idle (c : Dev nD) (t : Fin cfg1.N) (h : ¬ t.val = 7) :
    (dat1 V c).leavesExact 24 t = iprop(∃ d, owns (c : Thread nD τ) (ms1_24 t) fullShare ((dat1 V c).before 24 t d)) := by
  have hN : t.val < 8 := lt_of_lt_of_eq t.isLt (show cfg1.N = 8 from N_1)
  have hi : (!(k1_cond4 (grid1.coords t) == 1#1)) = true := by simp [mt (guard4 t).mp h]
  exact Dat.leavesExact_idle (dat1 V c) 24 t hi (Bool.eq_false_iff.mpr fun hf => by have := (flush1_24 _).mp hf; omega)
theorem leaves1_24_last (c : Dev nD) (t : Fin cfg1.N) (h : t.val = 7) :
    (dat1 V c).leavesExact 24 t = owns (c : Thread nD τ) (ms1_24 t) fullShare ((final V c).o24) := by
  have hi : (!(k1_cond4 (grid1.coords t) == 1#1)) = false := by simp [(guard4 t).mpr h]
  unfold Dat.leavesExact; rw [show cfg1.idle 24 (cfg1.grid.coords t) = false from hi, after1_24]
theorem leaves1_26_idle (c : Dev nD) (t : Fin cfg1.N) (h : ¬ t.val = 7) :
    (dat1 V c).leavesExact 26 t = iprop(∃ d, owns (c : Thread nD τ) (ms1_26 t) fullShare ((dat1 V c).before 26 t d)) := by
  have hN : t.val < 8 := lt_of_lt_of_eq t.isLt (show cfg1.N = 8 from N_1)
  have hi : (!(k1_cond4 (grid1.coords t) == 1#1)) = true := by simp [mt (guard4 t).mp h]
  exact Dat.leavesExact_idle (dat1 V c) 26 t hi (Bool.eq_false_iff.mpr fun hf => by have := (flush1_26 _).mp hf; omega)
theorem leaves1_26_last (c : Dev nD) (t : Fin cfg1.N) (h : t.val = 7) :
    (dat1 V c).leavesExact 26 t = owns (c : Thread nD τ) (ms1_26 t) fullShare ((final V c).o26) := by
  have hi : (!(k1_cond4 (grid1.coords t) == 1#1)) = false := by simp [(guard4 t).mpr h]
  unfold Dat.leavesExact; rw [show cfg1.idle 26 (cfg1.grid.coords t) = false from hi, after1_26]
theorem leaves1_21_first (c : Dev nD) (t : Fin cfg1.N) (h : t.val = 0) :
    (dat1 V c).leavesExact 21 t = owns (c : Thread nD τ) (ms1_21 t) fullShare ((ins V c t1_0).opening.o21) := by
  have hi : (!(k1_cond1 (grid1.coords t) == 1#1)) = false := by simp [(guard1 t).mpr h]
  unfold Dat.leavesExact; rw [show cfg1.idle 21 (cfg1.grid.coords t) = false from hi, after1_21]
theorem leaves1_21_idle (c : Dev nD) (t : Fin cfg1.N) (h : ¬ t.val = 0) (h' : ¬ t.val = 7) :
    (dat1 V c).leavesExact 21 t = iprop(∃ d, owns (c : Thread nD τ) (ms1_21 t) fullShare ((dat1 V c).before 21 t d)) := by
  have hN : t.val < 8 := lt_of_lt_of_eq t.isLt (show cfg1.N = 8 from N_1)
  have hi : (!(k1_cond1 (grid1.coords t) == 1#1)) = true := by simp [mt (guard1 t).mp h]
  exact Dat.leavesExact_idle (dat1 V c) 21 t hi (Bool.eq_false_iff.mpr fun hf => by have := (flush1_21 _).mp hf; omega)
theorem leaves1_21_last (c : Dev nD) (t : Fin cfg1.N) (h : t.val = 7) :
    (dat1 V c).leavesExact 21 t = owns (c : Thread nD τ) (ms1_21 t) fullShare ((ins V c t1_0).opening.o21) := by
  have hi : (!(k1_cond1 (grid1.coords t) == 1#1)) = true := by simp [mt (guard1 t).mp (show ¬ t.val = 0 by omega)]
  have hf : (cfg1.win 21).flush t = true := (flush1_21 t).mpr (by omega)
  unfold Dat.leavesExact; rw [show cfg1.idle 21 (cfg1.grid.coords t) = true from hi, hf, after1_21]
theorem before1_21_pos (c : Dev nD) (t : Fin cfg1.N) (h : ¬ t.val = 0) (d) :
    (dat1 V c).before 21 t d = (ins V c t1_0).opening.o21 := by
  rw [show t = ⟨t.val, t.isLt⟩ from rfl, before_kept_from_first (dat1 V c) 21 rfl
    (show (!(k1_cond1 (grid1.coords t1_0) == 1#1)) = false by simp [(guard1 t1_0).mpr rfl])
    (fun t ht => show (!(k1_cond1 (grid1.coords t) == 1#1)) = true by simp [mt (guard1 t).mp ht])
    (fun t ht => Bool.eq_false_iff.mpr fun hf => by
      have hN : t.val < 8 := lt_of_lt_of_eq t.isLt (show cfg1.N = 8 from N_1)
      have := (flush1_21 _).mp hf; omega)
    (fun _ _ => rfl) d t.val t.isLt h, after1_21]
theorem leaves1_23_first (c : Dev nD) (t : Fin cfg1.N) (h : t.val = 0) :
    (dat1 V c).leavesExact 23 t = owns (c : Thread nD τ) (ms1_23 t) fullShare ((ins V c t1_0).opening.o23) := by
  have hi : (!(k1_cond1 (grid1.coords t) == 1#1)) = false := by simp [(guard1 t).mpr h]
  unfold Dat.leavesExact; rw [show cfg1.idle 23 (cfg1.grid.coords t) = false from hi, after1_23]
theorem leaves1_23_idle (c : Dev nD) (t : Fin cfg1.N) (h : ¬ t.val = 0) (h' : ¬ t.val = 7) :
    (dat1 V c).leavesExact 23 t = iprop(∃ d, owns (c : Thread nD τ) (ms1_23 t) fullShare ((dat1 V c).before 23 t d)) := by
  have hN : t.val < 8 := lt_of_lt_of_eq t.isLt (show cfg1.N = 8 from N_1)
  have hi : (!(k1_cond1 (grid1.coords t) == 1#1)) = true := by simp [mt (guard1 t).mp h]
  exact Dat.leavesExact_idle (dat1 V c) 23 t hi (Bool.eq_false_iff.mpr fun hf => by have := (flush1_23 _).mp hf; omega)
theorem leaves1_23_last (c : Dev nD) (t : Fin cfg1.N) (h : t.val = 7) :
    (dat1 V c).leavesExact 23 t = owns (c : Thread nD τ) (ms1_23 t) fullShare ((ins V c t1_0).opening.o23) := by
  have hi : (!(k1_cond1 (grid1.coords t) == 1#1)) = true := by simp [mt (guard1 t).mp (show ¬ t.val = 0 by omega)]
  have hf : (cfg1.win 23).flush t = true := (flush1_23 t).mpr (by omega)
  unfold Dat.leavesExact; rw [show cfg1.idle 23 (cfg1.grid.coords t) = true from hi, hf, after1_23]
theorem before1_23_pos (c : Dev nD) (t : Fin cfg1.N) (h : ¬ t.val = 0) (d) :
    (dat1 V c).before 23 t d = (ins V c t1_0).opening.o23 := by
  rw [show t = ⟨t.val, t.isLt⟩ from rfl, before_kept_from_first (dat1 V c) 23 rfl
    (show (!(k1_cond1 (grid1.coords t1_0) == 1#1)) = false by simp [(guard1 t1_0).mpr rfl])
    (fun t ht => show (!(k1_cond1 (grid1.coords t) == 1#1)) = true by simp [mt (guard1 t).mp ht])
    (fun t ht => Bool.eq_false_iff.mpr fun hf => by
      have hN : t.val < 8 := lt_of_lt_of_eq t.isLt (show cfg1.N = 8 from N_1)
      have := (flush1_23 _).mp hf; omega)
    (fun _ _ => rfl) d t.val t.isLt h, after1_23]
theorem leaves1_25_first (c : Dev nD) (t : Fin cfg1.N) (h : t.val = 0) :
    (dat1 V c).leavesExact 25 t = owns (c : Thread nD τ) (ms1_25 t) fullShare ((ins V c t1_0).opening.o25) := by
  have hi : (!(k1_cond1 (grid1.coords t) == 1#1)) = false := by simp [(guard1 t).mpr h]
  unfold Dat.leavesExact; rw [show cfg1.idle 25 (cfg1.grid.coords t) = false from hi, after1_25]
theorem leaves1_25_idle (c : Dev nD) (t : Fin cfg1.N) (h : ¬ t.val = 0) (h' : ¬ t.val = 7) :
    (dat1 V c).leavesExact 25 t = iprop(∃ d, owns (c : Thread nD τ) (ms1_25 t) fullShare ((dat1 V c).before 25 t d)) := by
  have hN : t.val < 8 := lt_of_lt_of_eq t.isLt (show cfg1.N = 8 from N_1)
  have hi : (!(k1_cond1 (grid1.coords t) == 1#1)) = true := by simp [mt (guard1 t).mp h]
  exact Dat.leavesExact_idle (dat1 V c) 25 t hi (Bool.eq_false_iff.mpr fun hf => by have := (flush1_25 _).mp hf; omega)
theorem leaves1_25_last (c : Dev nD) (t : Fin cfg1.N) (h : t.val = 7) :
    (dat1 V c).leavesExact 25 t = owns (c : Thread nD τ) (ms1_25 t) fullShare ((ins V c t1_0).opening.o25) := by
  have hi : (!(k1_cond1 (grid1.coords t) == 1#1)) = true := by simp [mt (guard1 t).mp (show ¬ t.val = 0 by omega)]
  have hf : (cfg1.win 25).flush t = true := (flush1_25 t).mpr (by omega)
  unfold Dat.leavesExact; rw [show cfg1.idle 25 (cfg1.grid.coords t) = true from hi, hf, after1_25]
theorem before1_25_pos (c : Dev nD) (t : Fin cfg1.N) (h : ¬ t.val = 0) (d) :
    (dat1 V c).before 25 t d = (ins V c t1_0).opening.o25 := by
  rw [show t = ⟨t.val, t.isLt⟩ from rfl, before_kept_from_first (dat1 V c) 25 rfl
    (show (!(k1_cond1 (grid1.coords t1_0) == 1#1)) = false by simp [(guard1 t1_0).mpr rfl])
    (fun t ht => show (!(k1_cond1 (grid1.coords t) == 1#1)) = true by simp [mt (guard1 t).mp ht])
    (fun t ht => Bool.eq_false_iff.mpr fun hf => by
      have hN : t.val < 8 := lt_of_lt_of_eq t.isLt (show cfg1.N = 8 from N_1)
      have := (flush1_25 _).mp hf; omega)
    (fun _ _ => rfl) d t.val t.isLt h, after1_25]

/-! ## The body at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d))
    ∗ (∃ d, owns (c : Thread nD τ) (ms1_21 t) fullShare ((dat1 V c).before 21 t d))
    ∗ (∃ d, owns (c : Thread nD τ) (ms1_22 t) fullShare ((dat1 V c).before 22 t d))
    ∗ (∃ d, owns (c : Thread nD τ) (ms1_23 t) fullShare ((dat1 V c).before 23 t d))
    ∗ (∃ d, owns (c : Thread nD τ) (ms1_24 t) fullShare ((dat1 V c).before 24 t d))
    ∗ (∃ d, owns (c : Thread nD τ) (ms1_25 t) fullShare ((dat1 V c).before 25 t d))
    ∗ (∃ d, owns (c : Thread nD τ) (ms1_26 t) fullShare ((dat1 V c).before 26 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t
    ∗ (dat1 V c).leavesExact 17 t
    ∗ (dat1 V c).leavesExact 18 t
    ∗ (dat1 V c).leavesExact 19 t
    ∗ (dat1 V c).leavesExact 20 t
    ∗ (dat1 V c).leavesExact 21 t
    ∗ (dat1 V c).leavesExact 22 t
    ∗ (dat1 V c).leavesExact 23 t
    ∗ (dat1 V c).leavesExact 24 t
    ∗ (dat1 V c).leavesExact 25 t
    ∗ (dat1 V c).leavesExact 26 t)

theorem totals_pos (c : Dev nD) (t : Fin cfg1.N) (h : ¬ t.val = 0) :
    totals V c t.val t.isLt = (Bufs.squares { ins V c t with o20 := totals V c (t.val - 1) (Nat.lt_of_le_of_lt (Nat.sub_le _ _) t.isLt) }).o20 := by
  obtain ⟨n, hn⟩ := t
  cases n with
  | zero => exact absurd rfl h
  | succ n => rfl

set_option maxHeartbeats 1600000 in
/-- The body at the first point. -/
theorem body_at_first (c : Dev nD) (t : Fin cfg1.N) (hf : t.val = 0) :
    bodyPre1 V c t ⊢ wp frame (wpE (defs₀ (F := F)) Variants.none c none) Set.univ (bodyAt1 t) (fun _ => bodyPost1 V c t) := by
  have hN : t.val < 8 := lt_of_lt_of_eq t.isLt (show cfg1.N = 8 from N_1)
  obtain rfl : t = t1_0 := Fin.ext hf
  have hl : ¬ (t1_0 : Fin cfg1.N).val = 7 := by decide
  unfold bodyPre1 bodyPost1
  simp only [before1_0, before1_1, before1_2, before1_3, before1_4, before1_5, before1_6, before1_7, before1_8, before1_9, before1_10, before1_11, before1_12, before1_13, before1_14, before1_15]
  rw [show (dat1 V c).owesAt () (t1_0 : Fin cfg1.N).succ = (dat1 V c).owesAt () (t1_0 : Fin cfg1.N).castSucc from rfl,
    show (dat1 V c).Φ (t1_0 : Fin cfg1.N).succ = Phi1 V c ((t1_0 : Fin cfg1.N).val + 1) from rfl, Phi1_pos V c _ (Nat.succ_ne_zero _),
    show (dat1 V c).Φ (t1_0 : Fin cfg1.N).castSucc = Phi1 V c (t1_0 : Fin cfg1.N).val from rfl, show Phi1 V c (t1_0 : Fin cfg1.N).val = Pipeline.ΦA spec1 c from rfl, PhiA1_eq,
    leaves1_0 V c t1_0, leaves1_1 V c t1_0, leaves1_2 V c t1_0, leaves1_3 V c t1_0, leaves1_4 V c t1_0, leaves1_5 V c t1_0, leaves1_6 V c t1_0, leaves1_7 V c t1_0, leaves1_8 V c t1_0, leaves1_9 V c t1_0, leaves1_10 V c t1_0, leaves1_11 V c t1_0, leaves1_12 V c t1_0, leaves1_13 V c t1_0, leaves1_14 V c t1_0, leaves1_15 V c t1_0, leaves1_16_idle V c t1_0 hl, leaves1_17_idle V c t1_0 hl, leaves1_18_idle V c t1_0 hl, leaves1_19_idle V c t1_0 hl, leaves1_20 V c t1_0, leaves1_21_first V c t1_0 hf, leaves1_22_idle V c t1_0 hl, leaves1_23_first V c t1_0 hf, leaves1_24_idle V c t1_0 hl, leaves1_25_first V c t1_0 hf, leaves1_26_idle V c t1_0 hl]
  iintro ⟨⟨⟨R0, R1, R2, R3, R4, R5, R6, R7, ⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (body_first c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) (ms1_9 t1_0) (hs1_9 t1_0) (ms1_10 t1_0) (hs1_10 t1_0) (ms1_11 t1_0) (hs1_11 t1_0) (ms1_12 t1_0) (hs1_12 t1_0) (ms1_13 t1_0) (hs1_13 t1_0) (ms1_14 t1_0) (hs1_14 t1_0) (ms1_15 t1_0) (hs1_15 t1_0) (ms1_16 t1_0) (hs1_16 t1_0) (ms1_17 t1_0) (hs1_17 t1_0) (ms1_18 t1_0) (hs1_18 t1_0) (ms1_19 t1_0) (hs1_19 t1_0) (ms1_20 t1_0) (hs1_20 t1_0) (ms1_21 t1_0) (hs1_21 t1_0) (ms1_22 t1_0) (hs1_22 t1_0) (ms1_23 t1_0) (hs1_23 t1_0) (ms1_24 t1_0) (hs1_24 t1_0) (ms1_25 t1_0) (hs1_25 t1_0) (ms1_26 t1_0) (hs1_26 t1_0) scM0 (Memref.isWhole_whole _) scM1 (Memref.isWhole_whole _)
    ((guard1 t1_0).mpr (by decide)) ((guard2 t1_0).mpr (by decide)) (mt (guard3 t1_0).mp (by decide)) (mt (guard4 t1_0).mp (by decide))
    { ins V c t1_0 with
      o16 := (dat1 V c).before 16 t1_0 d16, o17 := (dat1 V c).before 17 t1_0 d17, o18 := (dat1 V c).before 18 t1_0 d18, o19 := (dat1 V c).before 19 t1_0 d19, o20 := (dat1 V c).before 20 t1_0 d20, o21 := (dat1 V c).before 21 t1_0 d21, o22 := (dat1 V c).before 22 t1_0 d22, o23 := (dat1 V c).before 23 t1_0 d23, o24 := (dat1 V c).before 24 t1_0 d24, o25 := (dat1 V c).before 25 t1_0 d25, o26 := (dat1 V c).before 26 t1_0 d26, s0 := e0, s1 := e1 } Set.univ _)
  unfold held
  isplitl [H0 H1 H2 H3 H4 H5 H6 H7 H8 H9 H10 H11 H12 H13 H14 H15 H16 H17 H18 H19 H20 H21 H22 H23 H24 H25 H26 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [HS0]; · iexact HS0
    iexact HS1
  iintro ⟨H0, H1, H2, H3, H4, H5, H6, H7, H8, H9, H10, H11, H12, H13, H14, H15, H16, H17, H18, H19, H20, H21, H22, H23, H24, H25, H26, HS0, HS1⟩
  isplitl [R0 R1 R2 R3 R4 R5 R6 R7 HS0 HS1 Hg]
  · isplitl [R0 R1 R2 R3 R4 R5 R6 R7 HS0 HS1]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [HS0]
      · iexact HS0
      iexists e1; rw [hidden_even V c e1 t1_0 rfl]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists d16; iexact H16
  isplitl [H17]; · iexists d17; iexact H17
  isplitl [H18]; · iexists d18; iexact H18
  isplitl [H19]; · iexists d19; iexact H19
  isplitl [H20]; · rw [if_neg hl]; iexact H20
  isplitl [H21]; · iexact H21
  isplitl [H22]; · iexists d22; iexact H22
  isplitl [H23]; · iexact H23
  isplitl [H24]; · iexists d24; iexact H24
  isplitl [H25]; · iexact H25
  iexists d26; iexact H26

set_option maxHeartbeats 1600000 in
/-- The body at a later point of path 0. -/
theorem body_at_even (c : Dev nD) (t : Fin cfg1.N) (hf : ¬ t.val = 0) (hl : ¬ t.val = 7) (hp : t.val % 2 = 0) :
    bodyPre1 V c t ⊢ wp frame (wpE (defs₀ (F := F)) Variants.none c none) Set.univ (bodyAt1 t) (fun _ => bodyPost1 V c t) := by
  have hN : t.val < 8 := lt_of_lt_of_eq t.isLt (show cfg1.N = 8 from N_1)
  unfold bodyPre1 bodyPost1
  simp only [before1_0, before1_1, before1_2, before1_3, before1_4, before1_5, before1_6, before1_7, before1_8, before1_9, before1_10, before1_11, before1_12, before1_13, before1_14, before1_15, before1_20 V c t hf]
  rw [show (dat1 V c).owesAt () (t : Fin cfg1.N).succ = (dat1 V c).owesAt () (t : Fin cfg1.N).castSucc from rfl,
    show (dat1 V c).Φ (t : Fin cfg1.N).succ = Phi1 V c ((t : Fin cfg1.N).val + 1) from rfl, Phi1_pos V c _ (Nat.succ_ne_zero _),
    show (dat1 V c).Φ (t : Fin cfg1.N).castSucc = Phi1 V c (t : Fin cfg1.N).val from rfl, Phi1_pos V c _ hf,
    leaves1_0 V c t, leaves1_1 V c t, leaves1_2 V c t, leaves1_3 V c t, leaves1_4 V c t, leaves1_5 V c t, leaves1_6 V c t, leaves1_7 V c t, leaves1_8 V c t, leaves1_9 V c t, leaves1_10 V c t, leaves1_11 V c t, leaves1_12 V c t, leaves1_13 V c t, leaves1_14 V c t, leaves1_15 V c t, leaves1_16_idle V c t hl, leaves1_17_idle V c t hl, leaves1_18_idle V c t hl, leaves1_19_idle V c t hl, leaves1_20 V c t, leaves1_21_idle V c t hf hl, leaves1_22_idle V c t hl, leaves1_23_idle V c t hf hl, leaves1_24_idle V c t hl, leaves1_25_idle V c t hf hl, leaves1_26_idle V c t hl]
  iintro ⟨⟨⟨R0, R1, R2, R3, R4, R5, R6, R7, HS0, ⟨%X, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (body_even c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) (ms1_21 t) (hs1_21 t) (ms1_22 t) (hs1_22 t) (ms1_23 t) (hs1_23 t) (ms1_24 t) (hs1_24 t) (ms1_25 t) (hs1_25 t) (ms1_26 t) (hs1_26 t) scM0 (Memref.isWhole_whole _) scM1 (Memref.isWhole_whole _)
    (mt (guard1 t).mp hf) ((guard2 t).mpr hp) (mt (guard3 t).mp (by omega)) (mt (guard4 t).mp hl)
    { ins V c t with
      o16 := (dat1 V c).before 16 t d16, o17 := (dat1 V c).before 17 t d17, o18 := (dat1 V c).before 18 t d18, o19 := (dat1 V c).before 19 t d19, o20 := totals V c ((t : Fin cfg1.N).val - 1) (Nat.lt_of_le_of_lt (Nat.sub_le _ _) (t : Fin cfg1.N).isLt), o21 := (dat1 V c).before 21 t d21, o22 := (dat1 V c).before 22 t d22, o23 := (dat1 V c).before 23 t d23, o24 := (dat1 V c).before 24 t d24, o25 := (dat1 V c).before 25 t d25, o26 := (dat1 V c).before 26 t d26, s0 := hard V c, s1 := hidden V c X (t : Fin cfg1.N).val } Set.univ _)
  unfold held
  isplitl [H0 H1 H2 H3 H4 H5 H6 H7 H8 H9 H10 H11 H12 H13 H14 H15 H16 H17 H18 H19 H20 H21 H22 H23 H24 H25 H26 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [HS0]; · iexact HS0
    iexact HS1
  iintro ⟨H0, H1, H2, H3, H4, H5, H6, H7, H8, H9, H10, H11, H12, H13, H14, H15, H16, H17, H18, H19, H20, H21, H22, H23, H24, H25, H26, HS0, HS1⟩
  isplitl [R0 R1 R2 R3 R4 R5 R6 R7 HS0 HS1 Hg]
  · isplitl [R0 R1 R2 R3 R4 R5 R6 R7 HS0 HS1]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [HS0]
      · iexact HS0
      iexists X; rw [hidden_even V c X t hp]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists d16; iexact H16
  isplitl [H17]; · iexists d17; iexact H17
  isplitl [H18]; · iexists d18; iexact H18
  isplitl [H19]; · iexists d19; iexact H19
  isplitl [H20]; · rw [if_neg hl, totals_pos V c t hf]; iexact H20
  isplitl [H21]; · iexists d21; iexact H21
  isplitl [H22]; · iexists d22; iexact H22
  isplitl [H23]; · iexists d23; iexact H23
  isplitl [H24]; · iexists d24; iexact H24
  isplitl [H25]; · iexists d25; iexact H25
  iexists d26; iexact H26

set_option maxHeartbeats 1600000 in
/-- The body at a point of path 1 before the last. -/
theorem body_at_odd (c : Dev nD) (t : Fin cfg1.N) (hf : ¬ t.val = 0) (hl : ¬ t.val = 7) (hp : t.val % 2 = 1) :
    bodyPre1 V c t ⊢ wp frame (wpE (defs₀ (F := F)) Variants.none c none) Set.univ (bodyAt1 t) (fun _ => bodyPost1 V c t) := by
  have hN : t.val < 8 := lt_of_lt_of_eq t.isLt (show cfg1.N = 8 from N_1)
  unfold bodyPre1 bodyPost1
  simp only [before1_0, before1_1, before1_2, before1_3, before1_4, before1_5, before1_6, before1_7, before1_8, before1_9, before1_10, before1_11, before1_12, before1_13, before1_14, before1_15, before1_20 V c t hf]
  rw [show (dat1 V c).owesAt () (t : Fin cfg1.N).succ = (dat1 V c).owesAt () (t : Fin cfg1.N).castSucc from rfl,
    show (dat1 V c).Φ (t : Fin cfg1.N).succ = Phi1 V c ((t : Fin cfg1.N).val + 1) from rfl, Phi1_pos V c _ (Nat.succ_ne_zero _),
    show (dat1 V c).Φ (t : Fin cfg1.N).castSucc = Phi1 V c (t : Fin cfg1.N).val from rfl, Phi1_pos V c _ hf,
    leaves1_0 V c t, leaves1_1 V c t, leaves1_2 V c t, leaves1_3 V c t, leaves1_4 V c t, leaves1_5 V c t, leaves1_6 V c t, leaves1_7 V c t, leaves1_8 V c t, leaves1_9 V c t, leaves1_10 V c t, leaves1_11 V c t, leaves1_12 V c t, leaves1_13 V c t, leaves1_14 V c t, leaves1_15 V c t, leaves1_16_idle V c t hl, leaves1_17_idle V c t hl, leaves1_18_idle V c t hl, leaves1_19_idle V c t hl, leaves1_20 V c t, leaves1_21_idle V c t hf hl, leaves1_22_idle V c t hl, leaves1_23_idle V c t hf hl, leaves1_24_idle V c t hl, leaves1_25_idle V c t hf hl, leaves1_26_idle V c t hl]
  iintro ⟨⟨⟨R0, R1, R2, R3, R4, R5, R6, R7, HS0, ⟨%X, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (body_odd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) (ms1_21 t) (hs1_21 t) (ms1_22 t) (hs1_22 t) (ms1_23 t) (hs1_23 t) (ms1_24 t) (hs1_24 t) (ms1_25 t) (hs1_25 t) (ms1_26 t) (hs1_26 t) scM0 (Memref.isWhole_whole _) scM1 (Memref.isWhole_whole _)
    (mt (guard1 t).mp hf) (mt (guard2 t).mp (by omega)) ((guard3 t).mpr hp) (mt (guard4 t).mp hl)
    { ins V c t with
      o16 := (dat1 V c).before 16 t d16, o17 := (dat1 V c).before 17 t d17, o18 := (dat1 V c).before 18 t d18, o19 := (dat1 V c).before 19 t d19, o20 := totals V c ((t : Fin cfg1.N).val - 1) (Nat.lt_of_le_of_lt (Nat.sub_le _ _) (t : Fin cfg1.N).isLt), o21 := (dat1 V c).before 21 t d21, o22 := (dat1 V c).before 22 t d22, o23 := (dat1 V c).before 23 t d23, o24 := (dat1 V c).before 24 t d24, o25 := (dat1 V c).before 25 t d25, o26 := (dat1 V c).before 26 t d26, s0 := hard V c, s1 := hidden V c X (t : Fin cfg1.N).val } Set.univ _)
  unfold held
  isplitl [H0 H1 H2 H3 H4 H5 H6 H7 H8 H9 H10 H11 H12 H13 H14 H15 H16 H17 H18 H19 H20 H21 H22 H23 H24 H25 H26 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [HS0]; · iexact HS0
    iexact HS1
  iintro ⟨H0, H1, H2, H3, H4, H5, H6, H7, H8, H9, H10, H11, H12, H13, H14, H15, H16, H17, H18, H19, H20, H21, H22, H23, H24, H25, H26, HS0, HS1⟩
  isplitl [R0 R1 R2 R3 R4 R5 R6 R7 HS0 HS1 Hg]
  · isplitl [R0 R1 R2 R3 R4 R5 R6 R7 HS0 HS1]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [HS0]
      · iexact HS0
      iexists X; rw [hidden_odd V c X t hp]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists d16; iexact H16
  isplitl [H17]; · iexists d17; iexact H17
  isplitl [H18]; · iexists d18; iexact H18
  isplitl [H19]; · iexists d19; iexact H19
  isplitl [H20]; · rw [if_neg hl, totals_pos V c t hf]; iexact H20
  isplitl [H21]; · iexists d21; iexact H21
  isplitl [H22]; · iexists d22; iexact H22
  isplitl [H23]; · iexists d23; iexact H23
  isplitl [H24]; · iexists d24; iexact H24
  isplitl [H25]; · iexists d25; iexact H25
  iexists d26; iexact H26

set_option maxHeartbeats 1600000 in
/-- The body at the last point. -/
theorem body_at_last (c : Dev nD) (t : Fin cfg1.N) (hl : t.val = 7) :
    bodyPre1 V c t ⊢ wp frame (wpE (defs₀ (F := F)) Variants.none c none) Set.univ (bodyAt1 t) (fun _ => bodyPost1 V c t) := by
  have hN : t.val < 8 := lt_of_lt_of_eq t.isLt (show cfg1.N = 8 from N_1)
  obtain rfl : t = t1_7 := Fin.ext hl
  have hf : ¬ (t1_7 : Fin cfg1.N).val = 0 := by decide
  unfold bodyPre1 bodyPost1
  simp only [before1_0, before1_1, before1_2, before1_3, before1_4, before1_5, before1_6, before1_7, before1_8, before1_9, before1_10, before1_11, before1_12, before1_13, before1_14, before1_15, before1_20 V c t1_7 hf, before1_21_pos V c t1_7 hf, before1_23_pos V c t1_7 hf, before1_25_pos V c t1_7 hf]
  rw [show (dat1 V c).owesAt () (t1_7 : Fin cfg1.N).succ = (dat1 V c).owesAt () (t1_7 : Fin cfg1.N).castSucc from rfl,
    show (dat1 V c).Φ (t1_7 : Fin cfg1.N).succ = Phi1 V c ((t1_7 : Fin cfg1.N).val + 1) from rfl, Phi1_pos V c _ (Nat.succ_ne_zero _),
    show (dat1 V c).Φ (t1_7 : Fin cfg1.N).castSucc = Phi1 V c (t1_7 : Fin cfg1.N).val from rfl, Phi1_pos V c _ hf,
    leaves1_0 V c t1_7, leaves1_1 V c t1_7, leaves1_2 V c t1_7, leaves1_3 V c t1_7, leaves1_4 V c t1_7, leaves1_5 V c t1_7, leaves1_6 V c t1_7, leaves1_7 V c t1_7, leaves1_8 V c t1_7, leaves1_9 V c t1_7, leaves1_10 V c t1_7, leaves1_11 V c t1_7, leaves1_12 V c t1_7, leaves1_13 V c t1_7, leaves1_14 V c t1_7, leaves1_15 V c t1_7, leaves1_16_last V c t1_7 hl, leaves1_17_last V c t1_7 hl, leaves1_18_last V c t1_7 hl, leaves1_19_last V c t1_7 hl, leaves1_20 V c t1_7, leaves1_21_last V c t1_7 hl, leaves1_22_last V c t1_7 hl, leaves1_23_last V c t1_7 hl, leaves1_24_last V c t1_7 hl, leaves1_25_last V c t1_7 hl, leaves1_26_last V c t1_7 hl]
  iintro ⟨⟨⟨R0, R1, R2, R3, R4, R5, R6, R7, HS0, ⟨%X, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  have hb : (Bufs.path1 (grid1.coords t1_7) (Bufs.squares { ins V c t1_7 with
      o16 := (dat1 V c).before 16 t1_7 d16, o17 := (dat1 V c).before 17 t1_7 d17, o18 := (dat1 V c).before 18 t1_7 d18, o19 := (dat1 V c).before 19 t1_7 d19, o20 := totals V c ((t1_7 : Fin cfg1.N).val - 1) (Nat.lt_of_le_of_lt (Nat.sub_le _ _) (t1_7 : Fin cfg1.N).isLt), o21 := (ins V c t1_0).opening.o21, o22 := (dat1 V c).before 22 t1_7 d22, o23 := (ins V c t1_0).opening.o23, o24 := (dat1 V c).before 24 t1_7 d24, o25 := (ins V c t1_0).opening.o25, o26 := (dat1 V c).before 26 t1_7 d26, s0 := hard V c, s1 := hidden V c X (t1_7 : Fin cfg1.N).val })) = { last V c with
      o16 := (dat1 V c).before 16 t1_7 d16, o17 := (dat1 V c).before 17 t1_7 d17, o18 := (dat1 V c).before 18 t1_7 d18, o19 := (dat1 V c).before 19 t1_7 d19, o21 := (ins V c t1_0).opening.o21, o22 := (dat1 V c).before 22 t1_7 d22, o23 := (ins V c t1_0).opening.o23, o24 := (dat1 V c).before 24 t1_7 d24, o25 := (ins V c t1_0).opening.o25, o26 := (dat1 V c).before 26 t1_7 d26 } := by
    have e1 := (hidden_odd V c X t1_7 rfl).symm
    have e2 : hidden V c X ((t1_7 : Fin cfg1.N).val + 1) = full V c := hidden_eight_any V c X _
    rw [e2] at e1
    have e3 := congrArg (fun s => ({ last V c with
      o16 := (dat1 V c).before 16 t1_7 d16, o17 := (dat1 V c).before 17 t1_7 d17, o18 := (dat1 V c).before 18 t1_7 d18, o19 := (dat1 V c).before 19 t1_7 d19, o21 := (ins V c t1_0).opening.o21, o22 := (dat1 V c).before 22 t1_7 d22, o23 := (ins V c t1_0).opening.o23, o24 := (dat1 V c).before 24 t1_7 d24, o25 := (ins V c t1_0).opening.o25, o26 := (dat1 V c).before 26 t1_7 d26, s1 := s } : Bufs F)) e1
    exact e3
  iapply (body_last c (grid1.coords t1_7) (ms1_0 t1_7) (hs1_0 t1_7) (ms1_1 t1_7) (hs1_1 t1_7) (ms1_2 t1_7) (hs1_2 t1_7) (ms1_3 t1_7) (hs1_3 t1_7) (ms1_4 t1_7) (hs1_4 t1_7) (ms1_5 t1_7) (hs1_5 t1_7) (ms1_6 t1_7) (hs1_6 t1_7) (ms1_7 t1_7) (hs1_7 t1_7) (ms1_8 t1_7) (hs1_8 t1_7) (ms1_9 t1_7) (hs1_9 t1_7) (ms1_10 t1_7) (hs1_10 t1_7) (ms1_11 t1_7) (hs1_11 t1_7) (ms1_12 t1_7) (hs1_12 t1_7) (ms1_13 t1_7) (hs1_13 t1_7) (ms1_14 t1_7) (hs1_14 t1_7) (ms1_15 t1_7) (hs1_15 t1_7) (ms1_16 t1_7) (hs1_16 t1_7) (ms1_17 t1_7) (hs1_17 t1_7) (ms1_18 t1_7) (hs1_18 t1_7) (ms1_19 t1_7) (hs1_19 t1_7) (ms1_20 t1_7) (hs1_20 t1_7) (ms1_21 t1_7) (hs1_21 t1_7) (ms1_22 t1_7) (hs1_22 t1_7) (ms1_23 t1_7) (hs1_23 t1_7) (ms1_24 t1_7) (hs1_24 t1_7) (ms1_25 t1_7) (hs1_25 t1_7) (ms1_26 t1_7) (hs1_26 t1_7) scM0 (Memref.isWhole_whole _) scM1 (Memref.isWhole_whole _)
    (mt (guard1 t1_7).mp hf) (mt (guard2 t1_7).mp (by decide)) ((guard3 t1_7).mpr (by decide)) ((guard4 t1_7).mpr hl)
    { ins V c t1_7 with
      o16 := (dat1 V c).before 16 t1_7 d16, o17 := (dat1 V c).before 17 t1_7 d17, o18 := (dat1 V c).before 18 t1_7 d18, o19 := (dat1 V c).before 19 t1_7 d19, o20 := totals V c ((t1_7 : Fin cfg1.N).val - 1) (Nat.lt_of_le_of_lt (Nat.sub_le _ _) (t1_7 : Fin cfg1.N).isLt), o21 := (ins V c t1_0).opening.o21, o22 := (dat1 V c).before 22 t1_7 d22, o23 := (ins V c t1_0).opening.o23, o24 := (dat1 V c).before 24 t1_7 d24, o25 := (ins V c t1_0).opening.o25, o26 := (dat1 V c).before 26 t1_7 d26, s0 := hard V c, s1 := hidden V c X (t1_7 : Fin cfg1.N).val } Set.univ _)
  rw [hb]
  unfold held
  isplitl [H0 H1 H2 H3 H4 H5 H6 H7 H8 H9 H10 H11 H12 H13 H14 H15 H16 H17 H18 H19 H20 H21 H22 H23 H24 H25 H26 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [HS0]; · iexact HS0
    iexact HS1
  iintro ⟨H0, H1, H2, H3, H4, H5, H6, H7, H8, H9, H10, H11, H12, H13, H14, H15, H16, H17, H18, H19, H20, H21, H22, H23, H24, H25, H26, HS0, HS1⟩
  isplitl [R0 R1 R2 R3 R4 R5 R6 R7 HS0 HS1 Hg]
  · isplitl [R0 R1 R2 R3 R4 R5 R6 R7 HS0 HS1]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [HS0]
      · iexact HS0
      iexists X; rw [show hidden V c X ((t1_7 : Fin cfg1.N).val + 1) = full V c from hidden_eight_any V c X _]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · rw [if_pos hl]; iexact H20
  isplitl [H21]; · iexact H21
  isplitl [H22]; · iexact H22
  isplitl [H23]; · iexact H23
  isplitl [H24]; · iexact H24
  isplitl [H25]; · iexact H25
  iexact H26

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases hf : t.val = 0
  · exact body_at_first V c t hf
  by_cases hl : t.val = 7
  · exact body_at_last V c t hl
  by_cases hp : t.val % 2 = 0
  · exact body_at_even V c t hf hl hp
  exact body_at_odd V c t hf hl (by omega)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [show (dat1 V c).Φ (Fin.last cfg1.N) = Phi1 V c (Fin.last cfg1.N).val from rfl,
    Phi1_pos V c _ (by rw [Fin.val_last]; have : cfg1.N = 8 := N_1; omega), PhiA1_eq]
  iintro ⟨⟨R0, R1, R2, R3, R4, R5, R6, R7, HS0, ⟨%X, HS1⟩⟩, Hg⟩
  isplitl [R0 R1 R2 R3 R4 R5 R6 R7 HS0 HS1]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [HS0]
    · iexists _; iexact HS0
    iexists _; iexact HS1
  iexact Hg

end Cert.KernelIdeal.Work

end
-- ==== Proof.KernelIdealWork.Run.lean ====
/- The whole program: what every buffer holds between its stretches and after it, and that its arguments end as launched. -/
module

public import proofs.«01_k».proof.Proof.KernelIdealWork.RegionA
public import proofs.«01_k».proof.Proof.KernelIdealWork.RegionB
public import proofs.«01_k».proof.Proof.Gen.KernelIdeal.Regions

@[expose] public section

set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Gen (V0 V1 V2 V3 V4 V5 V6 V7 V8 V9 V10 V11 V12 V13 V14 V15)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

theorem hostOps0_args : ∀ a ∈ argRefs, a ∉ hostOps0_W := ListAll.forall_mem_of_all_decide (by decide +kernel)
theorem hostOps0_1_args : ∀ a ∈ argRefs, a ∉ hostOps0_1_W := ListAll.forall_mem_of_all_decide (by decide +kernel)
theorem hostOps0_2_args : ∀ a ∈ argRefs, a ∉ hostOps0_2_W := ListAll.forall_mem_of_all_decide (by decide +kernel)
theorem hostOps0_3_args : ∀ a ∈ argRefs, a ∉ hostOps0_3_W := ListAll.forall_mem_of_all_decide (by decide +kernel)
theorem hostOps0_4_args : ∀ a ∈ argRefs, a ∉ hostOps0_4_W := ListAll.forall_mem_of_all_decide (by decide +kernel)
theorem hostOps0_5_args : ∀ a ∈ argRefs, a ∉ hostOps0_5_W := ListAll.forall_mem_of_all_decide (by decide +kernel)
theorem hostOps0_6_args : ∀ a ∈ argRefs, a ∉ hostOps0_6_W := ListAll.forall_mem_of_all_decide (by decide +kernel)
theorem hostOps0_7_args : ∀ a ∈ argRefs, a ∉ hostOps0_7_W := ListAll.forall_mem_of_all_decide (by decide +kernel)
theorem hostOps0_8_args : ∀ a ∈ argRefs, a ∉ hostOps0_8_W := ListAll.forall_mem_of_all_decide (by decide +kernel)
theorem hostOps0_9_args : ∀ a ∈ argRefs, a ∉ hostOps0_9_W := ListAll.forall_mem_of_all_decide (by decide +kernel)
theorem hostOps0_10_args : ∀ a ∈ argRefs, a ∉ hostOps0_10_W := ListAll.forall_mem_of_all_decide (by decide +kernel)
theorem hostOps0_11_args : ∀ a ∈ argRefs, a ∉ hostOps0_11_W := ListAll.forall_mem_of_all_decide (by decide +kernel)
theorem hostOps0_12_args : ∀ a ∈ argRefs, a ∉ hostOps0_12_W := ListAll.forall_mem_of_all_decide (by decide +kernel)
theorem hostOps0_13_args : ∀ a ∈ argRefs, a ∉ hostOps0_13_W := ListAll.forall_mem_of_all_decide (by decide +kernel)
theorem hostOps0_14_args : ∀ a ∈ argRefs, a ∉ hostOps0_14_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)
theorem hostOps2_1_args : ∀ a ∈ argRefs, a ∉ hostOps2_1_W := ListAll.forall_mem_of_all_decide (by decide +kernel)
theorem hostOps2_2_args : ∀ a ∈ argRefs, a ∉ hostOps2_2_W := ListAll.forall_mem_of_all_decide (by decide +kernel)
theorem hostOps2_3_args : ∀ a ∈ argRefs, a ∉ hostOps2_3_W := ListAll.forall_mem_of_all_decide (by decide +kernel)

/-! ## The buffers between the stretches -/

theorem V15_args (c : Dev nD) : ∀ a ∈ argRefs, V15 m c (Proc.devRef .tc a) = m ((c : Thread nD τ).loc a) := fun a ha =>
  (V15_of m c a (hostOps0_14_args a ha)).trans <| (V14_of m c a (hostOps0_13_args a ha)).trans <| (V13_of m c a (hostOps0_12_args a ha)).trans <| (V12_of m c a (hostOps0_11_args a ha)).trans <| (V11_of m c a (hostOps0_10_args a ha)).trans <| (V10_of m c a (hostOps0_9_args a ha)).trans <| (V9_of m c a (hostOps0_8_args a ha)).trans <| (V8_of m c a (hostOps0_7_args a ha)).trans <| (V7_of m c a (hostOps0_6_args a ha)).trans <| (V6_of m c a (hostOps0_5_args a ha)).trans <| (V5_of m c a (hostOps0_4_args a ha)).trans <| (V4_of m c a (hostOps0_3_args a ha)).trans <| (V3_of m c a (hostOps0_2_args a ha)).trans <| (V2_of m c a (hostOps0_1_args a ha)).trans <| (V1_of m c a (hostOps0_args a ha)).trans rfl

/-- The same read at the references. -/
abbrev U15 : (c : Dev nD) → (b : Ref sig .tc) → Buf (Elt F) ((c : Thread nD τ).loc b) := fun c b => V15 m c b

/-- After launch 0: its arrays at what it leaves, every other buffer as before. -/
def W16 (c : Dev nD) : Valuation τ sig (Elt F) :=
  Pipeline.withArrays spec0 c (V15 m c) fun w => (dat0 (U15 m) c).arrAt w cfg0.N
theorem W16_arr (c : Dev nD) (w : Fin cfg0.W) :
    W16 m c (Proc.devRef .tc (Pipeline.arrRef spec0 w)) = (dat0 (U15 m) c).arrAt w cfg0.N := by
  unfold W16; exact Pipeline.withArrays_arr spec0 launch0.win.arr_inj c _ _ w
theorem W16_of_ne (c : Dev nD) (b : Ref sig .tc) (hb : ∀ w, Pipeline.arrRef spec0 w ≠ b) :
    W16 m c (Proc.devRef .tc b) = V15 m c (Proc.devRef .tc b) := by
  unfold W16; exact Pipeline.withArrays_of_ne spec0 c _ _ b hb
/-- A buffer that is none of the launch's outputs keeps its contents. -/
theorem W16_of (c : Dev nD) (r : Ref sig .tc) (h : ∀ w : Fin cfg0.W, Pipeline.arrRef spec0 w = r → (cfg0.win w).isOut = false) :
    W16 m c (Proc.devRef .tc r) = V15 m c (Proc.devRef .tc r) := by
  by_cases hw : ∃ w : Fin cfg0.W, Pipeline.arrRef spec0 w = r
  · obtain ⟨w, rfl⟩ := hw
    exact (W16_arr m c w).trans (((dat0 (U15 m) c).arrAt_in w (h w rfl) _).trans (A_eq0 (U15 m) c w))
  · exact W16_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W16_args (c : Dev nD) : ∀ a ∈ argRefs, W16 m c (Proc.devRef .tc a) = m ((c : Thread nD τ).loc a) :=
  fun a ha => (W16_of m c a (argsIn0 a ha)).trans (V15_args m c a ha)
abbrev U16 : (c : Dev nD) → (b : Ref sig .tc) → Buf (Elt F) ((c : Thread nD τ).loc b) := fun c b => W16 m c b
theorem hF0 (c : Dev nD) (w : Fin cfg0.W) : (dat0 (U15 m) c).arrAt w cfg0.N = U16 m c (Pipeline.arrRef spec0 w) :=
  (W16_arr m c w).symm
theorem hrest0 (c : Dev nD) : ∀ b, b ∉ Finset.univ.image (Pipeline.arrRef spec0) → U16 m c b = U15 m c b :=
  fun b hb => W16_of_ne m c b fun w e => hb (Finset.mem_image.mpr ⟨w, Finset.mem_univ _, e⟩)

/-- After the host stretch `hostOps1`. -/
abbrev W17 : Dev nD → Valuation τ sig (Elt F) := fun c => StableHlo.after hostOps1 (W16 m c)
theorem W17_of (c : Dev nD) (r : Ref sig .tc) (h : r ∉ hostOps1_W) : W17 m c (Proc.devRef .tc r) = W16 m c (Proc.devRef .tc r) :=
  StableHlo.after_of_writes_sub hostOps1 _ hostOps1_writes h
theorem W17_args (c : Dev nD) : ∀ a ∈ argRefs, W17 m c (Proc.devRef .tc a) = m ((c : Thread nD τ).loc a) :=
  fun a ha => (W17_of m c a (hostOps1_args a ha)).trans (W16_args m c a ha)

abbrev U17 : (c : Dev nD) → (b : Ref sig .tc) → Buf (Elt F) ((c : Thread nD τ).loc b) := fun c b => W17 m c b

/-- After launch 1: its arrays at what it leaves, every other buffer as before. -/
def W18 (c : Dev nD) : Valuation τ sig (Elt F) :=
  Pipeline.withArrays spec1 c (W17 m c) fun w => (dat1 (U17 m) c).arrAt w cfg1.N
theorem W18_arr (c : Dev nD) (w : Fin cfg1.W) :
    W18 m c (Proc.devRef .tc (Pipeline.arrRef spec1 w)) = (dat1 (U17 m) c).arrAt w cfg1.N := by
  unfold W18; exact Pipeline.withArrays_arr spec1 launch1.win.arr_inj c _ _ w
theorem W18_of_ne (c : Dev nD) (b : Ref sig .tc) (hb : ∀ w, Pipeline.arrRef spec1 w ≠ b) :
    W18 m c (Proc.devRef .tc b) = W17 m c (Proc.devRef .tc b) := by
  unfold W18; exact Pipeline.withArrays_of_ne spec1 c _ _ b hb
/-- A buffer that is none of the launch's outputs keeps its contents. -/
theorem W18_of (c : Dev nD) (r : Ref sig .tc) (h : ∀ w : Fin cfg1.W, Pipeline.arrRef spec1 w = r → (cfg1.win w).isOut = false) :
    W18 m c (Proc.devRef .tc r) = W17 m c (Proc.devRef .tc r) := by
  by_cases hw : ∃ w : Fin cfg1.W, Pipeline.arrRef spec1 w = r
  · obtain ⟨w, rfl⟩ := hw
    exact (W18_arr m c w).trans (((dat1 (U17 m) c).arrAt_in w (h w rfl) _).trans (A_eq1 (U17 m) c w))
  · exact W18_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W18_args (c : Dev nD) : ∀ a ∈ argRefs, W18 m c (Proc.devRef .tc a) = m ((c : Thread nD τ).loc a) :=
  fun a ha => (W18_of m c a (argsIn1 a ha)).trans (W17_args m c a ha)
abbrev U18 : (c : Dev nD) → (b : Ref sig .tc) → Buf (Elt F) ((c : Thread nD τ).loc b) := fun c b => W18 m c b
theorem hF1 (c : Dev nD) (w : Fin cfg1.W) : (dat1 (U17 m) c).arrAt w cfg1.N = U18 m c (Pipeline.arrRef spec1 w) :=
  (W18_arr m c w).symm
theorem hrest1 (c : Dev nD) : ∀ b, b ∉ Finset.univ.image (Pipeline.arrRef spec1) → U18 m c b = U17 m c b :=
  fun b hb => W18_of_ne m c b fun w e => hb (Finset.mem_image.mpr ⟨w, Finset.mem_univ _, e⟩)

/-- After the host stretch `hostOps2`. -/
abbrev W19 : Dev nD → Valuation τ sig (Elt F) := fun c => StableHlo.after hostOps2 (W18 m c)
theorem W19_of (c : Dev nD) (r : Ref sig .tc) (h : r ∉ hostOps2_W) : W19 m c (Proc.devRef .tc r) = W18 m c (Proc.devRef .tc r) :=
  StableHlo.after_of_writes_sub hostOps2 _ hostOps2_writes h
theorem W19_args (c : Dev nD) : ∀ a ∈ argRefs, W19 m c (Proc.devRef .tc a) = m ((c : Thread nD τ).loc a) :=
  fun a ha => (W19_of m c a (hostOps2_args a ha)).trans (W18_args m c a ha)

/-- After the host stretch `hostOps2_1`. -/
abbrev W20 : Dev nD → Valuation τ sig (Elt F) := fun c => StableHlo.after hostOps2_1 (W19 m c)
theorem W20_of (c : Dev nD) (r : Ref sig .tc) (h : r ∉ hostOps2_1_W) : W20 m c (Proc.devRef .tc r) = W19 m c (Proc.devRef .tc r) :=
  StableHlo.after_of_writes_sub hostOps2_1 _ hostOps2_1_writes h
theorem W20_args (c : Dev nD) : ∀ a ∈ argRefs, W20 m c (Proc.devRef .tc a) = m ((c : Thread nD τ).loc a) :=
  fun a ha => (W20_of m c a (hostOps2_1_args a ha)).trans (W19_args m c a ha)

/-- After the host stretch `hostOps2_2`. -/
abbrev W21 : Dev nD → Valuation τ sig (Elt F) := fun c => StableHlo.after hostOps2_2 (W20 m c)
theorem W21_of (c : Dev nD) (r : Ref sig .tc) (h : r ∉ hostOps2_2_W) : W21 m c (Proc.devRef .tc r) = W20 m c (Proc.devRef .tc r) :=
  StableHlo.after_of_writes_sub hostOps2_2 _ hostOps2_2_writes h
theorem W21_args (c : Dev nD) : ∀ a ∈ argRefs, W21 m c (Proc.devRef .tc a) = m ((c : Thread nD τ).loc a) :=
  fun a ha => (W21_of m c a (hostOps2_2_args a ha)).trans (W20_args m c a ha)

/-- After the host stretch `hostOps2_3`. -/
abbrev W22 : Dev nD → Valuation τ sig (Elt F) := fun c => StableHlo.after hostOps2_3 (W21 m c)
theorem W22_of (c : Dev nD) (r : Ref sig .tc) (h : r ∉ hostOps2_3_W) : W22 m c (Proc.devRef .tc r) = W21 m c (Proc.devRef .tc r) :=
  StableHlo.after_of_writes_sub hostOps2_3 _ hostOps2_3_writes h
theorem W22_args (c : Dev nD) : ∀ a ∈ argRefs, W22 m c (Proc.devRef .tc a) = m ((c : Thread nD τ).loc a) :=
  fun a ha => (W22_of m c a (hostOps2_3_args a ha)).trans (W21_args m c a ha)

/-! ## The launches as segments -/

abbrev adm : (p : Fin 2) → (pcfgs (F := F) p).Adm := fun p => (cfgs p).toPCfg_adm
/-- Each launch's data, at the contents it is entered with. -/
def pdats : (p : Fin 2) → (c : Dev nD) → Dat τ (Elt F) Unit ℕ (UR sig nD τ) ℕ (Pipeline.pin (pcfgs (F := F)) adm p) c
  | ⟨0, _⟩ => fun c => dat0 (U15 m) c
  | ⟨1, _⟩ => fun c => dat1 (U17 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of the thread: every buffer at the last contents, the generator register at some state. -/
abbrev Tₙ (c : Dev nD) : sProp 𝕄 := iprop(StableHlo.held (c : Thread nD τ) (Pipeline.ucRefs τ sig) (W22 m c) ∗ ∃ r, prngReg c r)

set_option backward.isDefEq.respectTransparency.types false in
/-- Launch 0, entered and left with every buffer owned. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U15 m) c).loose
  hwaits := Pipeline.hwaits_of_owed_zero _ _ _ _ L lv 0 fun _ _ => rfl
  pre c := iprop(StableHlo.held (c : Thread nD τ) (Pipeline.ucRefs τ sig) (V15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec0 c (U15 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U15 m c) (A_eq0 (U15 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U15 m c) (U16 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1, entered and left with every buffer owned. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U17 m) c).loose
  hwaits := Pipeline.hwaits_of_owed_zero _ _ _ _ L lv 1 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec1 c (U17 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U17 m c) (A_eq1 (U17 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (U17 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U17 m c) (U18 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .host (hseg hostOps0_13 hostOps0_13_sub hostOps0_13_fresh (V13 m)),
    .host (hseg hostOps0_14 hostOps0_14_sub hostOps0_14_fresh (V14 m)),
    .region (reg0 m),
    .host (hseg hostOps1 hostOps1_sub hostOps1_fresh (W16 m)),
    .region (reg1 m),
    .host (hseg hostOps2 hostOps2_sub hostOps2_fresh (W18 m)),
    .host (hseg hostOps2_1 hostOps2_1_sub hostOps2_1_fresh (W19 m)),
    .host (hseg hostOps2_2 hostOps2_2_sub hostOps2_2_fresh (W20 m)),
    .host (hseg hostOps2_3 hostOps2_3_sub hostOps2_3_fresh (W21 m)) ]
theorem main_run (c : Dev nD) : main (F := F) c = Pipeline.Seg.run (segs m) := (main_chain c).trans (by chain_rfl)

theorem no_unscoped : ∀ sm : SemLoc sig, sm.isScoped .tc = true := by decide

set_option backward.isDefEq.respectTransparency.types false in
/-- THE RUN: from any memory with zero counters every execution ends, without a fault, with every buffer of the program at
    the contents `W22` and every counter at zero. -/
theorem run : θ_run defs (onTc (τ := τ) (main (F := F))) ⟨m, fun _ => 0, ρ⟩ (fun r => (∀ c : Dev nD, ∀ b ∈ Pipeline.ucRefs τ sig,
      r.2.mem ((c : Thread nD τ).1, b) = W22 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W22 m c) ∗ (∃ r, prngReg c r) ∗ ∃ W, owes (c : Thread nD τ) (0 : CellTallies nD τ sig Unit) W) ⊢ _
      iintro ⟨H, Hp, HO⟩
      isplitl [H Hp]
      · isplitl [H]; · iexact H
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h hz => ⟨h, funext fun g => hz g (.inr (no_unscoped g.2))⟩)

/-- A buffer of the program that no launch stages, read after the run. -/
theorem read_end {s : MemSt nD τ sig (Elt F)} (c : Dev nD) (h : ∀ b ∈ Pipeline.ucRefs τ sig, s.mem ((c : Thread nD τ).1, b) = W22 m c b)
    (b : Ref sig .tc) (hb : ¬ (Proc.devRef .tc b : DevRef τ sig).isScoped) :
    s.mem ((c : Thread nD τ).loc b) = W22 m c (Proc.devRef .tc b) := h _ (mem_uc b hb)

/-- THE FRAME: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun s h => ⟨fun c =>
    ⟨(h.1 c _ (mem_uc main_arg0 (by decide))).trans (W22_args m c main_arg0 (by decide)),
     (h.1 c _ (mem_uc main_arg1 (by decide))).trans (W22_args m c main_arg1 (by decide)),
     (h.1 c _ (mem_uc main_arg2 (by decide))).trans (W22_args m c main_arg2 (by decide)),
     (h.1 c _ (mem_uc main_arg3 (by decide))).trans (W22_args m c main_arg3 (by decide)),
     (h.1 c _ (mem_uc main_arg4 (by decide))).trans (W22_args m c main_arg4 (by decide)),
     (h.1 c _ (mem_uc main_arg5 (by decide))).trans (W22_args m c main_arg5 (by decide)),
     (h.1 c _ (mem_uc main_arg6 (by decide))).trans (W22_args m c main_arg6 (by decide)),
     (h.1 c _ (mem_uc main_arg7 (by decide))).trans (W22_args m c main_arg7 (by decide)),
     (h.1 c _ (mem_uc main_arg8 (by decide))).trans (W22_args m c main_arg8 (by decide)),
     (h.1 c _ (mem_uc main_arg9 (by decide))).trans (W22_args m c main_arg9 (by decide)),
     (h.1 c _ (mem_uc main_arg10 (by decide))).trans (W22_args m c main_arg10 (by decide)),
     (h.1 c _ (mem_uc main_arg11 (by decide))).trans (W22_args m c main_arg11 (by decide)),
     (h.1 c _ (mem_uc main_arg12 (by decide))).trans (W22_args m c main_arg12 (by decide)),
     (h.1 c _ (mem_uc main_arg13 (by decide))).trans (W22_args m c main_arg13 (by decide)),
     (h.1 c _ (mem_uc main_arg14 (by decide))).trans (W22_args m c main_arg14 (by decide)),
     (h.1 c _ (mem_uc main_arg15 (by decide))).trans (W22_args m c main_arg15 (by decide)),
     (h.1 c _ (mem_uc main_arg16 (by decide))).trans (W22_args m c main_arg16 (by decide)),
     (h.1 c _ (mem_uc main_arg17 (by decide))).trans (W22_args m c main_arg17 (by decide))⟩, h.2⟩) (run m ρ)

end Cert.KernelIdeal.Work

end
-- ==== Proof.KernelWork.Frame.lean ====
/- The kernel and its idealization are one program, apart from the constant that the idealization names. Where a name stands
   for its literal they are equal, so the idealization's frame, proved at every interpretation of the floats, is the kernel's. -/
module

public import proofs.«01_k».proof.Defs
public import proofs.«01_k».proof.Proof.Gen.Kernel
public import proofs.«01_k».proof.Proof.KernelIdealWork.Run

@[expose] public section

set_option maxHeartbeats 4000000
set_option maxRecDepth 100000

noncomputable section

namespace Cert.Kernel.Work

open Idealize.ShloMosaic Idealize.SL.Sem

/-- A named constant read as its literal. -/
@[reducible] def literal (F : FTy → Type) [FloatOps F] : Named F := ⟨fun _ _ _ b => FloatOps.ofBits _ b⟩

variable (F : FTy → Type) [FloatOps F]

/-- Both launches run the same bodies. -/
theorem bodies_same : Cert.Kernel.defs₀ (F := F) = @Cert.KernelIdeal.defs₀ F _ (literal F) _ := by
  unfold Cert.Kernel.defs₀ Cert.KernelIdeal.defs₀
  refine congrArg Defs.onTc (funext fun l => funext fun x => ?_)
  match l, x with
  | 0, (t, s) => rfl
  | 1, (t, s) => rfl
  | ⟨_ + 2, h⟩, _ => exact absurd h (Nat.not_lt.2 (Nat.le_add_left _ _))

theorem defs_same : Cert.Kernel.defs (F := F) = @Cert.KernelIdeal.defs F _ (literal F) _ :=
  congrArg (Pipeline.defs (Cert.KernelIdeal.pcfgs (F := F))) (bodies_same F)

theorem main_same : Cert.Kernel.main (F := F) = Cert.KernelIdeal.main (F := F) := rfl

theorem frame : Cert.quiescent_Kernel := fun m g _ =>
  letI := literal Bits
  (congrArg₂ (fun D M => θ_run D (onTc M) ⟨m, fun _ => 0, g⟩ _) (defs_same Bits) (main_same Bits)).mpr (Cert.KernelIdeal.Work.frame (F := Bits) m g)

end Cert.Kernel.Work

end
-- ==== Proof.Algebra.At.lean ====
/- The programs' operations on two-axis arrays, read at one row and one column over the extended reals. -/
module

public import Idealize.ShloMosaic.Lib.Pipeline.Value
public import Idealize.ShloMosaic.Lib.ValueIdx
public import Idealize.ShloMosaic.Lib.ValueIdxCore
public import Idealize.ShloMosaic.Lib.MatmulPlain
public import Idealize.ShloMosaic.PureOps.Ideal.Laws

@[expose] public section

noncomputable section

namespace Cert.At

open Idealize.ShloMosaic Idealize.ShloMosaic.ValueIdx
open scoped BigOperators

variable {n m k : ℕ}

/-- An array of `n` rows and `m` columns as a function of row and column. -/
def mat (n m : ℕ) {α : Type} (x : (⟨2, ![n, m]⟩ : Shape).Idx → α) : Fin n → Fin m → α := fun i j => x (ix2 i j)

/-- An array of one axis as a function of its index. -/
def vec (n : ℕ) {α : Type} (x : (⟨1, ![n]⟩ : Shape).Idx → α) : Fin n → α := fun i => x (ix1 i)

theorem mat_inj {α : Type} {x y : (⟨2, ![n, m]⟩ : Shape).Idx → α} (h : mat n m x = mat n m y) : x = y := by
  funext i; rw [eq_ix2 i]; exact congrFun (congrFun h (i 0)) (i 1)

/-- Products summed over the shared axis. -/
def mul (a : Fin n → Fin k → EReal) (b : Fin k → Fin m → EReal) : Fin n → Fin m → EReal := fun i j => ∑ q, a i q * b q j

/-- A dense layer: the product with the weights and the bias added to every row. -/
def dense (a : Fin n → Fin k → EReal) (w : Fin k → Fin m → EReal) (b : Fin m → EReal) : Fin n → Fin m → EReal :=
  fun i j => mul a w i j + b j

/-- The larger of every entry and zero. -/
def relu (a : Fin n → Fin m → EReal) : Fin n → Fin m → EReal := fun i j => max (a i j) 0

/-- A row's largest entry. -/
def top (s : Fin n → EReal) : EReal := Finset.univ.fold max ⊥ s

/-- The exponentials of a row, each over their sum, all taken relative to the largest entry. -/
def softmax (s : Fin n → EReal) : Fin n → EReal :=
  fun j => Ideal.div (Ideal.exp (s j - top s)) (∑ q, Ideal.exp (s q - top s))

theorem bits_bot : Ideal.ofBits .f32 0xFF800000#32 = ⊥ := by simp [Ideal.ofBits, Ideal.ieee]
theorem bits_zero : Ideal.ofBits .f32 0x00000000#32 = 0 := Ideal.ofBits_zero_f32
theorem bits_one : Ideal.ofBits .f32 0x3F800000#32 = 1 := by
  simp [Ideal.ofBits, Ideal.ieee]
  rw [← EReal.coe_mul]; norm_num

/-! ### The accelerator's operations -/

theorem mat_matmul {φ₁ φ₂ : FTy} (a : FVec Ideal ⟨2, ![n, k]⟩ φ₁) (b : FVec Ideal ⟨2, ![k, m]⟩ φ₂) :
    mat n m (matmul (DotDims.plain n k m) none a b (constant ⟨2, ![n, m]⟩ .f32 0x00000000#32)) = mul (mat n k a) (mat k m b) := by
  funext i j
  show FloatOps.matmul _ _ _ _ _ (ix2 i j) = _
  rw [Ideal.matmul_plain_apply]
  show Ideal.ofBits .f32 0x00000000#32 + _ = _
  rw [bits_zero, zero_add]; rfl

/-- A single row repeated down the rows. -/
theorem mat_repeatRow {α : Type} (x : (⟨2, ![1, m]⟩ : Shape).Idx → α) (h : (⟨2, ![1, m]⟩ : Shape).Broadcasts ⟨2, ![n, m]⟩)
    (i : Fin n) (j : Fin m) : mat n m (broadcastTo ⟨2, ![n, m]⟩ x h) i j = mat 1 m x 0 j := by
  refine broadcastTo_apply x h (ix2 i j) (ix2 0 j) fun a => ?_
  match a with
  | ⟨0, _⟩ => rfl
  | ⟨1, _⟩ =>
    show j.val = if m = 1 then 0 else j.val
    split
    · have := j.isLt; omega
    · rfl

/-- A column of one entry a row repeated along the columns. -/
theorem mat_repeatCol {α : Type} (v : (⟨1, ![n]⟩ : Shape).Idx → α) (hs : (⟨1, ![n]⟩ : Shape).ShapeCasts ⟨2, ![n, 1]⟩)
    (h : (⟨2, ![n, 1]⟩ : Shape).Broadcasts ⟨2, ![n, m]⟩) (i : Fin n) (j : Fin m) :
    mat n m (broadcastTo ⟨2, ![n, m]⟩ (shapeCast ⟨2, ![n, 1]⟩ v hs) h) i j = vec n v i := by
  refine (broadcastTo_apply _ h (ix2 i j) (ix2 i 0) fun a => ?_).trans
    (shapeCast_apply v hs (ix2 i 0) (ix1 i) (by rw [Shape.rowMajor_val_two, Shape.rowMajor_val_one]; show i.val = i.val * 1 + 0; omega))
  match a with
  | ⟨0, _⟩ =>
    show i.val = if n = 1 then 0 else i.val
    split
    · have := i.isLt; omega
    · rfl
  | ⟨1, _⟩ => rfl

theorem vec_rowSum (x : FVec Ideal ⟨2, ![n, m]⟩ .f32) (h : (⟨2, ![n, m]⟩ : Shape).Reduces [1] ⟨1, ![n]⟩) (hφ) (hacc) (i : Fin n) :
    vec n (multiReduction .add [1] ⟨1, ![n]⟩ x 0x00000000#32 h hφ hacc) i = ∑ j, mat n m x i j :=
  (Ideal.multiReduction_add_single x _ h hφ hacc (ix1 i)).trans
    (Finset.sum_congr rfl fun q _ => congrArg x (funext fun a => Fin.ext (by match a with | ⟨0, _⟩ => rfl | ⟨1, _⟩ => rfl)))

theorem vec_rowTop (x : FVec Ideal ⟨2, ![n, m]⟩ .f32) (h : (⟨2, ![n, m]⟩ : Shape).Reduces [1] ⟨1, ![n]⟩) (hφ) (hacc) (i : Fin n) :
    vec n (multiReduction .maximumf [1] ⟨1, ![n]⟩ x 0xFF800000#32 h hφ hacc) i = top (mat n m x i) := by
  refine (Ideal.multiReduction_maximumf_single x _ h hφ hacc (ix1 i)).trans ?_
  show Finset.fold max (Ideal.ofBits .f32 0xFF800000#32) _ _ = _
  rw [bits_bot]
  refine Finset.fold_congr fun q _ => congrArg x (funext fun a => Fin.ext (by match a with | ⟨0, _⟩ => rfl | ⟨1, _⟩ => rfl))

/-- The rows' exponentials over their sums, as the accelerator takes them. -/
theorem mat_softmax (x : FVec Ideal ⟨2, ![n, m]⟩ .f32) (h : (⟨2, ![n, m]⟩ : Shape).Reduces [1] ⟨1, ![n]⟩) (hφ hφ') (h₁ h₂)
    (hs : (⟨1, ![n]⟩ : Shape).ShapeCasts ⟨2, ![n, 1]⟩) (hb : (⟨2, ![n, 1]⟩ : Shape).Broadcasts ⟨2, ![n, m]⟩) :
    mat n m (divf (exp (subf x (broadcastTo ⟨2, ![n, m]⟩ (shapeCast ⟨2, ![n, 1]⟩
        (multiReduction .maximumf [1] ⟨1, ![n]⟩ x 0xFF800000#32 h hφ h₁) hs) hb)))
      (broadcastTo ⟨2, ![n, m]⟩ (shapeCast ⟨2, ![n, 1]⟩ (multiReduction .add [1] ⟨1, ![n]⟩
        (exp (subf x (broadcastTo ⟨2, ![n, m]⟩ (shapeCast ⟨2, ![n, 1]⟩
          (multiReduction .maximumf [1] ⟨1, ![n]⟩ x 0xFF800000#32 h hφ h₁) hs) hb))) 0x00000000#32 h hφ' h₂) hs) hb))
      = fun i => softmax (mat n m x i) := by
  have e : ∀ i j, mat n m (exp (subf x (broadcastTo ⟨2, ![n, m]⟩ (shapeCast ⟨2, ![n, 1]⟩
        (multiReduction .maximumf [1] ⟨1, ![n]⟩ x 0xFF800000#32 h hφ h₁) hs) hb)) : FVec Ideal ⟨2, ![n, m]⟩ .f32) i j = Ideal.exp (mat n m x i j - top (mat n m x i)) := by
    intro i j
    show Ideal.exp (mat n m x i j - mat n m (broadcastTo ⟨2, ![n, m]⟩ _ hb) i j) = _
    rw [mat_repeatCol, vec_rowTop]
  funext i j
  exact congrArg₂ Ideal.div (e i j) ((mat_repeatCol _ hs hb i j).trans
    ((vec_rowSum _ h hφ' h₂ i).trans (Finset.sum_congr rfl fun q _ => e i q)))

theorem mat_slice {α : Type} {w : ℕ} (o : ℕ) (x : (⟨2, ![n, w]⟩ : Shape).Idx → α) (h : (⟨2, ![n, w]⟩ : Shape).Slices ![0, o] ⟨2, ![n, m]⟩)
    (i : Fin n) (j : Fin m) (q : Fin w) (hq : q.val = o + j.val) :
    mat n m (extractStridedSlice ⟨2, ![n, m]⟩ ![0, o] x h) i j = mat n w x i q := by
  refine extractStridedSlice_apply _ x h (ix2 i j) (ix2 i q) fun a => ?_
  match a with
  | ⟨0, _⟩ => show i.val = 0 + i.val; omega
  | ⟨1, _⟩ => exact hq

/-- The lane numbers. -/
theorem mat_lanes (h) (i : Fin n) (j : Fin m) : mat n m (iota .tc ⟨2, ![n, m]⟩ 32 [1] h) i j = BitVec.ofNat 32 j.val :=
  iota_single_apply _ _ _ _ h _

theorem ofNat_inj {a b : ℕ} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem ofNat_toInt {a : ℕ} (ha : a < 2 ^ 31) : (BitVec.ofNat 32 a).toInt = a := by
  rw [BitVec.toInt_eq_toNat_of_lt, BitVec.toNat_ofNat, Nat.mod_eq_of_lt (by omega)]
  rw [BitVec.toNat_ofNat, Nat.mod_eq_of_lt (by omega)]; omega

/-- One in the lanes where two whole numbers agree, zero in the others. -/
def one (p : Prop) [Decidable p] : EReal := if p then 1 else 0

theorem eq_word (a b : BitVec 32) : (FloatOps.sitofp (F := Ideal) .f32 ((IntOp.cmpi .eq a b).setWidth 32) : EReal) = one (a = b) := by
  unfold one
  by_cases h : a = b
  · subst h
    rw [if_pos rfl]
    show ((((IntOp.cmpi .eq a a).setWidth 32).toInt : ℝ) : EReal) = 1
    have : IntOp.cmpi .eq a a = 1#1 := by simp [IntOp.cmpi]
    rw [this]; norm_num
  · rw [if_neg h]
    show ((((IntOp.cmpi .eq a b).setWidth 32).toInt : ℝ) : EReal) = 0
    have : IntOp.cmpi .eq a b = 0#1 := by simp [IntOp.cmpi, beq_eq_false_iff_ne.mpr h]
    rw [this]; norm_num

theorem mat_isLane (p : ℕ) (hp : p < 2 ^ 31) (hm : m < 2 ^ 31) (h) (h') (i : Fin n) (j : Fin m) :
    mat n m (sitofp (F := Ideal) .f32 (extui 32 (cmpi .eq (iota .tc ⟨2, ![n, m]⟩ 32 [1] h) (broadcast ⟨2, ![n, m]⟩ (BitVec.ofNat 32 p))) h')) i j
      = one (j.val = p) := by
  refine (eq_word _ _).trans ?_
  show one (mat n m (iota .tc ⟨2, ![n, m]⟩ 32 [1] h) i j = _) = _
  rw [mat_lanes]
  unfold one
  exact if_congr (ofNat_inj (show j.val < 2 ^ 31 by have := j.isLt; omega) hp) rfl rfl

theorem sum_pick (f : Fin n → EReal) (p : Fin n) : ∑ j, f j * one (j.val = p.val) = f p := by
  rw [Finset.sum_eq_single p]
  · simp [one]
  · intro b _ hb; rw [one, if_neg (fun h => hb (Fin.ext h)), mul_zero]
  · intro h; exact absurd (Finset.mem_univ p) h

/-- The lanes below `p` keep their entry, the others take `z`. -/
theorem mat_below (p : ℕ) (hp : p < 2 ^ 31) (hm : m < 2 ^ 31) (h) (x : FVec Ideal ⟨2, ![n, m]⟩ .f32) (z : EReal) (i : Fin n) (j : Fin m) :
    mat n m (select (cmpi .slt (iota .tc ⟨2, ![n, m]⟩ 32 [1] h) (broadcast ⟨2, ![n, m]⟩ (BitVec.ofNat 32 p))) x
      (broadcast ⟨2, ![n, m]⟩ (z : Ideal .f32))) i j = if j.val < p then mat n m x i j else z := by
  show Scalar.select (IntOp.cmpi .slt (mat n m (iota .tc ⟨2, ![n, m]⟩ 32 [1] h) i j) (BitVec.ofNat 32 p)) _ _ = _
  rw [mat_lanes]
  have e : (BitVec.ofNat 32 j.val).slt (BitVec.ofNat 32 p) = decide (j.val < p) := by
    rw [BitVec.slt_eq_decide, ofNat_toInt (by have := j.isLt; omega), ofNat_toInt hp]; simp
  have e' : IntOp.cmpi .slt (BitVec.ofNat 32 j.val) (BitVec.ofNat 32 p) = if j.val < p then 1#1 else 0#1 := by
    by_cases hj : j.val < p <;> simp [IntOp.cmpi, e, hj]
  rw [e']
  split
  · rfl
  · rfl

/-- Every entry of an array summed, through one more unit axis in front. -/
theorem total (x : FVec Ideal ⟨2, ![n, m]⟩ .f32) (hs : (⟨2, ![n, m]⟩ : Shape).ShapeCasts ⟨3, ![1, n, m]⟩)
    (h : (⟨3, ![1, n, m]⟩ : Shape).Reduces [1, 2] ⟨1, ![1]⟩) (hφ) (hacc) (hs' : (⟨1, ![1]⟩ : Shape).ShapeCasts ⟨3, ![1, 1, 1]⟩) (hp) :
    extractAt ![0, 0, 0] (shapeCast ⟨3, ![1, 1, 1]⟩ (multiReduction .add [1, 2] ⟨1, ![1]⟩ (shapeCast ⟨3, ![1, n, m]⟩ x hs) 0x00000000#32 h hφ hacc) hs') hp
      = ∑ i, ∑ j, mat n m x i j := by
  have hc : (∑ i : (⟨3, ![1, n, m]⟩ : Shape).Idx, shapeCast ⟨3, ![1, n, m]⟩ x hs i) = ∑ i, x i :=
    Equiv.sum_comp (Shape.reshapeEquiv hs) x
  have hr : ∀ j, multiReduction .add [1, 2] ⟨1, ![1]⟩ (shapeCast ⟨3, ![1, n, m]⟩ x hs) 0x00000000#32 h hφ hacc j = ∑ i, x i := fun j =>
    (Ideal.multiReduction_add_total _ _ h (fun b => by match b with | ⟨0, _⟩ => rfl) hφ hacc j).trans hc
  refine Eq.trans ?_ (sum_idx2 x)
  exact hr _

end Cert.At
-- ==== Proof.Algebra.First.lean ====
/- The first of a row's largest entries, as both programs find it, and the routing mask made from it. -/
module

public import proofs.«01_k».proof.Proof.Algebra.At
public import proofs.«01_k».proof.ReferenceIdeal

@[expose] public section

noncomputable section

namespace Cert.At

open Idealize.ShloMosaic Idealize.ShloMosaic.ValueIdx
open scoped BigOperators Classical

variable {n m k : ℕ}

/-- Entry `j` is the first of the largest. -/
def IsFirst (s : Fin n → EReal) (j : Fin n) : Prop := (∀ q, s q ≤ s j) ∧ ∀ q, q < j → s q < s j

/-- One at the first of the largest entries, zero elsewhere. -/
def hot (s : Fin n → EReal) (j : Fin n) : EReal := one (IsFirst s j)

/-- The routing mask: every path while warming up, the likeliest path afterwards. -/
def route (w : BitVec 1) (s : Fin n → EReal) (j : Fin n) : EReal := if w = 1#1 then 1 else hot s j

theorem IsFirst.unique {s : Fin n → EReal} {i j : Fin n} (hi : IsFirst s i) (hj : IsFirst s j) : i = j := by
  rcases lt_trichotomy i j with h | h | h
  · exact absurd (hj.2 i h) (not_lt.2 (hi.1 j))
  · exact h
  · exact absurd (hi.2 j h) (not_lt.2 (hj.1 i))

theorem IsFirst.exists [NeZero n] (s : Fin n → EReal) : ∃ j, IsFirst s j := by
  obtain ⟨a, ha⟩ := Finite.exists_max s
  let T := Finset.univ.filter fun j => s j = s a
  have hT : T.Nonempty := ⟨a, by simp [T]⟩
  refine ⟨T.min' hT, fun q => ?_, fun q hq => ?_⟩
  · have := (Finset.mem_filter.1 (T.min'_mem hT)).2; rw [this]; exact ha q
  · have e := (Finset.mem_filter.1 (T.min'_mem hT)).2
    rw [e]
    refine lt_of_le_of_ne (ha q) fun h => ?_
    exact absurd (T.min'_le q (Finset.mem_filter.2 ⟨Finset.mem_univ _, h⟩)) (not_le.2 hq)

theorem le_top (s : Fin n → EReal) (j : Fin n) : s j ≤ top s :=
  (Finset.le_fold_max _).2 (.inr ⟨j, Finset.mem_univ _, le_rfl⟩)

theorem top_le (s : Fin n → EReal) {c : EReal} (h : ∀ j, s j ≤ c) : top s ≤ c :=
  (Finset.fold_max_le _).2 ⟨bot_le, fun j _ => h j⟩

theorem IsFirst.top_eq {s : Fin n → EReal} {j : Fin n} (h : IsFirst s j) : top s = s j :=
  le_antisymm (top_le s h.1) (le_top s j)

/-! ### A row extended by entries below every other -/

/-- The row `s` followed by entries below every other. -/
def pad (N : ℕ) (s : Fin n → EReal) : Fin N → EReal := fun j => if h : j.val < n then s ⟨j.val, h⟩ else ⊥

variable {N : ℕ} (hN : n ≤ N)
include hN

theorem pad_castLE (s : Fin n → EReal) (j : Fin n) : pad N s (j.castLE hN) = s j := by
  unfold pad; rw [dif_pos (show (j.castLE hN).val < n from j.isLt)]; rfl

theorem top_pad (s : Fin n → EReal) : top (pad N s) = top s := by
  refine le_antisymm (top_le _ fun j => ?_) (top_le _ fun j => ?_)
  · unfold pad; split
    · exact le_top s _
    · exact bot_le
  · rw [← pad_castLE hN s j]; exact le_top _ _

theorem sum_pad (s : Fin n → EReal) (f : EReal → EReal) (hf : f ⊥ = 0) : ∑ j, f (pad N s j) = ∑ j, f (s j) := by
  rw [← Finset.sum_subset (Finset.subset_univ (Finset.univ.map (Fin.castLEEmb hN)))]
  · rw [Finset.sum_map]; exact Finset.sum_congr rfl fun j _ => congrArg f (pad_castLE hN s j)
  · intro j _ hj
    unfold pad
    rw [dif_neg, hf]
    intro h
    exact hj (Finset.mem_map.2 ⟨⟨j.val, h⟩, Finset.mem_univ _, rfl⟩)

theorem exp_bot_sub (x : EReal) : Ideal.exp (⊥ - x) = 0 := by
  rw [EReal.bot_sub]; rfl

theorem softmax_pad (s : Fin n → EReal) (j : Fin n) : softmax (pad N s) (j.castLE hN) = softmax s j := by
  unfold softmax
  rw [top_pad hN, pad_castLE hN, sum_pad hN s (fun x => Ideal.exp (x - top s)) (exp_bot_sub hN _)]

theorem isFirst_pad (s : Fin n → EReal) (j : Fin n) : IsFirst (pad N s) (j.castLE hN) ↔ IsFirst s j := by
  unfold IsFirst
  rw [pad_castLE hN]
  constructor
  · exact fun h => ⟨fun q => by rw [← pad_castLE hN s q]; exact h.1 _, fun q hq => by rw [← pad_castLE hN s q]; exact h.2 _ hq⟩
  · refine fun h => ⟨fun q => ?_, fun q hq => ?_⟩
    · unfold pad; split
      · exact h.1 _
      · exact bot_le
    · have hq' : q.val < n := lt_trans hq j.isLt
      unfold pad; rw [dif_pos hq']; exact h.2 ⟨q.val, hq'⟩ hq

omit hN

/-! ### The accelerator's search: the smallest lane among those that hold the largest entry -/

theorem fold_minsi {ι : Type} [DecidableEq ι] (S : Finset ι) (b : BitVec 32) (f : ι → BitVec 32) :
    (S.fold IntOp.minsi b f).toInt = S.fold min b.toInt fun i => (f i).toInt := by
  refine (Finset.fold_hom (m := BitVec.toInt) fun x y => ?_).symm
  unfold IntOp.minsi
  by_cases h : x.slt y
  · rw [if_pos h]; rw [BitVec.slt_eq_decide, decide_eq_true_eq] at h; omega
  · rw [if_neg h]; rw [BitVec.slt_eq_decide, decide_eq_true_eq] at h; omega

theorem fold_first (hm : m < 2 ^ 30) (s : Fin m → EReal) (j : Fin m) (hj : IsFirst s j) :
    (Finset.univ.fold IntOp.minsi (2147483647#32) fun q : Fin m => if s q = top s then BitVec.ofNat 32 q.val else BitVec.ofNat 32 m)
      = BitVec.ofNat 32 j.val := by
  have hj' := j.isLt
  have hjj : (BitVec.ofNat 32 j.val).toInt = j.val := ofNat_toInt (by omega)
  refine BitVec.eq_of_toInt_eq ?_
  rw [fold_minsi, hjj]
  have e : ∀ q : Fin m, (if s q = top s then BitVec.ofNat 32 q.val else BitVec.ofNat 32 m).toInt = if s q = top s then (q.val : ℤ) else m := by
    intro q; have := q.isLt
    split
    · exact ofNat_toInt (by omega)
    · exact ofNat_toInt (by omega)
  have hb : (2147483647#32).toInt = 2147483647 := by decide
  simp only [e, hb]
  refine le_antisymm ((Finset.fold_min_le _).2 (.inr ⟨j, Finset.mem_univ _, by rw [if_pos hj.top_eq.symm]⟩))
    ((Finset.le_fold_min _).2 ⟨by omega, fun q _ => ?_⟩)
  split
  · next h =>
    by_contra hlt
    have : q < j := by rw [Fin.lt_def]; omega
    exact absurd (hj.2 q this) (by rw [h, hj.top_eq]; exact lt_irrefl _)
  · omega

/-- The lane number where the entry is the row's largest, the number of lanes elsewhere. -/
theorem lane_of_top (x : FVec Ideal ⟨2, ![n, m]⟩ .f32) (h : (⟨2, ![n, m]⟩ : Shape).Reduces [1] ⟨1, ![n]⟩) (hφ h₁)
    (hs : (⟨1, ![n]⟩ : Shape).ShapeCasts ⟨2, ![n, 1]⟩) (hb : (⟨2, ![n, 1]⟩ : Shape).Broadcasts ⟨2, ![n, m]⟩) (hi) (i : Fin n) (q : Fin m) :
    select (cmpf .oeq x (broadcastTo ⟨2, ![n, m]⟩ (shapeCast ⟨2, ![n, 1]⟩
          (multiReduction .maximumf [1] ⟨1, ![n]⟩ x 0xFF800000#32 h hφ h₁) hs) hb))
          (iota .tc ⟨2, ![n, m]⟩ 32 [1] hi) (broadcast ⟨2, ![n, m]⟩ (BitVec.ofNat 32 m)) (ix2 i q)
      = if mat n m x i q = top (mat n m x i) then BitVec.ofNat 32 q.val else BitVec.ofNat 32 m := by
  show Scalar.select (Ideal.cmp .oeq (mat n m x i q) (mat n m (broadcastTo ⟨2, ![n, m]⟩ _ hb) i q))
    (mat n m (iota .tc ⟨2, ![n, m]⟩ 32 [1] hi) i q) (BitVec.ofNat 32 m) = _
  rw [mat_repeatCol, vec_rowTop, mat_lanes]
  by_cases hq : mat n m x i q = top (mat n m x i)
  · rw [if_pos hq]; simp [Ideal.cmp, hq, Scalar.select]
  · rw [if_neg hq]; simp [Ideal.cmp, hq, Scalar.select]

/-- The one-hot row as the accelerator takes it from the rows `x`. -/
theorem mat_hot [NeZero m] (x : FVec Ideal ⟨2, ![n, m]⟩ .f32) (hm : m < 2 ^ 30) (h : (⟨2, ![n, m]⟩ : Shape).Reduces [1] ⟨1, ![n]⟩) (hφ h₁ h₂)
    (hs : (⟨1, ![n]⟩ : Shape).ShapeCasts ⟨2, ![n, 1]⟩) (hb : (⟨2, ![n, 1]⟩ : Shape).Broadcasts ⟨2, ![n, m]⟩) (hi) (hw) (i : Fin n) (j : Fin m) :
    mat n m (sitofp (F := Ideal) .f32 (extui 32 (cmpi .eq (iota .tc ⟨2, ![n, m]⟩ 32 [1] hi)
      (broadcastTo ⟨2, ![n, m]⟩ (shapeCast ⟨2, ![n, 1]⟩ (multiReductionI .minsi [1] ⟨1, ![n]⟩
        (select (cmpf .oeq x (broadcastTo ⟨2, ![n, m]⟩ (shapeCast ⟨2, ![n, 1]⟩
          (multiReduction .maximumf [1] ⟨1, ![n]⟩ x 0xFF800000#32 h hφ h₁) hs) hb))
          (iota .tc ⟨2, ![n, m]⟩ 32 [1] hi) (broadcast ⟨2, ![n, m]⟩ (BitVec.ofNat 32 m))) 2147483647#32 h h₂) hs) hb)) hw)) i j
      = hot (mat n m x i) j := by
  have hj' := j.isLt
  refine (eq_word _ _).trans ?_
  show one (mat n m (iota .tc ⟨2, ![n, m]⟩ 32 [1] hi) i j = mat n m (broadcastTo ⟨2, ![n, m]⟩ _ hb) i j) = _
  rw [mat_lanes, mat_repeatCol]
  obtain ⟨a, ha⟩ := IsFirst.exists (mat n m x i)
  have ha' := a.isLt
  have e : vec n (multiReductionI .minsi [1] ⟨1, ![n]⟩
        (select (cmpf .oeq x (broadcastTo ⟨2, ![n, m]⟩ (shapeCast ⟨2, ![n, 1]⟩
          (multiReduction .maximumf [1] ⟨1, ![n]⟩ x 0xFF800000#32 h hφ h₁) hs) hb))
          (iota .tc ⟨2, ![n, m]⟩ 32 [1] hi) (broadcast ⟨2, ![n, m]⟩ (BitVec.ofNat 32 m))) 2147483647#32 h h₂) i = BitVec.ofNat 32 a.val := by
    refine (multiReductionI_eq_fold .minsi _ _ h h₂ (ix1 i)).trans ((h.fold_filter_drop_single _ _ _ _).trans ?_)
    rw [← fold_first hm _ a ha]
    refine Finset.fold_congr fun q _ => ?_
    have hl : h.lift (ix1 i) q = ix2 i q := funext fun b => Fin.ext (by match b with | ⟨0, _⟩ => rfl | ⟨1, _⟩ => rfl)
    exact (congrArg _ hl).trans (lane_of_top x h hφ h₁ hs hb hi i q)
  rw [e]
  unfold hot one
  refine if_congr ((ofNat_inj (by omega) (by omega)).trans ⟨fun h => ?_, fun h => ?_⟩) rfl rfl
  · rw [show j = a from Fin.ext h]; exact ha
  · rw [IsFirst.unique h ha]

/-! ### The host's search: a pair of value and position, the larger value and then the smaller position -/

abbrev pick : EReal × BitVec 32 → EReal × BitVec 32 → EReal × BitVec 32 := ReferenceIdeal.reducer_argmax_f32_i32 (F := Ideal)

/-- `q` is no better than `p`. -/
def Worse (q p : EReal × BitVec 32) : Prop := q.1 < p.1 ∨ q.1 = p.1 ∧ p.2.toInt ≤ q.2.toInt

theorem Worse.trans {a b c : EReal × BitVec 32} (h : Worse a b) (h' : Worse b c) : Worse a c := by
  rcases h with h | h <;> rcases h' with h' | h'
  · exact .inl (h.trans h')
  · exact .inl (h'.1 ▸ h)
  · exact .inl (h.1 ▸ h')
  · exact .inr ⟨h.1.trans h'.1, h'.2.trans h.2⟩

theorem pick_spec (a b : EReal × BitVec 32) : (pick a b = a ∨ pick a b = b) ∧ Worse a (pick a b) ∧ Worse b (pick a b) := by
  obtain ⟨a, i⟩ := a
  obtain ⟨b, j⟩ := b
  have key : pick (a, i) (b, j) = if b < a then (a, i) else if a = b ∧ i.toInt < j.toInt then (b, i) else (b, j) := by
    show ((Scalar.select (IntOp.ori (Ideal.cmp .ogt a b) (Ideal.cmp .une a a)) a b, _) : EReal × BitVec 32) = _
    simp only [Ideal.cmp, IntOp.ori, IntOp.andi, IntOp.cmpi, Scalar.select, BitVec.slt_eq_decide, FloatOps.cmpf]
    by_cases h1 : b < a <;> by_cases h2 : a = b <;> by_cases h3 : i.toInt < j.toInt <;> simp [h1, h2, h3]
  rw [key]
  rcases lt_trichotomy b a with h | h | h
  · rw [if_pos h]; exact ⟨.inl rfl, .inr ⟨rfl, le_rfl⟩, .inl h⟩
  · subst h
    rw [if_neg (lt_irrefl _)]
    by_cases h3 : i.toInt < j.toInt
    · rw [if_pos ⟨rfl, h3⟩]; exact ⟨.inl rfl, .inr ⟨rfl, le_rfl⟩, .inr ⟨rfl, h3.le⟩⟩
    · rw [if_neg fun h => h3 h.2]; exact ⟨.inr rfl, .inr ⟨rfl, not_lt.1 h3⟩, .inr ⟨rfl, le_rfl⟩⟩
  · rw [if_neg (not_lt.2 h.le), if_neg fun h' => h.ne h'.1]
    exact ⟨.inr rfl, .inl h, .inr ⟨rfl, le_rfl⟩⟩

theorem foldl_pick (L : List (EReal × BitVec 32)) : ∀ b, (L.foldl pick b = b ∨ L.foldl pick b ∈ L) ∧ Worse b (L.foldl pick b) ∧ ∀ p ∈ L, Worse p (L.foldl pick b) := by
  induction L with
  | nil => exact fun b => ⟨.inl rfl, .inr ⟨rfl, le_rfl⟩, fun p hp => absurd hp (by simp)⟩
  | cons p L ih =>
    intro b
    obtain ⟨h1, h2, h3⟩ := ih (pick b p)
    obtain ⟨g1, g2, g3⟩ := pick_spec b p
    refine ⟨?_, g2.trans h2, fun q hq => ?_⟩
    · rcases h1 with h | h
      · rcases g1 with g | g
        · exact .inl (h.trans g)
        · exact .inr (by rw [List.foldl_cons, h, g]; simp)
      · exact .inr (List.mem_cons_of_mem _ h)
    · rcases List.mem_cons.1 hq with rfl | hq
      · exact g3.trans h2
      · exact h3 q hq

/-- The position the host's search returns for a row. -/
theorem argmax_at [NeZero m] (hm : m < 2 ^ 30) (x : FVec Ideal ⟨2, ![n, m]⟩ .f32) (h : (⟨2, ![n, m]⟩ : Shape).ReducesTo [1] ⟨1, ![n]⟩)
    (h' : (⟨2, ![n, m]⟩ : Shape).Reduces [1] ⟨1, ![n]⟩) (hu : 0 < (⟨0, ![]⟩ : Shape).numel) (i : Fin n) (j : Fin m) (hj : IsFirst (mat n m x i) j) :
    (Host.argReduce (F := Ideal) (φ := .f32) pick x (iotaInDim ⟨2, ![n, m]⟩ 32 1) (constant (F := Ideal) ⟨0, ![]⟩ .f32 0xFF800000#32) (constantI ⟨0, ![]⟩ 32 0#32) h hu (ix1 i)).2
      = BitVec.ofNat 32 j.val := by
  rw [Ideal.argReduce_eq_reduce2, Host.reduce2_eq_foldl_fiber]
  have hj' := j.isLt
  have mem : ∀ p, p ∈ Host.argReduceFiber x (iotaInDim ⟨2, ![n, m]⟩ 32 1) h (ix1 i) ↔ ∃ q : Fin m, p = (mat n m x i q, BitVec.ofNat 32 q.val) := by
    intro p
    unfold Host.argReduceFiber
    rw [List.mem_map]
    constructor
    · rintro ⟨a, ha, rfl⟩
      have hd := (List.mem_filter.1 ha).2
      rw [decide_eq_true_eq, Shape.ReducesTo.drop_eq_drop h h'] at hd
      set b := (⟨2, ![n, m]⟩ : Shape).rowMajor.symm a with hb
      have h0 : b 0 = i := Fin.ext (congrArg Fin.val (congrFun hd 0))
      have : b = ix2 i (b 1) := (eq_ix2 b).trans (congrArg (fun c => ix2 c (b 1)) h0)
      exact ⟨b 1, by rw [Prod.mk.injEq]; exact ⟨congrArg x this, rfl⟩⟩
    · rintro ⟨q, rfl⟩
      refine ⟨(⟨2, ![n, m]⟩ : Shape).rowMajor (ix2 i q), List.mem_filter.2 ⟨List.mem_finRange _, ?_⟩, ?_⟩
      · rw [decide_eq_true_eq, Shape.ReducesTo.drop_eq_drop h h', Equiv.symm_apply_apply]
        have hl : h'.lift (ix1 i) q = ix2 i q := funext fun b => Fin.ext (by match b with | ⟨0, _⟩ => rfl | ⟨1, _⟩ => rfl)
        rw [← hl]; exact h'.drop_lift _ _
      · rw [Equiv.symm_apply_apply]; rfl
  obtain ⟨h1, h2, h3⟩ := foldl_pick (Host.argReduceFiber x (iotaInDim ⟨2, ![n, m]⟩ 32 1) h (ix1 i)) (⊥, 0#32)
  have start : ((constant (F := Ideal) ⟨0, ![]⟩ .f32 0xFF800000#32 (Shape.Idx.first hu), constantI ⟨0, ![]⟩ 32 0#32 (Shape.Idx.first hu)) : EReal × BitVec 32)
      = (⊥, 0#32) := by
    rw [Prod.mk.injEq]; exact ⟨bits_bot, rfl⟩
  show (List.foldl pick ((constant (F := Ideal) ⟨0, ![]⟩ .f32 0xFF800000#32 (Shape.Idx.first hu), constantI ⟨0, ![]⟩ 32 0#32 (Shape.Idx.first hu)) : EReal × BitVec 32)
    (Host.argReduceFiber x (iotaInDim ⟨2, ![n, m]⟩ 32 1) h (ix1 i))).2 = _
  rw [start]
  set r := List.foldl pick (⊥, 0#32) (Host.argReduceFiber x (iotaInDim ⟨2, ![n, m]⟩ 32 1) h (ix1 i))
  have hall : ∀ q : Fin m, Worse (mat n m x i q, BitVec.ofNat 32 q.val) r := fun q => h3 _ ((mem _).2 ⟨q, rfl⟩)
  have hr : ∃ q : Fin m, r = (mat n m x i q, BitVec.ofNat 32 q.val) := by
    rcases h1 with h1 | h1
    · have h0 := hall 0
      rw [h1] at h0 ⊢
      refine ⟨0, ?_⟩
      rcases h0 with h0 | h0
      · exact absurd h0 not_lt_bot
      · rw [Prod.mk.injEq]; exact ⟨h0.1.symm, rfl⟩
    · exact (mem _).1 h1
  obtain ⟨q, hq⟩ := hr
  have hq' := q.isLt
  rw [hq] at hall ⊢
  have hfirst : IsFirst (mat n m x i) q := by
    refine ⟨fun p => ?_, fun p hp => ?_⟩
    · rcases hall p with g | g
      · exact g.le
      · exact g.1.le
    · rcases hall p with g | g
      · exact g
      · have g2 := g.2
        have := p.isLt
        rw [ofNat_toInt (by omega), ofNat_toInt (by omega)] at g2
        rw [Fin.lt_def] at hp; omega
  rw [hfirst.unique hj]

end Cert.At
-- ==== Proof.Algebra.Kernel.lean ====
/- Groups of the accelerator's operations as the network's layers. -/
module

public import proofs.«01_k».proof.Proof.Algebra.First

@[expose] public section

noncomputable section

namespace Cert.At

open Idealize.ShloMosaic Idealize.ShloMosaic.ValueIdx
open scoped BigOperators

variable {n m k : ℕ}

theorem mat_kDense {φ₁ φ₂ : FTy} (a : FVec Ideal ⟨2, ![n, k]⟩ φ₁) (b : FVec Ideal ⟨2, ![k, m]⟩ φ₂) (v : FVec Ideal ⟨2, ![1, m]⟩ .f32)
    (hs : (⟨2, ![1, m]⟩ : Shape).ShapeCasts ⟨2, ![1, m]⟩) (h) :
    mat n m (addf (matmul (DotDims.plain n k m) none a b (constant ⟨2, ![n, m]⟩ .f32 0x00000000#32))
      (broadcastTo ⟨2, ![n, m]⟩ (shapeCast ⟨2, ![1, m]⟩ v hs) h) : FVec Ideal ⟨2, ![n, m]⟩ .f32)
      = dense (mat n k a) (mat k m b) (mat 1 m v 0) := by
  funext i j
  rw [shapeCast_self]
  exact congrArg₂ (· + ·) (congrFun (congrFun (mat_matmul a b) i) j) (mat_repeatRow v h i j)

theorem mat_kRelu (a : FVec Ideal ⟨2, ![n, m]⟩ .f32) :
    mat n m (maximumf a (broadcast ⟨2, ![n, m]⟩ (Scalar.ofBits (F := Ideal) .f32 0x00000000#32))) = relu (mat n m a) := by
  funext i j
  exact congrArg (max (mat n m a i j)) bits_zero

/-- The router's rows, the lanes past the first `p` at the bottom of the order. -/
theorem mat_kPad (p : ℕ) (hp : p < 2 ^ 31) (hm : m < 2 ^ 31) (hpm : p ≤ m) (h) (x : FVec Ideal ⟨2, ![n, m]⟩ .f32) (i : Fin n) :
    mat n m (select (cmpi .slt (iota .tc ⟨2, ![n, m]⟩ 32 [1] h) (broadcast ⟨2, ![n, m]⟩ (BitVec.ofNat 32 p))) x
      (broadcast ⟨2, ![n, m]⟩ ((⊥ : EReal) : Ideal .f32))) i = pad m fun j : Fin p => mat n m x i (j.castLE hpm) := by
  funext j
  rw [mat_below p hp hm]
  unfold pad
  split <;> rfl

/-- The lanes below `p`. -/
theorem mat_kBelow (p : ℕ) (hp : p < 2 ^ 31) (hm : m < 2 ^ 31) (h) (h') (i : Fin n) (j : Fin m) :
    mat n m (sitofp (F := Ideal) .f32 (extui 32 (cmpi .slt (iota .tc ⟨2, ![n, m]⟩ 32 [1] h) (broadcast ⟨2, ![n, m]⟩ (BitVec.ofNat 32 p))) h')) i j
      = one (j.val < p) := by
  show (((((IntOp.cmpi .slt (mat n m (iota .tc ⟨2, ![n, m]⟩ 32 [1] h) i j) (BitVec.ofNat 32 p)).setWidth 32).toInt : ℝ)) : EReal) = _
  rw [mat_lanes]
  have e : (BitVec.ofNat 32 j.val).slt (BitVec.ofNat 32 p) = decide (j.val < p) := by
    rw [BitVec.slt_eq_decide, ofNat_toInt (by have := j.isLt; omega), ofNat_toInt hp]; simp
  unfold one
  by_cases hj : j.val < p
  · rw [if_pos hj]
    have : IntOp.cmpi .slt (BitVec.ofNat 32 j.val) (BitVec.ofNat 32 p) = 1#1 := by simp [IntOp.cmpi, e, hj]
    rw [this]; norm_num
  · rw [if_neg hj]
    have : IntOp.cmpi .slt (BitVec.ofNat 32 j.val) (BitVec.ofNat 32 p) = 0#1 := by simp [IntOp.cmpi, e, hj]
    rw [this]; norm_num

/-- The warm-up switch as a number. -/
def switch (w : BitVec 1) : EReal := ((w.toNat : ℝ) : EReal)

theorem switch_one : switch 1#1 = 1 := by unfold switch; norm_num
theorem switch_zero {w : BitVec 1} (h : ¬ w = 1#1) : switch w = 0 := by
  have : w = 0#1 := by revert h; revert w; decide
  subst this; unfold switch; norm_num

theorem switch_mix (w : BitVec 1) (s : Fin n → EReal) (j : Fin n) : switch w * 1 + (1 - switch w) * hot s j = route w s j := by
  unfold route
  by_cases h : w = 1#1
  · rw [if_pos h, h, switch_one, one_mul]
    have : (1 : EReal) - 1 = 0 := EReal.sub_self (EReal.coe_ne_top 1) (EReal.coe_ne_bot 1)
    rw [this, zero_mul, add_zero]
  · rw [if_neg h, switch_zero h, zero_mul, zero_add, sub_zero, one_mul]

/-- A lane of every row, repeated along the columns. -/
theorem mat_kPick {w : ℕ} (p : Fin w) (hp : p.val < 2 ^ 31) (hw : w < 2 ^ 31) (x : FVec Ideal ⟨2, ![n, w]⟩ .f32) (h) (h') (hr : (⟨2, ![n, w]⟩ : Shape).Reduces [1] ⟨1, ![n]⟩) (hφ hacc)
    (hs : (⟨1, ![n]⟩ : Shape).ShapeCasts ⟨2, ![n, 1]⟩) (hb : (⟨2, ![n, 1]⟩ : Shape).Broadcasts ⟨2, ![n, m]⟩) (i : Fin n) (j : Fin m) :
    mat n m (broadcastTo ⟨2, ![n, m]⟩ (shapeCast ⟨2, ![n, 1]⟩ (multiReduction .add [1] ⟨1, ![n]⟩
      (mulf x (sitofp (F := Ideal) .f32 (extui 32 (cmpi .eq (iota .tc ⟨2, ![n, w]⟩ 32 [1] h) (broadcast ⟨2, ![n, w]⟩ (BitVec.ofNat 32 p.val))) h')))
      0x00000000#32 hr hφ hacc) hs) hb) i j = mat n w x i p := by
  rw [mat_repeatCol, vec_rowSum]
  refine Eq.trans (Finset.sum_congr rfl fun q _ => ?_) (sum_pick (mat n w x i) p)
  exact congrArg (mat n w x i q * ·) (mat_isLane p.val hp hw h h' i q)

/-- One entry of a row by its lane. -/
theorem total_pick (p : Fin m) (hp : p.val < 2 ^ 31) (hm : m < 2 ^ 31) (x : FVec Ideal ⟨2, ![1, m]⟩ .f32) (h) (h') (hs : (⟨2, ![1, m]⟩ : Shape).ShapeCasts ⟨3, ![1, 1, m]⟩)
    (hr : (⟨3, ![1, 1, m]⟩ : Shape).Reduces [1, 2] ⟨1, ![1]⟩) (hφ) (hacc) (hs' : (⟨1, ![1]⟩ : Shape).ShapeCasts ⟨3, ![1, 1, 1]⟩) (hq) :
    extractAt ![0, 0, 0] (shapeCast ⟨3, ![1, 1, 1]⟩ (multiReduction .add [1, 2] ⟨1, ![1]⟩ (shapeCast ⟨3, ![1, 1, m]⟩
      (mulf x (sitofp (F := Ideal) .f32 (extui 32 (cmpi .eq (iota .tc ⟨2, ![1, m]⟩ 32 [1] h) (broadcast ⟨2, ![1, m]⟩ (BitVec.ofNat 32 p.val))) h')))
      hs) 0x00000000#32 hr hφ hacc) hs') hq = mat 1 m x 0 p := by
  rw [total, Fin.sum_univ_one]
  refine Eq.trans (Finset.sum_congr rfl fun q _ => ?_) (sum_pick (mat 1 m x 0) p)
  exact congrArg (mat 1 m x 0 q * ·) (mat_isLane p.val hp hm h h' 0 q)

end Cert.At
-- ==== Proof.KernelIdealWork.Payload.lean ====
/- The second launch's formulas as the network's layers. -/
module

public import proofs.«01_k».proof.Proof.KernelIdealWork.Bufs
public import proofs.«01_k».proof.Proof.Algebra.Kernel

@[expose] public section

set_option maxHeartbeats 1000000

noncomputable section

namespace Cert.KernelIdeal.Work

open Idealize.ShloMosaic Idealize.ShloMosaic.TcCoe Idealize.ShloMosaic.ValueIdx
open Cert.KernelIdeal Cert.KernelIdeal.Gen Cert.At
open scoped BigOperators

theorem mask_eq : (Named.named (F := Ideal) κ "mask" (φ := .f32) 0xF149F2CA#32 : EReal) = ⊥ := by
  show (κ "mask").getD _ = ⊥
  rfl

theorem k0_pay1_at (w : Vec Ideal S3072x512 .f32) (x : Vec Ideal S1024x3072 .bf16) (b : Vec Ideal S1x512 .f32) :
    mat 1024 512 (k0_pay1 w x b) = relu (dense (mat 1024 3072 x) (mat 3072 512 w) (mat 1 512 b 0)) := by
  refine (mat_kRelu (n := 1024) (m := 512) _).trans (congrArg relu ((mat_kDense (n := 1024) (k := 3072) (m := 512) _ _ b _ _).trans ?_))
  rw [shapeCast_self]; rfl

theorem pay3_at (x0 : Vec Ideal S1024x2048 .bf16) (x3 : Vec Ideal S2048x128 .f32) (x4 : Vec Ideal S1x128 .f32) (x5 : Vec Ideal S128x8 .f32) (x6 : Vec Ideal S1x8 .f32) :
    mat 1024 8 (k1_pay3 x0 x3 x4 x5 x6)
      = dense (relu (dense (mat 1024 2048 x0) (mat 2048 128 x3) (mat 1 128 x4 0))) (mat 128 8 x5) (mat 1 8 x6 0) := by
  refine (mat_kDense (n := 1024) (k := 128) (m := 8) _ _ x6 _ _).trans ?_
  refine congrArg₂ (fun a w => dense a w (mat 1 8 x6 0)) ?_ (congrArg (mat 128 8) (shapeCast_self x5 _))
  refine (mat_kRelu (n := 1024) (m := 128) _).trans (congrArg relu ((mat_kDense (n := 1024) (k := 2048) (m := 128) _ _ x4 _ _).trans ?_))
  rw [shapeCast_self]; rfl

theorem pay10_at (s1 : Vec Ideal S1024x1024 .f32) (x7 : Vec Ideal S1024x128 .f32) (x8 : Vec Ideal S1x128 .f32) (x9 : Vec Ideal S128x8 .f32) (x10 : Vec Ideal S1x8 .f32) :
    mat 1024 8 (k1_pay10 s1 x7 x8 x9 x10)
      = dense (relu (dense (mat 1024 1024 s1) (mat 1024 128 x7) (mat 1 128 x8 0))) (mat 128 8 x9) (mat 1 8 x10 0) := by
  refine (mat_kDense (n := 1024) (k := 128) (m := 8) _ _ x10 _ _).trans ?_
  refine congrArg₂ (fun a w => dense a w (mat 1 8 x10 0)) ?_ (congrArg (mat 128 8) (shapeCast_self x9 _))
  exact (mat_kRelu (n := 1024) (m := 128) _).trans (congrArg relu (mat_kDense (n := 1024) (k := 1024) (m := 128) _ _ x8 _ _))

theorem pay4_at (t : EReal) (x0 : Vec Ideal S1024x2048 .bf16) (x3 : Vec Ideal S2048x128 .f32) (x4 : Vec Ideal S1x128 .f32) (x5 : Vec Ideal S128x8 .f32) (x6 : Vec Ideal S1x8 .f32)
    (i : Fin 1024) (j : Fin 2) :
    mat 1024 8 (k1_pay4 (F := Ideal) t x0 x3 x4 x5 x6) i (j.castLE (by decide))
      = softmax (fun q : Fin 2 => Ideal.div (mat 1024 8 (k1_pay3 x0 x3 x4 x5 x6) i (q.castLE (by decide))) t) j := by
  refine (congrFun (congrFun (mat_softmax (n := 1024) (m := 8) _ _ _ _ _ _ _ _) i) _).trans ?_
  rw [mask_eq]
  rw [mat_kPad 2 (by decide) (by decide) (by decide)]
  exact softmax_pad _ _ _

theorem pay11_at (t : EReal) (s1 : Vec Ideal S1024x1024 .f32) (x7 : Vec Ideal S1024x128 .f32) (x8 : Vec Ideal S1x128 .f32) (x9 : Vec Ideal S128x8 .f32) (x10 : Vec Ideal S1x8 .f32)
    (i : Fin 1024) (j : Fin 4) :
    mat 1024 8 (k1_pay11 (F := Ideal) t s1 x7 x8 x9 x10) i (j.castLE (by decide))
      = softmax (fun q : Fin 4 => Ideal.div (mat 1024 8 (k1_pay10 s1 x7 x8 x9 x10) i (q.castLE (by decide))) t) j := by
  refine (congrFun (congrFun (mat_softmax (n := 1024) (m := 8) _ _ _ _ _ _ _ _) i) _).trans ?_
  rw [mask_eq]
  rw [mat_kPad 4 (by decide) (by decide) (by decide)]
  exact softmax_pad _ _ _

theorem hot_pad {n N : ℕ} (h : n ≤ N) (s : Fin n → EReal) (j : Fin n) : hot (pad N s) (j.castLE h) = hot s j := by
  unfold hot one
  by_cases e : IsFirst s j
  · rw [if_pos e, if_pos ((isFirst_pad h s j).2 e)]
  · rw [if_neg e, if_neg fun e' => e ((isFirst_pad h s j).1 e')]

theorem pay8_at (w : BitVec 1) (x : FVec Ideal S1024x8 .f32) (i : Fin 1024) (j : Fin 2) :
    mat 1024 8 (k1_pay8 (F := Ideal) (switch w) x) i (j.castLE (by decide)) = route w (fun q : Fin 2 => mat 1024 8 x i (q.castLE (by decide))) j := by
  refine Eq.trans ?_ (switch_mix w _ j)
  refine congrArg₂ (· + ·) (congrArg (switch w * ·) ((mat_kBelow (n := 1024) (m := 8) 2 (by decide) (by decide) _ _ i _).trans (if_pos j.isLt)))
    (congrArg₂ (· * ·) (congrArg (· - switch w) bits_one) ((mat_hot (n := 1024) (m := 8) _ (by decide) _ _ _ _ _ _ _ _ i _).trans ?_))
  rw [mask_eq, mat_kPad 2 (by decide) (by decide) (by decide)]
  exact hot_pad _ _ _

theorem pay15_at (w : BitVec 1) (x : FVec Ideal S1024x8 .f32) (i : Fin 1024) (j : Fin 4) :
    mat 1024 8 (k1_pay15 (F := Ideal) (switch w) x) i (j.castLE (by decide)) = route w (fun q : Fin 4 => mat 1024 8 x i (q.castLE (by decide))) j := by
  refine Eq.trans ?_ (switch_mix w _ j)
  refine congrArg₂ (· + ·) (congrArg (switch w * ·) ((mat_kBelow (n := 1024) (m := 8) 4 (by decide) (by decide) _ _ i _).trans (if_pos j.isLt)))
    (congrArg₂ (· * ·) (congrArg (· - switch w) bits_one) ((mat_hot (n := 1024) (m := 8) _ (by decide) _ _ _ _ _ _ _ _ i _).trans ?_))
  rw [mask_eq, mat_kPad 4 (by decide) (by decide) (by decide)]
  exact hot_pad _ _ _

theorem pay33_at (x : Vec Ideal S1x2 .f32) : (k1_pay33 (F := Ideal) x : EReal) = mat 1 2 x 0 0 := by
  refine (total_pick (m := 2) 0 (by decide) (by decide) _ _ _ _ _ _ _ _ _).trans ?_
  rw [shapeCast_self]
theorem pay34_at (x : Vec Ideal S1x2 .f32) : (k1_pay34 (F := Ideal) x : EReal) = mat 1 2 x 0 1 := by
  refine (total_pick (m := 2) 1 (by decide) (by decide) _ _ _ _ _ _ _ _ _).trans ?_
  rw [shapeCast_self]

theorem pay16_at (s1 : Vec Ideal S1024x1024 .f32) (x11 : Vec Ideal S1024x512 .f32) (x12 : Vec Ideal S1x512 .f32) :
    mat 1024 512 (k1_pay16 s1 x11 x12) = dense (mat 1024 1024 s1) (mat 1024 512 x11) (mat 1 512 x12 0) := by
  refine (mat_kDense (n := 1024) (k := 1024) (m := 512) _ _ x12 _ _).trans ?_
  rw [shapeCast_self]; rfl

/-- The routed sum of the four classifiers. -/
theorem pay18_at (s1 : Vec Ideal S1024x1024 .f32) (r : FVec Ideal S1024x8 .f32) (x11 : Vec Ideal S1024x512 .f32) (x12 : Vec Ideal S1x512 .f32) (i : Fin 1024) (j : Fin 128) :
    mat 1024 128 (k1_pay18 r (k1_pay16 s1 x11 x12) (k1_pay17 s1 r x11 x12) Bufs.lanes8) i j
      = ∑ p : Fin 4, mat 1024 8 r i (p.castLE (by decide)) * mat 1024 512 (k1_pay16 s1 x11 x12) i ⟨128 * p.val + j.val, by omega⟩ := by
  rw [Fin.sum_univ_four]
  have pick := fun (p : Fin 8) => mat_kPick (n := 1024) (w := 8) (m := 128) p (by omega) (by decide) r iota_S1024x8_d1_w32 natLt_1_32 reduces_S1024x8_S1024 (.inl rfl) rfl
    shapeCasts_S1024_S1024x1 broadcasts_S1024x1_S1024x128 i j
  have part := fun (o : ℕ) h (q : Fin 512) hq => mat_slice (n := 1024) (m := 128) (w := 512) o (k1_pay16 s1 x11 x12) h i j q hq
  refine congrArg₂ (· + ·) (congrArg₂ (· + ·) (congrArg₂ (· + ·) ?_ ?_) ?_) ?_
  · exact (congrArg₂ (· + ·) bits_zero (congrArg₂ (· * ·) (pick 0) (part 0 _ ⟨0 + j.val, by omega⟩ rfl))).trans (zero_add _)
  · exact congrArg₂ (· * ·) (pick 1) (part 128 _ ⟨128 + j.val, by omega⟩ rfl)
  · exact congrArg₂ (· * ·) (pick 2) (part 256 _ ⟨256 + j.val, by omega⟩ rfl)
  · exact congrArg₂ (· * ·) (pick 3) (part 384 _ ⟨384 + j.val, by omega⟩ rfl)

theorem pay24_at (r : FVec Ideal S1024x8 .f32) (lp : FVec Ideal S1024x512 .f32) (v : FVec Ideal S1024x128 .f32) (u : IVec S1024x8 32) (i : Fin 1024) (j : Fin 10) :
    mat 1024 128 (k1_pay24 r lp v u) i (j.castLE (by decide)) = softmax (fun q : Fin 10 => mat 1024 128 (k1_pay18 r lp v u) i (q.castLE (by decide))) j := by
  refine (congrFun (congrFun (mat_softmax (n := 1024) (m := 128) (k1_pay19 r lp v u) _ _ _ _ _ _ _) i) _).trans ?_
  unfold k1_pay19
  rw [mask_eq]
  rw [mat_kPad 10 (by decide) (by decide) (by decide)]
  exact softmax_pad _ _ _

/-- A path's block of columns. -/
def block (x0 : Vec Ideal S1024x2048 .bf16) (x1 : Vec Ideal S1x2048x256 .f32) (x2 : Vec Ideal S1x1x256 .f32) : Fin 1024 → Fin 256 → EReal :=
  relu (dense (mat 1024 2048 x0) (fun q j => x1 (ix3 0 q j)) (fun j => x2 (ix3 0 0 j)))

theorem pay40_at (x0 : Vec Ideal S1024x2048 .bf16) (x1 : Vec Ideal S1x2048x256 .f32) (x2 : Vec Ideal S1x1x256 .f32) :
    mat 1024 256 (k1_pay40 (k1_pay38 x1 x0) (k1_pay39 x2)) = block x0 x1 x2 := by
  have e1 : mat 2048 256 (k1_pay37 x1) = fun q j => x1 (ix3 0 q j) := by
    funext q j
    exact shapeCast_apply x1 _ (ix2 q j) (ix3 0 q j) (by rw [Shape.rowMajor_val_two, Shape.rowMajor_val_three]; show (0 * 2048 + q.val) * 256 + j.val = q.val * 256 + j.val; omega)
  have e2 : mat 1 256 (k1_pay39 x2) 0 = fun j => x2 (ix3 0 0 j) := by
    funext j
    exact shapeCast_apply x2 _ (ix2 0 j) (ix3 0 0 j) (by rw [Shape.rowMajor_val_two, Shape.rowMajor_val_three]; show (0 * 1 + 0) * 256 + j.val = 0 * 256 + j.val; omega)
  refine (mat_kRelu (n := 1024) (m := 256) _).trans (congrArg relu ?_)
  rw [← e1, ← e2]
  funext i j
  refine congrArg₂ (· + ·) ((congrFun (congrFun (mat_matmul (n := 1024) (k := 2048) (m := 256) _ _) i) j).trans ?_) (mat_repeatRow (n := 1024) (m := 256) _ _ i j)
  rw [shapeCast_self]; rfl

theorem pay43_at (p : Fin 8) (x0 : Vec Ideal S1024x2048 .bf16) (x1 : Vec Ideal S1x2048x256 .f32) (x2 : Vec Ideal S1x1x256 .f32) (s : Vec Ideal S1024x8 .f32) (i : Fin 1024) (j : Fin 256) :
    mat 1024 256 (k1_pay43 (BitVec.ofNat 32 p.val) (k1_pay38 x1 x0) (k1_pay39 x2) s) i j = block x0 x1 x2 i j * mat 1024 8 s i p := by
  refine (congrArg (fun z => mat 1024 256 z i j) (shapeCast_self (mulf (k1_pay40 (k1_pay38 x1 x0) (k1_pay39 x2))
    (broadcastTo S1024x256 (k1_pay41 (BitVec.ofNat 32 p.val) s) broadcasts_S1024x1_S1024x256)) _)).trans ?_
  rw [← pay40_at]
  exact congrArg (mat 1024 256 (k1_pay40 (k1_pay38 x1 x0) (k1_pay39 x2)) i j * ·) (mat_kPick (n := 1024) (w := 8) (m := 256) p (by omega) (by decide) s _ _ _ _ _ _ _ i j)

theorem pay44_at (p : Fin 8) (x0 : Vec Ideal S1024x2048 .bf16) (x1 : Vec Ideal S1x2048x256 .f32) (x2 : Vec Ideal S1x1x256 .f32) (s : Vec Ideal S1024x8 .f32) (v : Vec Ideal S1024x256 .f32)
    (i : Fin 1024) (j : Fin 256) :
    mat 1024 256 (k1_pay44 (BitVec.ofNat 32 p.val) (k1_pay38 x1 x0) (k1_pay39 x2) s v) i j = mat 1024 256 v i j + block x0 x1 x2 i j * mat 1024 8 s i p := by
  refine (congrArg (fun z => mat 1024 256 z i j) (shapeCast_self (addf v (mulf (k1_pay40 (k1_pay38 x1 x0) (k1_pay39 x2))
    (broadcastTo S1024x256 (k1_pay41 (BitVec.ofNat 32 p.val) s) broadcasts_S1024x1_S1024x256))) _)).trans ?_
  rw [← pay40_at]
  exact congrArg (mat 1024 256 v i j + mat 1024 256 (k1_pay40 (k1_pay38 x1 x0) (k1_pay39 x2)) i j * ·) (mat_kPick (n := 1024) (w := 8) (m := 256) p (by omega) (by decide) s _ _ _ _ _ _ _ i j)

end Cert.KernelIdeal.Work
-- ==== Proof.KernelIdealWork.Arrays.lean ====
/- The two launches' blocks and result arrays at coordinates. -/
module

public import proofs.«01_k».proof.Proof.KernelIdealWork.RegionA
public import proofs.«01_k».proof.Proof.KernelIdealWork.RegionB
public import proofs.«01_k».proof.Proof.KernelIdealWork.Payload
public import Idealize.ShloMosaic.Lib.Pipeline.ValueKit.Geometry

@[expose] public section

set_option maxHeartbeats 1000000
set_option maxRecDepth 16384

noncomputable section

namespace Cert.KernelIdeal.Work

open Idealize.ShloMosaic
open Idealize.ShloMosaic.TcCoe Idealize.ShloMosaic.ValueIdx
open Idealize.ShloMosaic.Pipeline (Dat Cfg Window)
open Cert.KernelIdeal Cert.KernelIdeal.Gen Cert.At
open scoped BigOperators

variable (V : (c : Dev nD) → (b : Ref sig .tc) → Buf (Elt Ideal) ((c : Thread nD τ).loc b)) (c : Dev nD)

/-! ### The first launch: four blocks of columns of one dense layer -/

/-- The first launch's layer over what its arrays hold. -/
def shared : Fin 1024 → Fin 2048 → EReal :=
  relu (dense (mat 1024 3072 (V c main_v1)) (mat 3072 2048 (V c main_arg4)) (mat 1 2048 (V c main_v18) 0))

theorem col0 : ∀ t : Fin cfg0.N, win0_1.index t = ![0, t.val] ∧ win0_2.index t = ![0, t.val] ∧ win0_3.index t = ![0, t.val] ∧ win0_0.index t = ![0, 0] :=
  (by decide +kernel : ∀ t : Fin grid0.N, win0_1.index t = ![0, t.val] ∧ win0_2.index t = ![0, t.val] ∧ win0_3.index t = ![0, t.val] ∧ win0_0.index t = ![0, 0])

theorem blk0_0 (t : Fin cfg0.N) : iblk0 V c 0 t = V c main_v1 := by
  funext y
  unfold iblk0
  blk_simp
  exact congrArg (V c main_v1) (by blk_ext [(col0 t).2.2.2])

theorem blk0_1 (t : Fin cfg0.N) (q : Fin 3072) (j : Fin 512) (k : Fin 2048) (hk : k.val = t.val * 512 + j.val) :
    iblk0 V c 1 t (ix2 q j) = V c main_arg4 (ix2 q k) := by
  unfold iblk0
  blk_simp
  exact congrArg (V c main_arg4) (by blk_ext [(col0 t).1, hk])

theorem blk0_2 (t : Fin cfg0.N) (j : Fin 512) (k : Fin 2048) (hk : k.val = t.val * 512 + j.val) :
    iblk0 V c 2 t (ix2 0 j) = V c main_v18 (ix2 0 k) := by
  unfold iblk0
  blk_simp
  exact congrArg (V c main_v18) (by blk_ext [(col0 t).2.1, hk])

theorem final0_3 : (dat0 V c).arrAt 3 cfg0.N = fun i : S1024x2048.Idx => shared V c (i 0) (i 1) := by
  refine (dat0 V c).arrAt_eq_of_covers 3 _ (by decide +kernel) fun t hf y => ?_
  blk_simp
  rw [after0_3]
  obtain ⟨i, j, rfl⟩ : ∃ (i : Fin 1024) (j : Fin 512), y = ix2 i j := ⟨y 0, y 1, eq_ix2 y⟩
  have ht : t.val < 4 := Nat.lt_of_lt_of_eq t.isLt N_0
  have hj := j.isLt
  obtain ⟨k, hk⟩ : ∃ k : Fin 2048, k.val = t.val * 512 + j.val := ⟨⟨t.val * 512 + j.val, by omega⟩, rfl⟩
  have e0 : ((win0_3.blk t).view.emb (ix2 i j) 0 : Fin 1024) = i := Fin.ext (by blk_simp [(col0 t).2.2.1]; rfl)
  have e1 : ((win0_3.blk t).view.emb (ix2 i j) 1 : Fin 2048) = k := Fin.ext (by blk_simp [(col0 t).2.2.1]; exact hk.symm)
  refine Eq.trans ?_ (congrArg₂ (shared V c) e0 e1).symm
  refine (congrFun (congrFun (k0_pay1_at (iblk0 V c 1 t) (iblk0 V c 0 t) (iblk0 V c 2 t)) i) j).trans ?_
  rw [blk0_0]
  exact congrArg (max · 0) (congrArg₂ (· + ·) (Finset.sum_congr rfl fun q _ => congrArg (_ * ·) (blk0_1 V c t q j k hk)) (blk0_2 V c t j k hk))

/-! ### The second launch -/

theorem idx1 : ∀ t : Fin cfg1.N, win1_1.index t = ![t.val % 2, 0, t.val / 2] ∧ win1_2.index t = ![t.val % 2, 0, t.val / 2] :=
  (by decide +kernel : ∀ t : Fin grid1.N, win1_1.index t = ![t.val % 2, 0, t.val / 2] ∧ win1_2.index t = ![t.val % 2, 0, t.val / 2])

theorem blk1_1 (t : Fin cfg1.N) (q : Fin 2048) (j : Fin 256) (p : Fin 2) (hp : p.val = t.val % 2) (k : Fin 1024) (hk : k.val = t.val / 2 * 256 + j.val) :
    (ins V c t).x1 (ix3 0 q j) = V c main_arg10 (ix3 p q k) := by
  show iblk1 V c 1 t _ = _
  unfold iblk1
  blk_simp
  exact congrArg (V c main_arg10) (by blk_ext [(idx1 t).1, hk, hp])

theorem blk1_2 (t : Fin cfg1.N) (j : Fin 256) (p : Fin 2) (hp : p.val = t.val % 2) (k : Fin 1024) (hk : k.val = t.val / 2 * 256 + j.val) :
    (ins V c t).x2 (ix3 0 0 j) = V c main_v20 (ix3 p 0 k) := by
  show iblk1 V c 2 t _ = _
  unfold iblk1
  blk_simp
  exact congrArg (V c main_v20) (by blk_ext [(idx1 t).2, hk, hp])

theorem idxW : ∀ t : Fin cfg1.N, win1_0.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0] ∧ win1_13.index t = ![0, 0] ∧ win1_15.index t = ![0, 0] :=
  (by decide +kernel : ∀ t : Fin grid1.N, win1_0.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0] ∧ win1_13.index t = ![0, 0] ∧ win1_15.index t = ![0, 0])

/-- Every other input is carried whole. -/
theorem whole (t : Fin cfg1.N) :
    (ins V c t).x0 = V c main_v19_0 ∧ (ins V c t).x3 = V c main_arg6 ∧ (ins V c t).x4 = V c main_v21 ∧ (ins V c t).x5 = V c main_v7 ∧ (ins V c t).x6 = V c main_v9 ∧ (ins V c t).x7 = V c main_arg12 ∧ (ins V c t).x8 = V c main_v22 ∧ (ins V c t).x9 = V c main_v10 ∧ (ins V c t).x10 = V c main_v12 ∧ (ins V c t).x11 = V c main_v15 ∧ (ins V c t).x12 = V c main_v17 ∧ (ins V c t).x13 = V c main_v2 ∧ (ins V c t).x15 = V c main_v6 := by
  obtain ⟨h0, h3, h4, h5, h6, h7, h8, h9, h10, h11, h12, h13, h15⟩ := idxW t
  refine ⟨?_, ?_, ?_, ?_, ?_, ?_, ?_, ?_, ?_, ?_, ?_, ?_, ?_⟩ <;>
    (funext y
     dsimp only [ins, iblk1]
     blk_simp
     refine congrArg (V c _) ?_
     blk_ext [h0, h3, h4, h5, h6, h7, h8, h9, h10, h11, h12, h13, h15])

/-- What the second launch leaves in its result arrays. -/
theorem finals : (dat1 V c).arrAt 16 cfg1.N = (final V c).o16 ∧ (dat1 V c).arrAt 17 cfg1.N = (final V c).o17 ∧ (dat1 V c).arrAt 18 cfg1.N = (final V c).o18 ∧ (dat1 V c).arrAt 19 cfg1.N = (final V c).o19 ∧ (dat1 V c).arrAt 24 cfg1.N = (final V c).o24 ∧ (dat1 V c).arrAt 23 cfg1.N = (ins V c t1_0).opening.o23 := by
  refine ⟨(dat1 V c).arrAt_eq_of_after_last 16 t1_7 (by decide +kernel) _ fun y => ?_, (dat1 V c).arrAt_eq_of_after_last 17 t1_7 (by decide +kernel) _ fun y => ?_,
    (dat1 V c).arrAt_eq_of_after_last 18 t1_7 (by decide +kernel) _ fun y => ?_, (dat1 V c).arrAt_eq_of_after_last 19 t1_7 (by decide +kernel) _ fun y => ?_,
    (dat1 V c).arrAt_eq_of_after_last 24 t1_7 (by decide +kernel) _ fun y => ?_, (dat1 V c).arrAt_eq_of_after_last 23 t1_7 (by decide +kernel) _ fun y => ?_⟩
  · rw [after1_16]; rfl
  · rw [after1_17]; rfl
  · rw [after1_18]; rfl
  · rw [after1_19]; rfl
  · rw [after1_24]; rfl
  · rw [after1_23]; rfl

end Cert.KernelIdeal.Work
-- ==== Proof.Algebra.Model.lean ====
/- The network both programs compute, as functions of rows and columns of extended reals: two routed layers and a routed output layer. -/
module

public import proofs.«01_k».proof.Proof.Algebra.First

@[expose] public section

noncomputable section

namespace Cert.At

open Idealize.ShloMosaic
open scoped BigOperators

/-- The network's inputs. -/
structure Net where
  x : Fin 1024 → Fin 3072 → EReal
  temp : EReal
  warm : BitVec 1
  w0 : Fin 3072 → Fin 2048 → EReal
  b0 : Fin 2048 → EReal
  wh0 : Fin 2048 → Fin 128 → EReal
  bh0 : Fin 128 → EReal
  wr0 : Fin 128 → Fin 2 → EReal
  br0 : Fin 2 → EReal
  w1 : Fin 2 → Fin 2048 → Fin 1024 → EReal
  b1 : Fin 2 → Fin 1024 → EReal
  wh1 : Fin 1024 → Fin 128 → EReal
  bh1 : Fin 128 → EReal
  wr1 : Fin 128 → Fin 4 → EReal
  br1 : Fin 4 → EReal
  w2 : Fin 4 → Fin 1024 → Fin 10 → EReal
  b2 : Fin 4 → Fin 10 → EReal

namespace Net

variable (N : Net)

/-- The shared layer. -/
def f : Fin 1024 → Fin 2048 → EReal := relu (dense N.x N.w0 N.b0)
/-- The first router's activations. -/
def act0 : Fin 1024 → Fin 2 → EReal := dense (relu (dense N.f N.wh0 N.bh0)) N.wr0 N.br0
/-- The first router's probabilities. -/
def probs0 : Fin 1024 → Fin 2 → EReal := fun i => softmax fun j => Ideal.div (N.act0 i j) N.temp
/-- The first routing mask. -/
def rm0 : Fin 1024 → Fin 2 → EReal := fun i => route N.warm (N.probs0 i)
/-- One path's layer. -/
def path (p : Fin 2) : Fin 1024 → Fin 1024 → EReal := relu (dense N.f (N.w1 p) (N.b1 p))
/-- The paths mixed by the mask. -/
def fc : Fin 1024 → Fin 1024 → EReal := fun i j => ∑ p, N.rm0 i p * N.path p i j
/-- The second router's activations. -/
def act1 : Fin 1024 → Fin 4 → EReal := dense (relu (dense N.fc N.wh1 N.bh1)) N.wr1 N.br1
/-- The second router's probabilities. -/
def probs1 : Fin 1024 → Fin 4 → EReal := fun i => softmax fun j => Ideal.div (N.act1 i j) N.temp
/-- The second routing mask. -/
def rm1 : Fin 1024 → Fin 4 → EReal := fun i => route N.warm (N.probs1 i)
/-- One path's classifier. -/
def leaf (p : Fin 4) : Fin 1024 → Fin 10 → EReal := dense N.fc (N.w2 p) (N.b2 p)
/-- The classifiers mixed by the mask. -/
def logits : Fin 1024 → Fin 10 → EReal := fun i j => ∑ p, N.rm1 i p * N.leaf p i j
/-- The class probabilities. -/
def post : Fin 1024 → Fin 10 → EReal := fun i => softmax (N.logits i)

end Net

end Cert.At
-- ==== Proof.KernelIdealWork.Value.lean ====
/- What the second launch leaves, as the network's layers, given that its arrays hold the network's inputs and shared layer. -/
module

public import proofs.«01_k».proof.Proof.KernelIdealWork.Arrays
public import proofs.«01_k».proof.Proof.Algebra.Model

@[expose] public section

set_option maxHeartbeats 1000000
set_option maxRecDepth 16384

noncomputable section

namespace Cert.KernelIdeal.Work

open Idealize.ShloMosaic
open Idealize.ShloMosaic.TcCoe Idealize.ShloMosaic.ValueIdx
open Cert.KernelIdeal Cert.KernelIdeal.Gen Cert.At
open scoped BigOperators

/-- The second launch's arrays hold the network's inputs and its shared layer; of padded arrays only the inside is asked. -/
structure Feeds (V : (c : Dev nD) → (b : Ref sig .tc) → Buf (Elt Ideal) ((c : Thread nD τ).loc b)) (c : Dev nD) (N : Net) : Prop where
  f : mat 1024 2048 (V c main_v19_0) = N.f
  wh0 : mat 2048 128 (V c main_arg6) = N.wh0
  bh0 : mat 1 128 (V c main_v21) 0 = N.bh0
  wr0 : ∀ (q : Fin 128) (j : Fin 2), mat 128 8 (V c main_v7) q (j.castLE (by decide)) = N.wr0 q j
  br0 : ∀ j : Fin 2, mat 1 8 (V c main_v9) 0 (j.castLE (by decide)) = N.br0 j
  w1 : ∀ (p : Fin 2) (q : Fin 2048) (k : Fin 1024), V c main_arg10 (ix3 p q k) = N.w1 p q k
  b1 : ∀ (p : Fin 2) (k : Fin 1024), V c main_v20 (ix3 p 0 k) = N.b1 p k
  wh1 : mat 1024 128 (V c main_arg12) = N.wh1
  bh1 : mat 1 128 (V c main_v22) 0 = N.bh1
  wr1 : ∀ (q : Fin 128) (j : Fin 4), mat 128 8 (V c main_v10) q (j.castLE (by decide)) = N.wr1 q j
  br1 : ∀ j : Fin 4, mat 1 8 (V c main_v12) 0 (j.castLE (by decide)) = N.br1 j
  w2 : ∀ (p : Fin 4) (q : Fin 1024) (j : Fin 10) (k : Fin 512), k.val = 128 * p.val + j.val → mat 1024 512 (V c main_v15) q k = N.w2 p q j
  b2 : ∀ (p : Fin 4) (j : Fin 10) (k : Fin 512), k.val = 128 * p.val + j.val → mat 1 512 (V c main_v17) 0 k = N.b2 p j
  temp : mat 1 2 (V c main_v6) 0 0 = N.temp
  warm : mat 1 2 (V c main_v6) 0 1 = switch N.warm

variable {V : (c : Dev nD) → (b : Ref sig .tc) → Buf (Elt Ideal) ((c : Thread nD τ).loc b)} {c : Dev nD} {N : Net} (h : Feeds V c N)
include h

theorem temp_at (t : Fin cfg1.N) : ((ins V c t).temp : EReal) = N.temp := by
  obtain ⟨-, -, -, -, -, -, -, -, -, -, -, -, e15⟩ := whole V c t
  unfold Bufs.temp
  rw [e15]; exact (pay33_at _).trans h.temp
theorem warm_at (t : Fin cfg1.N) : ((ins V c t).warm : EReal) = switch N.warm := by
  obtain ⟨-, -, -, -, -, -, -, -, -, -, -, -, e15⟩ := whole V c t
  unfold Bufs.warm
  rw [e15]; exact (pay34_at _).trans h.warm

theorem act0_at (t : Fin cfg1.N) (i : Fin 1024) (j : Fin 2) : mat 1024 8 (ins V c t).act0 i (j.castLE (by decide)) = N.act0 i j := by
  obtain ⟨e0, e3, e4, e5, e6, -⟩ := whole V c t
  unfold Bufs.act0
  rw [e0, e3, e4, e5, e6, pay3_at, h.f, h.wh0, h.bh0]
  exact congrArg₂ (· + ·) (Finset.sum_congr rfl fun q _ => congrArg (_ * ·) (h.wr0 q j)) (h.br0 j)

theorem probs0_at (t : Fin cfg1.N) (i : Fin 1024) (j : Fin 2) : mat 1024 8 (ins V c t).probs0 i (j.castLE (by decide)) = N.probs0 i j := by
  unfold Bufs.probs0
  refine (pay4_at _ _ _ _ _ _ i j).trans (congrArg (softmax · j) (funext fun q => ?_))
  exact congrArg₂ Ideal.div (act0_at h t i q) (temp_at h t)

theorem hard_at (i : Fin 1024) (j : Fin 2) : mat 1024 8 (hard V c) i (j.castLE (by decide)) = N.rm0 i j := by
  have e : hard V c = k1_pay8 (F := Ideal) (switch N.warm) (ins V c t1_0).probs0 :=
    (shapeCast_self (k1_pay8 (ins V c t1_0).warm (ins V c t1_0).probs0) _).trans (congrArg (fun w : EReal => k1_pay8 (F := Ideal) w (ins V c t1_0).probs0) (warm_at h t1_0))
  rw [e]
  refine (pay8_at _ _ i j).trans (congrArg (route N.warm · j) (funext fun q => probs0_at h t1_0 i q))

theorem block_at (t : Fin cfg1.N) (p : Fin 2) (hp : p.val = t.val % 2) (i : Fin 1024) (j : Fin 256) (k : Fin 1024) (hk : k.val = t.val / 2 * 256 + j.val) :
    block (ins V c t).x0 (ins V c t).x1 (ins V c t).x2 i j = N.path p i k := by
  obtain ⟨e0, -⟩ := whole V c t
  unfold block
  rw [e0, h.f]
  exact congrArg (max · 0) (congrArg₂ (· + ·) (Finset.sum_congr rfl fun q _ => congrArg (_ * ·) ((blk1_1 V c t q j p hp k hk).trans (h.w1 p q k)))
    ((blk1_2 V c t j p hp k hk).trans (h.b1 p k)))

omit h in
theorem coords1 : ∀ t : Fin cfg1.N, (grid1.coords t 1).val = t.val % 2 := (by decide +kernel : ∀ t : Fin grid1.N, (grid1.coords t 1).val = t.val % 2)

theorem pair_at (t t' : Fin cfg1.N) (ht : t.val % 2 = 0) (ht' : t'.val = t.val + 1) (i : Fin 1024) (j : Fin 256) (k : Fin 1024)
    (hk : k.val = t.val / 2 * 256 + j.val) : mat 1024 256 (pairBlock V c t t') i j = N.fc i k := by
  have h1 : (grid1.coords t' 1).val = (1 : Fin 8).val := (coords1 t').trans (by rw [ht']; show _ = 1; omega)
  have h0 : (grid1.coords t 1).val = (0 : Fin 8).val := (coords1 t).trans ht
  unfold pairBlock
  rw [h1, h0, pay44_at, pay43_at, block_at h t 0 ht.symm i j k hk, block_at h t' 1 (by rw [ht']; show 1 = _; omega) i j k (by rw [ht', hk]; omega)]
  refine Eq.trans ?_ (Fin.sum_univ_two _).symm
  exact congrArg₂ (· + ·) ((mul_comm _ _).trans (congrArg (· * _) (hard_at h i 0))) ((mul_comm _ _).trans (congrArg (· * _) (hard_at h i 1)))

omit h in
theorem put_cols (X : Vec Ideal S1024x1024 .f32) (o : ℕ) (w : Vec Ideal S1024x256 .f32) (i k : Fin 1024) :
    mat 1024 1024 (VecWindow.put X ![0, o] S1024x256.size w) i k
      = if e : o ≤ k.val ∧ k.val < o + 256 then mat 1024 256 w i ⟨k.val - o, by omega⟩ else mat 1024 1024 X i k := by
  show VecWindow.put X ![0, o] S1024x256.size w (ix2 i k) = _
  unfold VecWindow.put
  by_cases e : o ≤ k.val ∧ k.val < o + 256
  · rw [dif_pos e, dif_pos fun a => match a with
      | ⟨0, _⟩ => ⟨Nat.zero_le _, (show i.val < 0 + 1024 by have := i.isLt; omega)⟩
      | ⟨1, _⟩ => e]
    exact congrArg w (funext fun a => match a with
      | ⟨0, _⟩ => Fin.ext (show i.val - 0 = i.val from rfl)
      | ⟨1, _⟩ => rfl)
  · rw [dif_neg e, dif_neg fun a => e (a 1)]
    rfl

theorem full_at : mat 1024 1024 (full V c) = N.fc := by
  funext i k
  unfold full
  rw [hidden_eight, put_cols, put_cols, put_cols, put_cols]
  have hk := k.isLt
  by_cases e3 : 768 ≤ k.val ∧ k.val < 768 + 256
  · rw [dif_pos e3]; exact pair_at h t1_6 t1_7 rfl rfl i _ k (show k.val = 3 * 256 + (k.val - 768) by omega)
  rw [dif_neg e3]
  by_cases e2 : 512 ≤ k.val ∧ k.val < 512 + 256
  · rw [dif_pos e2]; exact pair_at h t1_4 t1_5 rfl rfl i _ k (show k.val = 2 * 256 + (k.val - 512) by omega)
  rw [dif_neg e2]
  by_cases e1 : 256 ≤ k.val ∧ k.val < 256 + 256
  · rw [dif_pos e1]; exact pair_at h t1_2 t1_3 rfl rfl i _ k (show k.val = 1 * 256 + (k.val - 256) by omega)
  rw [dif_neg e1, dif_pos (by omega)]
  exact pair_at h t1_0 t1_1 rfl rfl i _ k (show k.val = 0 * 256 + (k.val - 0) by omega)

theorem act1_at (i : Fin 1024) (j : Fin 4) : mat 1024 8 (last V c).act1 i (j.castLE (by decide)) = N.act1 i j := by
  obtain ⟨-, -, -, -, -, e7, e8, e9, e10, -⟩ := whole V c t1_7
  show mat 1024 8 (k1_pay10 (full V c) (ins V c t1_7).x7 (ins V c t1_7).x8 (ins V c t1_7).x9 (ins V c t1_7).x10) i _ = _
  rw [e7, e8, e9, e10, pay10_at, full_at h, h.wh1, h.bh1]
  exact congrArg₂ (· + ·) (Finset.sum_congr rfl fun q _ => congrArg (_ * ·) (h.wr1 q j)) (h.br1 j)

theorem probs1_at (i : Fin 1024) (j : Fin 4) : mat 1024 8 (last V c).probs1 i (j.castLE (by decide)) = N.probs1 i j := by
  unfold Bufs.probs1
  refine (pay11_at _ _ _ _ _ _ i j).trans (congrArg (softmax · j) (funext fun q => ?_))
  exact congrArg₂ Ideal.div (act1_at h i q) (temp_at h t1_7)

theorem rm1_at (i : Fin 1024) (j : Fin 4) : mat 1024 8 (last V c).rm1 i (j.castLE (by decide)) = N.rm1 i j := by
  have e : (last V c).rm1 = k1_pay15 (F := Ideal) (switch N.warm) (last V c).probs1 :=
    congrArg (fun w : EReal => k1_pay15 (F := Ideal) w (last V c).probs1) (warm_at h t1_7)
  rw [e]
  exact (pay15_at _ _ i j).trans (congrArg (route N.warm · j) (funext fun q => probs1_at h i q))

theorem leaf_at (p : Fin 4) (i : Fin 1024) (j : Fin 10) (k : Fin 512) (hk : k.val = 128 * p.val + j.val) : mat 1024 512 (last V c).lp i k = N.leaf p i j := by
  obtain ⟨-, -, -, -, -, -, -, -, -, e11, e12, -⟩ := whole V c t1_7
  show mat 1024 512 (k1_pay16 (full V c) (ins V c t1_7).x11 (ins V c t1_7).x12) i k = _
  rw [e11, e12, pay16_at, full_at h]
  exact congrArg₂ (· + ·) (Finset.sum_congr rfl fun q _ => congrArg (_ * ·) (h.w2 p q j k hk)) (h.b2 p j k hk)

theorem logits_at (i : Fin 1024) (j : Fin 10) : mat 1024 128 (final V c).o16 i (j.castLE (by decide)) = N.logits i j := by
  refine (pay18_at (last V c).s1 (last V c).rm1 (last V c).x11 (last V c).x12 i _).trans (Finset.sum_congr rfl fun p _ => ?_)
  exact congrArg₂ (· * ·) (rm1_at h i p) (leaf_at h p i j _ rfl)

theorem post_at (i : Fin 1024) (j : Fin 10) : mat 1024 128 (final V c).o17 i (j.castLE (by decide)) = N.post i j :=
  (pay24_at _ _ _ _ i j).trans (congrArg (softmax · j) (funext fun q => logits_at h i q))

omit h in
/-- The first columns of a matrix. -/
theorem cols {n m k : ℕ} (hk : k ≤ m) (x : FVec Ideal ⟨2, ![n, m]⟩ .f32) (hs : (⟨2, ![n, m]⟩ : Shape).Slices ![0, 0] ⟨2, ![n, k]⟩) (i : Fin n) (j : Fin k) :
    mat n k (extractStridedSlice ⟨2, ![n, k]⟩ ![0, 0] x hs) i j = mat n m x i (j.castLE hk) :=
  extractStridedSlice_apply ![0, 0] x hs (ix2 i j) (ix2 i (j.castLE hk)) fun a => match a with
    | ⟨0, _⟩ => (Nat.zero_add _).symm
    | ⟨1, _⟩ => (Nat.zero_add _).symm

theorem out0_at (i : Fin 1024) (j : Fin 2) : mat 1024 2 (ins V c t1_0).opening.o23 i j = N.probs0 i j := by
  rw [show (ins V c t1_0).opening.o23 = extractStridedSlice S1024x2 ![0, 0] (ins V c t1_0).probs0 slices_S1024x8_o0_0_S1024x2 from rfl]
  exact (cols (n := 1024) (m := 8) (k := 2) (by decide) _ _ i j).trans (probs0_at h t1_0 i j)

theorem out1_at (i : Fin 1024) (j : Fin 4) : mat 1024 4 (final V c).o24 i j = N.probs1 i j := by
  rw [show (final V c).o24 = extractStridedSlice S1024x4 ![0, 0] (last V c).probs1 slices_S1024x8_o0_0_S1024x4 from rfl]
  exact (cols (n := 1024) (m := 8) (k := 4) (by decide) _ _ i j).trans (probs1_at h i j)

end Cert.KernelIdeal.Work

end
-- ==== Proof.Algebra.Host.lean ====
/- The reference's operations on arrays, read at an index over the extended reals. -/
module

public import proofs.«01_k».proof.Proof.Algebra.First

@[expose] public section

noncomputable section

namespace Cert.At

open Idealize.ShloMosaic Idealize.ShloMosaic.ValueIdx
open scoped BigOperators

variable {n m k p : ℕ}

/-- An array of three axes as a function of its coordinates. -/
def cube (n p m : ℕ) {α : Type} (x : (⟨3, ![n, p, m]⟩ : Shape).Idx → α) : Fin n → Fin p → Fin m → α := fun i a j => x (ix3 i a j)

/-- A row's entries relative to the largest. -/
def below (s : Fin n → EReal) : Fin n → EReal := fun j => s j - top s

/-- The one entry of an array of no axes. -/
def cell {α : Type} (x : (⟨0, ![]⟩ : Shape).Idx → α) : α := x ix0

theorem mat_dot (a : FVec Ideal ⟨2, ![n, k]⟩ .f32) (b : FVec Ideal ⟨2, ![k, m]⟩ .f32) :
    mat n m (Host.dotGeneral (DotDims.plain n k m) none a b) = mul (mat n k a) (mat k m b) := by
  rw [← mat_matmul (φ₁ := .f32) (φ₂ := .f32)]
  funext i j
  show FloatOps.dotGeneral _ _ _ _ _ (ix2 i j) = FloatOps.matmul _ _ _ _ _ (ix2 i j)
  rw [Ideal.dotGeneral_apply, Ideal.matmul_constant_zero_apply]

/-- One product a path: rows times the path's weights. -/
theorem cube_dot (wf) (a : FVec Ideal ⟨2, ![n, k]⟩ .f32) (b : FVec Ideal ⟨3, ![p, k, m]⟩ .f32) (i : Fin n) (e : Fin p) (j : Fin m) :
    cube n p m (Host.dotGeneral (⟨[1], [1], [0], [0, 2], [], [], wf⟩ : DotDims ⟨2, ![n, k]⟩ ⟨3, ![p, k, m]⟩ ⟨3, ![n, p, m]⟩) none a b) i e j
      = ∑ q, mat n k a i q * cube p k m b e q j := by
  show FloatOps.dotGeneral _ _ _ _ _ (ix3 i e j) = _
  rw [Ideal.dotGeneral_apply, ← Equiv.sum_comp (contrEquiv1 _ k rfl rfl).symm]
  refine Finset.sum_congr rfl fun q _ => ?_
  have hk := contrEquiv1_symm_val (⟨[1], [1], [0], [0, 2], [], [], wf⟩ : DotDims ⟨2, ![n, k]⟩ ⟨3, ![p, k, m]⟩ ⟨3, ![n, p, m]⟩) k rfl rfl q
  refine congrArg₂ (· * ·) (congrArg a (funext fun c => Fin.ext ?_)) (congrArg b (funext fun c => Fin.ext ?_))
  · match c with
    | ⟨0, _⟩ => rfl
    | ⟨1, _⟩ => exact hk
  · match c with
    | ⟨0, _⟩ => rfl
    | ⟨1, _⟩ => exact hk
    | ⟨2, _⟩ => rfl

/-- The paths of a row mixed by the row's weights. -/
theorem mat_mix (wf) (a : FVec Ideal ⟨2, ![n, p]⟩ .f32) (b : FVec Ideal ⟨3, ![n, p, m]⟩ .f32) (i : Fin n) (j : Fin m) :
    mat n m (Host.dotGeneral (⟨[1], [1], [], [2], [0], [0], wf⟩ : DotDims ⟨2, ![n, p]⟩ ⟨3, ![n, p, m]⟩ ⟨2, ![n, m]⟩) none a b) i j
      = ∑ q, mat n p a i q * cube n p m b i q j := by
  show FloatOps.dotGeneral _ _ _ _ _ (ix2 i j) = _
  rw [Ideal.dotGeneral_apply, ← Equiv.sum_comp (contrEquiv1 _ p rfl rfl).symm]
  refine Finset.sum_congr rfl fun q _ => ?_
  have hk := contrEquiv1_symm_val (⟨[1], [1], [], [2], [0], [0], wf⟩ : DotDims ⟨2, ![n, p]⟩ ⟨3, ![n, p, m]⟩ ⟨2, ![n, m]⟩) p rfl rfl q
  refine congrArg₂ (· * ·) (congrArg a (funext fun c => Fin.ext ?_)) (congrArg b (funext fun c => Fin.ext ?_))
  · match c with
    | ⟨0, _⟩ => rfl
    | ⟨1, _⟩ => exact hk
  · match c with
    | ⟨0, _⟩ => rfl
    | ⟨1, _⟩ => exact hk
    | ⟨2, _⟩ => rfl

theorem spread {α : Type} (t : Shape) (h : (⟨0, ![]⟩ : Shape).BroadcastsInDim t ![]) (x : (⟨0, ![]⟩ : Shape).Idx → α) (j : t.Idx) :
    broadcastInDim t ![] h x j = cell x := broadcastInDim_apply _ h x j ix0 fun a => a.elim0

theorem row_of_vec {α : Type} (h : (⟨1, ![m]⟩ : Shape).BroadcastsInDim ⟨2, ![1, m]⟩ ![1]) (v : (⟨1, ![m]⟩ : Shape).Idx → α) (i : Fin 1) (j : Fin m) :
    mat 1 m (broadcastInDim ⟨2, ![1, m]⟩ ![1] h v) i j = vec m v j :=
  broadcastInDim_apply _ h v (ix2 i j) (ix1 j) fun a => by
    match a with
    | ⟨0, _⟩ =>
      show j.val = if m = 1 then 0 else j.val
      split
      · have := j.isLt; omega
      · rfl

theorem mat_rows {α : Type} (h : (⟨2, ![1, m]⟩ : Shape).BroadcastsInDim ⟨2, ![n, m]⟩ ![0, 1]) (x : (⟨2, ![1, m]⟩ : Shape).Idx → α) (i : Fin n) (j : Fin m) :
    mat n m (broadcastInDim ⟨2, ![n, m]⟩ ![0, 1] h x) i j = mat 1 m x 0 j :=
  broadcastInDim_apply _ h x (ix2 i j) (ix2 0 j) fun a => by
    match a with
    | ⟨0, _⟩ => rfl
    | ⟨1, _⟩ =>
      show j.val = if m = 1 then 0 else j.val
      split
      · have := j.isLt; omega
      · rfl

theorem mat_cols {α : Type} (h' : (⟨1, ![n]⟩ : Shape).BroadcastsInDim ⟨2, ![n, 1]⟩ ![0]) (h : (⟨2, ![n, 1]⟩ : Shape).BroadcastsInDim ⟨2, ![n, m]⟩ ![0, 1])
    (v : (⟨1, ![n]⟩ : Shape).Idx → α) (i : Fin n) (j : Fin m) :
    mat n m (broadcastInDim ⟨2, ![n, m]⟩ ![0, 1] h (broadcastInDim ⟨2, ![n, 1]⟩ ![0] h' v)) i j = vec n v i := by
  refine (broadcastInDim_apply _ h _ (ix2 i j) (ix2 i 0) fun a => ?_).trans (broadcastInDim_apply _ h' v (ix2 i 0) (ix1 i) fun a => ?_)
  · match a with
    | ⟨0, _⟩ =>
      show i.val = if n = 1 then 0 else i.val
      split
      · have := i.isLt; omega
      · rfl
    | ⟨1, _⟩ => rfl
  · match a with
    | ⟨0, _⟩ =>
      show i.val = if n = 1 then 0 else i.val
      split
      · have := i.isLt; omega
      · rfl

/-- A bias row for each path, repeated down the rows. -/
theorem cube_rows {α : Type} (h' : (⟨2, ![p, m]⟩ : Shape).BroadcastsInDim ⟨3, ![1, p, m]⟩ ![1, 2])
    (h : (⟨3, ![1, p, m]⟩ : Shape).BroadcastsInDim ⟨3, ![n, p, m]⟩ ![0, 1, 2])
    (x : (⟨2, ![p, m]⟩ : Shape).Idx → α) (i : Fin n) (e : Fin p) (j : Fin m) :
    cube n p m (broadcastInDim ⟨3, ![n, p, m]⟩ ![0, 1, 2] h (broadcastInDim ⟨3, ![1, p, m]⟩ ![1, 2] h' x)) i e j = mat p m x e j := by
  have he : e.val = if p = 1 then 0 else e.val := by
    split
    · have := e.isLt; omega
    · rfl
  have hj : j.val = if m = 1 then 0 else j.val := by
    split
    · have := j.isLt; omega
    · rfl
  refine (broadcastInDim_apply _ h _ (ix3 i e j) (ix3 0 e j) fun a => ?_).trans (broadcastInDim_apply _ h' x (ix3 0 e j) (ix2 e j) fun a => ?_)
  · match a with
    | ⟨0, _⟩ => rfl
    | ⟨1, _⟩ => exact he
    | ⟨2, _⟩ => exact hj
  · match a with
    | ⟨0, _⟩ => exact he
    | ⟨1, _⟩ => exact hj

theorem vec_hostSum (x : FVec Ideal ⟨2, ![n, m]⟩ .f32) (h : (⟨2, ![n, m]⟩ : Shape).ReducesTo [1] ⟨1, ![n]⟩)
    (h' : (⟨2, ![n, m]⟩ : Shape).Reduces [1] ⟨1, ![n]⟩) (hu) (i : Fin n) :
    vec n (Host.reduceAdd x (constant (F := Ideal) ⟨0, ![]⟩ .f32 0x00000000#32) h hu) i = ∑ j, mat n m x i j := by
  show Ideal.hostReduceAdd h x (Ideal.ofBits .f32 0x00000000#32) (ix1 i) = _
  rw [Ideal.hostReduceAdd_single h h', bits_zero, zero_add]
  exact Finset.sum_congr rfl fun q _ => congrArg x (funext fun a => Fin.ext (by match a with | ⟨0, _⟩ => rfl | ⟨1, _⟩ => rfl))

theorem vec_hostTop (x : FVec Ideal ⟨2, ![n, m]⟩ .f32) (h : (⟨2, ![n, m]⟩ : Shape).ReducesTo [1] ⟨1, ![n]⟩)
    (h' : (⟨2, ![n, m]⟩ : Shape).Reduces [1] ⟨1, ![n]⟩) (hu) (hb) (i : Fin n) :
    vec n (maximumf (broadcastInDim ⟨1, ![n]⟩ ![] hb (constant (F := Ideal) ⟨0, ![]⟩ .f32 0xFF800000#32))
      (Host.reduce FloatOps.maximumf x (constant (F := Ideal) ⟨0, ![]⟩ .f32 0xFF800000#32) h hu)) i = top (mat n m x i) := by
  have e : Host.reduce FloatOps.maximumf x (constant (F := Ideal) ⟨0, ![]⟩ .f32 0xFF800000#32) h hu (ix1 i) = top (mat n m x i) := by
    refine (Host.reduce_eq_fold_single (FloatOps.maximumf (F := Ideal) (φ := .f32)) x _ h h' hu (ix1 i)).trans ?_
    show Finset.fold max (Ideal.ofBits .f32 0xFF800000#32) _ _ = _
    rw [bits_bot]
    exact Finset.fold_congr fun q _ => congrArg x (funext fun a => Fin.ext (by match a with | ⟨0, _⟩ => rfl | ⟨1, _⟩ => rfl))
  show max (broadcastInDim ⟨1, ![n]⟩ ![] hb (constant (F := Ideal) ⟨0, ![]⟩ .f32 0xFF800000#32) (ix1 i)) _ = _
  rw [e, spread]
  show max (Ideal.ofBits .f32 0xFF800000#32) _ = _
  rw [bits_bot, max_eq_right bot_le]

/-- Entries below their row's largest, as the host takes them. -/
theorem mat_hostBelow (x : FVec Ideal ⟨2, ![n, m]⟩ .f32) (h : (⟨2, ![n, m]⟩ : Shape).ReducesTo [1] ⟨1, ![n]⟩)
    (h' : (⟨2, ![n, m]⟩ : Shape).Reduces [1] ⟨1, ![n]⟩) (hu hb hc hd) (i : Fin n) (j : Fin m) :
    mat n m (subf x (broadcastInDim ⟨2, ![n, m]⟩ ![0, 1] hd (broadcastInDim ⟨2, ![n, 1]⟩ ![0] hc
      (maximumf (broadcastInDim ⟨1, ![n]⟩ ![] hb (constant (F := Ideal) ⟨0, ![]⟩ .f32 0xFF800000#32))
      (Host.reduce FloatOps.maximumf x (constant (F := Ideal) ⟨0, ![]⟩ .f32 0xFF800000#32) h hu)))) : FVec Ideal ⟨2, ![n, m]⟩ .f32) i j
      = below (mat n m x i) j :=
  congrArg (mat n m x i j - ·) ((mat_cols hc hd _ i j).trans (vec_hostTop x h h' hu hb i))

/-- The rows' exponentials over their sums, as the host takes them. -/
theorem mat_hostSoftmax (x y : FVec Ideal ⟨2, ![n, m]⟩ .f32) (h : (⟨2, ![n, m]⟩ : Shape).ReducesTo [1] ⟨1, ![n]⟩)
    (h' : (⟨2, ![n, m]⟩ : Shape).Reduces [1] ⟨1, ![n]⟩) (hu hc hd) (hy : ∀ i j, mat n m y i j = below (mat n m x i) j) :
    mat n m (Host.divf (Host.exp y) (broadcastInDim ⟨2, ![n, m]⟩ ![0, 1] hd (broadcastInDim ⟨2, ![n, 1]⟩ ![0] hc
      (Host.reduceAdd (Host.exp y) (constant (F := Ideal) ⟨0, ![]⟩ .f32 0x00000000#32) h hu))) : FVec Ideal ⟨2, ![n, m]⟩ .f32)
      = fun i => softmax (mat n m x i) := by
  have e : ∀ i j, mat n m (Host.exp y : FVec Ideal ⟨2, ![n, m]⟩ .f32) i j = Ideal.exp (mat n m x i j - top (mat n m x i)) :=
    fun i j => congrArg Ideal.exp (hy i j)
  funext i j
  exact congrArg₂ Ideal.div (e i j) ((mat_cols hc hd _ i j).trans ((vec_hostSum _ h h' hu i).trans (Finset.sum_congr rfl fun q _ => e i q)))

/-- A dense layer as the host takes it. -/
theorem mat_hostDense (a : FVec Ideal ⟨2, ![n, k]⟩ .f32) (w : FVec Ideal ⟨2, ![k, m]⟩ .f32) (b : FVec Ideal ⟨1, ![m]⟩ .f32) (h h') :
    mat n m (addf (Host.dotGeneral (DotDims.plain n k m) none a w) (broadcastInDim ⟨2, ![n, m]⟩ ![0, 1] h (broadcastInDim ⟨2, ![1, m]⟩ ![1] h' b)))
      = dense (mat n k a) (mat k m w) (vec m b) := by
  funext i j
  exact congrArg₂ (· + ·) (congrFun (congrFun (mat_dot a w) i) j) ((mat_rows h _ i j).trans (row_of_vec h' b 0 j))

theorem mat_hostRelu (a : FVec Ideal ⟨2, ![n, m]⟩ .f32) (h) :
    mat n m (maximumf a (broadcastInDim ⟨2, ![n, m]⟩ ![] h (constant (F := Ideal) ⟨0, ![]⟩ .f32 0x00000000#32))) = relu (mat n m a) := by
  funext i j
  exact congrArg (max (mat n m a i j)) ((spread _ h _ _).trans bits_zero)

theorem one_or_zero (a j : Fin m) (hm : m < 2 ^ 30) :
    (((IntOp.cmpi .eq (BitVec.ofNat 32 a.val) (BitVec.ofNat 32 j.val)).toNat : ℝ) : EReal) = if a = j then 1 else 0 := by
  have ha := a.isLt
  have hj := j.isLt
  by_cases e : a = j
  · subst e
    simp [IntOp.cmpi]
  · have : ¬ BitVec.ofNat 32 a.val = BitVec.ofNat 32 j.val := fun hh => e (Fin.ext ((ofNat_inj (by omega) (by omega)).1 hh))
    simp [IntOp.cmpi, beq_eq_false_iff_ne.mpr this, e]

/-- The routing mask as the host takes it from the place of each row's first largest entry. -/
theorem mat_hostRoute [NeZero m] (hm : m < 2 ^ 30) (w : IVec ⟨0, ![]⟩ 1) (s : Fin n → Fin m → EReal) (g : IVec ⟨1, ![n]⟩ 32)
    (hg : ∀ i a, IsFirst (s i) a → vec n g i = BitVec.ofNat 32 a.val) (h₁ h₂ h₃ h₄ h₅) :
    mat n m (select (broadcastInDim ⟨2, ![n, m]⟩ ![] h₁ w) (broadcastInDim ⟨2, ![n, m]⟩ ![] h₂ (constant (F := Ideal) ⟨0, ![]⟩ .f32 0x3F800000#32))
      (uitofp .f32 (cmpi .eq (broadcastInDim ⟨2, ![n, m]⟩ ![0, 1] h₄ (broadcastInDim ⟨2, ![n, 1]⟩ ![0] h₃ g))
        (broadcastInDim ⟨2, ![n, m]⟩ ![0, 1] h₅ (iotaInDim ⟨2, ![1, m]⟩ 32 1)))) : FVec Ideal ⟨2, ![n, m]⟩ .f32)
      = fun i => route (cell w) (s i) := by
  funext i j
  obtain ⟨a, ha⟩ := IsFirst.exists (s i)
  have e1 := (mat_cols h₃ h₄ g i j).trans (hg i a ha)
  have e3 : mat n m (broadcastInDim ⟨2, ![n, m]⟩ ![0, 1] h₅ (iotaInDim ⟨2, ![1, m]⟩ 32 1)) i j = BitVec.ofNat 32 j.val :=
    mat_rows h₅ (iotaInDim ⟨2, ![1, m]⟩ 32 1) i j
  have e2 := one_or_zero a j hm
  have e4 : (if a = j then (1 : EReal) else 0) = hot (s i) j := by
    by_cases e : a = j
    · subst e
      rw [hot, one, if_pos rfl, if_pos ha]
    · rw [hot, one, if_neg e, if_neg fun hj => e (ha.unique hj)]
  have e5 : Scalar.select (cell w) (1 : EReal) (hot (s i) j) = route (cell w) (s i) j := by
    by_cases hw : cell w = 1#1
    · rw [route, if_pos hw, hw]
      rfl
    · rw [route, if_neg hw]
      exact if_neg hw
  refine Eq.trans ?_ e5
  refine congr (congr (congrArg Scalar.select (spread _ h₁ w _)) ((spread _ h₂ (constant (F := Ideal) ⟨0, ![]⟩ .f32 0x3F800000#32) _).trans bits_one)) ?_
  refine Eq.trans ?_ (e2.trans e4)
  exact congrArg (fun z : BitVec 1 => ((z.toNat : ℝ) : EReal)) (congrArg₂ (IntOp.cmpi .eq) e1 e3)

end Cert.At
-- ==== Proof.ReferenceWork.Ssa.lean ====
/- A straight line of host operations in which every operation writes one buffer of its own and reads only what was
   written before it: after the line, each buffer holds its operation applied to what the line leaves in the operands. -/
module

public import Idealize.ShloMosaic.Lib.StableHlo.Run
public import Idealize.ShloMosaic.Lib.Pipeline.Frame

@[expose] public section

noncomputable section

namespace Cert.Line

open Idealize.ShloMosaic Idealize.ShloMosaic.TcCoe Idealize.ShloMosaic.StableHlo

variable {τ : Topo} {sig : RefSig} {Val : EltTy → Type}

/-- The operations `ops` write the buffers `W`, one each, in order. -/
abbrev Writes (ops : List (HloOp τ sig Val)) (W : List (Ref sig .tc)) : Prop :=
  ops.map HloOp.writes = W.map fun r => {Proc.devRef (τ := τ) .tc r}

theorem Writes.drop {ops : List (HloOp τ sig Val)} {W : List (Ref sig .tc)} (h : Writes ops W) (k : ℕ) : Writes (ops.drop k) (W.drop k) := by
  unfold Writes at *; rw [List.map_drop, List.map_drop, h]

/-- What the line from the `k`-th operation on does not write it keeps. -/
theorem keep {ops : List (HloOp τ sig Val)} {W : List (Ref sig .tc)} (h : Writes ops W) (k : ℕ) (V : Valuation τ sig Val)
    {r : Ref sig .tc} (hr : r ∉ W.drop k) : after (ops.take k) V (Proc.devRef .tc r) = after ops V (Proc.devRef .tc r) := by
  conv_rhs => rw [← List.take_append_drop k ops, after_append]
  exact (after_of_writes_sub _ _ (forall_writes_sub_of_map (h.drop k)) hr).symm

/-- After the line, the `k`-th operation's buffer holds that operation's result on the line's first `k` operations. -/
theorem at_op {ops : List (HloOp τ sig Val)} {W : List (Ref sig .tc)} (h : Writes ops W) (k : ℕ) (V : Valuation τ sig Val)
    {op : HloOp τ sig Val} (ho : ops[k]? = some op) {r : Ref sig .tc} (hr : r ∉ W.drop (k + 1)) :
    after ops V (Proc.devRef .tc r) = op.result (after (ops.take k) V) (Proc.devRef .tc r) := by
  rw [← keep h (k + 1) V hr, List.take_add_one, ho, Option.toList_some, after_append]; rfl

variable {ops : List (HloOp τ sig Val)} {W : List (Ref sig .tc)} (h : Writes ops W) (V : Valuation τ sig Val) (k : ℕ)
include h

theorem at_nullary {y : Ref sig .tc} {v : y.ty.Contents Val} {hy} (ho : ops[k]? = some (nullary y v hy)) (h1 : y ∉ W.drop (k + 1)) :
    after ops V (Proc.devRef .tc y) = v := by
  rw [at_op h k V ho h1]; exact nullary_result ..

theorem at_unary {x y : Ref sig .tc} {f : x.ty.Contents Val → y.ty.Contents Val} {hx hy}
    (ho : ops[k]? = some (unary x y f hx hy)) (h1 : y ∉ W.drop (k + 1)) (h2 : x ∉ W.drop k) :
    after ops V (Proc.devRef .tc y) = f (after ops V (Proc.devRef .tc x)) := by
  rw [at_op h k V ho h1, ← keep h k V h2]; exact unary_result ..

theorem at_reshape {x y : Ref sig .tc} {he : x.ty.elt = y.ty.elt} {hn hx hy}
    (ho : ops[k]? = some (reshape x y he hn hx hy)) (h1 : y ∉ W.drop (k + 1)) (h2 : x ∉ W.drop k) :
    after ops V (Proc.devRef .tc y) = fun i => he ▸ shapeCast y.ty.shape (after ops V (Proc.devRef .tc x)) hn i := by
  rw [at_op h k V ho h1, ← keep h k V h2]; exact reshape_result ..

theorem at_binary {a b y : Ref sig .tc} {f : a.ty.Contents Val → b.ty.Contents Val → y.ty.Contents Val} {ha hb hy}
    (ho : ops[k]? = some (binary a b y f ha hb hy)) (h1 : y ∉ W.drop (k + 1)) (h2 : a ∉ W.drop k) (h3 : b ∉ W.drop k) :
    after ops V (Proc.devRef .tc y) = f (after ops V (Proc.devRef .tc a)) (after ops V (Proc.devRef .tc b)) := by
  rw [at_op h k V ho h1, ← keep h k V h2, ← keep h k V h3]; exact binary_result ..

theorem at_ternary {c a b y : Ref sig .tc} {f : c.ty.Contents Val → a.ty.Contents Val → b.ty.Contents Val → y.ty.Contents Val} {hc ha hb hy}
    (ho : ops[k]? = some (ternary c a b y f hc ha hb hy)) (h1 : y ∉ W.drop (k + 1)) (h2 : c ∉ W.drop k) (h3 : a ∉ W.drop k) (h4 : b ∉ W.drop k) :
    after ops V (Proc.devRef .tc y) = f (after ops V (Proc.devRef .tc c)) (after ops V (Proc.devRef .tc a)) (after ops V (Proc.devRef .tc b)) := by
  rw [at_op h k V ho h1, ← keep h k V h2, ← keep h k V h3, ← keep h k V h4]; exact ternary_result ..

theorem at_quaternary {a b c e y : Ref sig .tc}
    {f : a.ty.Contents Val → b.ty.Contents Val → c.ty.Contents Val → e.ty.Contents Val → y.ty.Contents Val} {ha hb hc he hy}
    (ho : ops[k]? = some (quaternary a b c e y f ha hb hc he hy)) (h1 : y ∉ W.drop (k + 1))
    (h2 : a ∉ W.drop k) (h3 : b ∉ W.drop k) (h4 : c ∉ W.drop k) (h5 : e ∉ W.drop k) :
    after ops V (Proc.devRef .tc y)
      = f (after ops V (Proc.devRef .tc a)) (after ops V (Proc.devRef .tc b)) (after ops V (Proc.devRef .tc c)) (after ops V (Proc.devRef .tc e)) := by
  rw [at_op h k V ho h1, ← keep h k V h2, ← keep h k V h3, ← keep h k V h4, ← keep h k V h5]; exact quaternary_result ..

end Cert.Line

end
-- ==== Proof.KernelIdealWork.Inputs.lean ====
/- What the operations before the launches leave in the launches' arrays, at coordinates, from the program's arguments. -/
module

public import proofs.«01_k».proof.Proof.KernelIdealWork.Run
public import proofs.«01_k».proof.Proof.KernelIdealWork.Value
public import proofs.«01_k».proof.Proof.Algebra.Host
public import proofs.«01_k».proof.Proof.ReferenceWork.Ssa
public import Idealize.ShloMosaic.Lib.KernelVsHost

@[expose] public section

set_option maxHeartbeats 1000000
set_option maxRecDepth 16384

noncomputable section

namespace Cert.KernelIdeal.Work

open Idealize.ShloMosaic
open Idealize.ShloMosaic.TcCoe Idealize.ShloMosaic.ValueIdx Idealize.ShloMosaic.StableHlo
open Cert.KernelIdeal Cert.KernelIdeal.Gen Cert.At
open Cert.KernelIdeal.Gen (V0 V15)
open scoped BigOperators

/-! ### Layout operations at coordinates -/

variable {α : Type}

theorem mat_padCols {n k w d : ℕ} (hk : k ≤ w) (x : (⟨2, ![n, k]⟩ : Shape).Idx → α) {u : Shape} (v : u.Idx → α)
    (h : (⟨2, ![n, k]⟩ : Shape).Pads ![0, 0] ![0, d] ![0, 0] ⟨2, ![n, w]⟩) (hu : 0 < u.numel) (i : Fin n) (j : Fin k) :
    mat n w (pad ⟨2, ![n, w]⟩ ![0, 0] ![0, d] ![0, 0] x v h hu) i (j.castLE hk) = mat n k x i j :=
  pad_apply_of_inside _ _ _ x v h hu (ix2 i (j.castLE hk)) (ix2 i j) fun a => match a with
    | ⟨0, _⟩ => show i.val = 0 + i.val * (0 + 1) by omega
    | ⟨1, _⟩ => show j.val = 0 + j.val * (0 + 1) by omega

theorem cube_padCols {n p k w d : ℕ} (hk : k ≤ w) (x : (⟨3, ![n, p, k]⟩ : Shape).Idx → α) {u : Shape} (v : u.Idx → α)
    (h : (⟨3, ![n, p, k]⟩ : Shape).Pads ![0, 0, 0] ![0, 0, d] ![0, 0, 0] ⟨3, ![n, p, w]⟩) (hu : 0 < u.numel) (i : Fin n) (q : Fin p) (j : Fin k) :
    pad ⟨3, ![n, p, w]⟩ ![0, 0, 0] ![0, 0, d] ![0, 0, 0] x v h hu (ix3 i q (j.castLE hk)) = x (ix3 i q j) :=
  pad_apply_of_inside _ _ _ x v h hu (ix3 i q (j.castLE hk)) (ix3 i q j) fun a => match a with
    | ⟨0, _⟩ => show i.val = 0 + i.val * (0 + 1) by omega
    | ⟨1, _⟩ => show q.val = 0 + q.val * (0 + 1) by omega
    | ⟨2, _⟩ => show j.val = 0 + j.val * (0 + 1) by omega

theorem row_cast {n : ℕ} (x : (⟨1, ![n]⟩ : Shape).Idx → α) (h : (⟨1, ![n]⟩ : Shape).ShapeCasts ⟨2, ![1, n]⟩) (j : Fin n) :
    mat 1 n (shapeCast ⟨2, ![1, n]⟩ x h) 0 j = vec n x j :=
  shapeCast_apply x h (ix2 0 j) (ix1 j) (by
    rw [Shape.rowMajor_val_one, Shape.rowMajor_val_two]; show j.val = 0 * n + j.val; omega)

theorem cell_cast (x : (⟨0, ![]⟩ : Shape).Idx → α) (h : (⟨0, ![]⟩ : Shape).ShapeCasts ⟨2, ![1, 1]⟩) : shapeCast ⟨2, ![1, 1]⟩ x h (ix2 0 0) = cell x :=
  congrArg x (funext fun a => a.elim0)

/-! ### The operations before the first launch, as one line -/

variable (m : (ℓ : Loc nD τ sig) → Buf (Elt Ideal) ℓ) (c : Dev nD)

abbrev before : List (HloOp τ sig (Elt Ideal)) :=
  hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10
    ++ (hostOps0_11 ++ (hostOps0_12 ++ (hostOps0_13 ++ hostOps0_14)))))))))))))
abbrev beforeW : List (Ref sig .tc) :=
  [main_v0, main_v1, main_call0_v0, main_call0_v1, main_call0_v2, main_call0_v3, main_call0_v4, main_v2, main_v3, main_v4, main_v5, main_v6, main_c,
    main_call1_v0, main_v7, main_v8, main_c_0, main_call2_v0, main_v9, main_c_1, main_call3_v0, main_v10, main_v11, main_c_2, main_call4_v0, main_v12,
    main_v13, main_c_3, main_call5_v0, main_v14, main_v15, main_c_4, main_call6_v0, main_v16, main_v17, main_v18]
theorem before_writes : Line.Writes before beforeW := rfl
theorem V15_before : V15 m c = after before (V0 m c) := by
  unfold before
  rw [after_append, after_append, after_append, after_append, after_append, after_append, after_append, after_append, after_append, after_append, after_append,
    after_append, after_append, after_append]

/-- What the line before the launches leaves in a buffer. -/
def E (b : Ref sig .tc) : b.ty.Contents (Elt Ideal) := after before (V0 m c) b
/-- What the program is started on. -/
abbrev A (b : Ref sig .tc) : b.ty.Contents (Elt Ideal) := m ((c : Thread nD τ).loc b)

theorem E_arg (a : Ref sig .tc) (ha : a ∈ argRefs) : E m c a = A m c a :=
  (congrFun (V15_before m c) (Proc.devRef .tc a)).symm.trans (V15_args m c a ha)

theorem E_v1 : mat 1024 3072 (E m c main_v1) = mat 1024 3072 (shapeCast S1024x3072 (A m c main_arg0) shapeCasts_S1024x32x32x3_S1024x3072) := by
  have e1 : E m c main_v1 = _ := Line.at_unary before_writes (V0 m c) 1 rfl (by decide +kernel) (by decide +kernel)
  have e0 : E m c main_v0 = _ := Line.at_reshape before_writes (V0 m c) 0 rfl (by decide +kernel) (by decide +kernel)
  rw [← E_arg m c main_arg0 (by decide +kernel)]
  exact congrArg (mat 1024 3072) (e1.trans e0)

theorem E_v18 (j : Fin 2048) : mat 1 2048 (E m c main_v18) 0 j = vec 2048 (A m c main_arg5) j := by
  have e : E m c main_v18 = _ := Line.at_reshape before_writes (V0 m c) 35 rfl (by decide +kernel) (by decide +kernel)
  rw [← E_arg m c main_arg5 (by decide +kernel)]
  exact (congrArg (fun z => mat 1 2048 z 0 j) e).trans (row_cast _ _ j)

theorem E_v7 (q : Fin 128) (j : Fin 2) : mat 128 8 (E m c main_v7) q (j.castLE (by decide)) = mat 128 2 (A m c main_arg8) q j := by
  have e : E m c main_v7 = pad S128x8 ![0, 0] ![0, 6] ![0, 0] (E m c main_arg8 : FVec Ideal S128x2 .f32) (E m c main_call1_v0 : FVec Ideal S_ .f32) pads_S128x2_S128x8_000_060 h_S_ := by
    have h := Line.at_binary before_writes (V0 m c) 14 rfl (by decide +kernel) (by decide +kernel) (by decide +kernel)
    exact h
  rw [← E_arg m c main_arg8 (by decide +kernel)]
  exact (congrArg (fun z => mat 128 8 z q _) e).trans (mat_padCols (n := 128) (k := 2) (w := 8) (by decide) _ _ _ h_S_ q j)

theorem E_v9 (j : Fin 2) : mat 1 8 (E m c main_v9) 0 (j.castLE (by decide)) = vec 2 (A m c main_arg9) j := by
  have e : E m c main_v9 = pad S1x8 ![0, 0] ![0, 6] ![0, 0] (E m c main_v8 : FVec Ideal S1x2 .f32) (E m c main_call2_v0 : FVec Ideal S_ .f32) pads_S1x2_S1x8_000_060 h_S_ := by
    have h := Line.at_binary before_writes (V0 m c) 18 rfl (by decide +kernel) (by decide +kernel) (by decide +kernel)
    exact h
  have e' : E m c main_v8 = _ := Line.at_reshape before_writes (V0 m c) 15 rfl (by decide +kernel) (by decide +kernel)
  rw [← E_arg m c main_arg9 (by decide +kernel)]
  refine (congrArg (fun z => mat 1 8 z 0 _) e).trans ((mat_padCols (n := 1) (k := 2) (w := 8) (by decide) _ _ _ h_S_ 0 j).trans ?_)
  exact (congrArg (fun z => mat 1 2 z 0 j) e').trans (row_cast _ _ j)

theorem E_v10 (q : Fin 128) (j : Fin 4) : mat 128 8 (E m c main_v10) q (j.castLE (by decide)) = mat 128 4 (A m c main_arg14) q j := by
  have e : E m c main_v10 = pad S128x8 ![0, 0] ![0, 4] ![0, 0] (E m c main_arg14 : FVec Ideal S128x4 .f32) (E m c main_call3_v0 : FVec Ideal S_ .f32) pads_S128x4_S128x8_000_040 h_S_ := by
    have h := Line.at_binary before_writes (V0 m c) 21 rfl (by decide +kernel) (by decide +kernel) (by decide +kernel)
    exact h
  rw [← E_arg m c main_arg14 (by decide +kernel)]
  exact (congrArg (fun z => mat 128 8 z q _) e).trans (mat_padCols (n := 128) (k := 4) (w := 8) (by decide) _ _ _ h_S_ q j)

theorem E_v12 (j : Fin 4) : mat 1 8 (E m c main_v12) 0 (j.castLE (by decide)) = vec 4 (A m c main_arg15) j := by
  have e : E m c main_v12 = pad S1x8 ![0, 0] ![0, 4] ![0, 0] (E m c main_v11 : FVec Ideal S1x4 .f32) (E m c main_call4_v0 : FVec Ideal S_ .f32) pads_S1x4_S1x8_000_040 h_S_ := by
    have h := Line.at_binary before_writes (V0 m c) 25 rfl (by decide +kernel) (by decide +kernel) (by decide +kernel)
    exact h
  have e' : E m c main_v11 = _ := Line.at_reshape before_writes (V0 m c) 22 rfl (by decide +kernel) (by decide +kernel)
  rw [← E_arg m c main_arg15 (by decide +kernel)]
  refine (congrArg (fun z => mat 1 8 z 0 _) e).trans ((mat_padCols (n := 1) (k := 4) (w := 8) (by decide) _ _ _ h_S_ 0 j).trans ?_)
  exact (congrArg (fun z => mat 1 4 z 0 j) e').trans (row_cast _ _ j)

theorem E_v15 (p : Fin 4) (q : Fin 1024) (j : Fin 10) (k : Fin 512) (hk : k.val = 128 * p.val + j.val) :
    mat 1024 512 (E m c main_v15) q k = cube 4 1024 10 (A m c main_arg16) p q j := by
  have e : E m c main_v15 = _ := Line.at_reshape before_writes (V0 m c) 30 rfl (by decide +kernel) (by decide +kernel)
  have e' : E m c main_v14 = pad S1024x4x128 ![0, 0, 0] ![0, 0, 118] ![0, 0, 0] (E m c main_v13 : FVec Ideal S1024x4x10 .f32) (E m c main_call5_v0 : FVec Ideal S_ .f32) pads_S1024x4x10_S1024x4x128_000_000_01180 h_S_ := by
    have h := Line.at_binary before_writes (V0 m c) 29 rfl (by decide +kernel) (by decide +kernel) (by decide +kernel)
    exact h
  have e'' : E m c main_v13 = _ := Line.at_unary before_writes (V0 m c) 26 rfl (by decide +kernel) (by decide +kernel)
  rw [← E_arg m c main_arg16 (by decide +kernel)]
  refine (congrArg (fun z => mat 1024 512 z q k) e).trans ?_
  refine (shapeCast_apply (s := S1024x4x128) (E m c main_v14) shapeCasts_S1024x4x128_S1024x512 (ix2 q k) (ix3 q p (j.castLE (by decide))) (by
    rw [Shape.rowMajor_val_three, Shape.rowMajor_val_two]; show (q.val * 4 + p.val) * 128 + j.val = q.val * 512 + k.val; omega)).trans ?_
  refine (congrFun e' _).trans ((cube_padCols (n := 1024) (p := 4) (k := 10) (w := 128) (by decide) _ _ _ _ q p j).trans ?_)
  exact (congrFun e'' _).trans (transpose_apply _ _ _ (ix3 q p j) (ix3 p q j) fun b => match b with
    | ⟨0, _⟩ => rfl
    | ⟨1, _⟩ => rfl
    | ⟨2, _⟩ => rfl)

theorem E_v17 (p : Fin 4) (j : Fin 10) (k : Fin 512) (hk : k.val = 128 * p.val + j.val) :
    mat 1 512 (E m c main_v17) 0 k = mat 4 10 (A m c main_arg17) p j := by
  have e : E m c main_v17 = _ := Line.at_reshape before_writes (V0 m c) 34 rfl (by decide +kernel) (by decide +kernel)
  have e' : E m c main_v16 = pad S4x128 ![0, 0] ![0, 118] ![0, 0] (E m c main_arg17 : FVec Ideal S4x10 .f32) (E m c main_call6_v0 : FVec Ideal S_ .f32) pads_S4x10_S4x128_000_01180 h_S_ := by
    have h := Line.at_binary before_writes (V0 m c) 33 rfl (by decide +kernel) (by decide +kernel) (by decide +kernel)
    exact h
  rw [← E_arg m c main_arg17 (by decide +kernel)]
  refine (congrArg (fun z => mat 1 512 z 0 k) e).trans ?_
  refine (shapeCast_apply (s := S4x128) (E m c main_v16) shapeCasts_S4x128_S1x512 (ix2 0 k) (ix2 p (j.castLE (by decide))) (by
    rw [Shape.rowMajor_val_two, Shape.rowMajor_val_two]; show p.val * 128 + j.val = 0 * 512 + k.val; omega)).trans ?_
  exact (congrFun e' _).trans (mat_padCols (n := 4) (k := 10) (w := 128) (by decide) _ _ _ h_S_ p j)

theorem E_v6 : mat 1 2 (E m c main_v6) 0 0 = cell (A m c main_arg2) ∧ mat 1 2 (E m c main_v6) 0 1 = switch (cell (A m c main_arg3)) := by
  have e : E m c main_v6 = _ := Line.at_binary before_writes (V0 m c) 11 rfl (by decide +kernel) (by decide +kernel) (by decide +kernel)
  have e3 : E m c main_v3 = _ := Line.at_reshape before_writes (V0 m c) 8 rfl (by decide +kernel) (by decide +kernel)
  have e4 : E m c main_v4 = _ := Line.at_unary before_writes (V0 m c) 9 rfl (by decide +kernel) (by decide +kernel)
  have e5 : E m c main_v5 = _ := Line.at_reshape before_writes (V0 m c) 10 rfl (by decide +kernel) (by decide +kernel)
  rw [← E_arg m c main_arg2 (by decide +kernel), ← E_arg m c main_arg3 (by decide +kernel)]
  constructor
  · refine (congrArg (fun z => mat 1 2 z 0 0) e).trans ?_
    refine (concatenate_pair_apply_left (t := S1x2) (s₁ := S1x1) (s₂ := S1x1) 1 (E m c main_v3) (E m c main_v5) concatenates_S1x1_S1x1_S1x2_d1 (ix2 0 0) rfl (ix2 0 0)
      (fun b => match b with | ⟨0, _⟩ => rfl | ⟨1, _⟩ => rfl)).trans ?_
    exact (congrFun e3 _).trans (cell_cast _ _)
  · refine (congrArg (fun z => mat 1 2 z 0 1) e).trans ?_
    refine (concatenate_pair_apply_right (t := S1x2) (s₁ := S1x1) (s₂ := S1x1) 1 (E m c main_v3) (E m c main_v5) concatenates_S1x1_S1x1_S1x2_d1 (ix2 0 1) rfl rfl (ix2 0 0)
      (fun b hb => match b, hb with | ⟨0, _⟩, _ => rfl | ⟨1, _⟩, hb => absurd rfl hb) rfl).trans ?_
    exact (congrFun e5 _).trans ((cell_cast _ _).trans (congrFun e4 ix0))

/-! ### The second launch's arrays -/

/-- The network the program's arguments describe. -/
def net : Net where
  x := mat 1024 3072 (shapeCast S1024x3072 (A m c main_arg0) shapeCasts_S1024x32x32x3_S1024x3072)
  temp := cell (A m c main_arg2)
  warm := cell (A m c main_arg3)
  w0 := mat 3072 2048 (A m c main_arg4)
  b0 := vec 2048 (A m c main_arg5)
  wh0 := mat 2048 128 (A m c main_arg6)
  bh0 := vec 128 (A m c main_arg7)
  wr0 := mat 128 2 (A m c main_arg8)
  br0 := vec 2 (A m c main_arg9)
  w1 := cube 2 2048 1024 (A m c main_arg10)
  b1 := mat 2 1024 (A m c main_arg11)
  wh1 := mat 1024 128 (A m c main_arg12)
  bh1 := vec 128 (A m c main_arg13)
  wr1 := mat 128 4 (A m c main_arg14)
  br1 := vec 4 (A m c main_arg15)
  w2 := cube 4 1024 10 (A m c main_arg16)
  b2 := mat 4 10 (A m c main_arg17)

theorem mid (r : Ref sig .tc) (h1 : r ∉ hostOps1_W) (h0 : ∀ w : Fin cfg0.W, Pipeline.arrRef spec0 w = r → (cfg0.win w).isOut = false) : U17 m c r = E m c r :=
  (W17_of m c r h1).trans ((W16_of m c r h0).trans (congrFun (V15_before m c) (Proc.devRef .tc r)))

theorem mid_shared : mat 1024 2048 (U17 m c main_v19_0) = (net m c).f := by
  have e : U17 m c main_v19_0 = fun i : S1024x2048.Idx => shared (U15 m) c (i 0) (i 1) :=
    (W17_of m c main_v19_0 (by decide +kernel)).trans ((W16_arr m c 3).trans (final0_3 (U15 m) c))
  have eE : ∀ r : Ref sig .tc, U15 m c r = E m c r := fun r => congrFun (V15_before m c) (Proc.devRef .tc r)
  rw [e]
  show shared (U15 m) c = _
  unfold shared
  rw [eE main_v1, eE main_arg4, eE main_v18, E_v1, E_arg m c main_arg4 (by decide +kernel), show mat 1 2048 (E m c main_v18) 0 = vec 2048 (A m c main_arg5) from funext (E_v18 m c)]
  rfl

theorem host1_writes : Line.Writes (hostOps1 : List (HloOp τ sig (Elt Ideal))) [main_v20, main_v21, main_v22] := rfl

theorem mid_v20 (p : Fin 2) (k : Fin 1024) : U17 m c main_v20 (ix3 p 0 k) = mat 2 1024 (A m c main_arg11) p k := by
  have e : U17 m c main_v20 = _ := Line.at_reshape host1_writes (W16 m c) 0 rfl (by decide +kernel) (by decide +kernel)
  refine (congrFun e _).trans ?_
  refine (shapeCast_apply (s := S2x1024) (U17 m c main_arg11) shapeCasts_S2x1024_S2x1x1024 (ix3 p 0 k) (ix2 p k) (by
    rw [Shape.rowMajor_val_two, Shape.rowMajor_val_three]; show p.val * 1024 + k.val = (p.val * 1 + 0) * 1024 + k.val; omega)).trans ?_
  exact congrFun (W17_args m c main_arg11 (by decide +kernel)) _

theorem mid_v21 (j : Fin 128) : mat 1 128 (U17 m c main_v21) 0 j = vec 128 (A m c main_arg7) j := by
  have e : U17 m c main_v21 = _ := Line.at_reshape host1_writes (W16 m c) 1 rfl (by decide +kernel) (by decide +kernel)
  refine (congrArg (fun z => mat 1 128 z 0 j) e).trans ((row_cast (U17 m c main_arg7) _ j).trans ?_)
  exact congrFun (W17_args m c main_arg7 (by decide +kernel)) _

theorem mid_v22 (j : Fin 128) : mat 1 128 (U17 m c main_v22) 0 j = vec 128 (A m c main_arg13) j := by
  have e : U17 m c main_v22 = _ := Line.at_reshape host1_writes (W16 m c) 2 rfl (by decide +kernel) (by decide +kernel)
  refine (congrArg (fun z => mat 1 128 z 0 j) e).trans ((row_cast (U17 m c main_arg13) _ j).trans ?_)
  exact congrFun (W17_args m c main_arg13 (by decide +kernel)) _

theorem feeds : Feeds (U17 m) c (net m c) where
  f := mid_shared m c
  wh0 := congrArg (mat 2048 128) (W17_args m c main_arg6 (by decide +kernel))
  bh0 := funext (mid_v21 m c)
  wr0 q j := (congrArg (fun z => mat 128 8 z q _) (mid m c main_v7 (by decide +kernel) (by decide +kernel))).trans (E_v7 m c q j)
  br0 j := (congrArg (fun z => mat 1 8 z 0 _) (mid m c main_v9 (by decide +kernel) (by decide +kernel))).trans (E_v9 m c j)
  w1 p q k := congrFun (W17_args m c main_arg10 (by decide +kernel)) (ix3 p q k)
  b1 := mid_v20 m c
  wh1 := congrArg (mat 1024 128) (W17_args m c main_arg12 (by decide +kernel))
  bh1 := funext (mid_v22 m c)
  wr1 q j := (congrArg (fun z => mat 128 8 z q _) (mid m c main_v10 (by decide +kernel) (by decide +kernel))).trans (E_v10 m c q j)
  br1 j := (congrArg (fun z => mat 1 8 z 0 _) (mid m c main_v12 (by decide +kernel) (by decide +kernel))).trans (E_v12 m c j)
  w2 p q j k hk := (congrArg (fun z => mat 1024 512 z q k) (mid m c main_v15 (by decide +kernel) (by decide +kernel))).trans (E_v15 m c p q j k hk)
  b2 p j k hk := (congrArg (fun z => mat 1 512 z 0 k) (mid m c main_v17 (by decide +kernel) (by decide +kernel))).trans (E_v17 m c p j k hk)
  temp := (congrArg (fun z => mat 1 2 z 0 0) (mid m c main_v6 (by decide +kernel) (by decide +kernel))).trans (E_v6 m c).1
  warm := (congrArg (fun z => mat 1 2 z 0 1) (mid m c main_v6 (by decide +kernel) (by decide +kernel))).trans (E_v6 m c).2

end Cert.KernelIdeal.Work

end
-- ==== Proof.KernelIdealWork.Outputs.lean ====
/- The operations after the launches, as one line over what the launches leave, and the sliced results at coordinates. -/
module

public import proofs.«01_k».proof.Proof.KernelIdealWork.Inputs

@[expose] public section

set_option maxHeartbeats 1000000
set_option maxRecDepth 16384

noncomputable section

namespace Cert.KernelIdeal.Work

open Idealize.ShloMosaic
open Idealize.ShloMosaic.TcCoe Idealize.ShloMosaic.ValueIdx Idealize.ShloMosaic.StableHlo
open Cert.KernelIdeal Cert.KernelIdeal.Gen Cert.At

variable (m : (ℓ : Loc nD τ sig) → Buf (Elt Ideal) ℓ) (c : Dev nD)

abbrev behind : List (HloOp τ sig (Elt Ideal)) := hostOps2 ++ (hostOps2_1 ++ (hostOps2_2 ++ hostOps2_3))
abbrev behindW : List (Ref sig .tc) := hostOps2_W ++ (hostOps2_1_W ++ (hostOps2_2_W ++ hostOps2_3_W))
theorem behind_writes : Line.Writes behind behindW := rfl
theorem W22_behind : W22 m c = after behind (W18 m c) := by
  unfold behind
  rw [after_append, after_append, after_append]

/-- What the line after the launches leaves in a buffer. -/
def F (b : Ref sig .tc) : b.ty.Contents (Elt Ideal) := after behind (W18 m c) b

theorem F_keep (r : Ref sig .tc) (hr : r ∉ behindW) : F m c r = W18 m c r := (Line.keep behind_writes 0 (W18 m c) hr).symm
theorem F_arg (a : Ref sig .tc) (ha : a ∈ argRefs := by decide +kernel) (hr : a ∉ behindW := by decide +kernel) : F m c a = A m c a := (F_keep m c a hr).trans (W18_args m c a ha)

theorem F_nullary (k : ℕ) {y : Ref sig .tc} {v : y.ty.Contents (Elt Ideal)} {hy} (ho : behind[k]? = some (nullary y v hy))
    (h1 : y ∉ behindW.drop (k + 1) := by decide +kernel) : F m c y = v := Line.at_nullary behind_writes (W18 m c) k ho h1
theorem F_unary (k : ℕ) {x y : Ref sig .tc} {f : x.ty.Contents (Elt Ideal) → y.ty.Contents (Elt Ideal)} {hx hy}
    (ho : behind[k]? = some (unary x y f hx hy)) (h1 : y ∉ behindW.drop (k + 1) := by decide +kernel) (h2 : x ∉ behindW.drop k := by decide +kernel) : F m c y = f (F m c x) :=
  Line.at_unary behind_writes (W18 m c) k ho h1 h2
theorem F_binary (k : ℕ) {a b y : Ref sig .tc} {f : a.ty.Contents (Elt Ideal) → b.ty.Contents (Elt Ideal) → y.ty.Contents (Elt Ideal)} {ha hb hy}
    (ho : behind[k]? = some (binary a b y f ha hb hy)) (h1 : y ∉ behindW.drop (k + 1) := by decide +kernel) (h2 : a ∉ behindW.drop k := by decide +kernel) (h3 : b ∉ behindW.drop k := by decide +kernel) :
    F m c y = f (F m c a) (F m c b) :=
  Line.at_binary behind_writes (W18 m c) k ho h1 h2 h3

theorem F_out (w : Fin cfg1.W) (hr : Pipeline.arrRef spec1 w ∉ behindW := by decide +kernel) : F m c (Pipeline.arrRef spec1 w) = (dat1 (U17 m) c).arrAt w cfg1.N :=
  (F_keep m c _ hr).trans (W18_arr m c w)

theorem F_hard : mat 1024 2 (F m c main_v93) = (net m c).rm0 := by
  funext i j
  have e : F m c main_v93 = _ := F_unary m c 94 rfl
  have e' : F m c main_v23_2 = hard (U17 m) c := (F_out m c 18).trans ((finals (U17 m) c).2.2.1.trans rfl)
  rw [e, e']
  exact (cols (by decide) _ _ i j).trans (hard_at (feeds m c) i j)

theorem F_rm1 : mat 1024 4 (F m c main_v94) = (net m c).rm1 := by
  funext i j
  have e : F m c main_v94 = _ := F_unary m c 95 rfl
  have e' : F m c main_v23_3 = (last (U17 m) c).rm1 := (F_out m c 19).trans ((finals (U17 m) c).2.2.2.1.trans rfl)
  rw [e, e']
  exact (cols (by decide) _ _ i j).trans (rm1_at (feeds m c) i j)

theorem F_logits : mat 1024 10 (F m c main_v91) = (net m c).logits := by
  funext i j
  have e : F m c main_v91 = _ := F_unary m c 92 rfl
  have e' : F m c main_v23_0 = (final (U17 m) c).o16 := (F_out m c 16).trans (finals (U17 m) c).1
  rw [e, e']
  exact (cols (by decide) _ _ i j).trans (logits_at (feeds m c) i j)

theorem F_post : mat 1024 10 (F m c main_v92) = (net m c).post := by
  funext i j
  have e : F m c main_v92 = _ := F_unary m c 93 rfl
  have e' : F m c main_v23_1 = (final (U17 m) c).o17 := (F_out m c 17).trans (finals (U17 m) c).2.1
  rw [e, e']
  exact (cols (by decide) _ _ i j).trans (post_at (feeds m c) i j)

theorem F_probs0 : mat 1024 2 (F m c main_v23_7) = (net m c).probs0 := by
  funext i j
  have e' : F m c main_v23_7 = (ins (U17 m) c t1_0).opening.o23 := (F_out m c 23).trans (finals (U17 m) c).2.2.2.2.2
  rw [e']
  exact out0_at (feeds m c) i j

theorem F_probs1 : mat 1024 4 (F m c main_v23_8) = (net m c).probs1 := by
  funext i j
  have e' : F m c main_v23_8 = (final (U17 m) c).o24 := (F_out m c 24).trans (finals (U17 m) c).2.2.2.2.1
  rw [e']
  exact out1_at (feeds m c) i j

/-- The labels as rows of zeros and a one. -/
theorem F_v24 : F m c main_v24 = (uitofp .f32 (cmpi .eq (broadcastInDim S1024x10 ![0, 1] bcast_S1024x1_S1024x10_0_1 (broadcastInDim S1024x1 ![0] bcast_S1024_S1024x1_0
    (A m c main_arg1 : IVec S1024 32))) (broadcastInDim S1024x10 ![0, 1] bcast_S1x10_S1024x10_0_1 (iotaInDim S1x10 32 1))) : FVec Ideal S1024x10 .f32) := by
  have e0 : F m c main_call7_v0 = broadcastInDim S1024x1 ![0] bcast_S1024_S1024x1_0 (A m c main_arg1 : IVec S1024 32) := by
    have h := F_unary m c 0 rfl
    rw [← F_arg m c main_arg1]; exact h
  have e1 : F m c main_call7_v1 = (iotaInDim S1x10 32 1 : IVec S1x10 32) := by
    have h := F_nullary m c 1 rfl; exact h
  have e2 : F m c main_call7_v2 = broadcastInDim S1024x10 ![0, 1] bcast_S1024x1_S1024x10_0_1 (F m c main_call7_v0 : IVec S1024x1 32) := by
    have h := F_unary m c 2 rfl; exact h
  have e3 : F m c main_call7_v3 = broadcastInDim S1024x10 ![0, 1] bcast_S1x10_S1024x10_0_1 (F m c main_call7_v1 : IVec S1x10 32) := by
    have h := F_unary m c 3 rfl; exact h
  have e4 : F m c main_call7_v4 = cmpi .eq (F m c main_call7_v2 : IVec S1024x10 32) (F m c main_call7_v3 : IVec S1024x10 32) := by
    have h := F_binary m c 4 rfl; exact h
  have e5 : F m c main_v24 = (uitofp .f32 (F m c main_call7_v4 : IVec S1024x10 1) : FVec Ideal S1024x10 .f32) := by
    have h := F_unary m c 5 rfl; exact h
  rw [e5, e4, e3, e2, e1, e0]

theorem F_v84 : F m c main_v84 = (select (A m c main_arg3 : IVec S_ 1) (F m c main_v82 : FVec Ideal S_ .f32) (F m c main_v83 : FVec Ideal S_ .f32)) := by
  rw [← F_arg m c main_arg3]
  have h := Line.at_ternary behind_writes (W18 m c) 85 rfl (by decide +kernel) (by decide +kernel) (by decide +kernel) (by decide +kernel)
  exact h

end Cert.KernelIdeal.Work

end
-- ==== Proof.ReferenceWork.Run.lean ====
/- The reference as a list of host operations, and its run. -/
module

public import proofs.«01_k».proof.Proof.Gen.ReferenceIdeal
public import proofs.«01_k».proof.Proof.ReferenceWork.Ssa
public import Idealize.ShloMosaic.Lib.StableHlo.RunHlo
public import Idealize.ShloMosaic.Lib.Decide

@[expose] public section

set_option maxRecDepth 16384
set_option maxHeartbeats 4000000

noncomputable section

namespace Cert.ReferenceIdeal.Work

open Idealize.ShloMosaic Idealize.ShloMosaic.TcCoe Idealize.ShloMosaic.StableHlo
open Idealize.SL.Sem
open Cert.ReferenceIdeal Cert.ReferenceIdeal.Gen

variable {F : FTy → Type} [FloatOps F]

/-- The operations of part 0 of the program, in order. -/
def ops0 : List (HloOp τ sig (Elt F)) :=
  [ reshape main_arg0 main_v0 (rfl : (.f32 : EltTy) = .f32) shapeCasts_S1024x32x32x3_S1024x3072,
    TRef.unary (TRef.of (T := ⟨S1024, .i32⟩) main_arg1) (TRef.of (T := ⟨S1024x1, .i32⟩) main_call0_v0) (broadcastInDim S1024x1 ![0] bcast_S1024_S1024x1_0),
    TRef.nullary (TRef.of (T := ⟨S1x10, .i32⟩) main_call0_v1) (iotaInDim S1x10 32 1),
    TRef.unary (TRef.of (T := ⟨S1024x1, .i32⟩) main_call0_v0) (TRef.of (T := ⟨S1024x10, .i32⟩) main_call0_v2) (broadcastInDim S1024x10 ![0, 1] bcast_S1024x1_S1024x10_0_1),
    TRef.unary (TRef.of (T := ⟨S1x10, .i32⟩) main_call0_v1) (TRef.of (T := ⟨S1024x10, .i32⟩) main_call0_v3) (broadcastInDim S1024x10 ![0, 1] bcast_S1x10_S1024x10_0_1),
    TRef.binary (TRef.of (T := ⟨S1024x10, .i32⟩) main_call0_v2) (TRef.of (T := ⟨S1024x10, .i32⟩) main_call0_v3) (TRef.of (T := ⟨S1024x10, .i1⟩) main_call0_v4) (cmpi .eq),
    TRef.unary (TRef.of (T := ⟨S1024x10, .i1⟩) main_call0_v4) (TRef.of (T := ⟨S1024x10, .f32⟩) main_v1) (uitofp .f32),
    binary main_v0 main_arg4 main_v2 ((fun l r => Host.dotGeneral dot_S1024x3072_S3072x2048_S1024x2048_1_0_0_1_n_n none l r) : (⟨S1024x3072, .f32⟩ : BufTy).Contents (Elt F) → (⟨S3072x2048, .f32⟩ : BufTy).Contents (Elt F) → (⟨S1024x2048, .f32⟩ : BufTy).Contents (Elt F)),
    unary main_arg5 main_v3 (broadcastInDim S1x2048 ![1] bcast_S2048_S1x2048_1 : (⟨S2048, .f32⟩ : BufTy).Contents (Elt F) → (⟨S1x2048, .f32⟩ : BufTy).Contents (Elt F)),
    unary main_v3 main_v4 (broadcastInDim S1024x2048 ![0, 1] bcast_S1x2048_S1024x2048_0_1 : (⟨S1x2048, .f32⟩ : BufTy).Contents (Elt F) → (⟨S1024x2048, .f32⟩ : BufTy).Contents (Elt F)),
    binary main_v2 main_v4 main_v5 (addf : (⟨S1024x2048, .f32⟩ : BufTy).Contents (Elt F) → (⟨S1024x2048, .f32⟩ : BufTy).Contents (Elt F) → (⟨S1024x2048, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1024x2048, .f32⟩) main_call1_v0) (broadcastInDim S1024x2048 ![] bcast_S_S1024x2048),
    TRef.binary (TRef.of (T := ⟨S1024x2048, .f32⟩) main_v5) (TRef.of (T := ⟨S1024x2048, .f32⟩) main_call1_v0) (TRef.of (T := ⟨S1024x2048, .f32⟩) main_v6) maximumf,
    binary main_v6 main_arg6 main_v7 ((fun l r => Host.dotGeneral dot_S1024x2048_S2048x128_S1024x128_1_0_0_1_n_n none l r) : (⟨S1024x2048, .f32⟩ : BufTy).Contents (Elt F) → (⟨S2048x128, .f32⟩ : BufTy).Contents (Elt F) → (⟨S1024x128, .f32⟩ : BufTy).Contents (Elt F)),
    unary main_arg7 main_v8 (broadcastInDim S1x128 ![1] bcast_S128_S1x128_1 : (⟨S128, .f32⟩ : BufTy).Contents (Elt F) → (⟨S1x128, .f32⟩ : BufTy).Contents (Elt F)),
    unary main_v8 main_v9 (broadcastInDim S1024x128 ![0, 1] bcast_S1x128_S1024x128_0_1 : (⟨S1x128, .f32⟩ : BufTy).Contents (Elt F) → (⟨S1024x128, .f32⟩ : BufTy).Contents (Elt F)),
    binary main_v7 main_v9 main_v10 (addf : (⟨S1024x128, .f32⟩ : BufTy).Contents (Elt F) → (⟨S1024x128, .f32⟩ : BufTy).Contents (Elt F) → (⟨S1024x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x128, .f32⟩) main_call2_v0) (broadcastInDim S1024x128 ![] bcast_S_S1024x128),
    TRef.binary (TRef.of (T := ⟨S1024x128, .f32⟩) main_v10) (TRef.of (T := ⟨S1024x128, .f32⟩) main_call2_v0) (TRef.of (T := ⟨S1024x128, .f32⟩) main_v11) maximumf,
    binary main_v11 main_arg8 main_v12 ((fun l r => Host.dotGeneral dot_S1024x128_S128x2_S1024x2_1_0_0_1_n_n none l r) : (⟨S1024x128, .f32⟩ : BufTy).Contents (Elt F) → (⟨S128x2, .f32⟩ : BufTy).Contents (Elt F) → (⟨S1024x2, .f32⟩ : BufTy).Contents (Elt F)),
    unary main_arg9 main_v13 (broadcastInDim S1x2 ![1] bcast_S2_S1x2_1 : (⟨S2, .f32⟩ : BufTy).Contents (Elt F) → (⟨S1x2, .f32⟩ : BufTy).Contents (Elt F)),
    unary main_v13 main_v14 (broadcastInDim S1024x2 ![0, 1] bcast_S1x2_S1024x2_0_1 : (⟨S1x2, .f32⟩ : BufTy).Contents (Elt F) → (⟨S1024x2, .f32⟩ : BufTy).Contents (Elt F)),
    binary main_v12 main_v14 main_v15 (addf : (⟨S1024x2, .f32⟩ : BufTy).Contents (Elt F) → (⟨S1024x2, .f32⟩ : BufTy).Contents (Elt F) → (⟨S1024x2, .f32⟩ : BufTy).Contents (Elt F)),
    unary main_arg2 main_v16 (broadcastInDim S1024x2 ![] bcast_S_S1024x2 : (⟨S_, .f32⟩ : BufTy).Contents (Elt F) → (⟨S1024x2, .f32⟩ : BufTy).Contents (Elt F)),
    binary main_v15 main_v16 main_v17 (Host.divf : (⟨S1024x2, .f32⟩ : BufTy).Contents (Elt F) → (⟨S1024x2, .f32⟩ : BufTy).Contents (Elt F) → (⟨S1024x2, .f32⟩ : BufTy).Contents (Elt F)),
    nullary main_cst (constant S_ .f32 0xFF800000#32),
    binary main_v17 main_cst main_v18 ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F)),
    nullary main_cst_0 (constant S_ .f32 0xFF800000#32),
    unary main_cst_0 main_v19 (broadcastInDim S1024 ![] bcast_S_S1024 : (⟨S_, .f32⟩ : BufTy).Contents (Elt F) → (⟨S1024, .f32⟩ : BufTy).Contents (Elt F)),
    binary main_v19 main_v18 main_v20 (maximumf : (⟨S1024, .f32⟩ : BufTy).Contents (Elt F) → (⟨S1024, .f32⟩ : BufTy).Contents (Elt F) → (⟨S1024, .f32⟩ : BufTy).Contents (Elt F)),
    unary main_v20 main_v21 (broadcastInDim S1024x1 ![0] bcast_S1024_S1024x1_0 : (⟨S1024, .f32⟩ : BufTy).Contents (Elt F) → (⟨S1024x1, .f32⟩ : BufTy).Contents (Elt F)),
    unary main_v21 main_v22 (broadcastInDim S1024x2 ![0, 1] bcast_S1024x1_S1024x2_0_1 : (⟨S1024x1, .f32⟩ : BufTy).Contents (Elt F) → (⟨S1024x2, .f32⟩ : BufTy).Contents (Elt F)),
    binary main_v17 main_v22 main_v23 (subf : (⟨S1024x2, .f32⟩ : BufTy).Contents (Elt F) → (⟨S1024x2, .f32⟩ : BufTy).Contents (Elt F) → (⟨S1024x2, .f32⟩ : BufTy).Contents (Elt F)),
    unary main_v23 main_v24 (Host.exp : (⟨S1024x2, .f32⟩ : BufTy).Contents (Elt F) → (⟨S1024x2, .f32⟩ : BufTy).Contents (Elt F)),
    nullary main_cst_1 (constant S_ .f32 0x00000000#32),
    binary main_v24 main_cst_1 main_v25 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)),
    unary main_v25 main_v26 (broadcastInDim S1024x1 ![0] bcast_S1024_S1024x1_0 : (⟨S1024, .f32⟩ : BufTy).Contents (Elt F) → (⟨S1024x1, .f32⟩ : BufTy).Contents (Elt F)),
    unary main_v26 main_v27 (broadcastInDim S1024x2 ![0, 1] bcast_S1024x1_S1024x2_0_1 : (⟨S1024x1, .f32⟩ : BufTy).Contents (Elt F) → (⟨S1024x2, .f32⟩ : BufTy).Contents (Elt F)),
    binary main_v24 main_v27 main_v28 (Host.divf : (⟨S1024x2, .f32⟩ : BufTy).Contents (Elt F) → (⟨S1024x2, .f32⟩ : BufTy).Contents (Elt F) → (⟨S1024x2, .f32⟩ : BufTy).Contents (Elt F)),
    binary main_v1 main_v28 main_v29 ((fun l r => Host.dotGeneral dot_S1024x10_S1024x2_S10x2_0_0_1_1_n_n none l r) : (⟨S1024x10, .f32⟩ : BufTy).Contents (Elt F) → (⟨S1024x2, .f32⟩ : BufTy).Contents (Elt F) → (⟨S10x2, .f32⟩ : BufTy).Contents (Elt F)),
    nullary main_cst_2 (constant S_ .f32 0x44800000#32),
    unary main_cst_2 main_v30 (broadcastInDim S10x2 ![] bcast_S_S10x2 : (⟨S_, .f32⟩ : BufTy).Contents (Elt F) → (⟨S10x2, .f32⟩ : BufTy).Contents (Elt F)),
    binary main_v29 main_v30 main_v31 (Host.divf : (⟨S10x2, .f32⟩ : BufTy).Contents (Elt F) → (⟨S10x2, .f32⟩ : BufTy).Contents (Elt F) → (⟨S10x2, .f32⟩ : BufTy).Contents (Elt F)),
    nullary main_cst_3 (constant S_ .f32 0x00000000#32),
    binary main_v31 main_cst_3 main_v32 ((fun x v => Host.reduceAdd x v reducesTo_S10x2_S10_d1 h_S_) : (⟨S10x2, .f32⟩ : BufTy).Contents (Elt F) → (⟨S_, .f32⟩ : BufTy).Contents (Elt F) → (⟨S10, .f32⟩ : BufTy).Contents (Elt F)),
    nullary main_cst_4 (constant S_ .f32 0x00000000#32),
    binary main_v31 main_cst_4 main_v33 ((fun x v => Host.reduceAdd x v reducesTo_S10x2_S2_d0 h_S_) : (⟨S10x2, .f32⟩ : BufTy).Contents (Elt F) → (⟨S_, .f32⟩ : BufTy).Contents (Elt F) → (⟨S2, .f32⟩ : BufTy).Contents (Elt F)),
    nullary main_cst_5 (constant S_ .f32 0x0DA24260#32),
    unary main_cst_5 main_v34 (broadcastInDim S10x2 ![] bcast_S_S10x2 : (⟨S_, .f32⟩ : BufTy).Contents (Elt F) → (⟨S10x2, .f32⟩ : BufTy).Contents (Elt F)),
    binary main_v31 main_v34 main_v35 (addf : (⟨S10x2, .f32⟩ : BufTy).Contents (Elt F) → (⟨S10x2, .f32⟩ : BufTy).Contents (Elt F) → (⟨S10x2, .f32⟩ : BufTy).Contents (Elt F)),
    unary main_v35 main_v36 (Host.log : (⟨S10x2, .f32⟩ : BufTy).Contents (Elt F) → (⟨S10x2, .f32⟩ : BufTy).Contents (Elt F)),
    binary main_v31 main_v36 main_v37 (mulf : (⟨S10x2, .f32⟩ : BufTy).Contents (Elt F) → (⟨S10x2, .f32⟩ : BufTy).Contents (Elt F) → (⟨S10x2, .f32⟩ : BufTy).Contents (Elt F)),
    nullary main_cst_6 (constant S_ .f32 0x00000000#32),
    binary main_v37 main_cst_6 main_v38 ((fun x v => Host.reduceAdd x v reducesTo_S10x2_S_d0_1 h_S_) : (⟨S10x2, .f32⟩ : BufTy).Contents (Elt F) → (⟨S_, .f32⟩ : BufTy).Contents (Elt F) → (⟨S_, .f32⟩ : BufTy).Contents (Elt F)),
    unary main_v38 main_v39 (Host.negf : (⟨S_, .f32⟩ : BufTy).Contents (Elt F) → (⟨S_, .f32⟩ : BufTy).Contents (Elt F)),
    nullary main_cst_7 (constant S_ .f32 0x0DA24260#32),
    unary main_cst_7 main_v40 (broadcastInDim S10 ![] bcast_S_S10 : (⟨S_, .f32⟩ : BufTy).Contents (Elt F) → (⟨S10, .f32⟩ : BufTy).Contents (Elt F)),
    binary main_v32 main_v40 main_v41 (addf : (⟨S10, .f32⟩ : BufTy).Contents (Elt F) → (⟨S10, .f32⟩ : BufTy).Contents (Elt F) → (⟨S10, .f32⟩ : BufTy).Contents (Elt F)),
    unary main_v41 main_v42 (Host.log : (⟨S10, .f32⟩ : BufTy).Contents (Elt F) → (⟨S10, .f32⟩ : BufTy).Contents (Elt F)),
    binary main_v32 main_v42 main_v43 (mulf : (⟨S10, .f32⟩ : BufTy).Contents (Elt F) → (⟨S10, .f32⟩ : BufTy).Contents (Elt F) → (⟨S10, .f32⟩ : BufTy).Contents (Elt F)),
    nullary main_cst_8 (constant S_ .f32 0x00000000#32),
    binary main_v43 main_cst_8 main_v44 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
    unary main_v44 main_v45 (Host.negf : (⟨S_, .f32⟩ : BufTy).Contents (Elt F) → (⟨S_, .f32⟩ : BufTy).Contents (Elt F)),
    nullary main_cst_9 (constant S_ .f32 0x0DA24260#32),
    unary main_cst_9 main_v46 (broadcastInDim S2 ![] bcast_S_S2 : (⟨S_, .f32⟩ : BufTy).Contents (Elt F) → (⟨S2, .f32⟩ : BufTy).Contents (Elt F)),
    binary main_v33 main_v46 main_v47 (addf : (⟨S2, .f32⟩ : BufTy).Contents (Elt F) → (⟨S2, .f32⟩ : BufTy).Contents (Elt F) → (⟨S2, .f32⟩ : BufTy).Contents (Elt F)),
    unary main_v47 main_v48 (Host.log : (⟨S2, .f32⟩ : BufTy).Contents (Elt F) → (⟨S2, .f32⟩ : BufTy).Contents (Elt F)) ]

/-- The buffers they write. -/
abbrev W0 : List (Ref sig .tc) := [main_v0, main_call0_v0, main_call0_v1, main_call0_v2, main_call0_v3, main_call0_v4, main_v1, main_v2, main_v3, main_v4, main_v5, main_call1_cst, main_call1_v0, main_v6, main_v7, main_v8, main_v9, main_v10, main_call2_cst, main_call2_v0, main_v11, main_v12, main_v13, main_v14, main_v15, main_v16, main_v17, main_cst, main_v18, main_cst_0, main_v19, main_v20, main_v21, main_v22, main_v23, main_v24, main_cst_1, main_v25, main_v26, main_v27, main_v28, main_v29, main_cst_2, main_v30, main_v31, main_cst_3, main_v32, main_cst_4, main_v33, main_cst_5, main_v34, main_v35, main_v36, main_v37, main_cst_6, main_v38, main_v39, main_cst_7, main_v40, main_v41, main_v42, main_v43, main_cst_8, main_v44, main_v45, main_cst_9, main_v46, main_v47, main_v48]
theorem part0 (c : Dev nD) : main_part0 (F := F) c = seq ops0 := rfl
theorem writes0 : Line.Writes (ops0 (F := F)) W0 := rfl
theorem sub0 : (ops0 (F := F)).Forall fun op => op.bufs ⊆ tcRefs τ sig :=
  ⟨reshape_bufs_sub .., unary_bufs_sub .., nullary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., binary_bufs_sub .., nullary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub ..⟩
theorem fresh0 : (ops0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of part 1 of the program, in order. -/
def ops1 : List (HloOp τ sig (Elt F)) :=
  [ binary main_v33 main_v48 main_v49 (mulf : (⟨S2, .f32⟩ : BufTy).Contents (Elt F) → (⟨S2, .f32⟩ : BufTy).Contents (Elt F) → (⟨S2, .f32⟩ : BufTy).Contents (Elt F)),
    nullary main_cst_10 (constant S_ .f32 0x00000000#32),
    binary main_v49 main_cst_10 main_v50 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    unary main_v50 main_v51 (Host.negf : (⟨S_, .f32⟩ : BufTy).Contents (Elt F) → (⟨S_, .f32⟩ : BufTy).Contents (Elt F)),
    binary main_v45 main_v51 main_v52 (addf : (⟨S_, .f32⟩ : BufTy).Contents (Elt F) → (⟨S_, .f32⟩ : BufTy).Contents (Elt F) → (⟨S_, .f32⟩ : BufTy).Contents (Elt F)),
    binary main_v52 main_v39 main_v53 (subf : (⟨S_, .f32⟩ : BufTy).Contents (Elt F) → (⟨S_, .f32⟩ : BufTy).Contents (Elt F) → (⟨S_, .f32⟩ : BufTy).Contents (Elt F)),
    unary main_v53 main_v54 (Host.negf : (⟨S_, .f32⟩ : BufTy).Contents (Elt F) → (⟨S_, .f32⟩ : BufTy).Contents (Elt F)),
    TRef.nullary (TRef.of (T := ⟨S1024x2, .i32⟩) main_call3_v0) (iotaInDim S1024x2 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S1024x2, .f32⟩) main_v28) (TRef.of (T := ⟨S1024x2, .i32⟩) main_call3_v0) (TRef.of (T := ⟨S_, .f32⟩) main_call3_cst) (TRef.of (T := ⟨S_, .i32⟩) main_call3_c) (TRef.of (T := ⟨S1024, .f32⟩) main_call3_v1_0) (fun x y u v j => (Host.argReduce reducer_argmax_f32_i32 x y u v reducesTo_S1024x2_S1024_d1 h_S_ j).1),
    TRef.quaternary (TRef.of (T := ⟨S1024x2, .f32⟩) main_v28) (TRef.of (T := ⟨S1024x2, .i32⟩) main_call3_v0) (TRef.of (T := ⟨S_, .f32⟩) main_call3_cst) (TRef.of (T := ⟨S_, .i32⟩) main_call3_c) (TRef.of (T := ⟨S1024, .i32⟩) main_v55) (fun x y u v j => (Host.argReduce reducer_argmax_f32_i32 x y u v reducesTo_S1024x2_S1024_d1 h_S_ j).2),
    TRef.unary (TRef.of (T := ⟨S1024, .i32⟩) main_v55) (TRef.of (T := ⟨S1024x1, .i32⟩) main_call4_v0) (broadcastInDim S1024x1 ![0] bcast_S1024_S1024x1_0),
    TRef.nullary (TRef.of (T := ⟨S1x2, .i32⟩) main_call4_v1) (iotaInDim S1x2 32 1),
    TRef.unary (TRef.of (T := ⟨S1024x1, .i32⟩) main_call4_v0) (TRef.of (T := ⟨S1024x2, .i32⟩) main_call4_v2) (broadcastInDim S1024x2 ![0, 1] bcast_S1024x1_S1024x2_0_1),
    TRef.unary (TRef.of (T := ⟨S1x2, .i32⟩) main_call4_v1) (TRef.of (T := ⟨S1024x2, .i32⟩) main_call4_v3) (broadcastInDim S1024x2 ![0, 1] bcast_S1x2_S1024x2_0_1),
    TRef.binary (TRef.of (T := ⟨S1024x2, .i32⟩) main_call4_v2) (TRef.of (T := ⟨S1024x2, .i32⟩) main_call4_v3) (TRef.of (T := ⟨S1024x2, .i1⟩) main_call4_v4) (cmpi .eq),
    TRef.unary (TRef.of (T := ⟨S1024x2, .i1⟩) main_call4_v4) (TRef.of (T := ⟨S1024x2, .f32⟩) main_v56) (uitofp .f32),
    nullary main_cst_11 (constant S_ .f32 0x3F800000#32),
    unary main_cst_11 main_v57 (broadcastInDim S1024x2 ![] bcast_S_S1024x2 : (⟨S_, .f32⟩ : BufTy).Contents (Elt F) → (⟨S1024x2, .f32⟩ : BufTy).Contents (Elt F)),
    TRef.ternary (TRef.of (T := ⟨S_, .i1⟩) main_arg3) (TRef.of (T := ⟨S1024x2, .f32⟩) main_v57) (TRef.of (T := ⟨S1024x2, .f32⟩) main_v56) (TRef.of (T := ⟨S1024x2, .f32⟩) main_v58) (fun p a b => select (broadcastInDim S1024x2 ![] bcast_S_S1024x2 p) a b),
    binary main_v6 main_arg10 main_v59 ((fun l r => Host.dotGeneral dot_S1024x2048_S2x2048x1024_S1024x2x1024_1_1_0_02_n_n none l r) : (⟨S1024x2048, .f32⟩ : BufTy).Contents (Elt F) → (⟨S2x2048x1024, .f32⟩ : BufTy).Contents (Elt F) → (⟨S1024x2x1024, .f32⟩ : BufTy).Contents (Elt F)),
    unary main_arg11 main_v60 (broadcastInDim S1x2x1024 ![1, 2] bcast_S2x1024_S1x2x1024_1_2 : (⟨S2x1024, .f32⟩ : BufTy).Contents (Elt F) → (⟨S1x2x1024, .f32⟩ : BufTy).Contents (Elt F)),
    unary main_v60 main_v61 (broadcastInDim S1024x2x1024 ![0, 1, 2] bcast_S1x2x1024_S1024x2x1024_0_1_2 : (⟨S1x2x1024, .f32⟩ : BufTy).Contents (Elt F) → (⟨S1024x2x1024, .f32⟩ : BufTy).Contents (Elt F)),
    binary main_v59 main_v61 main_v62 (addf : (⟨S1024x2x1024, .f32⟩ : BufTy).Contents (Elt F) → (⟨S1024x2x1024, .f32⟩ : BufTy).Contents (Elt F) → (⟨S1024x2x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1024x2x1024, .f32⟩) main_call6_v0) (broadcastInDim S1024x2x1024 ![] bcast_S_S1024x2x1024),
    TRef.binary (TRef.of (T := ⟨S1024x2x1024, .f32⟩) main_v62) (TRef.of (T := ⟨S1024x2x1024, .f32⟩) main_call6_v0) (TRef.of (T := ⟨S1024x2x1024, .f32⟩) main_v63) maximumf,
    binary main_v58 main_v63 main_v64 ((fun l r => Host.dotGeneral dot_S1024x2_S1024x2x1024_S1024x1024_1_1_n_2_0_0 none l r) : (⟨S1024x2, .f32⟩ : BufTy).Contents (Elt F) → (⟨S1024x2x1024, .f32⟩ : BufTy).Contents (Elt F) → (⟨S1024x1024, .f32⟩ : BufTy).Contents (Elt F)),
    binary main_v64 main_arg12 main_v65 ((fun l r => Host.dotGeneral dot_S1024x1024_S1024x128_S1024x128_1_0_0_1_n_n none l r) : (⟨S1024x1024, .f32⟩ : BufTy).Contents (Elt F) → (⟨S1024x128, .f32⟩ : BufTy).Contents (Elt F) → (⟨S1024x128, .f32⟩ : BufTy).Contents (Elt F)),
    unary main_arg13 main_v66 (broadcastInDim S1x128 ![1] bcast_S128_S1x128_1 : (⟨S128, .f32⟩ : BufTy).Contents (Elt F) → (⟨S1x128, .f32⟩ : BufTy).Contents (Elt F)),
    unary main_v66 main_v67 (broadcastInDim S1024x128 ![0, 1] bcast_S1x128_S1024x128_0_1 : (⟨S1x128, .f32⟩ : BufTy).Contents (Elt F) → (⟨S1024x128, .f32⟩ : BufTy).Contents (Elt F)),
    binary main_v65 main_v67 main_v68 (addf : (⟨S1024x128, .f32⟩ : BufTy).Contents (Elt F) → (⟨S1024x128, .f32⟩ : BufTy).Contents (Elt F) → (⟨S1024x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1024x128, .f32⟩) main_call7_v0) (broadcastInDim S1024x128 ![] bcast_S_S1024x128),
    TRef.binary (TRef.of (T := ⟨S1024x128, .f32⟩) main_v68) (TRef.of (T := ⟨S1024x128, .f32⟩) main_call7_v0) (TRef.of (T := ⟨S1024x128, .f32⟩) main_v69) maximumf,
    binary main_v69 main_arg14 main_v70 ((fun l r => Host.dotGeneral dot_S1024x128_S128x4_S1024x4_1_0_0_1_n_n none l r) : (⟨S1024x128, .f32⟩ : BufTy).Contents (Elt F) → (⟨S128x4, .f32⟩ : BufTy).Contents (Elt F) → (⟨S1024x4, .f32⟩ : BufTy).Contents (Elt F)),
    unary main_arg15 main_v71 (broadcastInDim S1x4 ![1] bcast_S4_S1x4_1 : (⟨S4, .f32⟩ : BufTy).Contents (Elt F) → (⟨S1x4, .f32⟩ : BufTy).Contents (Elt F)),
    unary main_v71 main_v72 (broadcastInDim S1024x4 ![0, 1] bcast_S1x4_S1024x4_0_1 : (⟨S1x4, .f32⟩ : BufTy).Contents (Elt F) → (⟨S1024x4, .f32⟩ : BufTy).Contents (Elt F)),
    binary main_v70 main_v72 main_v73 (addf : (⟨S1024x4, .f32⟩ : BufTy).Contents (Elt F) → (⟨S1024x4, .f32⟩ : BufTy).Contents (Elt F) → (⟨S1024x4, .f32⟩ : BufTy).Contents (Elt F)),
    unary main_arg2 main_v74 (broadcastInDim S1024x4 ![] bcast_S_S1024x4 : (⟨S_, .f32⟩ : BufTy).Contents (Elt F) → (⟨S1024x4, .f32⟩ : BufTy).Contents (Elt F)),
    binary main_v73 main_v74 main_v75 (Host.divf : (⟨S1024x4, .f32⟩ : BufTy).Contents (Elt F) → (⟨S1024x4, .f32⟩ : BufTy).Contents (Elt F) → (⟨S1024x4, .f32⟩ : BufTy).Contents (Elt F)),
    nullary main_cst_12 (constant S_ .f32 0xFF800000#32),
    binary main_v75 main_cst_12 main_v76 ((fun x v => Host.reduce FloatOps.maximumf x v reducesTo_S1024x4_S1024_d1 h_S_) : (⟨S1024x4, .f32⟩ : BufTy).Contents (Elt F) → (⟨S_, .f32⟩ : BufTy).Contents (Elt F) → (⟨S1024, .f32⟩ : BufTy).Contents (Elt F)),
    nullary main_cst_13 (constant S_ .f32 0xFF800000#32),
    unary main_cst_13 main_v77 (broadcastInDim S1024 ![] bcast_S_S1024 : (⟨S_, .f32⟩ : BufTy).Contents (Elt F) → (⟨S1024, .f32⟩ : BufTy).Contents (Elt F)),
    binary main_v77 main_v76 main_v78 (maximumf : (⟨S1024, .f32⟩ : BufTy).Contents (Elt F) → (⟨S1024, .f32⟩ : BufTy).Contents (Elt F) → (⟨S1024, .f32⟩ : BufTy).Contents (Elt F)),
    unary main_v78 main_v79 (broadcastInDim S1024x1 ![0] bcast_S1024_S1024x1_0 : (⟨S1024, .f32⟩ : BufTy).Contents (Elt F) → (⟨S1024x1, .f32⟩ : BufTy).Contents (Elt F)),
    unary main_v79 main_v80 (broadcastInDim S1024x4 ![0, 1] bcast_S1024x1_S1024x4_0_1 : (⟨S1024x1, .f32⟩ : BufTy).Contents (Elt F) → (⟨S1024x4, .f32⟩ : BufTy).Contents (Elt F)),
    binary main_v75 main_v80 main_v81 (subf : (⟨S1024x4, .f32⟩ : BufTy).Contents (Elt F) → (⟨S1024x4, .f32⟩ : BufTy).Contents (Elt F) → (⟨S1024x4, .f32⟩ : BufTy).Contents (Elt F)),
    unary main_v81 main_v82 (Host.exp : (⟨S1024x4, .f32⟩ : BufTy).Contents (Elt F) → (⟨S1024x4, .f32⟩ : BufTy).Contents (Elt F)),
    nullary main_cst_14 (constant S_ .f32 0x00000000#32),
    binary main_v82 main_cst_14 main_v83 ((fun x v => Host.reduceAdd x v reducesTo_S1024x4_S1024_d1 h_S_) : (⟨S1024x4, .f32⟩ : BufTy).Contents (Elt F) → (⟨S_, .f32⟩ : BufTy).Contents (Elt F) → (⟨S1024, .f32⟩ : BufTy).Contents (Elt F)),
    unary main_v83 main_v84 (broadcastInDim S1024x1 ![0] bcast_S1024_S1024x1_0 : (⟨S1024, .f32⟩ : BufTy).Contents (Elt F) → (⟨S1024x1, .f32⟩ : BufTy).Contents (Elt F)),
    unary main_v84 main_v85 (broadcastInDim S1024x4 ![0, 1] bcast_S1024x1_S1024x4_0_1 : (⟨S1024x1, .f32⟩ : BufTy).Contents (Elt F) → (⟨S1024x4, .f32⟩ : BufTy).Contents (Elt F)),
    binary main_v82 main_v85 main_v86 (Host.divf : (⟨S1024x4, .f32⟩ : BufTy).Contents (Elt F) → (⟨S1024x4, .f32⟩ : BufTy).Contents (Elt F) → (⟨S1024x4, .f32⟩ : BufTy).Contents (Elt F)),
    binary main_v1 main_v86 main_v87 ((fun l r => Host.dotGeneral dot_S1024x10_S1024x4_S10x4_0_0_1_1_n_n none l r) : (⟨S1024x10, .f32⟩ : BufTy).Contents (Elt F) → (⟨S1024x4, .f32⟩ : BufTy).Contents (Elt F) → (⟨S10x4, .f32⟩ : BufTy).Contents (Elt F)),
    nullary main_cst_15 (constant S_ .f32 0x44800000#32),
    unary main_cst_15 main_v88 (broadcastInDim S10x4 ![] bcast_S_S10x4 : (⟨S_, .f32⟩ : BufTy).Contents (Elt F) → (⟨S10x4, .f32⟩ : BufTy).Contents (Elt F)),
    binary main_v87 main_v88 main_v89 (Host.divf : (⟨S10x4, .f32⟩ : BufTy).Contents (Elt F) → (⟨S10x4, .f32⟩ : BufTy).Contents (Elt F) → (⟨S10x4, .f32⟩ : BufTy).Contents (Elt F)),
    nullary main_cst_16 (constant S_ .f32 0x00000000#32),
    binary main_v89 main_cst_16 main_v90 ((fun x v => Host.reduceAdd x v reducesTo_S10x4_S10_d1 h_S_) : (⟨S10x4, .f32⟩ : BufTy).Contents (Elt F) → (⟨S_, .f32⟩ : BufTy).Contents (Elt F) → (⟨S10, .f32⟩ : BufTy).Contents (Elt F)),
    nullary main_cst_17 (constant S_ .f32 0x00000000#32),
    binary main_v89 main_cst_17 main_v91 ((fun x v => Host.reduceAdd x v reducesTo_S10x4_S4_d0 h_S_) : (⟨S10x4, .f32⟩ : BufTy).Contents (Elt F) → (⟨S_, .f32⟩ : BufTy).Contents (Elt F) → (⟨S4, .f32⟩ : BufTy).Contents (Elt F)),
    nullary main_cst_18 (constant S_ .f32 0x0DA24260#32),
    unary main_cst_18 main_v92 (broadcastInDim S10x4 ![] bcast_S_S10x4 : (⟨S_, .f32⟩ : BufTy).Contents (Elt F) → (⟨S10x4, .f32⟩ : BufTy).Contents (Elt F)),
    binary main_v89 main_v92 main_v93 (addf : (⟨S10x4, .f32⟩ : BufTy).Contents (Elt F) → (⟨S10x4, .f32⟩ : BufTy).Contents (Elt F) → (⟨S10x4, .f32⟩ : BufTy).Contents (Elt F)),
    unary main_v93 main_v94 (Host.log : (⟨S10x4, .f32⟩ : BufTy).Contents (Elt F) → (⟨S10x4, .f32⟩ : BufTy).Contents (Elt F)),
    binary main_v89 main_v94 main_v95 (mulf : (⟨S10x4, .f32⟩ : BufTy).Contents (Elt F) → (⟨S10x4, .f32⟩ : BufTy).Contents (Elt F) → (⟨S10x4, .f32⟩ : BufTy).Contents (Elt F)),
    nullary main_cst_19 (constant S_ .f32 0x00000000#32),
    binary main_v95 main_cst_19 main_v96 ((fun x v => Host.reduceAdd x v reducesTo_S10x4_S_d0_1 h_S_) : (⟨S10x4, .f32⟩ : BufTy).Contents (Elt F) → (⟨S_, .f32⟩ : BufTy).Contents (Elt F) → (⟨S_, .f32⟩ : BufTy).Contents (Elt F)),
    unary main_v96 main_v97 (Host.negf : (⟨S_, .f32⟩ : BufTy).Contents (Elt F) → (⟨S_, .f32⟩ : BufTy).Contents (Elt F)),
    nullary main_cst_20 (constant S_ .f32 0x0DA24260#32) ]

/-- The buffers they write. -/
abbrev W1 : List (Ref sig .tc) := [main_v49, main_cst_10, main_v50, main_v51, main_v52, main_v53, main_v54, main_call3_v0, main_call3_cst, main_call3_c, main_call3_v1_0, main_v55, main_call4_v0, main_call4_v1, main_call4_v2, main_call4_v3, main_call4_v4, main_v56, main_cst_11, main_v57, main_v58, main_v59, main_v60, main_v61, main_v62, main_call6_cst, main_call6_v0, main_v63, main_v64, main_v65, main_v66, main_v67, main_v68, main_call7_cst, main_call7_v0, main_v69, main_v70, main_v71, main_v72, main_v73, main_v74, main_v75, main_cst_12, main_v76, main_cst_13, main_v77, main_v78, main_v79, main_v80, main_v81, main_v82, main_cst_14, main_v83, main_v84, main_v85, main_v86, main_v87, main_cst_15, main_v88, main_v89, main_cst_16, main_v90, main_cst_17, main_v91, main_cst_18, main_v92, main_v93, main_v94, main_v95, main_cst_19, main_v96, main_v97, main_cst_20]
theorem part1 (c : Dev nD) : main_part1 (F := F) c = seq ops1 := rfl
theorem writes1 : Line.Writes (ops1 (F := F)) W1 := rfl
theorem sub1 : (ops1 (F := F)).Forall fun op => op.bufs ⊆ tcRefs τ sig :=
  ⟨binary_bufs_sub .., nullary_bufs_sub .., binary_bufs_sub .., unary_bufs_sub .., binary_bufs_sub .., binary_bufs_sub .., unary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., ternary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., binary_bufs_sub .., nullary_bufs_sub .., binary_bufs_sub .., nullary_bufs_sub .., unary_bufs_sub .., binary_bufs_sub .., unary_bufs_sub .., binary_bufs_sub .., nullary_bufs_sub .., binary_bufs_sub .., unary_bufs_sub .., nullary_bufs_sub ..⟩
theorem fresh1 : (ops1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of part 2 of the program, in order. -/
def ops2 : List (HloOp τ sig (Elt F)) :=
  [ unary main_cst_20 main_v98 (broadcastInDim S10 ![] bcast_S_S10 : (⟨S_, .f32⟩ : BufTy).Contents (Elt F) → (⟨S10, .f32⟩ : BufTy).Contents (Elt F)),
    binary main_v90 main_v98 main_v99 (addf : (⟨S10, .f32⟩ : BufTy).Contents (Elt F) → (⟨S10, .f32⟩ : BufTy).Contents (Elt F) → (⟨S10, .f32⟩ : BufTy).Contents (Elt F)),
    unary main_v99 main_v100 (Host.log : (⟨S10, .f32⟩ : BufTy).Contents (Elt F) → (⟨S10, .f32⟩ : BufTy).Contents (Elt F)),
    binary main_v90 main_v100 main_v101 (mulf : (⟨S10, .f32⟩ : BufTy).Contents (Elt F) → (⟨S10, .f32⟩ : BufTy).Contents (Elt F) → (⟨S10, .f32⟩ : BufTy).Contents (Elt F)),
    nullary main_cst_21 (constant S_ .f32 0x00000000#32),
    binary main_v101 main_cst_21 main_v102 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
    unary main_v102 main_v103 (Host.negf : (⟨S_, .f32⟩ : BufTy).Contents (Elt F) → (⟨S_, .f32⟩ : BufTy).Contents (Elt F)),
    nullary main_cst_22 (constant S_ .f32 0x0DA24260#32),
    unary main_cst_22 main_v104 (broadcastInDim S4 ![] bcast_S_S4 : (⟨S_, .f32⟩ : BufTy).Contents (Elt F) → (⟨S4, .f32⟩ : BufTy).Contents (Elt F)),
    binary main_v91 main_v104 main_v105 (addf : (⟨S4, .f32⟩ : BufTy).Contents (Elt F) → (⟨S4, .f32⟩ : BufTy).Contents (Elt F) → (⟨S4, .f32⟩ : BufTy).Contents (Elt F)),
    unary main_v105 main_v106 (Host.log : (⟨S4, .f32⟩ : BufTy).Contents (Elt F) → (⟨S4, .f32⟩ : BufTy).Contents (Elt F)),
    binary main_v91 main_v106 main_v107 (mulf : (⟨S4, .f32⟩ : BufTy).Contents (Elt F) → (⟨S4, .f32⟩ : BufTy).Contents (Elt F) → (⟨S4, .f32⟩ : BufTy).Contents (Elt F)),
    nullary main_cst_23 (constant S_ .f32 0x00000000#32),
    binary main_v107 main_cst_23 main_v108 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    unary main_v108 main_v109 (Host.negf : (⟨S_, .f32⟩ : BufTy).Contents (Elt F) → (⟨S_, .f32⟩ : BufTy).Contents (Elt F)),
    binary main_v103 main_v109 main_v110 (addf : (⟨S_, .f32⟩ : BufTy).Contents (Elt F) → (⟨S_, .f32⟩ : BufTy).Contents (Elt F) → (⟨S_, .f32⟩ : BufTy).Contents (Elt F)),
    binary main_v110 main_v97 main_v111 (subf : (⟨S_, .f32⟩ : BufTy).Contents (Elt F) → (⟨S_, .f32⟩ : BufTy).Contents (Elt F) → (⟨S_, .f32⟩ : BufTy).Contents (Elt F)),
    unary main_v111 main_v112 (Host.negf : (⟨S_, .f32⟩ : BufTy).Contents (Elt F) → (⟨S_, .f32⟩ : BufTy).Contents (Elt F)),
    TRef.nullary (TRef.of (T := ⟨S1024x4, .i32⟩) main_call8_v0) (iotaInDim S1024x4 32 1),
    TRef.nullary (TRef.of (T := ⟨S_, .f32⟩) main_call8_cst) (constant S_ .f32 0xFF800000#32),
    TRef.nullary (TRef.of (T := ⟨S_, .i32⟩) main_call8_c) (constantI S_ 32 0#32),
    TRef.quaternary (TRef.of (T := ⟨S1024x4, .f32⟩) main_v86) (TRef.of (T := ⟨S1024x4, .i32⟩) main_call8_v0) (TRef.of (T := ⟨S_, .f32⟩) main_call8_cst) (TRef.of (T := ⟨S_, .i32⟩) main_call8_c) (TRef.of (T := ⟨S1024, .f32⟩) main_call8_v1_0) (fun x y u v j => (Host.argReduce reducer_argmax_f32_i32 x y u v reducesTo_S1024x4_S1024_d1 h_S_ j).1),
    TRef.quaternary (TRef.of (T := ⟨S1024x4, .f32⟩) main_v86) (TRef.of (T := ⟨S1024x4, .i32⟩) main_call8_v0) (TRef.of (T := ⟨S_, .f32⟩) main_call8_cst) (TRef.of (T := ⟨S_, .i32⟩) main_call8_c) (TRef.of (T := ⟨S1024, .i32⟩) main_v113) (fun x y u v j => (Host.argReduce reducer_argmax_f32_i32 x y u v reducesTo_S1024x4_S1024_d1 h_S_ j).2),
    TRef.unary (TRef.of (T := ⟨S1024, .i32⟩) main_v113) (TRef.of (T := ⟨S1024x1, .i32⟩) main_call9_v0) (broadcastInDim S1024x1 ![0] bcast_S1024_S1024x1_0),
    TRef.nullary (TRef.of (T := ⟨S1x4, .i32⟩) main_call9_v1) (iotaInDim S1x4 32 1),
    TRef.unary (TRef.of (T := ⟨S1024x1, .i32⟩) main_call9_v0) (TRef.of (T := ⟨S1024x4, .i32⟩) main_call9_v2) (broadcastInDim S1024x4 ![0, 1] bcast_S1024x1_S1024x4_0_1),
    TRef.unary (TRef.of (T := ⟨S1x4, .i32⟩) main_call9_v1) (TRef.of (T := ⟨S1024x4, .i32⟩) main_call9_v3) (broadcastInDim S1024x4 ![0, 1] bcast_S1x4_S1024x4_0_1),
    TRef.binary (TRef.of (T := ⟨S1024x4, .i32⟩) main_call9_v2) (TRef.of (T := ⟨S1024x4, .i32⟩) main_call9_v3) (TRef.of (T := ⟨S1024x4, .i1⟩) main_call9_v4) (cmpi .eq),
    TRef.unary (TRef.of (T := ⟨S1024x4, .i1⟩) main_call9_v4) (TRef.of (T := ⟨S1024x4, .f32⟩) main_v114) (uitofp .f32),
    nullary main_cst_24 (constant S_ .f32 0x3F800000#32),
    unary main_cst_24 main_v115 (broadcastInDim S1024x4 ![] bcast_S_S1024x4 : (⟨S_, .f32⟩ : BufTy).Contents (Elt F) → (⟨S1024x4, .f32⟩ : BufTy).Contents (Elt F)),
    TRef.ternary (TRef.of (T := ⟨S_, .i1⟩) main_arg3) (TRef.of (T := ⟨S1024x4, .f32⟩) main_v115) (TRef.of (T := ⟨S1024x4, .f32⟩) main_v114) (TRef.of (T := ⟨S1024x4, .f32⟩) main_v116) (fun p a b => select (broadcastInDim S1024x4 ![] bcast_S_S1024x4 p) a b),
    binary main_v64 main_arg16 main_v117 ((fun l r => Host.dotGeneral dot_S1024x1024_S4x1024x10_S1024x4x10_1_1_0_02_n_n none l r) : (⟨S1024x1024, .f32⟩ : BufTy).Contents (Elt F) → (⟨S4x1024x10, .f32⟩ : BufTy).Contents (Elt F) → (⟨S1024x4x10, .f32⟩ : BufTy).Contents (Elt F)),
    unary main_arg17 main_v118 (broadcastInDim S1x4x10 ![1, 2] bcast_S4x10_S1x4x10_1_2 : (⟨S4x10, .f32⟩ : BufTy).Contents (Elt F) → (⟨S1x4x10, .f32⟩ : BufTy).Contents (Elt F)),
    unary main_v118 main_v119 (broadcastInDim S1024x4x10 ![0, 1, 2] bcast_S1x4x10_S1024x4x10_0_1_2 : (⟨S1x4x10, .f32⟩ : BufTy).Contents (Elt F) → (⟨S1024x4x10, .f32⟩ : BufTy).Contents (Elt F)),
    binary main_v117 main_v119 main_v120 (addf : (⟨S1024x4x10, .f32⟩ : BufTy).Contents (Elt F) → (⟨S1024x4x10, .f32⟩ : BufTy).Contents (Elt F) → (⟨S1024x4x10, .f32⟩ : BufTy).Contents (Elt F)),
    binary main_v116 main_v120 main_v121 ((fun l r => Host.dotGeneral dot_S1024x4_S1024x4x10_S1024x10_1_1_n_2_0_0 none l r) : (⟨S1024x4, .f32⟩ : BufTy).Contents (Elt F) → (⟨S1024x4x10, .f32⟩ : BufTy).Contents (Elt F) → (⟨S1024x10, .f32⟩ : BufTy).Contents (Elt F)),
    TRef.nullary (TRef.of (T := ⟨S_, .f32⟩) main_call11_cst) (constant S_ .f32 0xFF800000#32),
    TRef.binary (TRef.of (T := ⟨S1024x10, .f32⟩) main_v121) (TRef.of (T := ⟨S_, .f32⟩) main_call11_cst) (TRef.of (T := ⟨S1024, .f32⟩) main_call11_v0) (fun x v => Host.reduce FloatOps.maximumf x v reducesTo_S1024x10_S1024_d1 h_S_),
    TRef.nullary (TRef.of (T := ⟨S_, .f32⟩) main_call11_cst_0) (constant S_ .f32 0xFF800000#32),
    TRef.unary (TRef.of (T := ⟨S_, .f32⟩) main_call11_cst_0) (TRef.of (T := ⟨S1024, .f32⟩) main_call11_v1) (broadcastInDim S1024 ![] bcast_S_S1024),
    TRef.binary (TRef.of (T := ⟨S1024, .f32⟩) main_call11_v1) (TRef.of (T := ⟨S1024, .f32⟩) main_call11_v0) (TRef.of (T := ⟨S1024, .f32⟩) main_call11_v2) maximumf,
    TRef.unary (TRef.of (T := ⟨S1024, .f32⟩) main_call11_v2) (TRef.of (T := ⟨S1024x1, .f32⟩) main_call11_v3) (broadcastInDim S1024x1 ![0] bcast_S1024_S1024x1_0),
    TRef.unary (TRef.of (T := ⟨S1024x1, .f32⟩) main_call11_v3) (TRef.of (T := ⟨S1024x10, .f32⟩) main_call11_v4) (broadcastInDim S1024x10 ![0, 1] bcast_S1024x1_S1024x10_0_1),
    TRef.binary (TRef.of (T := ⟨S1024x10, .f32⟩) main_v121) (TRef.of (T := ⟨S1024x10, .f32⟩) main_call11_v4) (TRef.of (T := ⟨S1024x10, .f32⟩) main_call11_v5) subf,
    TRef.unary (TRef.of (T := ⟨S1024x10, .f32⟩) main_call11_v5) (TRef.of (T := ⟨S1024x10, .f32⟩) main_call11_v6) Host.exp,
    TRef.nullary (TRef.of (T := ⟨S_, .f32⟩) main_call11_cst_1) (constant S_ .f32 0x00000000#32),
    TRef.binary (TRef.of (T := ⟨S1024x10, .f32⟩) main_call11_v6) (TRef.of (T := ⟨S_, .f32⟩) main_call11_cst_1) (TRef.of (T := ⟨S1024, .f32⟩) main_call11_v7) (fun x v => Host.reduceAdd x v reducesTo_S1024x10_S1024_d1 h_S_),
    TRef.unary (TRef.of (T := ⟨S1024, .f32⟩) main_call11_v7) (TRef.of (T := ⟨S1024x1, .f32⟩) main_call11_v8) (broadcastInDim S1024x1 ![0] bcast_S1024_S1024x1_0),
    TRef.unary (TRef.of (T := ⟨S1024x1, .f32⟩) main_call11_v8) (TRef.of (T := ⟨S1024x1, .f32⟩) main_call11_v9) Host.log,
    TRef.unary (TRef.of (T := ⟨S1024x1, .f32⟩) main_call11_v9) (TRef.of (T := ⟨S1024x10, .f32⟩) main_call11_v10) (broadcastInDim S1024x10 ![0, 1] bcast_S1024x1_S1024x10_0_1),
    TRef.binary (TRef.of (T := ⟨S1024x10, .f32⟩) main_call11_v5) (TRef.of (T := ⟨S1024x10, .f32⟩) main_call11_v10) (TRef.of (T := ⟨S1024x10, .f32⟩) main_v122) subf,
    binary main_v1 main_v122 main_v123 (mulf : (⟨S1024x10, .f32⟩ : BufTy).Contents (Elt F) → (⟨S1024x10, .f32⟩ : BufTy).Contents (Elt F) → (⟨S1024x10, .f32⟩ : BufTy).Contents (Elt F)),
    nullary main_cst_25 (constant S_ .f32 0x00000000#32),
    binary main_v123 main_cst_25 main_v124 ((fun x v => Host.reduceAdd x v reducesTo_S1024x10_S1024_d1 h_S_) : (⟨S1024x10, .f32⟩ : BufTy).Contents (Elt F) → (⟨S_, .f32⟩ : BufTy).Contents (Elt F) → (⟨S1024, .f32⟩ : BufTy).Contents (Elt F)),
    nullary main_cst_26 (constant S_ .f32 0x00000000#32),
    binary main_v124 main_cst_26 main_v125 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_27 (constant S_ .f32 0x44800000#32),
    binary main_v125 main_cst_27 main_v126 (Host.divf : (⟨S_, .f32⟩ : BufTy).Contents (Elt F) → (⟨S_, .f32⟩ : BufTy).Contents (Elt F) → (⟨S_, .f32⟩ : BufTy).Contents (Elt F)),
    unary main_v126 main_v127 (Host.negf : (⟨S_, .f32⟩ : BufTy).Contents (Elt F) → (⟨S_, .f32⟩ : BufTy).Contents (Elt F)),
    nullary main_cst_28 (constant S_ .f32 0xFF800000#32),
    binary main_v121 main_cst_28 main_v128 ((fun x v => Host.reduce FloatOps.maximumf x v reducesTo_S1024x10_S1024_d1 h_S_) : (⟨S1024x10, .f32⟩ : BufTy).Contents (Elt F) → (⟨S_, .f32⟩ : BufTy).Contents (Elt F) → (⟨S1024, .f32⟩ : BufTy).Contents (Elt F)),
    nullary main_cst_29 (constant S_ .f32 0xFF800000#32),
    unary main_cst_29 main_v129 (broadcastInDim S1024 ![] bcast_S_S1024 : (⟨S_, .f32⟩ : BufTy).Contents (Elt F) → (⟨S1024, .f32⟩ : BufTy).Contents (Elt F)),
    binary main_v129 main_v128 main_v130 (maximumf : (⟨S1024, .f32⟩ : BufTy).Contents (Elt F) → (⟨S1024, .f32⟩ : BufTy).Contents (Elt F) → (⟨S1024, .f32⟩ : BufTy).Contents (Elt F)),
    unary main_v130 main_v131 (broadcastInDim S1024x1 ![0] bcast_S1024_S1024x1_0 : (⟨S1024, .f32⟩ : BufTy).Contents (Elt F) → (⟨S1024x1, .f32⟩ : BufTy).Contents (Elt F)),
    unary main_v131 main_v132 (broadcastInDim S1024x10 ![0, 1] bcast_S1024x1_S1024x10_0_1 : (⟨S1024x1, .f32⟩ : BufTy).Contents (Elt F) → (⟨S1024x10, .f32⟩ : BufTy).Contents (Elt F)),
    binary main_v121 main_v132 main_v133 (subf : (⟨S1024x10, .f32⟩ : BufTy).Contents (Elt F) → (⟨S1024x10, .f32⟩ : BufTy).Contents (Elt F) → (⟨S1024x10, .f32⟩ : BufTy).Contents (Elt F)),
    unary main_v133 main_v134 (Host.exp : (⟨S1024x10, .f32⟩ : BufTy).Contents (Elt F) → (⟨S1024x10, .f32⟩ : BufTy).Contents (Elt F)),
    nullary main_cst_30 (constant S_ .f32 0x00000000#32),
    binary main_v134 main_cst_30 main_v135 ((fun x v => Host.reduceAdd x v reducesTo_S1024x10_S1024_d1 h_S_) : (⟨S1024x10, .f32⟩ : BufTy).Contents (Elt F) → (⟨S_, .f32⟩ : BufTy).Contents (Elt F) → (⟨S1024, .f32⟩ : BufTy).Contents (Elt F)),
    unary main_v135 main_v136 (broadcastInDim S1024x1 ![0] bcast_S1024_S1024x1_0 : (⟨S1024, .f32⟩ : BufTy).Contents (Elt F) → (⟨S1024x1, .f32⟩ : BufTy).Contents (Elt F)),
    unary main_v136 main_v137 (broadcastInDim S1024x10 ![0, 1] bcast_S1024x1_S1024x10_0_1 : (⟨S1024x1, .f32⟩ : BufTy).Contents (Elt F) → (⟨S1024x10, .f32⟩ : BufTy).Contents (Elt F)),
    binary main_v134 main_v137 main_v138 (Host.divf : (⟨S1024x10, .f32⟩ : BufTy).Contents (Elt F) → (⟨S1024x10, .f32⟩ : BufTy).Contents (Elt F) → (⟨S1024x10, .f32⟩ : BufTy).Contents (Elt F)),
    binary main_arg4 main_arg4 main_v139 (mulf : (⟨S3072x2048, .f32⟩ : BufTy).Contents (Elt F) → (⟨S3072x2048, .f32⟩ : BufTy).Contents (Elt F) → (⟨S3072x2048, .f32⟩ : BufTy).Contents (Elt F)),
    nullary main_cst_31 (constant S_ .f32 0x00000000#32),
    binary main_v139 main_cst_31 main_v140 ((fun x v => Host.reduceAdd x v reducesTo_S3072x2048_S_d0_1 h_S_) : (⟨S3072x2048, .f32⟩ : BufTy).Contents (Elt F) → (⟨S_, .f32⟩ : BufTy).Contents (Elt F) → (⟨S_, .f32⟩ : BufTy).Contents (Elt F)),
    binary main_arg10 main_arg10 main_v141 (mulf : (⟨S2x2048x1024, .f32⟩ : BufTy).Contents (Elt F) → (⟨S2x2048x1024, .f32⟩ : BufTy).Contents (Elt F) → (⟨S2x2048x1024, .f32⟩ : BufTy).Contents (Elt F)),
    nullary main_cst_32 (constant S_ .f32 0x00000000#32),
    binary main_v141 main_cst_32 main_v142 ((fun x v => Host.reduceAdd x v reducesTo_S2x2048x1024_S_d0_1_2 h_S_) : (⟨S2x2048x1024, .f32⟩ : BufTy).Contents (Elt F) → (⟨S_, .f32⟩ : BufTy).Contents (Elt F) → (⟨S_, .f32⟩ : BufTy).Contents (Elt F)),
    binary main_v140 main_v142 main_v143 (addf : (⟨S_, .f32⟩ : BufTy).Contents (Elt F) → (⟨S_, .f32⟩ : BufTy).Contents (Elt F) → (⟨S_, .f32⟩ : BufTy).Contents (Elt F)),
    binary main_arg16 main_arg16 main_v144 (mulf : (⟨S4x1024x10, .f32⟩ : BufTy).Contents (Elt F) → (⟨S4x1024x10, .f32⟩ : BufTy).Contents (Elt F) → (⟨S4x1024x10, .f32⟩ : BufTy).Contents (Elt F)),
    nullary main_cst_33 (constant S_ .f32 0x00000000#32) ]

/-- The buffers they write. -/
abbrev W2 : List (Ref sig .tc) := [main_v98, main_v99, main_v100, main_v101, main_cst_21, main_v102, main_v103, main_cst_22, main_v104, main_v105, main_v106, main_v107, main_cst_23, main_v108, main_v109, main_v110, main_v111, main_v112, main_call8_v0, main_call8_cst, main_call8_c, main_call8_v1_0, main_v113, main_call9_v0, main_call9_v1, main_call9_v2, main_call9_v3, main_call9_v4, main_v114, main_cst_24, main_v115, main_v116, main_v117, main_v118, main_v119, main_v120, main_v121, main_call11_cst, main_call11_v0, main_call11_cst_0, main_call11_v1, main_call11_v2, main_call11_v3, main_call11_v4, main_call11_v5, main_call11_v6, main_call11_cst_1, main_call11_v7, main_call11_v8, main_call11_v9, main_call11_v10, main_v122, main_v123, main_cst_25, main_v124, main_cst_26, main_v125, main_cst_27, main_v126, main_v127, main_cst_28, main_v128, main_cst_29, main_v129, main_v130, main_v131, main_v132, main_v133, main_v134, main_cst_30, main_v135, main_v136, main_v137, main_v138, main_v139, main_cst_31, main_v140, main_v141, main_cst_32, main_v142, main_v143, main_v144, main_cst_33]
theorem part2 (c : Dev nD) : main_part2 (F := F) c = seq ops2 := rfl
theorem writes2 : Line.Writes (ops2 (F := F)) W2 := rfl
theorem sub2 : (ops2 (F := F)).Forall fun op => op.bufs ⊆ tcRefs τ sig :=
  ⟨unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., binary_bufs_sub .., binary_bufs_sub .., unary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., ternary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., binary_bufs_sub .., nullary_bufs_sub .., binary_bufs_sub .., binary_bufs_sub .., binary_bufs_sub .., nullary_bufs_sub ..⟩
theorem fresh2 : (ops2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of part 3 of the program, in order. -/
def ops3 : List (HloOp τ sig (Elt F)) :=
  [ binary main_v144 main_cst_33 main_v145 ((fun x v => Host.reduceAdd x v reducesTo_S4x1024x10_S_d0_1_2 h_S_) : (⟨S4x1024x10, .f32⟩ : BufTy).Contents (Elt F) → (⟨S_, .f32⟩ : BufTy).Contents (Elt F) → (⟨S_, .f32⟩ : BufTy).Contents (Elt F)),
    binary main_v143 main_v145 main_v146 (addf : (⟨S_, .f32⟩ : BufTy).Contents (Elt F) → (⟨S_, .f32⟩ : BufTy).Contents (Elt F) → (⟨S_, .f32⟩ : BufTy).Contents (Elt F)),
    nullary main_cst_34 (constant S_ .f32 0x3A03126F#32),
    binary main_cst_34 main_v146 main_v147 (mulf : (⟨S_, .f32⟩ : BufTy).Contents (Elt F) → (⟨S_, .f32⟩ : BufTy).Contents (Elt F) → (⟨S_, .f32⟩ : BufTy).Contents (Elt F)),
    binary main_arg6 main_arg6 main_v148 (mulf : (⟨S2048x128, .f32⟩ : BufTy).Contents (Elt F) → (⟨S2048x128, .f32⟩ : BufTy).Contents (Elt F) → (⟨S2048x128, .f32⟩ : BufTy).Contents (Elt F)),
    nullary main_cst_35 (constant S_ .f32 0x00000000#32),
    binary main_v148 main_cst_35 main_v149 ((fun x v => Host.reduceAdd x v reducesTo_S2048x128_S_d0_1 h_S_) : (⟨S2048x128, .f32⟩ : BufTy).Contents (Elt F) → (⟨S_, .f32⟩ : BufTy).Contents (Elt F) → (⟨S_, .f32⟩ : BufTy).Contents (Elt F)),
    binary main_arg8 main_arg8 main_v150 (mulf : (⟨S128x2, .f32⟩ : BufTy).Contents (Elt F) → (⟨S128x2, .f32⟩ : BufTy).Contents (Elt F) → (⟨S128x2, .f32⟩ : BufTy).Contents (Elt F)),
    nullary main_cst_36 (constant S_ .f32 0x00000000#32),
    binary main_v150 main_cst_36 main_v151 ((fun x v => Host.reduceAdd x v reducesTo_S128x2_S_d0_1 h_S_) : (⟨S128x2, .f32⟩ : BufTy).Contents (Elt F) → (⟨S_, .f32⟩ : BufTy).Contents (Elt F) → (⟨S_, .f32⟩ : BufTy).Contents (Elt F)),
    binary main_v149 main_v151 main_v152 (addf : (⟨S_, .f32⟩ : BufTy).Contents (Elt F) → (⟨S_, .f32⟩ : BufTy).Contents (Elt F) → (⟨S_, .f32⟩ : BufTy).Contents (Elt F)),
    binary main_arg12 main_arg12 main_v153 (mulf : (⟨S1024x128, .f32⟩ : BufTy).Contents (Elt F) → (⟨S1024x128, .f32⟩ : BufTy).Contents (Elt F) → (⟨S1024x128, .f32⟩ : BufTy).Contents (Elt F)),
    nullary main_cst_37 (constant S_ .f32 0x00000000#32),
    binary main_v153 main_cst_37 main_v154 ((fun x v => Host.reduceAdd x v reducesTo_S1024x128_S_d0_1 h_S_) : (⟨S1024x128, .f32⟩ : BufTy).Contents (Elt F) → (⟨S_, .f32⟩ : BufTy).Contents (Elt F) → (⟨S_, .f32⟩ : BufTy).Contents (Elt F)),
    binary main_v152 main_v154 main_v155 (addf : (⟨S_, .f32⟩ : BufTy).Contents (Elt F) → (⟨S_, .f32⟩ : BufTy).Contents (Elt F) → (⟨S_, .f32⟩ : BufTy).Contents (Elt F)),
    binary main_arg14 main_arg14 main_v156 (mulf : (⟨S128x4, .f32⟩ : BufTy).Contents (Elt F) → (⟨S128x4, .f32⟩ : BufTy).Contents (Elt F) → (⟨S128x4, .f32⟩ : BufTy).Contents (Elt F)),
    nullary main_cst_38 (constant S_ .f32 0x00000000#32),
    binary main_v156 main_cst_38 main_v157 ((fun x v => Host.reduceAdd x v reducesTo_S128x4_S_d0_1 h_S_) : (⟨S128x4, .f32⟩ : BufTy).Contents (Elt F) → (⟨S_, .f32⟩ : BufTy).Contents (Elt F) → (⟨S_, .f32⟩ : BufTy).Contents (Elt F)),
    binary main_v155 main_v157 main_v158 (addf : (⟨S_, .f32⟩ : BufTy).Contents (Elt F) → (⟨S_, .f32⟩ : BufTy).Contents (Elt F) → (⟨S_, .f32⟩ : BufTy).Contents (Elt F)),
    nullary main_cst_39 (constant S_ .f32 0x3A03126F#32),
    binary main_cst_39 main_v158 main_v159 (mulf : (⟨S_, .f32⟩ : BufTy).Contents (Elt F) → (⟨S_, .f32⟩ : BufTy).Contents (Elt F) → (⟨S_, .f32⟩ : BufTy).Contents (Elt F)),
    binary main_v147 main_v159 main_v160 (addf : (⟨S_, .f32⟩ : BufTy).Contents (Elt F) → (⟨S_, .f32⟩ : BufTy).Contents (Elt F) → (⟨S_, .f32⟩ : BufTy).Contents (Elt F)),
    binary main_v54 main_v112 main_v161 (addf : (⟨S_, .f32⟩ : BufTy).Contents (Elt F) → (⟨S_, .f32⟩ : BufTy).Contents (Elt F) → (⟨S_, .f32⟩ : BufTy).Contents (Elt F)),
    nullary main_cst_40 (constant S_ .f32 0x00000000#32),
    binary main_cst_40 main_v161 main_v162 (mulf : (⟨S_, .f32⟩ : BufTy).Contents (Elt F) → (⟨S_, .f32⟩ : BufTy).Contents (Elt F) → (⟨S_, .f32⟩ : BufTy).Contents (Elt F)),
    nullary main_cst_41 (constant S_ .f32 0x3F800000#32),
    binary main_cst_41 main_v161 main_v163 (mulf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_arg3) (TRef.of (T := ⟨S_, .f32⟩) main_v162) (TRef.of (T := ⟨S_, .f32⟩) main_v163) (TRef.of (T := ⟨S_, .f32⟩) main_v164) select,
    binary main_v127 main_v164 main_v165 (addf : (⟨S_, .f32⟩ : BufTy).Contents (Elt F) → (⟨S_, .f32⟩ : BufTy).Contents (Elt F) → (⟨S_, .f32⟩ : BufTy).Contents (Elt F)),
    binary main_v165 main_v160 main_v166 (addf : (⟨S_, .f32⟩ : BufTy).Contents (Elt F) → (⟨S_, .f32⟩ : BufTy).Contents (Elt F) → (⟨S_, .f32⟩ : BufTy).Contents (Elt F)) ]

/-- The buffers they write. -/
abbrev W3 : List (Ref sig .tc) := [main_v145, main_v146, main_cst_34, main_v147, main_v148, main_cst_35, main_v149, main_v150, main_cst_36, main_v151, main_v152, main_v153, main_cst_37, main_v154, main_v155, main_v156, main_cst_38, main_v157, main_v158, main_cst_39, main_v159, main_v160, main_v161, main_cst_40, main_v162, main_cst_41, main_v163, main_v164, main_v165, main_v166]
theorem part3 (c : Dev nD) : main_part3 (F := F) c = seq ops3 := rfl
theorem writes3 : Line.Writes (ops3 (F := F)) W3 := rfl
theorem sub3 : (ops3 (F := F)).Forall fun op => op.bufs ⊆ tcRefs τ sig :=
  ⟨binary_bufs_sub .., binary_bufs_sub .., nullary_bufs_sub .., binary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., nullary_bufs_sub .., binary_bufs_sub .., binary_bufs_sub .., nullary_bufs_sub .., binary_bufs_sub .., binary_bufs_sub .., binary_bufs_sub .., nullary_bufs_sub .., binary_bufs_sub .., nullary_bufs_sub .., binary_bufs_sub .., ternary_bufs_sub .., binary_bufs_sub .., binary_bufs_sub ..⟩
theorem fresh3 : (ops3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- All operations. -/
def ops : List (HloOp τ sig (Elt F)) := ops0 ++ (ops1 ++ (ops2 ++ (ops3)))
abbrev W : List (Ref sig .tc) := W0 ++ (W1 ++ (W2 ++ (W3)))
theorem main_eq (c : Dev nD) : main (F := F) c = seq ops := by
  simp only [ops, seq_append, ← part0 c, ← part1 c, ← part2 c, ← part3 c]
  rfl
theorem writes : Line.Writes (ops (F := F)) W := by
  unfold Line.Writes ops W
  simp only [List.map_append, writes0, writes1, writes2, writes3]
theorem mem_part {P : HloOp τ sig (Elt F) → Prop} (h0 : (ops0 (F := F)).Forall P) (h1 : (ops1 (F := F)).Forall P)
    (h2 : (ops2 (F := F)).Forall P) (h3 : (ops3 (F := F)).Forall P) : ∀ op ∈ ops (F := F), P op := fun op h => by
  simp only [ops, List.mem_append] at h
  rcases h with h | h | h | h
  exacts [List.forall_iff_forall_mem.mp h0 op h, List.forall_iff_forall_mem.mp h1 op h, List.forall_iff_forall_mem.mp h2 op h,
    List.forall_iff_forall_mem.mp h3 op h]

/-- What every buffer holds after the program. -/
def S (m : (ℓ : Loc nD τ sig) → Buf (Elt F) ℓ) (c : Dev nD) (b : Ref sig .tc) : b.ty.Contents (Elt F) :=
  after ops (launchContents m c) (Proc.devRef .tc b)

/-- THE RUN: the program ends with every buffer at `S`. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = S m d b :=
  run_hlo defs main main_eq (by decide) (by decide) (List.forall_iff_forall_mem.mpr (mem_part sub0 sub1 sub2 sub3))
    (mem_part fresh0 fresh1 fresh2 fresh3) m ρ

/-- The arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]
theorem args_not_written : ∀ a ∈ argRefs, a ∉ W := ListAll.forall_mem_of_all_decide (by decide +kernel)
/-- The program changes no argument. -/
theorem S_arg (m : (ℓ : Loc nD τ sig) → Buf (Elt F) ℓ) (c : Dev nD) : ∀ a ∈ argRefs, S m c a = m ((c.tc : Thread nD τ).loc a) :=
  fun a ha => (Line.keep writes 0 (launchContents m c) (args_not_written a ha)).symm

/-- The program has no semaphore of its own. -/
theorem no_sem : IsEmpty (SemLoc sig) := by constructor; intro s; revert s; decide

end Cert.ReferenceIdeal.Work

end
-- ==== Proof.ReferenceWork.Eqs.lean ====
/- What every buffer of the reference holds after its run: its operation, applied to what its operands hold. -/
module

public import proofs.«01_k».proof.Proof.ReferenceWork.Run

@[expose] public section

set_option maxRecDepth 16384
set_option maxHeartbeats 4000000

noncomputable section

namespace Cert.ReferenceIdeal.Work

open Idealize.ShloMosaic Idealize.ShloMosaic.TcCoe Idealize.ShloMosaic.StableHlo
open Idealize.SL.Sem
open Cert.ReferenceIdeal Cert.ReferenceIdeal.Gen

variable {F : FTy → Type} [FloatOps F]

variable (m : (ℓ : Loc nD τ sig) → Buf (Elt F) ℓ) (c : Dev nD)

theorem eq_v0 : S m c main_v0 = shapeCast _ (S m c main_arg0) shapeCasts_S1024x32x32x3_S1024x3072 := by
  have h := Line.at_reshape writes (launchContents m c) 0 rfl (by decide +kernel) (by decide +kernel); exact h
theorem eq_call0_v0 : S m c main_call0_v0 = ((broadcastInDim S1024x1 ![0] bcast_S1024_S1024x1_0) : (⟨S1024, .i32⟩ : BufTy).Contents (Elt F) → (⟨S1024x1, .i32⟩ : BufTy).Contents (Elt F)) (S m c main_arg1) := by
  have h := Line.at_unary writes (launchContents m c) 1 rfl (by decide +kernel) (by decide +kernel); exact h
theorem eq_call0_v1 : S m c main_call0_v1 = (iotaInDim S1x10 32 1) := by
  have h := Line.at_nullary writes (launchContents m c) 2 rfl (by decide +kernel); exact h
theorem eq_call0_v2 : S m c main_call0_v2 = ((broadcastInDim S1024x10 ![0, 1] bcast_S1024x1_S1024x10_0_1) : (⟨S1024x1, .i32⟩ : BufTy).Contents (Elt F) → (⟨S1024x10, .i32⟩ : BufTy).Contents (Elt F)) (S m c main_call0_v0) := by
  have h := Line.at_unary writes (launchContents m c) 3 rfl (by decide +kernel) (by decide +kernel); exact h
theorem eq_call0_v3 : S m c main_call0_v3 = ((broadcastInDim S1024x10 ![0, 1] bcast_S1x10_S1024x10_0_1) : (⟨S1x10, .i32⟩ : BufTy).Contents (Elt F) → (⟨S1024x10, .i32⟩ : BufTy).Contents (Elt F)) (S m c main_call0_v1) := by
  have h := Line.at_unary writes (launchContents m c) 4 rfl (by decide +kernel) (by decide +kernel); exact h
theorem eq_call0_v4 : S m c main_call0_v4 = ((cmpi .eq) : (⟨S1024x10, .i32⟩ : BufTy).Contents (Elt F) → (⟨S1024x10, .i32⟩ : BufTy).Contents (Elt F) → (⟨S1024x10, .i1⟩ : BufTy).Contents (Elt F)) (S m c main_call0_v2) (S m c main_call0_v3) := by
  have h := Line.at_binary writes (launchContents m c) 5 rfl (by decide +kernel) (by decide +kernel) (by decide +kernel); exact h
theorem eq_v1 : S m c main_v1 = ((uitofp .f32) : (⟨S1024x10, .i1⟩ : BufTy).Contents (Elt F) → (⟨S1024x10, .f32⟩ : BufTy).Contents (Elt F)) (S m c main_call0_v4) := by
  have h := Line.at_unary writes (launchContents m c) 6 rfl (by decide +kernel) (by decide +kernel); exact h
theorem eq_v2 : S m c main_v2 = ((fun l r => Host.dotGeneral dot_S1024x3072_S3072x2048_S1024x2048_1_0_0_1_n_n none l r) : (⟨S1024x3072, .f32⟩ : BufTy).Contents (Elt F) → (⟨S3072x2048, .f32⟩ : BufTy).Contents (Elt F) → (⟨S1024x2048, .f32⟩ : BufTy).Contents (Elt F)) (S m c main_v0) (S m c main_arg4) := by
  have h := Line.at_binary writes (launchContents m c) 7 rfl (by decide +kernel) (by decide +kernel) (by decide +kernel); exact h
theorem eq_v3 : S m c main_v3 = (broadcastInDim S1x2048 ![1] bcast_S2048_S1x2048_1 : (⟨S2048, .f32⟩ : BufTy).Contents (Elt F) → (⟨S1x2048, .f32⟩ : BufTy).Contents (Elt F)) (S m c main_arg5) := by
  have h := Line.at_unary writes (launchContents m c) 8 rfl (by decide +kernel) (by decide +kernel); exact h
theorem eq_v4 : S m c main_v4 = (broadcastInDim S1024x2048 ![0, 1] bcast_S1x2048_S1024x2048_0_1 : (⟨S1x2048, .f32⟩ : BufTy).Contents (Elt F) → (⟨S1024x2048, .f32⟩ : BufTy).Contents (Elt F)) (S m c main_v3) := by
  have h := Line.at_unary writes (launchContents m c) 9 rfl (by decide +kernel) (by decide +kernel); exact h
theorem eq_v5 : S m c main_v5 = (addf : (⟨S1024x2048, .f32⟩ : BufTy).Contents (Elt F) → (⟨S1024x2048, .f32⟩ : BufTy).Contents (Elt F) → (⟨S1024x2048, .f32⟩ : BufTy).Contents (Elt F)) (S m c main_v2) (S m c main_v4) := by
  have h := Line.at_binary writes (launchContents m c) 10 rfl (by decide +kernel) (by decide +kernel) (by decide +kernel); exact h
theorem eq_call1_cst : S m c main_call1_cst = (constant S_ .f32 0x00000000#32) := by
  have h := Line.at_nullary writes (launchContents m c) 11 rfl (by decide +kernel); exact h
theorem eq_call1_v0 : S m c main_call1_v0 = ((broadcastInDim S1024x2048 ![] bcast_S_S1024x2048) : (⟨S_, .f32⟩ : BufTy).Contents (Elt F) → (⟨S1024x2048, .f32⟩ : BufTy).Contents (Elt F)) (S m c main_call1_cst) := by
  have h := Line.at_unary writes (launchContents m c) 12 rfl (by decide +kernel) (by decide +kernel); exact h
theorem eq_v6 : S m c main_v6 = ((maximumf) : (⟨S1024x2048, .f32⟩ : BufTy).Contents (Elt F) → (⟨S1024x2048, .f32⟩ : BufTy).Contents (Elt F) → (⟨S1024x2048, .f32⟩ : BufTy).Contents (Elt F)) (S m c main_v5) (S m c main_call1_v0) := by
  have h := Line.at_binary writes (launchContents m c) 13 rfl (by decide +kernel) (by decide +kernel) (by decide +kernel); exact h
theorem eq_v7 : S m c main_v7 = ((fun l r => Host.dotGeneral dot_S1024x2048_S2048x128_S1024x128_1_0_0_1_n_n none l r) : (⟨S1024x2048, .f32⟩ : BufTy).Contents (Elt F) → (⟨S2048x128, .f32⟩ : BufTy).Contents (Elt F) → (⟨S1024x128, .f32⟩ : BufTy).Contents (Elt F)) (S m c main_v6) (S m c main_arg6) := by
  have h := Line.at_binary writes (launchContents m c) 14 rfl (by decide +kernel) (by decide +kernel) (by decide +kernel); exact h
theorem eq_v8 : S m c main_v8 = (broadcastInDim S1x128 ![1] bcast_S128_S1x128_1 : (⟨S128, .f32⟩ : BufTy).Contents (Elt F) → (⟨S1x128, .f32⟩ : BufTy).Contents (Elt F)) (S m c main_arg7) := by
  have h := Line.at_unary writes (launchContents m c) 15 rfl (by decide +kernel) (by decide +kernel); exact h
theorem eq_v9 : S m c main_v9 = (broadcastInDim S1024x128 ![0, 1] bcast_S1x128_S1024x128_0_1 : (⟨S1x128, .f32⟩ : BufTy).Contents (Elt F) → (⟨S1024x128, .f32⟩ : BufTy).Contents (Elt F)) (S m c main_v8) := by
  have h := Line.at_unary writes (launchContents m c) 16 rfl (by decide +kernel) (by decide +kernel); exact h
theorem eq_v10 : S m c main_v10 = (addf : (⟨S1024x128, .f32⟩ : BufTy).Contents (Elt F) → (⟨S1024x128, .f32⟩ : BufTy).Contents (Elt F) → (⟨S1024x128, .f32⟩ : BufTy).Contents (Elt F)) (S m c main_v7) (S m c main_v9) := by
  have h := Line.at_binary writes (launchContents m c) 17 rfl (by decide +kernel) (by decide +kernel) (by decide +kernel); exact h
theorem eq_call2_cst : S m c main_call2_cst = (constant S_ .f32 0x00000000#32) := by
  have h := Line.at_nullary writes (launchContents m c) 18 rfl (by decide +kernel); exact h
theorem eq_call2_v0 : S m c main_call2_v0 = ((broadcastInDim S1024x128 ![] bcast_S_S1024x128) : (⟨S_, .f32⟩ : BufTy).Contents (Elt F) → (⟨S1024x128, .f32⟩ : BufTy).Contents (Elt F)) (S m c main_call2_cst) := by
  have h := Line.at_unary writes (launchContents m c) 19 rfl (by decide +kernel) (by decide +kernel); exact h
theorem eq_v11 : S m c main_v11 = ((maximumf) : (⟨S1024x128, .f32⟩ : BufTy).Contents (Elt F) → (⟨S1024x128, .f32⟩ : BufTy).Contents (Elt F) → (⟨S1024x128, .f32⟩ : BufTy).Contents (Elt F)) (S m c main_v10) (S m c main_call2_v0) := by
  have h := Line.at_binary writes (launchContents m c) 20 rfl (by decide +kernel) (by decide +kernel) (by decide +kernel); exact h
theorem eq_v12 : S m c main_v12 = ((fun l r => Host.dotGeneral dot_S1024x128_S128x2_S1024x2_1_0_0_1_n_n none l r) : (⟨S1024x128, .f32⟩ : BufTy).Contents (Elt F) → (⟨S128x2, .f32⟩ : BufTy).Contents (Elt F) → (⟨S1024x2, .f32⟩ : BufTy).Contents (Elt F)) (S m c main_v11) (S m c main_arg8) := by
  have h := Line.at_binary writes (launchContents m c) 21 rfl (by decide +kernel) (by decide +kernel) (by decide +kernel); exact h
theorem eq_v13 : S m c main_v13 = (broadcastInDim S1x2 ![1] bcast_S2_S1x2_1 : (⟨S2, .f32⟩ : BufTy).Contents (Elt F) → (⟨S1x2, .f32⟩ : BufTy).Contents (Elt F)) (S m c main_arg9) := by
  have h := Line.at_unary writes (launchContents m c) 22 rfl (by decide +kernel) (by decide +kernel); exact h
theorem eq_v14 : S m c main_v14 = (broadcastInDim S1024x2 ![0, 1] bcast_S1x2_S1024x2_0_1 : (⟨S1x2, .f32⟩ : BufTy).Contents (Elt F) → (⟨S1024x2, .f32⟩ : BufTy).Contents (Elt F)) (S m c main_v13) := by
  have h := Line.at_unary writes (launchContents m c) 23 rfl (by decide +kernel) (by decide +kernel); exact h
theorem eq_v15 : S m c main_v15 = (addf : (⟨S1024x2, .f32⟩ : BufTy).Contents (Elt F) → (⟨S1024x2, .f32⟩ : BufTy).Contents (Elt F) → (⟨S1024x2, .f32⟩ : BufTy).Contents (Elt F)) (S m c main_v12) (S m c main_v14) := by
  have h := Line.at_binary writes (launchContents m c) 24 rfl (by decide +kernel) (by decide +kernel) (by decide +kernel); exact h
theorem eq_v16 : S m c main_v16 = (broadcastInDim S1024x2 ![] bcast_S_S1024x2 : (⟨S_, .f32⟩ : BufTy).Contents (Elt F) → (⟨S1024x2, .f32⟩ : BufTy).Contents (Elt F)) (S m c main_arg2) := by
  have h := Line.at_unary writes (launchContents m c) 25 rfl (by decide +kernel) (by decide +kernel); exact h
theorem eq_v17 : S m c main_v17 = (Host.divf : (⟨S1024x2, .f32⟩ : BufTy).Contents (Elt F) → (⟨S1024x2, .f32⟩ : BufTy).Contents (Elt F) → (⟨S1024x2, .f32⟩ : BufTy).Contents (Elt F)) (S m c main_v15) (S m c main_v16) := by
  have h := Line.at_binary writes (launchContents m c) 26 rfl (by decide +kernel) (by decide +kernel) (by decide +kernel); exact h
theorem eq_cst : S m c main_cst = (constant S_ .f32 0xFF800000#32) := by
  have h := Line.at_nullary writes (launchContents m c) 27 rfl (by decide +kernel); exact h
theorem eq_v18 : S m c main_v18 = ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F)) (S m c main_v17) (S m c main_cst) := by
  have h := Line.at_binary writes (launchContents m c) 28 rfl (by decide +kernel) (by decide +kernel) (by decide +kernel); exact h
theorem eq_cst_0 : S m c main_cst_0 = (constant S_ .f32 0xFF800000#32) := by
  have h := Line.at_nullary writes (launchContents m c) 29 rfl (by decide +kernel); exact h
theorem eq_v19 : S m c main_v19 = (broadcastInDim S1024 ![] bcast_S_S1024 : (⟨S_, .f32⟩ : BufTy).Contents (Elt F) → (⟨S1024, .f32⟩ : BufTy).Contents (Elt F)) (S m c main_cst_0) := by
  have h := Line.at_unary writes (launchContents m c) 30 rfl (by decide +kernel) (by decide +kernel); exact h
theorem eq_v20 : S m c main_v20 = (maximumf : (⟨S1024, .f32⟩ : BufTy).Contents (Elt F) → (⟨S1024, .f32⟩ : BufTy).Contents (Elt F) → (⟨S1024, .f32⟩ : BufTy).Contents (Elt F)) (S m c main_v19) (S m c main_v18) := by
  have h := Line.at_binary writes (launchContents m c) 31 rfl (by decide +kernel) (by decide +kernel) (by decide +kernel); exact h
theorem eq_v21 : S m c main_v21 = (broadcastInDim S1024x1 ![0] bcast_S1024_S1024x1_0 : (⟨S1024, .f32⟩ : BufTy).Contents (Elt F) → (⟨S1024x1, .f32⟩ : BufTy).Contents (Elt F)) (S m c main_v20) := by
  have h := Line.at_unary writes (launchContents m c) 32 rfl (by decide +kernel) (by decide +kernel); exact h
theorem eq_v22 : S m c main_v22 = (broadcastInDim S1024x2 ![0, 1] bcast_S1024x1_S1024x2_0_1 : (⟨S1024x1, .f32⟩ : BufTy).Contents (Elt F) → (⟨S1024x2, .f32⟩ : BufTy).Contents (Elt F)) (S m c main_v21) := by
  have h := Line.at_unary writes (launchContents m c) 33 rfl (by decide +kernel) (by decide +kernel); exact h
theorem eq_v23 : S m c main_v23 = (subf : (⟨S1024x2, .f32⟩ : BufTy).Contents (Elt F) → (⟨S1024x2, .f32⟩ : BufTy).Contents (Elt F) → (⟨S1024x2, .f32⟩ : BufTy).Contents (Elt F)) (S m c main_v17) (S m c main_v22) := by
  have h := Line.at_binary writes (launchContents m c) 34 rfl (by decide +kernel) (by decide +kernel) (by decide +kernel); exact h
theorem eq_v24 : S m c main_v24 = (Host.exp : (⟨S1024x2, .f32⟩ : BufTy).Contents (Elt F) → (⟨S1024x2, .f32⟩ : BufTy).Contents (Elt F)) (S m c main_v23) := by
  have h := Line.at_unary writes (launchContents m c) 35 rfl (by decide +kernel) (by decide +kernel); exact h
theorem eq_cst_1 : S m c main_cst_1 = (constant S_ .f32 0x00000000#32) := by
  have h := Line.at_nullary writes (launchContents m c) 36 rfl (by decide +kernel); exact h
theorem eq_v25 : S m c main_v25 = ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)) (S m c main_v24) (S m c main_cst_1) := by
  have h := Line.at_binary writes (launchContents m c) 37 rfl (by decide +kernel) (by decide +kernel) (by decide +kernel); exact h
theorem eq_v26 : S m c main_v26 = (broadcastInDim S1024x1 ![0] bcast_S1024_S1024x1_0 : (⟨S1024, .f32⟩ : BufTy).Contents (Elt F) → (⟨S1024x1, .f32⟩ : BufTy).Contents (Elt F)) (S m c main_v25) := by
  have h := Line.at_unary writes (launchContents m c) 38 rfl (by decide +kernel) (by decide +kernel); exact h
theorem eq_v27 : S m c main_v27 = (broadcastInDim S1024x2 ![0, 1] bcast_S1024x1_S1024x2_0_1 : (⟨S1024x1, .f32⟩ : BufTy).Contents (Elt F) → (⟨S1024x2, .f32⟩ : BufTy).Contents (Elt F)) (S m c main_v26) := by
  have h := Line.at_unary writes (launchContents m c) 39 rfl (by decide +kernel) (by decide +kernel); exact h
theorem eq_v28 : S m c main_v28 = (Host.divf : (⟨S1024x2, .f32⟩ : BufTy).Contents (Elt F) → (⟨S1024x2, .f32⟩ : BufTy).Contents (Elt F) → (⟨S1024x2, .f32⟩ : BufTy).Contents (Elt F)) (S m c main_v24) (S m c main_v27) := by
  have h := Line.at_binary writes (launchContents m c) 40 rfl (by decide +kernel) (by decide +kernel) (by decide +kernel); exact h
theorem eq_v29 : S m c main_v29 = ((fun l r => Host.dotGeneral dot_S1024x10_S1024x2_S10x2_0_0_1_1_n_n none l r) : (⟨S1024x10, .f32⟩ : BufTy).Contents (Elt F) → (⟨S1024x2, .f32⟩ : BufTy).Contents (Elt F) → (⟨S10x2, .f32⟩ : BufTy).Contents (Elt F)) (S m c main_v1) (S m c main_v28) := by
  have h := Line.at_binary writes (launchContents m c) 41 rfl (by decide +kernel) (by decide +kernel) (by decide +kernel); exact h
theorem eq_cst_2 : S m c main_cst_2 = (constant S_ .f32 0x44800000#32) := by
  have h := Line.at_nullary writes (launchContents m c) 42 rfl (by decide +kernel); exact h
theorem eq_v30 : S m c main_v30 = (broadcastInDim S10x2 ![] bcast_S_S10x2 : (⟨S_, .f32⟩ : BufTy).Contents (Elt F) → (⟨S10x2, .f32⟩ : BufTy).Contents (Elt F)) (S m c main_cst_2) := by
  have h := Line.at_unary writes (launchContents m c) 43 rfl (by decide +kernel) (by decide +kernel); exact h
theorem eq_v31 : S m c main_v31 = (Host.divf : (⟨S10x2, .f32⟩ : BufTy).Contents (Elt F) → (⟨S10x2, .f32⟩ : BufTy).Contents (Elt F) → (⟨S10x2, .f32⟩ : BufTy).Contents (Elt F)) (S m c main_v29) (S m c main_v30) := by
  have h := Line.at_binary writes (launchContents m c) 44 rfl (by decide +kernel) (by decide +kernel) (by decide +kernel); exact h
theorem eq_cst_3 : S m c main_cst_3 = (constant S_ .f32 0x00000000#32) := by
  have h := Line.at_nullary writes (launchContents m c) 45 rfl (by decide +kernel); exact h
theorem eq_v32 : S m c main_v32 = ((fun x v => Host.reduceAdd x v reducesTo_S10x2_S10_d1 h_S_) : (⟨S10x2, .f32⟩ : BufTy).Contents (Elt F) → (⟨S_, .f32⟩ : BufTy).Contents (Elt F) → (⟨S10, .f32⟩ : BufTy).Contents (Elt F)) (S m c main_v31) (S m c main_cst_3) := by
  have h := Line.at_binary writes (launchContents m c) 46 rfl (by decide +kernel) (by decide +kernel) (by decide +kernel); exact h
theorem eq_cst_4 : S m c main_cst_4 = (constant S_ .f32 0x00000000#32) := by
  have h := Line.at_nullary writes (launchContents m c) 47 rfl (by decide +kernel); exact h
theorem eq_v33 : S m c main_v33 = ((fun x v => Host.reduceAdd x v reducesTo_S10x2_S2_d0 h_S_) : (⟨S10x2, .f32⟩ : BufTy).Contents (Elt F) → (⟨S_, .f32⟩ : BufTy).Contents (Elt F) → (⟨S2, .f32⟩ : BufTy).Contents (Elt F)) (S m c main_v31) (S m c main_cst_4) := by
  have h := Line.at_binary writes (launchContents m c) 48 rfl (by decide +kernel) (by decide +kernel) (by decide +kernel); exact h
theorem eq_cst_5 : S m c main_cst_5 = (constant S_ .f32 0x0DA24260#32) := by
  have h := Line.at_nullary writes (launchContents m c) 49 rfl (by decide +kernel); exact h
theorem eq_v34 : S m c main_v34 = (broadcastInDim S10x2 ![] bcast_S_S10x2 : (⟨S_, .f32⟩ : BufTy).Contents (Elt F) → (⟨S10x2, .f32⟩ : BufTy).Contents (Elt F)) (S m c main_cst_5) := by
  have h := Line.at_unary writes (launchContents m c) 50 rfl (by decide +kernel) (by decide +kernel); exact h
theorem eq_v35 : S m c main_v35 = (addf : (⟨S10x2, .f32⟩ : BufTy).Contents (Elt F) → (⟨S10x2, .f32⟩ : BufTy).Contents (Elt F) → (⟨S10x2, .f32⟩ : BufTy).Contents (Elt F)) (S m c main_v31) (S m c main_v34) := by
  have h := Line.at_binary writes (launchContents m c) 51 rfl (by decide +kernel) (by decide +kernel) (by decide +kernel); exact h
theorem eq_v36 : S m c main_v36 = (Host.log : (⟨S10x2, .f32⟩ : BufTy).Contents (Elt F) → (⟨S10x2, .f32⟩ : BufTy).Contents (Elt F)) (S m c main_v35) := by
  have h := Line.at_unary writes (launchContents m c) 52 rfl (by decide +kernel) (by decide +kernel); exact h
theorem eq_v37 : S m c main_v37 = (mulf : (⟨S10x2, .f32⟩ : BufTy).Contents (Elt F) → (⟨S10x2, .f32⟩ : BufTy).Contents (Elt F) → (⟨S10x2, .f32⟩ : BufTy).Contents (Elt F)) (S m c main_v31) (S m c main_v36) := by
  have h := Line.at_binary writes (launchContents m c) 53 rfl (by decide +kernel) (by decide +kernel) (by decide +kernel); exact h
theorem eq_cst_6 : S m c main_cst_6 = (constant S_ .f32 0x00000000#32) := by
  have h := Line.at_nullary writes (launchContents m c) 54 rfl (by decide +kernel); exact h
theorem eq_v38 : S m c main_v38 = ((fun x v => Host.reduceAdd x v reducesTo_S10x2_S_d0_1 h_S_) : (⟨S10x2, .f32⟩ : BufTy).Contents (Elt F) → (⟨S_, .f32⟩ : BufTy).Contents (Elt F) → (⟨S_, .f32⟩ : BufTy).Contents (Elt F)) (S m c main_v37) (S m c main_cst_6) := by
  have h := Line.at_binary writes (launchContents m c) 55 rfl (by decide +kernel) (by decide +kernel) (by decide +kernel); exact h
theorem eq_v39 : S m c main_v39 = (Host.negf : (⟨S_, .f32⟩ : BufTy).Contents (Elt F) → (⟨S_, .f32⟩ : BufTy).Contents (Elt F)) (S m c main_v38) := by
  have h := Line.at_unary writes (launchContents m c) 56 rfl (by decide +kernel) (by decide +kernel); exact h
theorem eq_cst_7 : S m c main_cst_7 = (constant S_ .f32 0x0DA24260#32) := by
  have h := Line.at_nullary writes (launchContents m c) 57 rfl (by decide +kernel); exact h
theorem eq_v40 : S m c main_v40 = (broadcastInDim S10 ![] bcast_S_S10 : (⟨S_, .f32⟩ : BufTy).Contents (Elt F) → (⟨S10, .f32⟩ : BufTy).Contents (Elt F)) (S m c main_cst_7) := by
  have h := Line.at_unary writes (launchContents m c) 58 rfl (by decide +kernel) (by decide +kernel); exact h
theorem eq_v41 : S m c main_v41 = (addf : (⟨S10, .f32⟩ : BufTy).Contents (Elt F) → (⟨S10, .f32⟩ : BufTy).Contents (Elt F) → (⟨S10, .f32⟩ : BufTy).Contents (Elt F)) (S m c main_v32) (S m c main_v40) := by
  have h := Line.at_binary writes (launchContents m c) 59 rfl (by decide +kernel) (by decide +kernel) (by decide +kernel); exact h
theorem eq_v42 : S m c main_v42 = (Host.log : (⟨S10, .f32⟩ : BufTy).Contents (Elt F) → (⟨S10, .f32⟩ : BufTy).Contents (Elt F)) (S m c main_v41) := by
  have h := Line.at_unary writes (launchContents m c) 60 rfl (by decide +kernel) (by decide +kernel); exact h
theorem eq_v43 : S m c main_v43 = (mulf : (⟨S10, .f32⟩ : BufTy).Contents (Elt F) → (⟨S10, .f32⟩ : BufTy).Contents (Elt F) → (⟨S10, .f32⟩ : BufTy).Contents (Elt F)) (S m c main_v32) (S m c main_v42) := by
  have h := Line.at_binary writes (launchContents m c) 61 rfl (by decide +kernel) (by decide +kernel) (by decide +kernel); exact h
theorem eq_cst_8 : S m c main_cst_8 = (constant S_ .f32 0x00000000#32) := by
  have h := Line.at_nullary writes (launchContents m c) 62 rfl (by decide +kernel); exact h
theorem eq_v44 : S m c main_v44 = ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)) (S m c main_v43) (S m c main_cst_8) := by
  have h := Line.at_binary writes (launchContents m c) 63 rfl (by decide +kernel) (by decide +kernel) (by decide +kernel); exact h
theorem eq_v45 : S m c main_v45 = (Host.negf : (⟨S_, .f32⟩ : BufTy).Contents (Elt F) → (⟨S_, .f32⟩ : BufTy).Contents (Elt F)) (S m c main_v44) := by
  have h := Line.at_unary writes (launchContents m c) 64 rfl (by decide +kernel) (by decide +kernel); exact h
theorem eq_cst_9 : S m c main_cst_9 = (constant S_ .f32 0x0DA24260#32) := by
  have h := Line.at_nullary writes (launchContents m c) 65 rfl (by decide +kernel); exact h
theorem eq_v46 : S m c main_v46 = (broadcastInDim S2 ![] bcast_S_S2 : (⟨S_, .f32⟩ : BufTy).Contents (Elt F) → (⟨S2, .f32⟩ : BufTy).Contents (Elt F)) (S m c main_cst_9) := by
  have h := Line.at_unary writes (launchContents m c) 66 rfl (by decide +kernel) (by decide +kernel); exact h
theorem eq_v47 : S m c main_v47 = (addf : (⟨S2, .f32⟩ : BufTy).Contents (Elt F) → (⟨S2, .f32⟩ : BufTy).Contents (Elt F) → (⟨S2, .f32⟩ : BufTy).Contents (Elt F)) (S m c main_v33) (S m c main_v46) := by
  have h := Line.at_binary writes (launchContents m c) 67 rfl (by decide +kernel) (by decide +kernel) (by decide +kernel); exact h
theorem eq_v48 : S m c main_v48 = (Host.log : (⟨S2, .f32⟩ : BufTy).Contents (Elt F) → (⟨S2, .f32⟩ : BufTy).Contents (Elt F)) (S m c main_v47) := by
  have h := Line.at_unary writes (launchContents m c) 68 rfl (by decide +kernel) (by decide +kernel); exact h
theorem eq_v49 : S m c main_v49 = (mulf : (⟨S2, .f32⟩ : BufTy).Contents (Elt F) → (⟨S2, .f32⟩ : BufTy).Contents (Elt F) → (⟨S2, .f32⟩ : BufTy).Contents (Elt F)) (S m c main_v33) (S m c main_v48) := by
  have h := Line.at_binary writes (launchContents m c) 69 rfl (by decide +kernel) (by decide +kernel) (by decide +kernel); exact h
theorem eq_cst_10 : S m c main_cst_10 = (constant S_ .f32 0x00000000#32) := by
  have h := Line.at_nullary writes (launchContents m c) 70 rfl (by decide +kernel); exact h
theorem eq_v50 : S m c main_v50 = ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)) (S m c main_v49) (S m c main_cst_10) := by
  have h := Line.at_binary writes (launchContents m c) 71 rfl (by decide +kernel) (by decide +kernel) (by decide +kernel); exact h
theorem eq_v51 : S m c main_v51 = (Host.negf : (⟨S_, .f32⟩ : BufTy).Contents (Elt F) → (⟨S_, .f32⟩ : BufTy).Contents (Elt F)) (S m c main_v50) := by
  have h := Line.at_unary writes (launchContents m c) 72 rfl (by decide +kernel) (by decide +kernel); exact h
theorem eq_v52 : S m c main_v52 = (addf : (⟨S_, .f32⟩ : BufTy).Contents (Elt F) → (⟨S_, .f32⟩ : BufTy).Contents (Elt F) → (⟨S_, .f32⟩ : BufTy).Contents (Elt F)) (S m c main_v45) (S m c main_v51) := by
  have h := Line.at_binary writes (launchContents m c) 73 rfl (by decide +kernel) (by decide +kernel) (by decide +kernel); exact h
theorem eq_v53 : S m c main_v53 = (subf : (⟨S_, .f32⟩ : BufTy).Contents (Elt F) → (⟨S_, .f32⟩ : BufTy).Contents (Elt F) → (⟨S_, .f32⟩ : BufTy).Contents (Elt F)) (S m c main_v52) (S m c main_v39) := by
  have h := Line.at_binary writes (launchContents m c) 74 rfl (by decide +kernel) (by decide +kernel) (by decide +kernel); exact h
theorem eq_v54 : S m c main_v54 = (Host.negf : (⟨S_, .f32⟩ : BufTy).Contents (Elt F) → (⟨S_, .f32⟩ : BufTy).Contents (Elt F)) (S m c main_v53) := by
  have h := Line.at_unary writes (launchContents m c) 75 rfl (by decide +kernel) (by decide +kernel); exact h
theorem eq_call3_v0 : S m c main_call3_v0 = (iotaInDim S1024x2 32 1) := by
  have h := Line.at_nullary writes (launchContents m c) 76 rfl (by decide +kernel); exact h
theorem eq_call3_cst : S m c main_call3_cst = (constant S_ .f32 0xFF800000#32) := by
  have h := Line.at_nullary writes (launchContents m c) 77 rfl (by decide +kernel); exact h
theorem eq_call3_c : S m c main_call3_c = (constantI S_ 32 0#32) := by
  have h := Line.at_nullary writes (launchContents m c) 78 rfl (by decide +kernel); exact h
theorem eq_call3_v1_0 : S m c main_call3_v1_0 = ((fun x y u v j => (Host.argReduce reducer_argmax_f32_i32 x y u v reducesTo_S1024x2_S1024_d1 h_S_ j).1) : (⟨S1024x2, .f32⟩ : BufTy).Contents (Elt F) → (⟨S1024x2, .i32⟩ : BufTy).Contents (Elt F) → (⟨S_, .f32⟩ : BufTy).Contents (Elt F) → (⟨S_, .i32⟩ : BufTy).Contents (Elt F) → (⟨S1024, .f32⟩ : BufTy).Contents (Elt F)) (S m c main_v28) (S m c main_call3_v0) (S m c main_call3_cst) (S m c main_call3_c) := by
  have h := Line.at_quaternary writes (launchContents m c) 79 rfl (by decide +kernel) (by decide +kernel) (by decide +kernel) (by decide +kernel) (by decide +kernel); exact h
theorem eq_v55 : S m c main_v55 = ((fun x y u v j => (Host.argReduce reducer_argmax_f32_i32 x y u v reducesTo_S1024x2_S1024_d1 h_S_ j).2) : (⟨S1024x2, .f32⟩ : BufTy).Contents (Elt F) → (⟨S1024x2, .i32⟩ : BufTy).Contents (Elt F) → (⟨S_, .f32⟩ : BufTy).Contents (Elt F) → (⟨S_, .i32⟩ : BufTy).Contents (Elt F) → (⟨S1024, .i32⟩ : BufTy).Contents (Elt F)) (S m c main_v28) (S m c main_call3_v0) (S m c main_call3_cst) (S m c main_call3_c) := by
  have h := Line.at_quaternary writes (launchContents m c) 80 rfl (by decide +kernel) (by decide +kernel) (by decide +kernel) (by decide +kernel) (by decide +kernel); exact h
theorem eq_call4_v0 : S m c main_call4_v0 = ((broadcastInDim S1024x1 ![0] bcast_S1024_S1024x1_0) : (⟨S1024, .i32⟩ : BufTy).Contents (Elt F) → (⟨S1024x1, .i32⟩ : BufTy).Contents (Elt F)) (S m c main_v55) := by
  have h := Line.at_unary writes (launchContents m c) 81 rfl (by decide +kernel) (by decide +kernel); exact h
theorem eq_call4_v1 : S m c main_call4_v1 = (iotaInDim S1x2 32 1) := by
  have h := Line.at_nullary writes (launchContents m c) 82 rfl (by decide +kernel); exact h
theorem eq_call4_v2 : S m c main_call4_v2 = ((broadcastInDim S1024x2 ![0, 1] bcast_S1024x1_S1024x2_0_1) : (⟨S1024x1, .i32⟩ : BufTy).Contents (Elt F) → (⟨S1024x2, .i32⟩ : BufTy).Contents (Elt F)) (S m c main_call4_v0) := by
  have h := Line.at_unary writes (launchContents m c) 83 rfl (by decide +kernel) (by decide +kernel); exact h
theorem eq_call4_v3 : S m c main_call4_v3 = ((broadcastInDim S1024x2 ![0, 1] bcast_S1x2_S1024x2_0_1) : (⟨S1x2, .i32⟩ : BufTy).Contents (Elt F) → (⟨S1024x2, .i32⟩ : BufTy).Contents (Elt F)) (S m c main_call4_v1) := by
  have h := Line.at_unary writes (launchContents m c) 84 rfl (by decide +kernel) (by decide +kernel); exact h
theorem eq_call4_v4 : S m c main_call4_v4 = ((cmpi .eq) : (⟨S1024x2, .i32⟩ : BufTy).Contents (Elt F) → (⟨S1024x2, .i32⟩ : BufTy).Contents (Elt F) → (⟨S1024x2, .i1⟩ : BufTy).Contents (Elt F)) (S m c main_call4_v2) (S m c main_call4_v3) := by
  have h := Line.at_binary writes (launchContents m c) 85 rfl (by decide +kernel) (by decide +kernel) (by decide +kernel); exact h
theorem eq_v56 : S m c main_v56 = ((uitofp .f32) : (⟨S1024x2, .i1⟩ : BufTy).Contents (Elt F) → (⟨S1024x2, .f32⟩ : BufTy).Contents (Elt F)) (S m c main_call4_v4) := by
  have h := Line.at_unary writes (launchContents m c) 86 rfl (by decide +kernel) (by decide +kernel); exact h
theorem eq_cst_11 : S m c main_cst_11 = (constant S_ .f32 0x3F800000#32) := by
  have h := Line.at_nullary writes (launchContents m c) 87 rfl (by decide +kernel); exact h
theorem eq_v57 : S m c main_v57 = (broadcastInDim S1024x2 ![] bcast_S_S1024x2 : (⟨S_, .f32⟩ : BufTy).Contents (Elt F) → (⟨S1024x2, .f32⟩ : BufTy).Contents (Elt F)) (S m c main_cst_11) := by
  have h := Line.at_unary writes (launchContents m c) 88 rfl (by decide +kernel) (by decide +kernel); exact h
theorem eq_v58 : S m c main_v58 = ((fun p a b => select (broadcastInDim S1024x2 ![] bcast_S_S1024x2 p) a b) : (⟨S_, .i1⟩ : BufTy).Contents (Elt F) → (⟨S1024x2, .f32⟩ : BufTy).Contents (Elt F) → (⟨S1024x2, .f32⟩ : BufTy).Contents (Elt F) → (⟨S1024x2, .f32⟩ : BufTy).Contents (Elt F)) (S m c main_arg3) (S m c main_v57) (S m c main_v56) := by
  have h := Line.at_ternary writes (launchContents m c) 89 rfl (by decide +kernel) (by decide +kernel) (by decide +kernel) (by decide +kernel); exact h
theorem eq_v59 : S m c main_v59 = ((fun l r => Host.dotGeneral dot_S1024x2048_S2x2048x1024_S1024x2x1024_1_1_0_02_n_n none l r) : (⟨S1024x2048, .f32⟩ : BufTy).Contents (Elt F) → (⟨S2x2048x1024, .f32⟩ : BufTy).Contents (Elt F) → (⟨S1024x2x1024, .f32⟩ : BufTy).Contents (Elt F)) (S m c main_v6) (S m c main_arg10) := by
  have h := Line.at_binary writes (launchContents m c) 90 rfl (by decide +kernel) (by decide +kernel) (by decide +kernel); exact h
theorem eq_v60 : S m c main_v60 = (broadcastInDim S1x2x1024 ![1, 2] bcast_S2x1024_S1x2x1024_1_2 : (⟨S2x1024, .f32⟩ : BufTy).Contents (Elt F) → (⟨S1x2x1024, .f32⟩ : BufTy).Contents (Elt F)) (S m c main_arg11) := by
  have h := Line.at_unary writes (launchContents m c) 91 rfl (by decide +kernel) (by decide +kernel); exact h
theorem eq_v61 : S m c main_v61 = (broadcastInDim S1024x2x1024 ![0, 1, 2] bcast_S1x2x1024_S1024x2x1024_0_1_2 : (⟨S1x2x1024, .f32⟩ : BufTy).Contents (Elt F) → (⟨S1024x2x1024, .f32⟩ : BufTy).Contents (Elt F)) (S m c main_v60) := by
  have h := Line.at_unary writes (launchContents m c) 92 rfl (by decide +kernel) (by decide +kernel); exact h
theorem eq_v62 : S m c main_v62 = (addf : (⟨S1024x2x1024, .f32⟩ : BufTy).Contents (Elt F) → (⟨S1024x2x1024, .f32⟩ : BufTy).Contents (Elt F) → (⟨S1024x2x1024, .f32⟩ : BufTy).Contents (Elt F)) (S m c main_v59) (S m c main_v61) := by
  have h := Line.at_binary writes (launchContents m c) 93 rfl (by decide +kernel) (by decide +kernel) (by decide +kernel); exact h
theorem eq_call6_cst : S m c main_call6_cst = (constant S_ .f32 0x00000000#32) := by
  have h := Line.at_nullary writes (launchContents m c) 94 rfl (by decide +kernel); exact h
theorem eq_call6_v0 : S m c main_call6_v0 = ((broadcastInDim S1024x2x1024 ![] bcast_S_S1024x2x1024) : (⟨S_, .f32⟩ : BufTy).Contents (Elt F) → (⟨S1024x2x1024, .f32⟩ : BufTy).Contents (Elt F)) (S m c main_call6_cst) := by
  have h := Line.at_unary writes (launchContents m c) 95 rfl (by decide +kernel) (by decide +kernel); exact h
theorem eq_v63 : S m c main_v63 = ((maximumf) : (⟨S1024x2x1024, .f32⟩ : BufTy).Contents (Elt F) → (⟨S1024x2x1024, .f32⟩ : BufTy).Contents (Elt F) → (⟨S1024x2x1024, .f32⟩ : BufTy).Contents (Elt F)) (S m c main_v62) (S m c main_call6_v0) := by
  have h := Line.at_binary writes (launchContents m c) 96 rfl (by decide +kernel) (by decide +kernel) (by decide +kernel); exact h
theorem eq_v64 : S m c main_v64 = ((fun l r => Host.dotGeneral dot_S1024x2_S1024x2x1024_S1024x1024_1_1_n_2_0_0 none l r) : (⟨S1024x2, .f32⟩ : BufTy).Contents (Elt F) → (⟨S1024x2x1024, .f32⟩ : BufTy).Contents (Elt F) → (⟨S1024x1024, .f32⟩ : BufTy).Contents (Elt F)) (S m c main_v58) (S m c main_v63) := by
  have h := Line.at_binary writes (launchContents m c) 97 rfl (by decide +kernel) (by decide +kernel) (by decide +kernel); exact h
theorem eq_v65 : S m c main_v65 = ((fun l r => Host.dotGeneral dot_S1024x1024_S1024x128_S1024x128_1_0_0_1_n_n none l r) : (⟨S1024x1024, .f32⟩ : BufTy).Contents (Elt F) → (⟨S1024x128, .f32⟩ : BufTy).Contents (Elt F) → (⟨S1024x128, .f32⟩ : BufTy).Contents (Elt F)) (S m c main_v64) (S m c main_arg12) := by
  have h := Line.at_binary writes (launchContents m c) 98 rfl (by decide +kernel) (by decide +kernel) (by decide +kernel); exact h
theorem eq_v66 : S m c main_v66 = (broadcastInDim S1x128 ![1] bcast_S128_S1x128_1 : (⟨S128, .f32⟩ : BufTy).Contents (Elt F) → (⟨S1x128, .f32⟩ : BufTy).Contents (Elt F)) (S m c main_arg13) := by
  have h := Line.at_unary writes (launchContents m c) 99 rfl (by decide +kernel) (by decide +kernel); exact h
theorem eq_v67 : S m c main_v67 = (broadcastInDim S1024x128 ![0, 1] bcast_S1x128_S1024x128_0_1 : (⟨S1x128, .f32⟩ : BufTy).Contents (Elt F) → (⟨S1024x128, .f32⟩ : BufTy).Contents (Elt F)) (S m c main_v66) := by
  have h := Line.at_unary writes (launchContents m c) 100 rfl (by decide +kernel) (by decide +kernel); exact h
theorem eq_v68 : S m c main_v68 = (addf : (⟨S1024x128, .f32⟩ : BufTy).Contents (Elt F) → (⟨S1024x128, .f32⟩ : BufTy).Contents (Elt F) → (⟨S1024x128, .f32⟩ : BufTy).Contents (Elt F)) (S m c main_v65) (S m c main_v67) := by
  have h := Line.at_binary writes (launchContents m c) 101 rfl (by decide +kernel) (by decide +kernel) (by decide +kernel); exact h
theorem eq_call7_cst : S m c main_call7_cst = (constant S_ .f32 0x00000000#32) := by
  have h := Line.at_nullary writes (launchContents m c) 102 rfl (by decide +kernel); exact h
theorem eq_call7_v0 : S m c main_call7_v0 = ((broadcastInDim S1024x128 ![] bcast_S_S1024x128) : (⟨S_, .f32⟩ : BufTy).Contents (Elt F) → (⟨S1024x128, .f32⟩ : BufTy).Contents (Elt F)) (S m c main_call7_cst) := by
  have h := Line.at_unary writes (launchContents m c) 103 rfl (by decide +kernel) (by decide +kernel); exact h
theorem eq_v69 : S m c main_v69 = ((maximumf) : (⟨S1024x128, .f32⟩ : BufTy).Contents (Elt F) → (⟨S1024x128, .f32⟩ : BufTy).Contents (Elt F) → (⟨S1024x128, .f32⟩ : BufTy).Contents (Elt F)) (S m c main_v68) (S m c main_call7_v0) := by
  have h := Line.at_binary writes (launchContents m c) 104 rfl (by decide +kernel) (by decide +kernel) (by decide +kernel); exact h
theorem eq_v70 : S m c main_v70 = ((fun l r => Host.dotGeneral dot_S1024x128_S128x4_S1024x4_1_0_0_1_n_n none l r) : (⟨S1024x128, .f32⟩ : BufTy).Contents (Elt F) → (⟨S128x4, .f32⟩ : BufTy).Contents (Elt F) → (⟨S1024x4, .f32⟩ : BufTy).Contents (Elt F)) (S m c main_v69) (S m c main_arg14) := by
  have h := Line.at_binary writes (launchContents m c) 105 rfl (by decide +kernel) (by decide +kernel) (by decide +kernel); exact h
theorem eq_v71 : S m c main_v71 = (broadcastInDim S1x4 ![1] bcast_S4_S1x4_1 : (⟨S4, .f32⟩ : BufTy).Contents (Elt F) → (⟨S1x4, .f32⟩ : BufTy).Contents (Elt F)) (S m c main_arg15) := by
  have h := Line.at_unary writes (launchContents m c) 106 rfl (by decide +kernel) (by decide +kernel); exact h
theorem eq_v72 : S m c main_v72 = (broadcastInDim S1024x4 ![0, 1] bcast_S1x4_S1024x4_0_1 : (⟨S1x4, .f32⟩ : BufTy).Contents (Elt F) → (⟨S1024x4, .f32⟩ : BufTy).Contents (Elt F)) (S m c main_v71) := by
  have h := Line.at_unary writes (launchContents m c) 107 rfl (by decide +kernel) (by decide +kernel); exact h
theorem eq_v73 : S m c main_v73 = (addf : (⟨S1024x4, .f32⟩ : BufTy).Contents (Elt F) → (⟨S1024x4, .f32⟩ : BufTy).Contents (Elt F) → (⟨S1024x4, .f32⟩ : BufTy).Contents (Elt F)) (S m c main_v70) (S m c main_v72) := by
  have h := Line.at_binary writes (launchContents m c) 108 rfl (by decide +kernel) (by decide +kernel) (by decide +kernel); exact h
theorem eq_v74 : S m c main_v74 = (broadcastInDim S1024x4 ![] bcast_S_S1024x4 : (⟨S_, .f32⟩ : BufTy).Contents (Elt F) → (⟨S1024x4, .f32⟩ : BufTy).Contents (Elt F)) (S m c main_arg2) := by
  have h := Line.at_unary writes (launchContents m c) 109 rfl (by decide +kernel) (by decide +kernel); exact h
theorem eq_v75 : S m c main_v75 = (Host.divf : (⟨S1024x4, .f32⟩ : BufTy).Contents (Elt F) → (⟨S1024x4, .f32⟩ : BufTy).Contents (Elt F) → (⟨S1024x4, .f32⟩ : BufTy).Contents (Elt F)) (S m c main_v73) (S m c main_v74) := by
  have h := Line.at_binary writes (launchContents m c) 110 rfl (by decide +kernel) (by decide +kernel) (by decide +kernel); exact h
theorem eq_cst_12 : S m c main_cst_12 = (constant S_ .f32 0xFF800000#32) := by
  have h := Line.at_nullary writes (launchContents m c) 111 rfl (by decide +kernel); exact h
theorem eq_v76 : S m c main_v76 = ((fun x v => Host.reduce FloatOps.maximumf x v reducesTo_S1024x4_S1024_d1 h_S_) : (⟨S1024x4, .f32⟩ : BufTy).Contents (Elt F) → (⟨S_, .f32⟩ : BufTy).Contents (Elt F) → (⟨S1024, .f32⟩ : BufTy).Contents (Elt F)) (S m c main_v75) (S m c main_cst_12) := by
  have h := Line.at_binary writes (launchContents m c) 112 rfl (by decide +kernel) (by decide +kernel) (by decide +kernel); exact h
theorem eq_cst_13 : S m c main_cst_13 = (constant S_ .f32 0xFF800000#32) := by
  have h := Line.at_nullary writes (launchContents m c) 113 rfl (by decide +kernel); exact h
theorem eq_v77 : S m c main_v77 = (broadcastInDim S1024 ![] bcast_S_S1024 : (⟨S_, .f32⟩ : BufTy).Contents (Elt F) → (⟨S1024, .f32⟩ : BufTy).Contents (Elt F)) (S m c main_cst_13) := by
  have h := Line.at_unary writes (launchContents m c) 114 rfl (by decide +kernel) (by decide +kernel); exact h
theorem eq_v78 : S m c main_v78 = (maximumf : (⟨S1024, .f32⟩ : BufTy).Contents (Elt F) → (⟨S1024, .f32⟩ : BufTy).Contents (Elt F) → (⟨S1024, .f32⟩ : BufTy).Contents (Elt F)) (S m c main_v77) (S m c main_v76) := by
  have h := Line.at_binary writes (launchContents m c) 115 rfl (by decide +kernel) (by decide +kernel) (by decide +kernel); exact h
theorem eq_v79 : S m c main_v79 = (broadcastInDim S1024x1 ![0] bcast_S1024_S1024x1_0 : (⟨S1024, .f32⟩ : BufTy).Contents (Elt F) → (⟨S1024x1, .f32⟩ : BufTy).Contents (Elt F)) (S m c main_v78) := by
  have h := Line.at_unary writes (launchContents m c) 116 rfl (by decide +kernel) (by decide +kernel); exact h
theorem eq_v80 : S m c main_v80 = (broadcastInDim S1024x4 ![0, 1] bcast_S1024x1_S1024x4_0_1 : (⟨S1024x1, .f32⟩ : BufTy).Contents (Elt F) → (⟨S1024x4, .f32⟩ : BufTy).Contents (Elt F)) (S m c main_v79) := by
  have h := Line.at_unary writes (launchContents m c) 117 rfl (by decide +kernel) (by decide +kernel); exact h
theorem eq_v81 : S m c main_v81 = (subf : (⟨S1024x4, .f32⟩ : BufTy).Contents (Elt F) → (⟨S1024x4, .f32⟩ : BufTy).Contents (Elt F) → (⟨S1024x4, .f32⟩ : BufTy).Contents (Elt F)) (S m c main_v75) (S m c main_v80) := by
  have h := Line.at_binary writes (launchContents m c) 118 rfl (by decide +kernel) (by decide +kernel) (by decide +kernel); exact h
theorem eq_v82 : S m c main_v82 = (Host.exp : (⟨S1024x4, .f32⟩ : BufTy).Contents (Elt F) → (⟨S1024x4, .f32⟩ : BufTy).Contents (Elt F)) (S m c main_v81) := by
  have h := Line.at_unary writes (launchContents m c) 119 rfl (by decide +kernel) (by decide +kernel); exact h
theorem eq_cst_14 : S m c main_cst_14 = (constant S_ .f32 0x00000000#32) := by
  have h := Line.at_nullary writes (launchContents m c) 120 rfl (by decide +kernel); exact h
theorem eq_v83 : S m c main_v83 = ((fun x v => Host.reduceAdd x v reducesTo_S1024x4_S1024_d1 h_S_) : (⟨S1024x4, .f32⟩ : BufTy).Contents (Elt F) → (⟨S_, .f32⟩ : BufTy).Contents (Elt F) → (⟨S1024, .f32⟩ : BufTy).Contents (Elt F)) (S m c main_v82) (S m c main_cst_14) := by
  have h := Line.at_binary writes (launchContents m c) 121 rfl (by decide +kernel) (by decide +kernel) (by decide +kernel); exact h
theorem eq_v84 : S m c main_v84 = (broadcastInDim S1024x1 ![0] bcast_S1024_S1024x1_0 : (⟨S1024, .f32⟩ : BufTy).Contents (Elt F) → (⟨S1024x1, .f32⟩ : BufTy).Contents (Elt F)) (S m c main_v83) := by
  have h := Line.at_unary writes (launchContents m c) 122 rfl (by decide +kernel) (by decide +kernel); exact h
theorem eq_v85 : S m c main_v85 = (broadcastInDim S1024x4 ![0, 1] bcast_S1024x1_S1024x4_0_1 : (⟨S1024x1, .f32⟩ : BufTy).Contents (Elt F) → (⟨S1024x4, .f32⟩ : BufTy).Contents (Elt F)) (S m c main_v84) := by
  have h := Line.at_unary writes (launchContents m c) 123 rfl (by decide +kernel) (by decide +kernel); exact h
theorem eq_v86 : S m c main_v86 = (Host.divf : (⟨S1024x4, .f32⟩ : BufTy).Contents (Elt F) → (⟨S1024x4, .f32⟩ : BufTy).Contents (Elt F) → (⟨S1024x4, .f32⟩ : BufTy).Contents (Elt F)) (S m c main_v82) (S m c main_v85) := by
  have h := Line.at_binary writes (launchContents m c) 124 rfl (by decide +kernel) (by decide +kernel) (by decide +kernel); exact h
theorem eq_v87 : S m c main_v87 = ((fun l r => Host.dotGeneral dot_S1024x10_S1024x4_S10x4_0_0_1_1_n_n none l r) : (⟨S1024x10, .f32⟩ : BufTy).Contents (Elt F) → (⟨S1024x4, .f32⟩ : BufTy).Contents (Elt F) → (⟨S10x4, .f32⟩ : BufTy).Contents (Elt F)) (S m c main_v1) (S m c main_v86) := by
  have h := Line.at_binary writes (launchContents m c) 125 rfl (by decide +kernel) (by decide +kernel) (by decide +kernel); exact h
theorem eq_cst_15 : S m c main_cst_15 = (constant S_ .f32 0x44800000#32) := by
  have h := Line.at_nullary writes (launchContents m c) 126 rfl (by decide +kernel); exact h
theorem eq_v88 : S m c main_v88 = (broadcastInDim S10x4 ![] bcast_S_S10x4 : (⟨S_, .f32⟩ : BufTy).Contents (Elt F) → (⟨S10x4, .f32⟩ : BufTy).Contents (Elt F)) (S m c main_cst_15) := by
  have h := Line.at_unary writes (launchContents m c) 127 rfl (by decide +kernel) (by decide +kernel); exact h
theorem eq_v89 : S m c main_v89 = (Host.divf : (⟨S10x4, .f32⟩ : BufTy).Contents (Elt F) → (⟨S10x4, .f32⟩ : BufTy).Contents (Elt F) → (⟨S10x4, .f32⟩ : BufTy).Contents (Elt F)) (S m c main_v87) (S m c main_v88) := by
  have h := Line.at_binary writes (launchContents m c) 128 rfl (by decide +kernel) (by decide +kernel) (by decide +kernel); exact h
theorem eq_cst_16 : S m c main_cst_16 = (constant S_ .f32 0x00000000#32) := by
  have h := Line.at_nullary writes (launchContents m c) 129 rfl (by decide +kernel); exact h
theorem eq_v90 : S m c main_v90 = ((fun x v => Host.reduceAdd x v reducesTo_S10x4_S10_d1 h_S_) : (⟨S10x4, .f32⟩ : BufTy).Contents (Elt F) → (⟨S_, .f32⟩ : BufTy).Contents (Elt F) → (⟨S10, .f32⟩ : BufTy).Contents (Elt F)) (S m c main_v89) (S m c main_cst_16) := by
  have h := Line.at_binary writes (launchContents m c) 130 rfl (by decide +kernel) (by decide +kernel) (by decide +kernel); exact h
theorem eq_cst_17 : S m c main_cst_17 = (constant S_ .f32 0x00000000#32) := by
  have h := Line.at_nullary writes (launchContents m c) 131 rfl (by decide +kernel); exact h
theorem eq_v91 : S m c main_v91 = ((fun x v => Host.reduceAdd x v reducesTo_S10x4_S4_d0 h_S_) : (⟨S10x4, .f32⟩ : BufTy).Contents (Elt F) → (⟨S_, .f32⟩ : BufTy).Contents (Elt F) → (⟨S4, .f32⟩ : BufTy).Contents (Elt F)) (S m c main_v89) (S m c main_cst_17) := by
  have h := Line.at_binary writes (launchContents m c) 132 rfl (by decide +kernel) (by decide +kernel) (by decide +kernel); exact h
theorem eq_cst_18 : S m c main_cst_18 = (constant S_ .f32 0x0DA24260#32) := by
  have h := Line.at_nullary writes (launchContents m c) 133 rfl (by decide +kernel); exact h
theorem eq_v92 : S m c main_v92 = (broadcastInDim S10x4 ![] bcast_S_S10x4 : (⟨S_, .f32⟩ : BufTy).Contents (Elt F) → (⟨S10x4, .f32⟩ : BufTy).Contents (Elt F)) (S m c main_cst_18) := by
  have h := Line.at_unary writes (launchContents m c) 134 rfl (by decide +kernel) (by decide +kernel); exact h
theorem eq_v93 : S m c main_v93 = (addf : (⟨S10x4, .f32⟩ : BufTy).Contents (Elt F) → (⟨S10x4, .f32⟩ : BufTy).Contents (Elt F) → (⟨S10x4, .f32⟩ : BufTy).Contents (Elt F)) (S m c main_v89) (S m c main_v92) := by
  have h := Line.at_binary writes (launchContents m c) 135 rfl (by decide +kernel) (by decide +kernel) (by decide +kernel); exact h
theorem eq_v94 : S m c main_v94 = (Host.log : (⟨S10x4, .f32⟩ : BufTy).Contents (Elt F) → (⟨S10x4, .f32⟩ : BufTy).Contents (Elt F)) (S m c main_v93) := by
  have h := Line.at_unary writes (launchContents m c) 136 rfl (by decide +kernel) (by decide +kernel); exact h
theorem eq_v95 : S m c main_v95 = (mulf : (⟨S10x4, .f32⟩ : BufTy).Contents (Elt F) → (⟨S10x4, .f32⟩ : BufTy).Contents (Elt F) → (⟨S10x4, .f32⟩ : BufTy).Contents (Elt F)) (S m c main_v89) (S m c main_v94) := by
  have h := Line.at_binary writes (launchContents m c) 137 rfl (by decide +kernel) (by decide +kernel) (by decide +kernel); exact h
theorem eq_cst_19 : S m c main_cst_19 = (constant S_ .f32 0x00000000#32) := by
  have h := Line.at_nullary writes (launchContents m c) 138 rfl (by decide +kernel); exact h
theorem eq_v96 : S m c main_v96 = ((fun x v => Host.reduceAdd x v reducesTo_S10x4_S_d0_1 h_S_) : (⟨S10x4, .f32⟩ : BufTy).Contents (Elt F) → (⟨S_, .f32⟩ : BufTy).Contents (Elt F) → (⟨S_, .f32⟩ : BufTy).Contents (Elt F)) (S m c main_v95) (S m c main_cst_19) := by
  have h := Line.at_binary writes (launchContents m c) 139 rfl (by decide +kernel) (by decide +kernel) (by decide +kernel); exact h
theorem eq_v97 : S m c main_v97 = (Host.negf : (⟨S_, .f32⟩ : BufTy).Contents (Elt F) → (⟨S_, .f32⟩ : BufTy).Contents (Elt F)) (S m c main_v96) := by
  have h := Line.at_unary writes (launchContents m c) 140 rfl (by decide +kernel) (by decide +kernel); exact h
theorem eq_cst_20 : S m c main_cst_20 = (constant S_ .f32 0x0DA24260#32) := by
  have h := Line.at_nullary writes (launchContents m c) 141 rfl (by decide +kernel); exact h
theorem eq_v98 : S m c main_v98 = (broadcastInDim S10 ![] bcast_S_S10 : (⟨S_, .f32⟩ : BufTy).Contents (Elt F) → (⟨S10, .f32⟩ : BufTy).Contents (Elt F)) (S m c main_cst_20) := by
  have h := Line.at_unary writes (launchContents m c) 142 rfl (by decide +kernel) (by decide +kernel); exact h
theorem eq_v99 : S m c main_v99 = (addf : (⟨S10, .f32⟩ : BufTy).Contents (Elt F) → (⟨S10, .f32⟩ : BufTy).Contents (Elt F) → (⟨S10, .f32⟩ : BufTy).Contents (Elt F)) (S m c main_v90) (S m c main_v98) := by
  have h := Line.at_binary writes (launchContents m c) 143 rfl (by decide +kernel) (by decide +kernel) (by decide +kernel); exact h
theorem eq_v100 : S m c main_v100 = (Host.log : (⟨S10, .f32⟩ : BufTy).Contents (Elt F) → (⟨S10, .f32⟩ : BufTy).Contents (Elt F)) (S m c main_v99) := by
  have h := Line.at_unary writes (launchContents m c) 144 rfl (by decide +kernel) (by decide +kernel); exact h
theorem eq_v101 : S m c main_v101 = (mulf : (⟨S10, .f32⟩ : BufTy).Contents (Elt F) → (⟨S10, .f32⟩ : BufTy).Contents (Elt F) → (⟨S10, .f32⟩ : BufTy).Contents (Elt F)) (S m c main_v90) (S m c main_v100) := by
  have h := Line.at_binary writes (launchContents m c) 145 rfl (by decide +kernel) (by decide +kernel) (by decide +kernel); exact h
theorem eq_cst_21 : S m c main_cst_21 = (constant S_ .f32 0x00000000#32) := by
  have h := Line.at_nullary writes (launchContents m c) 146 rfl (by decide +kernel); exact h
theorem eq_v102 : S m c main_v102 = ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)) (S m c main_v101) (S m c main_cst_21) := by
  have h := Line.at_binary writes (launchContents m c) 147 rfl (by decide +kernel) (by decide +kernel) (by decide +kernel); exact h
theorem eq_v103 : S m c main_v103 = (Host.negf : (⟨S_, .f32⟩ : BufTy).Contents (Elt F) → (⟨S_, .f32⟩ : BufTy).Contents (Elt F)) (S m c main_v102) := by
  have h := Line.at_unary writes (launchContents m c) 148 rfl (by decide +kernel) (by decide +kernel); exact h
theorem eq_cst_22 : S m c main_cst_22 = (constant S_ .f32 0x0DA24260#32) := by
  have h := Line.at_nullary writes (launchContents m c) 149 rfl (by decide +kernel); exact h
theorem eq_v104 : S m c main_v104 = (broadcastInDim S4 ![] bcast_S_S4 : (⟨S_, .f32⟩ : BufTy).Contents (Elt F) → (⟨S4, .f32⟩ : BufTy).Contents (Elt F)) (S m c main_cst_22) := by
  have h := Line.at_unary writes (launchContents m c) 150 rfl (by decide +kernel) (by decide +kernel); exact h
theorem eq_v105 : S m c main_v105 = (addf : (⟨S4, .f32⟩ : BufTy).Contents (Elt F) → (⟨S4, .f32⟩ : BufTy).Contents (Elt F) → (⟨S4, .f32⟩ : BufTy).Contents (Elt F)) (S m c main_v91) (S m c main_v104) := by
  have h := Line.at_binary writes (launchContents m c) 151 rfl (by decide +kernel) (by decide +kernel) (by decide +kernel); exact h
theorem eq_v106 : S m c main_v106 = (Host.log : (⟨S4, .f32⟩ : BufTy).Contents (Elt F) → (⟨S4, .f32⟩ : BufTy).Contents (Elt F)) (S m c main_v105) := by
  have h := Line.at_unary writes (launchContents m c) 152 rfl (by decide +kernel) (by decide +kernel); exact h
theorem eq_v107 : S m c main_v107 = (mulf : (⟨S4, .f32⟩ : BufTy).Contents (Elt F) → (⟨S4, .f32⟩ : BufTy).Contents (Elt F) → (⟨S4, .f32⟩ : BufTy).Contents (Elt F)) (S m c main_v91) (S m c main_v106) := by
  have h := Line.at_binary writes (launchContents m c) 153 rfl (by decide +kernel) (by decide +kernel) (by decide +kernel); exact h
theorem eq_cst_23 : S m c main_cst_23 = (constant S_ .f32 0x00000000#32) := by
  have h := Line.at_nullary writes (launchContents m c) 154 rfl (by decide +kernel); exact h
theorem eq_v108 : S m c main_v108 = ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)) (S m c main_v107) (S m c main_cst_23) := by
  have h := Line.at_binary writes (launchContents m c) 155 rfl (by decide +kernel) (by decide +kernel) (by decide +kernel); exact h
theorem eq_v109 : S m c main_v109 = (Host.negf : (⟨S_, .f32⟩ : BufTy).Contents (Elt F) → (⟨S_, .f32⟩ : BufTy).Contents (Elt F)) (S m c main_v108) := by
  have h := Line.at_unary writes (launchContents m c) 156 rfl (by decide +kernel) (by decide +kernel); exact h
theorem eq_v110 : S m c main_v110 = (addf : (⟨S_, .f32⟩ : BufTy).Contents (Elt F) → (⟨S_, .f32⟩ : BufTy).Contents (Elt F) → (⟨S_, .f32⟩ : BufTy).Contents (Elt F)) (S m c main_v103) (S m c main_v109) := by
  have h := Line.at_binary writes (launchContents m c) 157 rfl (by decide +kernel) (by decide +kernel) (by decide +kernel); exact h
theorem eq_v111 : S m c main_v111 = (subf : (⟨S_, .f32⟩ : BufTy).Contents (Elt F) → (⟨S_, .f32⟩ : BufTy).Contents (Elt F) → (⟨S_, .f32⟩ : BufTy).Contents (Elt F)) (S m c main_v110) (S m c main_v97) := by
  have h := Line.at_binary writes (launchContents m c) 158 rfl (by decide +kernel) (by decide +kernel) (by decide +kernel); exact h
theorem eq_v112 : S m c main_v112 = (Host.negf : (⟨S_, .f32⟩ : BufTy).Contents (Elt F) → (⟨S_, .f32⟩ : BufTy).Contents (Elt F)) (S m c main_v111) := by
  have h := Line.at_unary writes (launchContents m c) 159 rfl (by decide +kernel) (by decide +kernel); exact h
theorem eq_call8_v0 : S m c main_call8_v0 = (iotaInDim S1024x4 32 1) := by
  have h := Line.at_nullary writes (launchContents m c) 160 rfl (by decide +kernel); exact h
theorem eq_call8_cst : S m c main_call8_cst = (constant S_ .f32 0xFF800000#32) := by
  have h := Line.at_nullary writes (launchContents m c) 161 rfl (by decide +kernel); exact h
theorem eq_call8_c : S m c main_call8_c = (constantI S_ 32 0#32) := by
  have h := Line.at_nullary writes (launchContents m c) 162 rfl (by decide +kernel); exact h
theorem eq_call8_v1_0 : S m c main_call8_v1_0 = ((fun x y u v j => (Host.argReduce reducer_argmax_f32_i32 x y u v reducesTo_S1024x4_S1024_d1 h_S_ j).1) : (⟨S1024x4, .f32⟩ : BufTy).Contents (Elt F) → (⟨S1024x4, .i32⟩ : BufTy).Contents (Elt F) → (⟨S_, .f32⟩ : BufTy).Contents (Elt F) → (⟨S_, .i32⟩ : BufTy).Contents (Elt F) → (⟨S1024, .f32⟩ : BufTy).Contents (Elt F)) (S m c main_v86) (S m c main_call8_v0) (S m c main_call8_cst) (S m c main_call8_c) := by
  have h := Line.at_quaternary writes (launchContents m c) 163 rfl (by decide +kernel) (by decide +kernel) (by decide +kernel) (by decide +kernel) (by decide +kernel); exact h
theorem eq_v113 : S m c main_v113 = ((fun x y u v j => (Host.argReduce reducer_argmax_f32_i32 x y u v reducesTo_S1024x4_S1024_d1 h_S_ j).2) : (⟨S1024x4, .f32⟩ : BufTy).Contents (Elt F) → (⟨S1024x4, .i32⟩ : BufTy).Contents (Elt F) → (⟨S_, .f32⟩ : BufTy).Contents (Elt F) → (⟨S_, .i32⟩ : BufTy).Contents (Elt F) → (⟨S1024, .i32⟩ : BufTy).Contents (Elt F)) (S m c main_v86) (S m c main_call8_v0) (S m c main_call8_cst) (S m c main_call8_c) := by
  have h := Line.at_quaternary writes (launchContents m c) 164 rfl (by decide +kernel) (by decide +kernel) (by decide +kernel) (by decide +kernel) (by decide +kernel); exact h
theorem eq_call9_v0 : S m c main_call9_v0 = ((broadcastInDim S1024x1 ![0] bcast_S1024_S1024x1_0) : (⟨S1024, .i32⟩ : BufTy).Contents (Elt F) → (⟨S1024x1, .i32⟩ : BufTy).Contents (Elt F)) (S m c main_v113) := by
  have h := Line.at_unary writes (launchContents m c) 165 rfl (by decide +kernel) (by decide +kernel); exact h
theorem eq_call9_v1 : S m c main_call9_v1 = (iotaInDim S1x4 32 1) := by
  have h := Line.at_nullary writes (launchContents m c) 166 rfl (by decide +kernel); exact h
theorem eq_call9_v2 : S m c main_call9_v2 = ((broadcastInDim S1024x4 ![0, 1] bcast_S1024x1_S1024x4_0_1) : (⟨S1024x1, .i32⟩ : BufTy).Contents (Elt F) → (⟨S1024x4, .i32⟩ : BufTy).Contents (Elt F)) (S m c main_call9_v0) := by
  have h := Line.at_unary writes (launchContents m c) 167 rfl (by decide +kernel) (by decide +kernel); exact h
theorem eq_call9_v3 : S m c main_call9_v3 = ((broadcastInDim S1024x4 ![0, 1] bcast_S1x4_S1024x4_0_1) : (⟨S1x4, .i32⟩ : BufTy).Contents (Elt F) → (⟨S1024x4, .i32⟩ : BufTy).Contents (Elt F)) (S m c main_call9_v1) := by
  have h := Line.at_unary writes (launchContents m c) 168 rfl (by decide +kernel) (by decide +kernel); exact h
theorem eq_call9_v4 : S m c main_call9_v4 = ((cmpi .eq) : (⟨S1024x4, .i32⟩ : BufTy).Contents (Elt F) → (⟨S1024x4, .i32⟩ : BufTy).Contents (Elt F) → (⟨S1024x4, .i1⟩ : BufTy).Contents (Elt F)) (S m c main_call9_v2) (S m c main_call9_v3) := by
  have h := Line.at_binary writes (launchContents m c) 169 rfl (by decide +kernel) (by decide +kernel) (by decide +kernel); exact h
theorem eq_v114 : S m c main_v114 = ((uitofp .f32) : (⟨S1024x4, .i1⟩ : BufTy).Contents (Elt F) → (⟨S1024x4, .f32⟩ : BufTy).Contents (Elt F)) (S m c main_call9_v4) := by
  have h := Line.at_unary writes (launchContents m c) 170 rfl (by decide +kernel) (by decide +kernel); exact h
theorem eq_cst_24 : S m c main_cst_24 = (constant S_ .f32 0x3F800000#32) := by
  have h := Line.at_nullary writes (launchContents m c) 171 rfl (by decide +kernel); exact h
theorem eq_v115 : S m c main_v115 = (broadcastInDim S1024x4 ![] bcast_S_S1024x4 : (⟨S_, .f32⟩ : BufTy).Contents (Elt F) → (⟨S1024x4, .f32⟩ : BufTy).Contents (Elt F)) (S m c main_cst_24) := by
  have h := Line.at_unary writes (launchContents m c) 172 rfl (by decide +kernel) (by decide +kernel); exact h
theorem eq_v116 : S m c main_v116 = ((fun p a b => select (broadcastInDim S1024x4 ![] bcast_S_S1024x4 p) a b) : (⟨S_, .i1⟩ : BufTy).Contents (Elt F) → (⟨S1024x4, .f32⟩ : BufTy).Contents (Elt F) → (⟨S1024x4, .f32⟩ : BufTy).Contents (Elt F) → (⟨S1024x4, .f32⟩ : BufTy).Contents (Elt F)) (S m c main_arg3) (S m c main_v115) (S m c main_v114) := by
  have h := Line.at_ternary writes (launchContents m c) 173 rfl (by decide +kernel) (by decide +kernel) (by decide +kernel) (by decide +kernel); exact h
theorem eq_v117 : S m c main_v117 = ((fun l r => Host.dotGeneral dot_S1024x1024_S4x1024x10_S1024x4x10_1_1_0_02_n_n none l r) : (⟨S1024x1024, .f32⟩ : BufTy).Contents (Elt F) → (⟨S4x1024x10, .f32⟩ : BufTy).Contents (Elt F) → (⟨S1024x4x10, .f32⟩ : BufTy).Contents (Elt F)) (S m c main_v64) (S m c main_arg16) := by
  have h := Line.at_binary writes (launchContents m c) 174 rfl (by decide +kernel) (by decide +kernel) (by decide +kernel); exact h
theorem eq_v118 : S m c main_v118 = (broadcastInDim S1x4x10 ![1, 2] bcast_S4x10_S1x4x10_1_2 : (⟨S4x10, .f32⟩ : BufTy).Contents (Elt F) → (⟨S1x4x10, .f32⟩ : BufTy).Contents (Elt F)) (S m c main_arg17) := by
  have h := Line.at_unary writes (launchContents m c) 175 rfl (by decide +kernel) (by decide +kernel); exact h
theorem eq_v119 : S m c main_v119 = (broadcastInDim S1024x4x10 ![0, 1, 2] bcast_S1x4x10_S1024x4x10_0_1_2 : (⟨S1x4x10, .f32⟩ : BufTy).Contents (Elt F) → (⟨S1024x4x10, .f32⟩ : BufTy).Contents (Elt F)) (S m c main_v118) := by
  have h := Line.at_unary writes (launchContents m c) 176 rfl (by decide +kernel) (by decide +kernel); exact h
theorem eq_v120 : S m c main_v120 = (addf : (⟨S1024x4x10, .f32⟩ : BufTy).Contents (Elt F) → (⟨S1024x4x10, .f32⟩ : BufTy).Contents (Elt F) → (⟨S1024x4x10, .f32⟩ : BufTy).Contents (Elt F)) (S m c main_v117) (S m c main_v119) := by
  have h := Line.at_binary writes (launchContents m c) 177 rfl (by decide +kernel) (by decide +kernel) (by decide +kernel); exact h
theorem eq_v121 : S m c main_v121 = ((fun l r => Host.dotGeneral dot_S1024x4_S1024x4x10_S1024x10_1_1_n_2_0_0 none l r) : (⟨S1024x4, .f32⟩ : BufTy).Contents (Elt F) → (⟨S1024x4x10, .f32⟩ : BufTy).Contents (Elt F) → (⟨S1024x10, .f32⟩ : BufTy).Contents (Elt F)) (S m c main_v116) (S m c main_v120) := by
  have h := Line.at_binary writes (launchContents m c) 178 rfl (by decide +kernel) (by decide +kernel) (by decide +kernel); exact h
theorem eq_call11_cst : S m c main_call11_cst = (constant S_ .f32 0xFF800000#32) := by
  have h := Line.at_nullary writes (launchContents m c) 179 rfl (by decide +kernel); exact h
theorem eq_call11_v0 : S m c main_call11_v0 = ((fun x v => Host.reduce FloatOps.maximumf x v reducesTo_S1024x10_S1024_d1 h_S_) : (⟨S1024x10, .f32⟩ : BufTy).Contents (Elt F) → (⟨S_, .f32⟩ : BufTy).Contents (Elt F) → (⟨S1024, .f32⟩ : BufTy).Contents (Elt F)) (S m c main_v121) (S m c main_call11_cst) := by
  have h := Line.at_binary writes (launchContents m c) 180 rfl (by decide +kernel) (by decide +kernel) (by decide +kernel); exact h
theorem eq_call11_cst_0 : S m c main_call11_cst_0 = (constant S_ .f32 0xFF800000#32) := by
  have h := Line.at_nullary writes (launchContents m c) 181 rfl (by decide +kernel); exact h
theorem eq_call11_v1 : S m c main_call11_v1 = ((broadcastInDim S1024 ![] bcast_S_S1024) : (⟨S_, .f32⟩ : BufTy).Contents (Elt F) → (⟨S1024, .f32⟩ : BufTy).Contents (Elt F)) (S m c main_call11_cst_0) := by
  have h := Line.at_unary writes (launchContents m c) 182 rfl (by decide +kernel) (by decide +kernel); exact h
theorem eq_call11_v2 : S m c main_call11_v2 = ((maximumf) : (⟨S1024, .f32⟩ : BufTy).Contents (Elt F) → (⟨S1024, .f32⟩ : BufTy).Contents (Elt F) → (⟨S1024, .f32⟩ : BufTy).Contents (Elt F)) (S m c main_call11_v1) (S m c main_call11_v0) := by
  have h := Line.at_binary writes (launchContents m c) 183 rfl (by decide +kernel) (by decide +kernel) (by decide +kernel); exact h
theorem eq_call11_v3 : S m c main_call11_v3 = ((broadcastInDim S1024x1 ![0] bcast_S1024_S1024x1_0) : (⟨S1024, .f32⟩ : BufTy).Contents (Elt F) → (⟨S1024x1, .f32⟩ : BufTy).Contents (Elt F)) (S m c main_call11_v2) := by
  have h := Line.at_unary writes (launchContents m c) 184 rfl (by decide +kernel) (by decide +kernel); exact h
theorem eq_call11_v4 : S m c main_call11_v4 = ((broadcastInDim S1024x10 ![0, 1] bcast_S1024x1_S1024x10_0_1) : (⟨S1024x1, .f32⟩ : BufTy).Contents (Elt F) → (⟨S1024x10, .f32⟩ : BufTy).Contents (Elt F)) (S m c main_call11_v3) := by
  have h := Line.at_unary writes (launchContents m c) 185 rfl (by decide +kernel) (by decide +kernel); exact h
theorem eq_call11_v5 : S m c main_call11_v5 = ((subf) : (⟨S1024x10, .f32⟩ : BufTy).Contents (Elt F) → (⟨S1024x10, .f32⟩ : BufTy).Contents (Elt F) → (⟨S1024x10, .f32⟩ : BufTy).Contents (Elt F)) (S m c main_v121) (S m c main_call11_v4) := by
  have h := Line.at_binary writes (launchContents m c) 186 rfl (by decide +kernel) (by decide +kernel) (by decide +kernel); exact h
theorem eq_call11_v6 : S m c main_call11_v6 = ((Host.exp) : (⟨S1024x10, .f32⟩ : BufTy).Contents (Elt F) → (⟨S1024x10, .f32⟩ : BufTy).Contents (Elt F)) (S m c main_call11_v5) := by
  have h := Line.at_unary writes (launchContents m c) 187 rfl (by decide +kernel) (by decide +kernel); exact h
theorem eq_call11_cst_1 : S m c main_call11_cst_1 = (constant S_ .f32 0x00000000#32) := by
  have h := Line.at_nullary writes (launchContents m c) 188 rfl (by decide +kernel); exact h
theorem eq_call11_v7 : S m c main_call11_v7 = ((fun x v => Host.reduceAdd x v reducesTo_S1024x10_S1024_d1 h_S_) : (⟨S1024x10, .f32⟩ : BufTy).Contents (Elt F) → (⟨S_, .f32⟩ : BufTy).Contents (Elt F) → (⟨S1024, .f32⟩ : BufTy).Contents (Elt F)) (S m c main_call11_v6) (S m c main_call11_cst_1) := by
  have h := Line.at_binary writes (launchContents m c) 189 rfl (by decide +kernel) (by decide +kernel) (by decide +kernel); exact h
theorem eq_call11_v8 : S m c main_call11_v8 = ((broadcastInDim S1024x1 ![0] bcast_S1024_S1024x1_0) : (⟨S1024, .f32⟩ : BufTy).Contents (Elt F) → (⟨S1024x1, .f32⟩ : BufTy).Contents (Elt F)) (S m c main_call11_v7) := by
  have h := Line.at_unary writes (launchContents m c) 190 rfl (by decide +kernel) (by decide +kernel); exact h
theorem eq_call11_v9 : S m c main_call11_v9 = ((Host.log) : (⟨S1024x1, .f32⟩ : BufTy).Contents (Elt F) → (⟨S1024x1, .f32⟩ : BufTy).Contents (Elt F)) (S m c main_call11_v8) := by
  have h := Line.at_unary writes (launchContents m c) 191 rfl (by decide +kernel) (by decide +kernel); exact h
theorem eq_call11_v10 : S m c main_call11_v10 = ((broadcastInDim S1024x10 ![0, 1] bcast_S1024x1_S1024x10_0_1) : (⟨S1024x1, .f32⟩ : BufTy).Contents (Elt F) → (⟨S1024x10, .f32⟩ : BufTy).Contents (Elt F)) (S m c main_call11_v9) := by
  have h := Line.at_unary writes (launchContents m c) 192 rfl (by decide +kernel) (by decide +kernel); exact h
theorem eq_v122 : S m c main_v122 = ((subf) : (⟨S1024x10, .f32⟩ : BufTy).Contents (Elt F) → (⟨S1024x10, .f32⟩ : BufTy).Contents (Elt F) → (⟨S1024x10, .f32⟩ : BufTy).Contents (Elt F)) (S m c main_call11_v5) (S m c main_call11_v10) := by
  have h := Line.at_binary writes (launchContents m c) 193 rfl (by decide +kernel) (by decide +kernel) (by decide +kernel); exact h
theorem eq_v123 : S m c main_v123 = (mulf : (⟨S1024x10, .f32⟩ : BufTy).Contents (Elt F) → (⟨S1024x10, .f32⟩ : BufTy).Contents (Elt F) → (⟨S1024x10, .f32⟩ : BufTy).Contents (Elt F)) (S m c main_v1) (S m c main_v122) := by
  have h := Line.at_binary writes (launchContents m c) 194 rfl (by decide +kernel) (by decide +kernel) (by decide +kernel); exact h
theorem eq_cst_25 : S m c main_cst_25 = (constant S_ .f32 0x00000000#32) := by
  have h := Line.at_nullary writes (launchContents m c) 195 rfl (by decide +kernel); exact h
theorem eq_v124 : S m c main_v124 = ((fun x v => Host.reduceAdd x v reducesTo_S1024x10_S1024_d1 h_S_) : (⟨S1024x10, .f32⟩ : BufTy).Contents (Elt F) → (⟨S_, .f32⟩ : BufTy).Contents (Elt F) → (⟨S1024, .f32⟩ : BufTy).Contents (Elt F)) (S m c main_v123) (S m c main_cst_25) := by
  have h := Line.at_binary writes (launchContents m c) 196 rfl (by decide +kernel) (by decide +kernel) (by decide +kernel); exact h
theorem eq_cst_26 : S m c main_cst_26 = (constant S_ .f32 0x00000000#32) := by
  have h := Line.at_nullary writes (launchContents m c) 197 rfl (by decide +kernel); exact h
theorem eq_v125 : S m c main_v125 = ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)) (S m c main_v124) (S m c main_cst_26) := by
  have h := Line.at_binary writes (launchContents m c) 198 rfl (by decide +kernel) (by decide +kernel) (by decide +kernel); exact h
theorem eq_cst_27 : S m c main_cst_27 = (constant S_ .f32 0x44800000#32) := by
  have h := Line.at_nullary writes (launchContents m c) 199 rfl (by decide +kernel); exact h
theorem eq_v126 : S m c main_v126 = (Host.divf : (⟨S_, .f32⟩ : BufTy).Contents (Elt F) → (⟨S_, .f32⟩ : BufTy).Contents (Elt F) → (⟨S_, .f32⟩ : BufTy).Contents (Elt F)) (S m c main_v125) (S m c main_cst_27) := by
  have h := Line.at_binary writes (launchContents m c) 200 rfl (by decide +kernel) (by decide +kernel) (by decide +kernel); exact h
theorem eq_v127 : S m c main_v127 = (Host.negf : (⟨S_, .f32⟩ : BufTy).Contents (Elt F) → (⟨S_, .f32⟩ : BufTy).Contents (Elt F)) (S m c main_v126) := by
  have h := Line.at_unary writes (launchContents m c) 201 rfl (by decide +kernel) (by decide +kernel); exact h
theorem eq_cst_28 : S m c main_cst_28 = (constant S_ .f32 0xFF800000#32) := by
  have h := Line.at_nullary writes (launchContents m c) 202 rfl (by decide +kernel); exact h
theorem eq_v128 : S m c main_v128 = ((fun x v => Host.reduce FloatOps.maximumf x v reducesTo_S1024x10_S1024_d1 h_S_) : (⟨S1024x10, .f32⟩ : BufTy).Contents (Elt F) → (⟨S_, .f32⟩ : BufTy).Contents (Elt F) → (⟨S1024, .f32⟩ : BufTy).Contents (Elt F)) (S m c main_v121) (S m c main_cst_28) := by
  have h := Line.at_binary writes (launchContents m c) 203 rfl (by decide +kernel) (by decide +kernel) (by decide +kernel); exact h
theorem eq_cst_29 : S m c main_cst_29 = (constant S_ .f32 0xFF800000#32) := by
  have h := Line.at_nullary writes (launchContents m c) 204 rfl (by decide +kernel); exact h
theorem eq_v129 : S m c main_v129 = (broadcastInDim S1024 ![] bcast_S_S1024 : (⟨S_, .f32⟩ : BufTy).Contents (Elt F) → (⟨S1024, .f32⟩ : BufTy).Contents (Elt F)) (S m c main_cst_29) := by
  have h := Line.at_unary writes (launchContents m c) 205 rfl (by decide +kernel) (by decide +kernel); exact h
theorem eq_v130 : S m c main_v130 = (maximumf : (⟨S1024, .f32⟩ : BufTy).Contents (Elt F) → (⟨S1024, .f32⟩ : BufTy).Contents (Elt F) → (⟨S1024, .f32⟩ : BufTy).Contents (Elt F)) (S m c main_v129) (S m c main_v128) := by
  have h := Line.at_binary writes (launchContents m c) 206 rfl (by decide +kernel) (by decide +kernel) (by decide +kernel); exact h
theorem eq_v131 : S m c main_v131 = (broadcastInDim S1024x1 ![0] bcast_S1024_S1024x1_0 : (⟨S1024, .f32⟩ : BufTy).Contents (Elt F) → (⟨S1024x1, .f32⟩ : BufTy).Contents (Elt F)) (S m c main_v130) := by
  have h := Line.at_unary writes (launchContents m c) 207 rfl (by decide +kernel) (by decide +kernel); exact h
theorem eq_v132 : S m c main_v132 = (broadcastInDim S1024x10 ![0, 1] bcast_S1024x1_S1024x10_0_1 : (⟨S1024x1, .f32⟩ : BufTy).Contents (Elt F) → (⟨S1024x10, .f32⟩ : BufTy).Contents (Elt F)) (S m c main_v131) := by
  have h := Line.at_unary writes (launchContents m c) 208 rfl (by decide +kernel) (by decide +kernel); exact h
theorem eq_v133 : S m c main_v133 = (subf : (⟨S1024x10, .f32⟩ : BufTy).Contents (Elt F) → (⟨S1024x10, .f32⟩ : BufTy).Contents (Elt F) → (⟨S1024x10, .f32⟩ : BufTy).Contents (Elt F)) (S m c main_v121) (S m c main_v132) := by
  have h := Line.at_binary writes (launchContents m c) 209 rfl (by decide +kernel) (by decide +kernel) (by decide +kernel); exact h
theorem eq_v134 : S m c main_v134 = (Host.exp : (⟨S1024x10, .f32⟩ : BufTy).Contents (Elt F) → (⟨S1024x10, .f32⟩ : BufTy).Contents (Elt F)) (S m c main_v133) := by
  have h := Line.at_unary writes (launchContents m c) 210 rfl (by decide +kernel) (by decide +kernel); exact h
theorem eq_cst_30 : S m c main_cst_30 = (constant S_ .f32 0x00000000#32) := by
  have h := Line.at_nullary writes (launchContents m c) 211 rfl (by decide +kernel); exact h
theorem eq_v135 : S m c main_v135 = ((fun x v => Host.reduceAdd x v reducesTo_S1024x10_S1024_d1 h_S_) : (⟨S1024x10, .f32⟩ : BufTy).Contents (Elt F) → (⟨S_, .f32⟩ : BufTy).Contents (Elt F) → (⟨S1024, .f32⟩ : BufTy).Contents (Elt F)) (S m c main_v134) (S m c main_cst_30) := by
  have h := Line.at_binary writes (launchContents m c) 212 rfl (by decide +kernel) (by decide +kernel) (by decide +kernel); exact h
theorem eq_v136 : S m c main_v136 = (broadcastInDim S1024x1 ![0] bcast_S1024_S1024x1_0 : (⟨S1024, .f32⟩ : BufTy).Contents (Elt F) → (⟨S1024x1, .f32⟩ : BufTy).Contents (Elt F)) (S m c main_v135) := by
  have h := Line.at_unary writes (launchContents m c) 213 rfl (by decide +kernel) (by decide +kernel); exact h
theorem eq_v137 : S m c main_v137 = (broadcastInDim S1024x10 ![0, 1] bcast_S1024x1_S1024x10_0_1 : (⟨S1024x1, .f32⟩ : BufTy).Contents (Elt F) → (⟨S1024x10, .f32⟩ : BufTy).Contents (Elt F)) (S m c main_v136) := by
  have h := Line.at_unary writes (launchContents m c) 214 rfl (by decide +kernel) (by decide +kernel); exact h
theorem eq_v138 : S m c main_v138 = (Host.divf : (⟨S1024x10, .f32⟩ : BufTy).Contents (Elt F) → (⟨S1024x10, .f32⟩ : BufTy).Contents (Elt F) → (⟨S1024x10, .f32⟩ : BufTy).Contents (Elt F)) (S m c main_v134) (S m c main_v137) := by
  have h := Line.at_binary writes (launchContents m c) 215 rfl (by decide +kernel) (by decide +kernel) (by decide +kernel); exact h
theorem eq_v139 : S m c main_v139 = (mulf : (⟨S3072x2048, .f32⟩ : BufTy).Contents (Elt F) → (⟨S3072x2048, .f32⟩ : BufTy).Contents (Elt F) → (⟨S3072x2048, .f32⟩ : BufTy).Contents (Elt F)) (S m c main_arg4) (S m c main_arg4) := by
  have h := Line.at_binary writes (launchContents m c) 216 rfl (by decide +kernel) (by decide +kernel) (by decide +kernel); exact h
theorem eq_cst_31 : S m c main_cst_31 = (constant S_ .f32 0x00000000#32) := by
  have h := Line.at_nullary writes (launchContents m c) 217 rfl (by decide +kernel); exact h
theorem eq_v140 : S m c main_v140 = ((fun x v => Host.reduceAdd x v reducesTo_S3072x2048_S_d0_1 h_S_) : (⟨S3072x2048, .f32⟩ : BufTy).Contents (Elt F) → (⟨S_, .f32⟩ : BufTy).Contents (Elt F) → (⟨S_, .f32⟩ : BufTy).Contents (Elt F)) (S m c main_v139) (S m c main_cst_31) := by
  have h := Line.at_binary writes (launchContents m c) 218 rfl (by decide +kernel) (by decide +kernel) (by decide +kernel); exact h
theorem eq_v141 : S m c main_v141 = (mulf : (⟨S2x2048x1024, .f32⟩ : BufTy).Contents (Elt F) → (⟨S2x2048x1024, .f32⟩ : BufTy).Contents (Elt F) → (⟨S2x2048x1024, .f32⟩ : BufTy).Contents (Elt F)) (S m c main_arg10) (S m c main_arg10) := by
  have h := Line.at_binary writes (launchContents m c) 219 rfl (by decide +kernel) (by decide +kernel) (by decide +kernel); exact h
theorem eq_cst_32 : S m c main_cst_32 = (constant S_ .f32 0x00000000#32) := by
  have h := Line.at_nullary writes (launchContents m c) 220 rfl (by decide +kernel); exact h
theorem eq_v142 : S m c main_v142 = ((fun x v => Host.reduceAdd x v reducesTo_S2x2048x1024_S_d0_1_2 h_S_) : (⟨S2x2048x1024, .f32⟩ : BufTy).Contents (Elt F) → (⟨S_, .f32⟩ : BufTy).Contents (Elt F) → (⟨S_, .f32⟩ : BufTy).Contents (Elt F)) (S m c main_v141) (S m c main_cst_32) := by
  have h := Line.at_binary writes (launchContents m c) 221 rfl (by decide +kernel) (by decide +kernel) (by decide +kernel); exact h
theorem eq_v143 : S m c main_v143 = (addf : (⟨S_, .f32⟩ : BufTy).Contents (Elt F) → (⟨S_, .f32⟩ : BufTy).Contents (Elt F) → (⟨S_, .f32⟩ : BufTy).Contents (Elt F)) (S m c main_v140) (S m c main_v142) := by
  have h := Line.at_binary writes (launchContents m c) 222 rfl (by decide +kernel) (by decide +kernel) (by decide +kernel); exact h
theorem eq_v144 : S m c main_v144 = (mulf : (⟨S4x1024x10, .f32⟩ : BufTy).Contents (Elt F) → (⟨S4x1024x10, .f32⟩ : BufTy).Contents (Elt F) → (⟨S4x1024x10, .f32⟩ : BufTy).Contents (Elt F)) (S m c main_arg16) (S m c main_arg16) := by
  have h := Line.at_binary writes (launchContents m c) 223 rfl (by decide +kernel) (by decide +kernel) (by decide +kernel); exact h
theorem eq_cst_33 : S m c main_cst_33 = (constant S_ .f32 0x00000000#32) := by
  have h := Line.at_nullary writes (launchContents m c) 224 rfl (by decide +kernel); exact h
theorem eq_v145 : S m c main_v145 = ((fun x v => Host.reduceAdd x v reducesTo_S4x1024x10_S_d0_1_2 h_S_) : (⟨S4x1024x10, .f32⟩ : BufTy).Contents (Elt F) → (⟨S_, .f32⟩ : BufTy).Contents (Elt F) → (⟨S_, .f32⟩ : BufTy).Contents (Elt F)) (S m c main_v144) (S m c main_cst_33) := by
  have h := Line.at_binary writes (launchContents m c) 225 rfl (by decide +kernel) (by decide +kernel) (by decide +kernel); exact h
theorem eq_v146 : S m c main_v146 = (addf : (⟨S_, .f32⟩ : BufTy).Contents (Elt F) → (⟨S_, .f32⟩ : BufTy).Contents (Elt F) → (⟨S_, .f32⟩ : BufTy).Contents (Elt F)) (S m c main_v143) (S m c main_v145) := by
  have h := Line.at_binary writes (launchContents m c) 226 rfl (by decide +kernel) (by decide +kernel) (by decide +kernel); exact h
theorem eq_cst_34 : S m c main_cst_34 = (constant S_ .f32 0x3A03126F#32) := by
  have h := Line.at_nullary writes (launchContents m c) 227 rfl (by decide +kernel); exact h
theorem eq_v147 : S m c main_v147 = (mulf : (⟨S_, .f32⟩ : BufTy).Contents (Elt F) → (⟨S_, .f32⟩ : BufTy).Contents (Elt F) → (⟨S_, .f32⟩ : BufTy).Contents (Elt F)) (S m c main_cst_34) (S m c main_v146) := by
  have h := Line.at_binary writes (launchContents m c) 228 rfl (by decide +kernel) (by decide +kernel) (by decide +kernel); exact h
theorem eq_v148 : S m c main_v148 = (mulf : (⟨S2048x128, .f32⟩ : BufTy).Contents (Elt F) → (⟨S2048x128, .f32⟩ : BufTy).Contents (Elt F) → (⟨S2048x128, .f32⟩ : BufTy).Contents (Elt F)) (S m c main_arg6) (S m c main_arg6) := by
  have h := Line.at_binary writes (launchContents m c) 229 rfl (by decide +kernel) (by decide +kernel) (by decide +kernel); exact h
theorem eq_cst_35 : S m c main_cst_35 = (constant S_ .f32 0x00000000#32) := by
  have h := Line.at_nullary writes (launchContents m c) 230 rfl (by decide +kernel); exact h
theorem eq_v149 : S m c main_v149 = ((fun x v => Host.reduceAdd x v reducesTo_S2048x128_S_d0_1 h_S_) : (⟨S2048x128, .f32⟩ : BufTy).Contents (Elt F) → (⟨S_, .f32⟩ : BufTy).Contents (Elt F) → (⟨S_, .f32⟩ : BufTy).Contents (Elt F)) (S m c main_v148) (S m c main_cst_35) := by
  have h := Line.at_binary writes (launchContents m c) 231 rfl (by decide +kernel) (by decide +kernel) (by decide +kernel); exact h
theorem eq_v150 : S m c main_v150 = (mulf : (⟨S128x2, .f32⟩ : BufTy).Contents (Elt F) → (⟨S128x2, .f32⟩ : BufTy).Contents (Elt F) → (⟨S128x2, .f32⟩ : BufTy).Contents (Elt F)) (S m c main_arg8) (S m c main_arg8) := by
  have h := Line.at_binary writes (launchContents m c) 232 rfl (by decide +kernel) (by decide +kernel) (by decide +kernel); exact h
theorem eq_cst_36 : S m c main_cst_36 = (constant S_ .f32 0x00000000#32) := by
  have h := Line.at_nullary writes (launchContents m c) 233 rfl (by decide +kernel); exact h
theorem eq_v151 : S m c main_v151 = ((fun x v => Host.reduceAdd x v reducesTo_S128x2_S_d0_1 h_S_) : (⟨S128x2, .f32⟩ : BufTy).Contents (Elt F) → (⟨S_, .f32⟩ : BufTy).Contents (Elt F) → (⟨S_, .f32⟩ : BufTy).Contents (Elt F)) (S m c main_v150) (S m c main_cst_36) := by
  have h := Line.at_binary writes (launchContents m c) 234 rfl (by decide +kernel) (by decide +kernel) (by decide +kernel); exact h
theorem eq_v152 : S m c main_v152 = (addf : (⟨S_, .f32⟩ : BufTy).Contents (Elt F) → (⟨S_, .f32⟩ : BufTy).Contents (Elt F) → (⟨S_, .f32⟩ : BufTy).Contents (Elt F)) (S m c main_v149) (S m c main_v151) := by
  have h := Line.at_binary writes (launchContents m c) 235 rfl (by decide +kernel) (by decide +kernel) (by decide +kernel); exact h
theorem eq_v153 : S m c main_v153 = (mulf : (⟨S1024x128, .f32⟩ : BufTy).Contents (Elt F) → (⟨S1024x128, .f32⟩ : BufTy).Contents (Elt F) → (⟨S1024x128, .f32⟩ : BufTy).Contents (Elt F)) (S m c main_arg12) (S m c main_arg12) := by
  have h := Line.at_binary writes (launchContents m c) 236 rfl (by decide +kernel) (by decide +kernel) (by decide +kernel); exact h
theorem eq_cst_37 : S m c main_cst_37 = (constant S_ .f32 0x00000000#32) := by
  have h := Line.at_nullary writes (launchContents m c) 237 rfl (by decide +kernel); exact h
theorem eq_v154 : S m c main_v154 = ((fun x v => Host.reduceAdd x v reducesTo_S1024x128_S_d0_1 h_S_) : (⟨S1024x128, .f32⟩ : BufTy).Contents (Elt F) → (⟨S_, .f32⟩ : BufTy).Contents (Elt F) → (⟨S_, .f32⟩ : BufTy).Contents (Elt F)) (S m c main_v153) (S m c main_cst_37) := by
  have h := Line.at_binary writes (launchContents m c) 238 rfl (by decide +kernel) (by decide +kernel) (by decide +kernel); exact h
theorem eq_v155 : S m c main_v155 = (addf : (⟨S_, .f32⟩ : BufTy).Contents (Elt F) → (⟨S_, .f32⟩ : BufTy).Contents (Elt F) → (⟨S_, .f32⟩ : BufTy).Contents (Elt F)) (S m c main_v152) (S m c main_v154) := by
  have h := Line.at_binary writes (launchContents m c) 239 rfl (by decide +kernel) (by decide +kernel) (by decide +kernel); exact h
theorem eq_v156 : S m c main_v156 = (mulf : (⟨S128x4, .f32⟩ : BufTy).Contents (Elt F) → (⟨S128x4, .f32⟩ : BufTy).Contents (Elt F) → (⟨S128x4, .f32⟩ : BufTy).Contents (Elt F)) (S m c main_arg14) (S m c main_arg14) := by
  have h := Line.at_binary writes (launchContents m c) 240 rfl (by decide +kernel) (by decide +kernel) (by decide +kernel); exact h
theorem eq_cst_38 : S m c main_cst_38 = (constant S_ .f32 0x00000000#32) := by
  have h := Line.at_nullary writes (launchContents m c) 241 rfl (by decide +kernel); exact h
theorem eq_v157 : S m c main_v157 = ((fun x v => Host.reduceAdd x v reducesTo_S128x4_S_d0_1 h_S_) : (⟨S128x4, .f32⟩ : BufTy).Contents (Elt F) → (⟨S_, .f32⟩ : BufTy).Contents (Elt F) → (⟨S_, .f32⟩ : BufTy).Contents (Elt F)) (S m c main_v156) (S m c main_cst_38) := by
  have h := Line.at_binary writes (launchContents m c) 242 rfl (by decide +kernel) (by decide +kernel) (by decide +kernel); exact h
theorem eq_v158 : S m c main_v158 = (addf : (⟨S_, .f32⟩ : BufTy).Contents (Elt F) → (⟨S_, .f32⟩ : BufTy).Contents (Elt F) → (⟨S_, .f32⟩ : BufTy).Contents (Elt F)) (S m c main_v155) (S m c main_v157) := by
  have h := Line.at_binary writes (launchContents m c) 243 rfl (by decide +kernel) (by decide +kernel) (by decide +kernel); exact h
theorem eq_cst_39 : S m c main_cst_39 = (constant S_ .f32 0x3A03126F#32) := by
  have h := Line.at_nullary writes (launchContents m c) 244 rfl (by decide +kernel); exact h
theorem eq_v159 : S m c main_v159 = (mulf : (⟨S_, .f32⟩ : BufTy).Contents (Elt F) → (⟨S_, .f32⟩ : BufTy).Contents (Elt F) → (⟨S_, .f32⟩ : BufTy).Contents (Elt F)) (S m c main_cst_39) (S m c main_v158) := by
  have h := Line.at_binary writes (launchContents m c) 245 rfl (by decide +kernel) (by decide +kernel) (by decide +kernel); exact h
theorem eq_v160 : S m c main_v160 = (addf : (⟨S_, .f32⟩ : BufTy).Contents (Elt F) → (⟨S_, .f32⟩ : BufTy).Contents (Elt F) → (⟨S_, .f32⟩ : BufTy).Contents (Elt F)) (S m c main_v147) (S m c main_v159) := by
  have h := Line.at_binary writes (launchContents m c) 246 rfl (by decide +kernel) (by decide +kernel) (by decide +kernel); exact h
theorem eq_v161 : S m c main_v161 = (addf : (⟨S_, .f32⟩ : BufTy).Contents (Elt F) → (⟨S_, .f32⟩ : BufTy).Contents (Elt F) → (⟨S_, .f32⟩ : BufTy).Contents (Elt F)) (S m c main_v54) (S m c main_v112) := by
  have h := Line.at_binary writes (launchContents m c) 247 rfl (by decide +kernel) (by decide +kernel) (by decide +kernel); exact h
theorem eq_cst_40 : S m c main_cst_40 = (constant S_ .f32 0x00000000#32) := by
  have h := Line.at_nullary writes (launchContents m c) 248 rfl (by decide +kernel); exact h
theorem eq_v162 : S m c main_v162 = (mulf : (⟨S_, .f32⟩ : BufTy).Contents (Elt F) → (⟨S_, .f32⟩ : BufTy).Contents (Elt F) → (⟨S_, .f32⟩ : BufTy).Contents (Elt F)) (S m c main_cst_40) (S m c main_v161) := by
  have h := Line.at_binary writes (launchContents m c) 249 rfl (by decide +kernel) (by decide +kernel) (by decide +kernel); exact h
theorem eq_cst_41 : S m c main_cst_41 = (constant S_ .f32 0x3F800000#32) := by
  have h := Line.at_nullary writes (launchContents m c) 250 rfl (by decide +kernel); exact h
theorem eq_v163 : S m c main_v163 = (mulf : (⟨S_, .f32⟩ : BufTy).Contents (Elt F) → (⟨S_, .f32⟩ : BufTy).Contents (Elt F) → (⟨S_, .f32⟩ : BufTy).Contents (Elt F)) (S m c main_cst_41) (S m c main_v161) := by
  have h := Line.at_binary writes (launchContents m c) 251 rfl (by decide +kernel) (by decide +kernel) (by decide +kernel); exact h
theorem eq_v164 : S m c main_v164 = ((select) : (⟨S_, .i1⟩ : BufTy).Contents (Elt F) → (⟨S_, .f32⟩ : BufTy).Contents (Elt F) → (⟨S_, .f32⟩ : BufTy).Contents (Elt F) → (⟨S_, .f32⟩ : BufTy).Contents (Elt F)) (S m c main_arg3) (S m c main_v162) (S m c main_v163) := by
  have h := Line.at_ternary writes (launchContents m c) 252 rfl (by decide +kernel) (by decide +kernel) (by decide +kernel) (by decide +kernel); exact h
theorem eq_v165 : S m c main_v165 = (addf : (⟨S_, .f32⟩ : BufTy).Contents (Elt F) → (⟨S_, .f32⟩ : BufTy).Contents (Elt F) → (⟨S_, .f32⟩ : BufTy).Contents (Elt F)) (S m c main_v127) (S m c main_v164) := by
  have h := Line.at_binary writes (launchContents m c) 253 rfl (by decide +kernel) (by decide +kernel) (by decide +kernel); exact h
theorem eq_v166 : S m c main_v166 = (addf : (⟨S_, .f32⟩ : BufTy).Contents (Elt F) → (⟨S_, .f32⟩ : BufTy).Contents (Elt F) → (⟨S_, .f32⟩ : BufTy).Contents (Elt F)) (S m c main_v165) (S m c main_v160) := by
  have h := Line.at_binary writes (launchContents m c) 254 rfl (by decide +kernel) (by decide +kernel) (by decide +kernel); exact h

end Cert.ReferenceIdeal.Work

end
-- ==== Proof.ReferenceWork.Value.lean ====
/- The reference's buffers as the network's layers. -/
module

public import proofs.«01_k».proof.Proof.ReferenceWork.Eqs
public import proofs.«01_k».proof.Proof.Algebra.Host
public import proofs.«01_k».proof.Proof.Algebra.Model

@[expose] public section

set_option maxHeartbeats 1000000

noncomputable section

namespace Cert.ReferenceIdeal.Work

open Idealize.ShloMosaic Idealize.ShloMosaic.TcCoe Idealize.ShloMosaic.StableHlo Idealize.ShloMosaic.ValueIdx
open Idealize.SL.Sem
open Cert.ReferenceIdeal Cert.ReferenceIdeal.Gen Cert.At
open scoped BigOperators

variable (m : (ℓ : Loc nD τ sig) → Buf (Elt Ideal) ℓ) (c : Dev nD)

/-- The network the reference's arguments describe. -/
def net : Net where
  x := mat 1024 3072 (shapeCast S1024x3072 (S m c main_arg0) shapeCasts_S1024x32x32x3_S1024x3072)
  temp := cell (S m c main_arg2)
  warm := cell (S m c main_arg3)
  w0 := mat 3072 2048 (S m c main_arg4)
  b0 := vec 2048 (S m c main_arg5)
  wh0 := mat 2048 128 (S m c main_arg6)
  bh0 := vec 128 (S m c main_arg7)
  wr0 := mat 128 2 (S m c main_arg8)
  br0 := vec 2 (S m c main_arg9)
  w1 := cube 2 2048 1024 (S m c main_arg10)
  b1 := mat 2 1024 (S m c main_arg11)
  wh1 := mat 1024 128 (S m c main_arg12)
  bh1 := vec 128 (S m c main_arg13)
  wr1 := mat 128 4 (S m c main_arg14)
  br1 := vec 4 (S m c main_arg15)
  w2 := cube 4 1024 10 (S m c main_arg16)
  b2 := mat 4 10 (S m c main_arg17)

theorem v6_at : mat 1024 2048 (S m c main_v6) = (net m c).f := by
  rw [eq_v6, eq_v5, eq_v4, eq_v3, eq_v2, eq_call1_v0, eq_call1_cst, eq_v0]
  exact (mat_hostRelu _ _).trans (congrArg relu (mat_hostDense _ _ _ _ _))

theorem v11_at : mat 1024 128 (S m c main_v11) = relu (dense (net m c).f (net m c).wh0 (net m c).bh0) := by
  rw [eq_v11, eq_v10, eq_v9, eq_v8, eq_v7, eq_call2_v0, eq_call2_cst]
  refine (mat_hostRelu _ _).trans (congrArg relu ((mat_hostDense _ _ _ _ _).trans ?_))
  rw [v6_at]; rfl

theorem v15_at : mat 1024 2 (S m c main_v15) = (net m c).act0 := by
  rw [eq_v15, eq_v14, eq_v13, eq_v12]
  refine (mat_hostDense _ _ _ _ _).trans ?_
  rw [v11_at]; rfl

theorem v17_at (i : Fin 1024) : mat 1024 2 (S m c main_v17) i = fun j => Ideal.div ((net m c).act0 i j) (net m c).temp := by
  rw [eq_v17, eq_v16, ← v15_at]
  funext j
  exact congrArg (Ideal.div _) (spread _ _ _ _)

theorem v23_at (i : Fin 1024) (j : Fin 2) : mat 1024 2 (S m c main_v23) i j = below (mat 1024 2 (S m c main_v17) i) j := by
  rw [eq_v23, eq_v22, eq_v21, eq_v20, eq_v19, eq_v18, eq_cst, eq_cst_0]
  exact mat_hostBelow _ _ (by decide) _ _ _ _ i j

theorem v28_at : mat 1024 2 (S m c main_v28) = (net m c).probs0 := by
  rw [eq_v28, eq_v27, eq_v26, eq_v25, eq_v24, eq_cst_1]
  refine (mat_hostSoftmax (S m c main_v17) (S m c main_v23) _ (by decide) _ _ _ (v23_at m c)).trans ?_
  funext i
  rw [v17_at]; rfl

theorem v58_at : mat 1024 2 (S m c main_v58) = (net m c).rm0 := by
  rw [eq_v58, eq_v57, eq_v56, eq_cst_11, eq_call4_v4, eq_call4_v3, eq_call4_v2, eq_call4_v1, eq_call4_v0]
  refine (mat_hostRoute (by decide) _ (mat 1024 2 (S m c main_v28)) _ (fun i a ha => ?_) _ _ _ _ _).trans ?_
  · rw [eq_v55, eq_call3_v0, eq_call3_cst, eq_call3_c]
    exact argmax_at (by decide) _ _ (by decide) _ i a ha
  · rw [v28_at]; rfl

theorem v63_at (i : Fin 1024) (p : Fin 2) (j : Fin 1024) : cube 1024 2 1024 (S m c main_v63) i p j = (net m c).path p i j := by
  rw [eq_v63, eq_v62, eq_v61, eq_v60, eq_v59, eq_call6_v0, eq_call6_cst]
  refine Eq.trans (b := max ((_ : EReal) + _) 0) (congrArg₂ max (congrArg₂ (· + ·) (cube_dot _ _ _ i p j) (cube_rows _ _ _ i p j))
    ((spread _ _ (constant (F := Ideal) ⟨0, ![]⟩ .f32 0x00000000#32) _).trans bits_zero)) ?_
  rw [v6_at]; rfl

theorem v64_at : mat 1024 1024 (S m c main_v64) = (net m c).fc := by
  rw [eq_v64]
  funext i j
  refine (mat_mix _ _ _ i j).trans (Finset.sum_congr rfl fun p _ => ?_)
  rw [v58_at, v63_at]

theorem v69_at : mat 1024 128 (S m c main_v69) = relu (dense (net m c).fc (net m c).wh1 (net m c).bh1) := by
  rw [eq_v69, eq_v68, eq_v67, eq_v66, eq_v65, eq_call7_v0, eq_call7_cst]
  refine (mat_hostRelu _ _).trans (congrArg relu ((mat_hostDense _ _ _ _ _).trans ?_))
  rw [v64_at]; rfl

theorem v73_at : mat 1024 4 (S m c main_v73) = (net m c).act1 := by
  rw [eq_v73, eq_v72, eq_v71, eq_v70]
  refine (mat_hostDense _ _ _ _ _).trans ?_
  rw [v69_at]; rfl

theorem v75_at (i : Fin 1024) : mat 1024 4 (S m c main_v75) i = fun j => Ideal.div ((net m c).act1 i j) (net m c).temp := by
  rw [eq_v75, eq_v74, ← v73_at]
  funext j
  exact congrArg (Ideal.div _) (spread _ _ _ _)

theorem v81_at (i : Fin 1024) (j : Fin 4) : mat 1024 4 (S m c main_v81) i j = below (mat 1024 4 (S m c main_v75) i) j := by
  rw [eq_v81, eq_v80, eq_v79, eq_v78, eq_v77, eq_v76, eq_cst_12, eq_cst_13]
  exact mat_hostBelow _ _ (by decide) _ _ _ _ i j

theorem v86_at : mat 1024 4 (S m c main_v86) = (net m c).probs1 := by
  rw [eq_v86, eq_v85, eq_v84, eq_v83, eq_v82, eq_cst_14]
  refine (mat_hostSoftmax (S m c main_v75) (S m c main_v81) _ (by decide) _ _ _ (v81_at m c)).trans ?_
  funext i
  rw [v75_at]; rfl

theorem v116_at : mat 1024 4 (S m c main_v116) = (net m c).rm1 := by
  rw [eq_v116, eq_v115, eq_v114, eq_cst_24, eq_call9_v4, eq_call9_v3, eq_call9_v2, eq_call9_v1, eq_call9_v0]
  refine (mat_hostRoute (by decide) _ (mat 1024 4 (S m c main_v86)) _ (fun i a ha => ?_) _ _ _ _ _).trans ?_
  · rw [eq_v113, eq_call8_v0, eq_call8_cst, eq_call8_c]
    exact argmax_at (by decide) _ _ (by decide) _ i a ha
  · rw [v86_at]; rfl

theorem v120_at (i : Fin 1024) (p : Fin 4) (j : Fin 10) : cube 1024 4 10 (S m c main_v120) i p j = (net m c).leaf p i j := by
  rw [eq_v120, eq_v119, eq_v118, eq_v117]
  refine congrArg₂ (· + ·) (cube_dot _ _ _ i p j) (cube_rows _ _ _ i p j) |>.trans ?_
  rw [v64_at]; rfl

theorem v121_at : mat 1024 10 (S m c main_v121) = (net m c).logits := by
  rw [eq_v121]
  funext i j
  refine (mat_mix _ _ _ i j).trans (Finset.sum_congr rfl fun p _ => ?_)
  rw [v116_at, v120_at]

theorem v133_at (i : Fin 1024) (j : Fin 10) : mat 1024 10 (S m c main_v133) i j = below (mat 1024 10 (S m c main_v121) i) j := by
  rw [eq_v133, eq_v132, eq_v131, eq_v130, eq_v129, eq_v128, eq_cst_28, eq_cst_29]
  exact mat_hostBelow _ _ (by decide) _ _ _ _ i j

theorem v138_at : mat 1024 10 (S m c main_v138) = (net m c).post := by
  rw [eq_v138, eq_v137, eq_v136, eq_v135, eq_v134, eq_cst_30]
  refine (mat_hostSoftmax (S m c main_v121) (S m c main_v133) _ (by decide) _ _ _ (v133_at m c)).trans ?_
  rw [v121_at]; rfl

end Cert.ReferenceIdeal.Work
-- ==== Proof.KernelIdealWork.Match.lean ====
/- The two programs' results, side by side: the information gains, computed from equal probabilities by the same operations,
   and the value claim. -/
module

public import proofs.«01_k».proof.Proof.KernelIdealWork.Outputs
public import proofs.«01_k».proof.Proof.ReferenceWork.Value

@[expose] public section

set_option maxHeartbeats 4000000
set_option maxRecDepth 16384

noncomputable section

namespace Cert.KernelIdeal.Work

open Idealize.ShloMosaic
open Idealize.ShloMosaic.TcCoe Idealize.ShloMosaic.ValueIdx Idealize.ShloMosaic.StableHlo
open Cert.KernelIdeal Cert.KernelIdeal.Gen Cert.At
open Cert.ReferenceIdeal.Work

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The first router's information gain is the same in both. -/
theorem gain_two (hy : F m c main_v24 = (S m' c Cert.ReferenceIdeal.main_v1 : FVec Ideal S1024x10 .f32))
    (hp : F m c main_v23_7 = (S m' c Cert.ReferenceIdeal.main_v28 : FVec Ideal S1024x2 .f32)) :
    F m c main_v52 = (S m' c Cert.ReferenceIdeal.main_v54 : FVec Ideal S_ .f32) := by
  rw [F_unary m c 42 rfl, F_binary m c 41 rfl,
    F_binary m c 40 rfl, F_unary m c 39 rfl,
    F_binary m c 38 rfl, F_nullary m c 37 rfl,
    F_binary m c 36 rfl, F_unary m c 35 rfl,
    F_binary m c 34 rfl, F_unary m c 33 rfl,
    F_nullary m c 32 rfl, F_unary m c 31 rfl,
    F_binary m c 30 rfl, F_nullary m c 29 rfl,
    F_binary m c 28 rfl, F_unary m c 27 rfl,
    F_binary m c 26 rfl, F_unary m c 25 rfl,
    F_nullary m c 24 rfl, F_unary m c 23 rfl,
    F_binary m c 22 rfl, F_nullary m c 21 rfl,
    F_binary m c 20 rfl, F_unary m c 19 rfl,
    F_binary m c 18 rfl, F_unary m c 17 rfl,
    F_nullary m c 16 rfl, F_binary m c 15 rfl,
    F_nullary m c 14 rfl, F_binary m c 13 rfl,
    F_nullary m c 12 rfl, F_binary m c 11 rfl,
    F_unary m c 10 rfl, F_nullary m c 9 rfl,
    F_binary m c 8 rfl, F_unary m c 7 rfl,
    F_unary m c 6 rfl, hy, hp]
  rw [eq_v54, eq_v53, eq_v52, eq_v51, eq_v50, eq_cst_10, eq_v49, eq_v48, eq_v47, eq_v46, eq_cst_9, eq_v45, eq_v44, eq_cst_8, eq_v43, eq_v42, eq_v41, eq_v40, eq_cst_7,
    eq_v39, eq_v38, eq_cst_6, eq_v37, eq_v36, eq_v35, eq_v34, eq_cst_5, eq_v33, eq_cst_4, eq_v32, eq_cst_3, eq_v31, eq_v30, eq_cst_2, eq_v29]
  rfl

/-- The second router's information gain is the same in both. -/
theorem gain_four (hy : F m c main_v24 = (S m' c Cert.ReferenceIdeal.main_v1 : FVec Ideal S1024x10 .f32))
    (hp : F m c main_v23_8 = (S m' c Cert.ReferenceIdeal.main_v86 : FVec Ideal S1024x4 .f32)) :
    F m c main_v80 = (S m' c Cert.ReferenceIdeal.main_v112 : FVec Ideal S_ .f32) := by
  rw [F_unary m c 79 rfl, F_binary m c 78 rfl,
    F_binary m c 77 rfl, F_unary m c 76 rfl,
    F_binary m c 75 rfl, F_nullary m c 74 rfl,
    F_binary m c 73 rfl, F_unary m c 72 rfl,
    F_binary m c 71 rfl, F_unary m c 70 rfl,
    F_nullary m c 69 rfl, F_unary m c 68 rfl,
    F_binary m c 67 rfl, F_nullary m c 66 rfl,
    F_binary m c 65 rfl, F_unary m c 64 rfl,
    F_binary m c 63 rfl, F_unary m c 62 rfl,
    F_nullary m c 61 rfl, F_unary m c 60 rfl,
    F_binary m c 59 rfl, F_nullary m c 58 rfl,
    F_binary m c 57 rfl, F_unary m c 56 rfl,
    F_binary m c 55 rfl, F_unary m c 54 rfl,
    F_nullary m c 53 rfl, F_binary m c 52 rfl,
    F_nullary m c 51 rfl, F_binary m c 50 rfl,
    F_nullary m c 49 rfl, F_binary m c 48 rfl,
    F_unary m c 47 rfl, F_nullary m c 46 rfl,
    F_binary m c 45 rfl, F_unary m c 44 rfl,
    F_unary m c 43 rfl, hy, hp]
  rw [eq_v112, eq_v111, eq_v110, eq_v109, eq_v108, eq_cst_23, eq_v107, eq_v106, eq_v105, eq_v104, eq_cst_22, eq_v103, eq_v102, eq_cst_21, eq_v101, eq_v100, eq_v99,
    eq_v98, eq_cst_20, eq_v97, eq_v96, eq_cst_19, eq_v95, eq_v94, eq_v93, eq_v92, eq_cst_18, eq_v91, eq_cst_17, eq_v90, eq_cst_16, eq_v89, eq_v88, eq_cst_15, eq_v87]
  rfl

/-- The labels' rows are the same in both. -/
theorem labels (h : A m c main_arg1 = (m' ((c.tc : Thread _ _).loc Cert.ReferenceIdeal.main_arg1) : IVec S1024 32)) :
    F m c main_v24 = (S m' c Cert.ReferenceIdeal.main_v1 : FVec Ideal S1024x10 .f32) := by
  rw [F_v24, h, eq_v1, eq_call0_v4, eq_call0_v3, eq_call0_v2, eq_call0_v1, eq_call0_v0, S_arg m' c Cert.ReferenceIdeal.main_arg1 (by decide +kernel)]

/-- The information gains' total is the same in both. -/
theorem gain_total (hN : net m c = Cert.ReferenceIdeal.Work.net m' c)
    (h1 : A m c main_arg1 = (m' ((c.tc : Thread _ _).loc Cert.ReferenceIdeal.main_arg1) : IVec S1024 32))
    (h3 : A m c main_arg3 = (m' ((c.tc : Thread _ _).loc Cert.ReferenceIdeal.main_arg3) : IVec S_ 1)) :
    F m c main_v84 = (S m' c Cert.ReferenceIdeal.main_v164 : FVec Ideal S_ .f32) := by
  have hy := labels m m' c h1
  have g2 := gain_two m m' c hy (mat_inj ((F_probs0 m c).trans ((congrArg Net.probs0 hN).trans (v28_at m' c).symm)))
  have g4 := gain_four m m' c hy (mat_inj ((F_probs1 m c).trans ((congrArg Net.probs1 hN).trans (v86_at m' c).symm)))
  rw [F_v84, F_binary m c 84 rfl, F_nullary m c 83 rfl, F_binary m c 82 rfl, F_nullary m c 81 rfl, F_binary m c 80 rfl, g2, g4, h3]
  rw [eq_v164, eq_v163, eq_cst_41, eq_v162, eq_cst_40, eq_v161, S_arg m' c Cert.ReferenceIdeal.main_arg3 (by decide +kernel)]

/-- Equal arguments describe the same network. -/
theorem nets (h : m' ((c.tc : Thread Cert.ReferenceIdeal.nD Cert.ReferenceIdeal.τ).loc Cert.ReferenceIdeal.main_arg0) = m ((c.tc : Thread nD τ).loc main_arg0)
    ∧ m' ((c.tc : Thread Cert.ReferenceIdeal.nD Cert.ReferenceIdeal.τ).loc Cert.ReferenceIdeal.main_arg1) = m ((c.tc : Thread nD τ).loc main_arg1)
    ∧ m' ((c.tc : Thread Cert.ReferenceIdeal.nD Cert.ReferenceIdeal.τ).loc Cert.ReferenceIdeal.main_arg2) = m ((c.tc : Thread nD τ).loc main_arg2)
    ∧ m' ((c.tc : Thread Cert.ReferenceIdeal.nD Cert.ReferenceIdeal.τ).loc Cert.ReferenceIdeal.main_arg3) = m ((c.tc : Thread nD τ).loc main_arg3)
    ∧ m' ((c.tc : Thread Cert.ReferenceIdeal.nD Cert.ReferenceIdeal.τ).loc Cert.ReferenceIdeal.main_arg4) = m ((c.tc : Thread nD τ).loc main_arg4)
    ∧ m' ((c.tc : Thread Cert.ReferenceIdeal.nD Cert.ReferenceIdeal.τ).loc Cert.ReferenceIdeal.main_arg5) = m ((c.tc : Thread nD τ).loc main_arg5)
    ∧ m' ((c.tc : Thread Cert.ReferenceIdeal.nD Cert.ReferenceIdeal.τ).loc Cert.ReferenceIdeal.main_arg6) = m ((c.tc : Thread nD τ).loc main_arg6)
    ∧ m' ((c.tc : Thread Cert.ReferenceIdeal.nD Cert.ReferenceIdeal.τ).loc Cert.ReferenceIdeal.main_arg7) = m ((c.tc : Thread nD τ).loc main_arg7)
    ∧ m' ((c.tc : Thread Cert.ReferenceIdeal.nD Cert.ReferenceIdeal.τ).loc Cert.ReferenceIdeal.main_arg8) = m ((c.tc : Thread nD τ).loc main_arg8)
    ∧ m' ((c.tc : Thread Cert.ReferenceIdeal.nD Cert.ReferenceIdeal.τ).loc Cert.ReferenceIdeal.main_arg9) = m ((c.tc : Thread nD τ).loc main_arg9)
    ∧ m' ((c.tc : Thread Cert.ReferenceIdeal.nD Cert.ReferenceIdeal.τ).loc Cert.ReferenceIdeal.main_arg10) = m ((c.tc : Thread nD τ).loc main_arg10)
    ∧ m' ((c.tc : Thread Cert.ReferenceIdeal.nD Cert.ReferenceIdeal.τ).loc Cert.ReferenceIdeal.main_arg11) = m ((c.tc : Thread nD τ).loc main_arg11)
    ∧ m' ((c.tc : Thread Cert.ReferenceIdeal.nD Cert.ReferenceIdeal.τ).loc Cert.ReferenceIdeal.main_arg12) = m ((c.tc : Thread nD τ).loc main_arg12)
    ∧ m' ((c.tc : Thread Cert.ReferenceIdeal.nD Cert.ReferenceIdeal.τ).loc Cert.ReferenceIdeal.main_arg13) = m ((c.tc : Thread nD τ).loc main_arg13)
    ∧ m' ((c.tc : Thread Cert.ReferenceIdeal.nD Cert.ReferenceIdeal.τ).loc Cert.ReferenceIdeal.main_arg14) = m ((c.tc : Thread nD τ).loc main_arg14)
    ∧ m' ((c.tc : Thread Cert.ReferenceIdeal.nD Cert.ReferenceIdeal.τ).loc Cert.ReferenceIdeal.main_arg15) = m ((c.tc : Thread nD τ).loc main_arg15)
    ∧ m' ((c.tc : Thread Cert.ReferenceIdeal.nD Cert.ReferenceIdeal.τ).loc Cert.ReferenceIdeal.main_arg16) = m ((c.tc : Thread nD τ).loc main_arg16)
    ∧ m' ((c.tc : Thread Cert.ReferenceIdeal.nD Cert.ReferenceIdeal.τ).loc Cert.ReferenceIdeal.main_arg17) = m ((c.tc : Thread nD τ).loc main_arg17)) :
    net m c = Cert.ReferenceIdeal.Work.net m' c := by
  obtain ⟨h0, h1, h2, h3, h4, h5, h6, h7, h8, h9, h10, h11, h12, h13, h14, h15, h16, h17⟩ := h
  have s (a) (ha) := S_arg m' c a ha
  unfold net Cert.ReferenceIdeal.Work.net
  rw [s Cert.ReferenceIdeal.main_arg0 (by decide +kernel), h0,
    s Cert.ReferenceIdeal.main_arg2 (by decide +kernel), h2,
    s Cert.ReferenceIdeal.main_arg3 (by decide +kernel), h3,
    s Cert.ReferenceIdeal.main_arg4 (by decide +kernel), h4,
    s Cert.ReferenceIdeal.main_arg5 (by decide +kernel), h5,
    s Cert.ReferenceIdeal.main_arg6 (by decide +kernel), h6,
    s Cert.ReferenceIdeal.main_arg7 (by decide +kernel), h7,
    s Cert.ReferenceIdeal.main_arg8 (by decide +kernel), h8,
    s Cert.ReferenceIdeal.main_arg9 (by decide +kernel), h9,
    s Cert.ReferenceIdeal.main_arg10 (by decide +kernel), h10,
    s Cert.ReferenceIdeal.main_arg11 (by decide +kernel), h11,
    s Cert.ReferenceIdeal.main_arg12 (by decide +kernel), h12,
    s Cert.ReferenceIdeal.main_arg13 (by decide +kernel), h13,
    s Cert.ReferenceIdeal.main_arg14 (by decide +kernel), h14,
    s Cert.ReferenceIdeal.main_arg15 (by decide +kernel), h15,
    s Cert.ReferenceIdeal.main_arg16 (by decide +kernel), h16,
    s Cert.ReferenceIdeal.main_arg17 (by decide +kernel), h17]

end Cert.KernelIdeal.Work

end
-- ==== Proof.Algebra.Loss.lean ====
/- The losses over the extended reals: sums of squares, the rows they are entered in, and the classification loss where the
   logits are real. -/
module

public import proofs.«01_k».proof.Proof.Algebra.Host
public import proofs.«01_k».proof.Proof.Algebra.Kernel
public import proofs.«01_k».proof.Proof.Algebra.Model

@[expose] public section

noncomputable section

namespace Cert.At

open Idealize.ShloMosaic Idealize.ShloMosaic.ValueIdx
open scoped BigOperators

variable {n m k p : ℕ}

/-! ### Sums of squares -/

/-- The squares of a matrix's entries, summed. -/
def sumSq (w : Fin n → Fin m → EReal) : EReal := ∑ i, ∑ j, w i j * w i j

/-- The squares of an array's entries, summed over its three axes. -/
def sumSq3 (w : Fin p → Fin n → Fin m → EReal) : EReal := ∑ a, sumSq (w a)

/-- A sum over `k` blocks of `m` entries each. -/
theorem sum_blocks (f : Fin (k * m) → EReal) (g : Fin k → Fin m → EReal)
    (h : ∀ (a : Fin k) (b : Fin m) (j : Fin (k * m)), j.val = a.val * m + b.val → g a b = f j) : ∑ j, f j = ∑ a, ∑ b, g a b := by
  rw [← Fintype.sum_prod_type']
  refine (Fintype.sum_equiv finProdFinEquiv _ _ fun x => ?_).symm
  exact h x.1 x.2 _ (by rw [finProdFinEquiv_apply_val, Nat.mul_comm, Nat.add_comm])

/-- Columns of zeros add no square. -/
theorem sum_zeros {N : ℕ} (hN : n ≤ N) (f : Fin N → EReal) (g : Fin n → EReal) (h : ∀ j : Fin n, f (j.castLE hN) = g j)
    (h' : ∀ j : Fin N, n ≤ j.val → f j = 0) : ∑ j, f j = ∑ j, g j := by
  rw [← Finset.sum_subset (Finset.subset_univ (Finset.univ.map (Fin.castLEEmb hN)))]
  · rw [Finset.sum_map]; exact Finset.sum_congr rfl fun j _ => h j
  · intro j _ hj
    refine h' j (not_lt.1 fun hl => hj (Finset.mem_map.2 ⟨⟨j.val, hl⟩, Finset.mem_univ _, rfl⟩))

/-- The host's sum of a matrix's squares. -/
theorem cell_sq (x : FVec Ideal ⟨2, ![n, m]⟩ .f32) (h : (⟨2, ![n, m]⟩ : Shape).ReducesTo [0, 1] ⟨0, ![]⟩) (hu) :
    cell (Host.reduceAdd (mulf x x) (constant (F := Ideal) ⟨0, ![]⟩ .f32 0x00000000#32) h hu) = sumSq (mat n m x) := by
  show Ideal.hostReduceAdd h (mulf x x) (Ideal.ofBits .f32 0x00000000#32) ix0 = _
  rw [Ideal.hostReduceAdd_total h (fun b => b.elim0), bits_zero, zero_add]
  exact sum_idx2 _

/-- The host's sum of the squares of an array of three axes. -/
theorem cell_sq3 (x : FVec Ideal ⟨3, ![p, n, m]⟩ .f32) (h : (⟨3, ![p, n, m]⟩ : Shape).ReducesTo [0, 1, 2] ⟨0, ![]⟩) (hu) :
    cell (Host.reduceAdd (mulf x x) (constant (F := Ideal) ⟨0, ![]⟩ .f32 0x00000000#32) h hu) = sumSq3 (cube p n m x) := by
  show Ideal.hostReduceAdd h (mulf x x) (Ideal.ofBits .f32 0x00000000#32) ix0 = _
  rw [Ideal.hostReduceAdd_total h (fun b => b.elim0), bits_zero, zero_add]
  let e : Fin p × Fin n × Fin m ≃ (⟨3, ![p, n, m]⟩ : Shape).Idx := ⟨fun a => ix3 a.1 a.2.1 a.2.2, fun i => (i 0, i 1, i 2), fun _ => rfl, fun i => (eq_ix3 i).symm⟩
  rw [← Equiv.sum_comp e, Fintype.sum_prod_type]
  exact Finset.sum_congr rfl fun a _ => Fintype.sum_prod_type _

/-- The host's sum of a vector. -/
theorem cell_hostSum (x : FVec Ideal ⟨1, ![n]⟩ .f32) (h : (⟨1, ![n]⟩ : Shape).ReducesTo [0] ⟨0, ![]⟩) (hu) :
    cell (Host.reduceAdd x (constant (F := Ideal) ⟨0, ![]⟩ .f32 0x00000000#32) h hu) = ∑ i, vec n x i := by
  show Ideal.hostReduceAdd h x (Ideal.ofBits .f32 0x00000000#32) ix0 = _
  rw [Ideal.hostReduceAdd_total h (fun b => b.elim0), bits_zero, zero_add]
  exact (Fintype.sum_equiv ⟨fun a => ix1 a, fun i => i 0, fun _ => rfl, fun i => (eq_ix1 i).symm⟩ _ _ fun _ => rfl).symm

/-- A row with a number entered on top of one lane. -/
theorem row_put (q : ℕ) (hq : q < 2 ^ 31) (hm : m < 2 ^ 31) (x : FVec Ideal ⟨2, ![1, m]⟩ .f32) (e : EReal) (h) (h') (j : Fin m) :
    mat 1 m (addf x (mulf (broadcast ⟨2, ![1, m]⟩ (e : Ideal .f32))
      (sitofp (F := Ideal) .f32 (extui 32 (cmpi .eq (iota .tc ⟨2, ![1, m]⟩ 32 [1] h) (broadcast ⟨2, ![1, m]⟩ (BitVec.ofNat 32 q))) h')))) 0 j
      = mat 1 m x 0 j + e * one (j.val = q) :=
  congrArg (mat 1 m x 0 j + e * ·) (mat_isLane q hq hm h h' 0 j)

/-- The weight of the squares. -/
def decay : EReal := Ideal.ofBits .f32 0x3A03126F#32

/-- The squares of all of the network's weights, weighted. -/
def Net.reg (N : Net) : EReal :=
  decay * ((sumSq N.w0 + sumSq3 N.w1) + sumSq3 N.w2) + decay * (((sumSq N.wh0 + sumSq N.wr0) + sumSq N.wh1) + sumSq N.wr1)

/-! ### Real numbers among the extended -/

/-- Neither infinity. -/
def IsReal (x : EReal) : Prop := ∃ r : ℝ, x = r

theorem isReal_of_ne {x : EReal} (h : x ≠ ⊤) (h' : x ≠ ⊥) : IsReal x := ⟨x.toReal, (EReal.coe_toReal h h').symm⟩
theorem isReal_zero : IsReal 0 := ⟨0, rfl⟩
theorem isReal_one (q : Prop) [Decidable q] : IsReal (one q) := by
  unfold one; split
  · exact ⟨1, rfl⟩
  · exact isReal_zero
theorem IsReal.add {x y : EReal} : IsReal x → IsReal y → IsReal (x + y) := by
  rintro ⟨r, rfl⟩ ⟨s, rfl⟩; exact ⟨r + s, (EReal.coe_add r s).symm⟩
theorem IsReal.mul {x y : EReal} : IsReal x → IsReal y → IsReal (x * y) := by
  rintro ⟨r, rfl⟩ ⟨s, rfl⟩; exact ⟨r * s, (EReal.coe_mul r s).symm⟩
theorem IsReal.sum (f : Fin n → EReal) (h : ∀ i, IsReal (f i)) : IsReal (∑ i, f i) :=
  Finset.sum_induction f IsReal (fun _ _ => IsReal.add) isReal_zero fun i _ => h i
theorem isReal_relu {s : Fin n → Fin m → EReal} (h : ∀ i j, IsReal (s i j)) (i : Fin n) (j : Fin m) : IsReal (relu s i j) := by
  show IsReal (max (s i j) 0)
  rcases le_total (s i j) 0 with e | e
  · rw [max_eq_right e]; exact isReal_zero
  · rw [max_eq_left e]; exact h i j
theorem isReal_dense {x : Fin n → Fin k → EReal} {w : Fin k → Fin m → EReal} {b : Fin m → EReal} (hx : ∀ i q, IsReal (x i q)) (hw : ∀ q j, IsReal (w q j))
    (hb : ∀ j, IsReal (b j)) (i : Fin n) (j : Fin m) : IsReal (dense x w b i j) :=
  (IsReal.sum _ fun q => (hx i q).mul (hw q j)).add (hb j)
theorem isReal_route (w : BitVec 1) (s : Fin n → EReal) (j : Fin n) : IsReal (route w s j) := by
  unfold route; split
  · exact ⟨1, rfl⟩
  · unfold hot; classical exact isReal_one _
theorem isReal_top [NeZero n] {s : Fin n → EReal} (h : ∀ j, IsReal (s j)) : IsReal (top s) := by
  obtain ⟨j, hj⟩ := IsFirst.exists s
  rw [hj.top_eq]; exact h j

/-- Every input the logits are computed from, the routers' aside, is real. -/
structure Net.Real (N : Net) : Prop where
  x : ∀ i q, IsReal (N.x i q)
  w0 : ∀ q j, IsReal (N.w0 q j)
  b0 : ∀ j, IsReal (N.b0 j)
  w1 : ∀ a q j, IsReal (N.w1 a q j)
  b1 : ∀ a j, IsReal (N.b1 a j)
  w2 : ∀ a q j, IsReal (N.w2 a q j)
  b2 : ∀ a j, IsReal (N.b2 a j)

theorem Net.Real.logits {N : Net} (h : N.Real) (i : Fin 1024) (j : Fin 10) : IsReal (N.logits i j) :=
  have hf : ∀ i j, IsReal (N.f i j) := isReal_relu (isReal_dense h.x h.w0 h.b0)
  have hfc : ∀ i j, IsReal (N.fc i j) := fun i j => IsReal.sum _ fun a => (isReal_route _ _ _).mul (isReal_relu (isReal_dense hf (h.w1 a) (h.b1 a)) i j)
  IsReal.sum _ fun a => (isReal_route _ _ _).mul (isReal_dense hfc (h.w2 a) (h.b2 a) i j)

/-! ### The classification loss -/

/-- The logarithm of a row's sum of exponentials, relative to the largest. -/
def logZ (s : Fin n → EReal) : EReal := Ideal.log (∑ j, Ideal.exp (s j - top s))

/-- The classification loss of labels `y` at logits `s`, before the division by their number: the largest and the logarithm
    are subtracted one after the other. -/
def hits (y s : Fin n → Fin m → EReal) : EReal := ∑ i, ∑ j, y i j * ((s i j - top (s i)) - logZ (s i))

/-- … subtracted at once, which is the same where the logits are real. -/
theorem hits_once [NeZero m] (y s : Fin n → Fin m → EReal) (h : ∀ i j, IsReal (s i j)) :
    ∑ i, ∑ j, y i j * (s i j - (top (s i) + logZ (s i))) = hits y s := by
  refine Finset.sum_congr rfl fun i _ => Finset.sum_congr rfl fun j _ => congrArg (y i j * ·) ?_
  obtain ⟨t, ht⟩ := isReal_top (h i)
  rw [ht, sub_eq_add_neg, EReal.neg_add (.inl (EReal.coe_ne_bot t)) (.inl (EReal.coe_ne_top t)), sub_eq_add_neg, sub_eq_add_neg, sub_eq_add_neg, add_assoc]

/-- The classification loss. -/
def cls (y s : Fin n → Fin m → EReal) : EReal := -Ideal.div (hits y s) (Ideal.ofBits .f32 0x44800000#32)

/-- Negating before or after a division by the number of rows is the same. -/
theorem neg_div (x : EReal) : Ideal.div (0 - x) (Ideal.ofBits .f32 0x44800000#32) = -Ideal.div x (Ideal.ofBits .f32 0x44800000#32) := by
  unfold Ideal.div
  have e : Ideal.ofBits .f32 0x44800000#32 ≠ 0 := by
    simp [Ideal.ofBits, Ideal.ieee]
  rw [if_neg e, if_neg e, zero_sub, EReal.neg_mul]

end Cert.At

end
-- ==== Proof.KernelIdealWork.Totals.lean ====
/- The row of totals the launches keep: the sums of the weights' squares, block by block, and what the last point enters. -/
module

public import proofs.«01_k».proof.Proof.KernelIdealWork.Value
public import proofs.«01_k».proof.Proof.Algebra.Loss

@[expose] public section

set_option maxHeartbeats 1000000
set_option maxRecDepth 16384

noncomputable section

namespace Cert.KernelIdeal.Work

open Idealize.ShloMosaic
open Idealize.ShloMosaic.TcCoe Idealize.ShloMosaic.ValueIdx
open Cert.KernelIdeal Cert.KernelIdeal.Gen Cert.At
open scoped BigOperators

/-! ### The stored rows at a lane -/

theorem k0_pay3_at (w : Vec Ideal S3072x512 .f32) (r : Vec Ideal S1x128 .f32) (j : Fin 128) :
    mat 1 128 (k0_pay3 w r) 0 j = mat 1 128 r 0 j + sumSq (mat 3072 512 w) * one (j.val = 1) := by
  refine (row_put (m := 128) 1 (by decide) (by decide) _ _ _ _ j).trans ?_
  rw [shapeCast_self]
  exact congrArg (fun z : EReal => mat 1 128 r 0 j + z * one (j.val = 1)) (total (n := 3072) (m := 512) (mulf w w) _ _ _ _ _ _)

theorem pay42_at (w : FVec Ideal S2048x256 .f32) (r : Vec Ideal S1x128 .f32) (j : Fin 128) :
    mat 1 128 (k1_pay42 w r) 0 j = mat 1 128 r 0 j + sumSq (mat 2048 256 w) * one (j.val = 10) := by
  refine (row_put (m := 128) 10 (by decide) (by decide) _ _ _ _ j).trans ?_
  rw [shapeCast_self]
  exact congrArg (fun z : EReal => mat 1 128 r 0 j + z * one (j.val = 10)) (total (n := 2048) (m := 256) (mulf w w) _ _ _ _ _ _)

theorem pay36_at (w : Vec Ideal S2048x128 .f32) (w' : Vec Ideal S128x8 .f32) (j : Fin 128) :
    mat 1 128 (k1_pay36 w w w' w' (k1_pay2 (F := Ideal))) 0 j = (sumSq (mat 2048 128 w) + sumSq (mat 128 8 w')) * one (j.val = 9) := by
  refine (row_put (m := 128) 9 (by decide) (by decide) _ _ _ _ j).trans ?_
  rw [shapeCast_self, shapeCast_self]
  refine (congrArg₂ (fun y z : EReal => y + z * one (j.val = 9)) bits_zero
    (congrArg₂ (fun a b : EReal => a + b) (total (n := 2048) (m := 128) (mulf w w) _ _ _ _ _ _) (total (n := 128) (m := 8) (mulf w' w') _ _ _ _ _ _))).trans ?_
  exact zero_add _

theorem pay26_at (r : Vec Ideal S1x128 .f32) : (k1_pay26 (k1_pay25 r) Bufs.lanes128 1#32 : EReal) = mat 1 128 r 0 1 := by
  refine (total_pick (m := 128) 1 (by decide) (by decide) _ _ _ _ _ _ _ _ _).trans ?_
  unfold k1_pay25
  rw [shapeCast_self]
theorem pay27_at (r : Vec Ideal S1x128 .f32) : (k1_pay27 r : EReal) = mat 1 128 r 0 9 := by
  refine (total_pick (m := 128) 9 (by decide) (by decide) _ _ _ _ _ _ _ _ _).trans ?_
  rw [shapeCast_self]
theorem pay28_at (r : Vec Ideal S1x128 .f32) : (k1_pay28 r : EReal) = mat 1 128 r 0 10 := by
  refine (total_pick (m := 128) 10 (by decide) (by decide) _ _ _ _ _ _ _ _ _).trans ?_
  rw [shapeCast_self]
theorem pay29_at (w : Vec Ideal S1024x512 .f32) : (k1_pay29 w w : EReal) = sumSq (mat 1024 512 w) := by
  unfold k1_pay29
  rw [shapeCast_self]
  exact total (n := 1024) (m := 512) (mulf w w) _ _ _ _ _ _

theorem pay32_at (a b d e : EReal) (w : Vec Ideal S1024x128 .f32) (w' : Vec Ideal S128x8 .f32) (j : Fin 128) :
    mat 1 128 (k1_pay32 (F := Ideal) a b d e w w w' w') 0 j
      = (decay * ((a + d) + e) + decay * ((b + sumSq (mat 1024 128 w)) + sumSq (mat 128 8 w'))) * one (j.val = 3) := by
  refine (congrArg (_ * ·) (mat_isLane (n := 1) (m := 128) 3 (by decide) (by decide) iota_S1x128_d1_w32 natLt_1_32 0 j)).trans ?_
  rw [shapeCast_self]
  exact congrArg₂ (fun y z : EReal => (decay * ((a + d) + e) + decay * ((b + y) + z)) * one (j.val = 3))
    (total (n := 1024) (m := 128) (mulf w w) _ _ _ _ _ _) (total (n := 128) (m := 8) (mulf w' w') _ _ _ _ _ _)

theorem pay30_at (e : EReal) (r : Vec Ideal S1x128 .f32) (j : Fin 128) :
    mat 1 128 (k1_pay30 (F := Ideal) e r) 0 j = mat 1 128 r 0 j + e * one (j.val = 1) := by
  refine (row_put (m := 128) 1 (by decide) (by decide) _ _ _ _ j).trans ?_
  rw [shapeCast_self]

theorem col_cast {n : ℕ} (v : FVec Ideal ⟨1, ![n]⟩ .f32) (hs : (⟨1, ![n]⟩ : Shape).ShapeCasts ⟨2, ![n, 1]⟩) (i : Fin n) :
    mat n 1 (shapeCast ⟨2, ![n, 1]⟩ v hs) i 0 = vec n v i :=
  shapeCast_apply v hs (ix2 i 0) (ix1 i) (by rw [Shape.rowMajor_val_two, Shape.rowMajor_val_one]; show i.val = i.val * 1 + 0; omega)

/-- The classification loss the last point enters. -/
theorem pay23_at (y : FVec Ideal S1024x10 .f32) (r : FVec Ideal S1024x8 .f32) (lp : FVec Ideal S1024x512 .f32) (v : FVec Ideal S1024x128 .f32) (u : IVec S1024x8 32)
    (s : Fin 1024 → Fin 10 → EReal) (hs : ∀ i (j : Fin 10), mat 1024 128 (k1_pay18 r lp v u) i (j.castLE (by decide)) = s i j) :
    (k1_pay23 y r lp v u : EReal) = Ideal.div (0 - ∑ i, ∑ j, mat 1024 10 y i j * (s i j - (top (s i) + logZ (s i)))) (Ideal.ofBits .f32 0x44800000#32) := by
  have e19 : ∀ i, mat 1024 128 (k1_pay19 r lp v u) i = pad 128 (s i) := fun i => by
    unfold k1_pay19
    rw [mask_eq, mat_kPad 10 (by decide) (by decide) (by decide)]
    exact congrArg (pad 128) (funext fun j => hs i j)
  have e20 : ∀ i (j : Fin 128), mat 1024 128 (broadcastTo S1024x128 (k1_pay20 r lp v u) broadcasts_S1024x1_S1024x128) i j = top (s i) := fun i j =>
    (mat_repeatCol _ _ _ i j).trans ((vec_rowTop _ _ _ _ i).trans ((congrArg top (e19 i)).trans (top_pad (by decide) _)))
  have e22 : ∀ i, vec 1024 (multiReduction .add [1] S1024 (k1_pay21 r lp v u) 0x00000000#32 reduces_S1024x128_S1024 (.inl rfl) rfl) i = ∑ j, Ideal.exp (s i j - top (s i)) := fun i => by
    refine (vec_rowSum (n := 1024) (m := 128) _ _ _ _ i).trans ?_
    refine (Finset.sum_congr rfl fun j _ => congrArg Ideal.exp (congrArg₂ (fun a b : EReal => a - b) (congrFun (e19 i) j) (e20 i j))).trans ?_
    exact sum_pad (by decide) (s i) (fun x => Ideal.exp (x - top (s i))) (exp_bot_sub (by decide : 10 ≤ 128) _)
  refine congrArg₂ Ideal.div (congrArg₂ (fun a b : EReal => a - b) bits_zero ((total (n := 1024) (m := 10) _ _ _ _ _ _ _).trans ?_)) rfl
  refine Finset.sum_congr rfl fun i _ => Finset.sum_congr rfl fun j _ => congrArg (mat 1024 10 y i j * ·) ?_
  refine (mat_slice (n := 1024) (m := 10) (w := 128) 0 _ _ i j (j.castLE (by decide)) (by simp)).trans ?_
  refine congrArg₂ (fun a b : EReal => a - b) ((congrFun (e19 i) _).trans (pad_castLE (by decide) _ j)) ?_
  refine (broadcastTo_apply _ _ (ix2 i (j.castLE (by decide))) (ix2 i 0) fun a => match a with | ⟨0, _⟩ => rfl | ⟨1, _⟩ => rfl).trans ?_
  have e20' : mat 1024 1 (k1_pay20 r lp v u) i 0 = top (s i) :=
    (col_cast (n := 1024) _ _ i).trans ((vec_rowTop _ _ _ _ i).trans ((congrArg top (e19 i)).trans (top_pad (by decide) _)))
  have e22' : mat 1024 1 (k1_pay22 r lp v u) i 0 = ∑ j, Ideal.exp (s i j - top (s i)) :=
    (col_cast (n := 1024) _ _ i).trans (e22 i)
  exact congrArg₂ (fun a b : EReal => a + b) e20' (congrArg Ideal.log e22')

/-! ### The totals -/

section

variable (V : (c : Dev nD) → (b : Ref sig .tc) → Buf (Elt Ideal) ((c : Thread nD τ).loc b)) (c : Dev nD)

/-- The first launch's row: one block of columns' squares after the other. -/
theorem sums_at (j : Fin 128) : ∀ (n : ℕ) (h : n < cfg0.N), mat 1 128 (sums V c n h) 0 j
    = (∑ t : Fin (n + 1), sumSq (mat 3072 512 (iblk0 V c 1 ⟨t.val, lt_of_lt_of_le t.isLt h⟩))) * one (j.val = 1)
  | 0, h => by
    refine (k0_pay3_at _ _ j).trans ((congrArg (· + _) (show mat 1 128 (k0_pay2 (F := Ideal)) 0 j = 0 from bits_zero)).trans ?_)
    rw [zero_add, Fin.sum_univ_one]; rfl
  | n + 1, h => by
    refine (k0_pay3_at _ _ j).trans ?_
    rw [sums_at j n, Fin.sum_univ_castSucc (n := n + 1)]
    unfold one; split
    · rw [mul_one, mul_one, mul_one]; rfl
    · rw [mul_zero, mul_zero, mul_zero, add_zero]

/-- The second launch's row before its last point closes it. -/
theorem totals_at (j : Fin 128) : ∀ (n : ℕ) (h : n < cfg1.N), mat 1 128 (totals V c n h) 0 j
    = (sumSq (mat 2048 128 (V c main_arg6)) + sumSq (mat 128 8 (V c main_v7))) * one (j.val = 9)
      + (∑ t : Fin (n + 1), sumSq (mat 2048 256 (k1_pay37 (ins V c ⟨t.val, lt_of_lt_of_le t.isLt h⟩).x1))) * one (j.val = 10)
  | 0, h => by
    obtain ⟨-, e3, -, e5, -⟩ := whole V c ⟨0, h⟩
    refine (pay42_at (k1_pay37 (ins V c ⟨0, h⟩).x1) (k1_pay36 (ins V c ⟨0, h⟩).x3 (ins V c ⟨0, h⟩).x3 (ins V c ⟨0, h⟩).x5 (ins V c ⟨0, h⟩).x5 (k1_pay2 (F := Ideal))) j).trans ?_
    rw [pay36_at, e3, e5, Fin.sum_univ_one]; rfl
  | n + 1, h => by
    refine (pay42_at (k1_pay37 (ins V c ⟨n + 1, h⟩).x1) (totals V c n (Nat.lt_of_succ_lt h)) j).trans ?_
    rw [totals_at j n, Fin.sum_univ_castSucc (n := n + 1), add_assoc]
    refine congrArg (fun z : EReal => (sumSq (mat 2048 128 (V c main_arg6)) + sumSq (mat 128 8 (V c main_v7))) * one (j.val = 9) + z) ?_
    unfold one; split
    · rw [mul_one, mul_one, mul_one]; rfl
    · rw [mul_zero, mul_zero, mul_zero, add_zero]

/-- The blocks of the first layer's weights have the layer's squares. -/
theorem sums_last : mat (α := EReal) 1 128 ((dat0 V c).arrAt 4 cfg0.N) 0 1 = sumSq (mat (α := EReal) 3072 2048 (V c main_arg4)) := by
  have e : (dat0 V c).arrAt 4 cfg0.N = sums V c 3 (by rw [show cfg0.N = 4 from N_0]; decide) :=
    (dat0 V c).arrAt_eq_of_after_last 4 (⟨3, by rw [show cfg0.N = 4 from N_0]; decide⟩ : Fin cfg0.N) (by decide +kernel) _ fun y => by rw [after0_4]; rfl
  rw [e, sums_at]
  refine (mul_one _).trans ?_
  unfold sumSq
  rw [Finset.sum_comm]
  refine Finset.sum_congr rfl fun q _ => ?_
  refine (sum_blocks (k := 4) (m := 512) (fun k : Fin 2048 => mat (α := EReal) 3072 2048 (V c main_arg4) q k * mat (α := EReal) 3072 2048 (V c main_arg4) q k) _ fun t j k hk => ?_).symm
  have h := blk0_1 V c ⟨t.val, lt_of_lt_of_eq t.isLt N_0.symm⟩ q j k hk
  exact congrArg₂ (· * ·) h h

/-- The blocks of the paths' weights have the paths' squares. -/
theorem paths_squares : ∑ t : Fin 8, sumSq (mat 2048 256 (k1_pay37 (ins V c ⟨t.val, lt_of_lt_of_eq t.isLt N_1.symm⟩).x1)) = sumSq3 (cube (α := EReal) 2 2048 1024 (V c main_arg10)) := by
  have e : ∀ (t : Fin cfg1.N) (q : Fin 2048) (j : Fin 256), mat 2048 256 (k1_pay37 (ins V c t).x1) q j = (ins V c t).x1 (ix3 0 q j) := fun t q j =>
    shapeCast_apply (ins V c t).x1 shapeCasts_S1x2048x256_S2048x256 (ix2 q j) (ix3 0 q j) (by
      rw [Shape.rowMajor_val_three, Shape.rowMajor_val_two]; show (0 * 2048 + q.val) * 256 + j.val = q.val * 256 + j.val; omega)
  have s := sum_blocks (k := 4) (m := 2) (fun t : Fin 8 => sumSq (mat 2048 256 (k1_pay37 (ins V c ⟨t.val, lt_of_lt_of_eq t.isLt N_1.symm⟩).x1)))
    (fun a p => ∑ q : Fin 2048, ∑ j : Fin 256, cube (α := EReal) 2 2048 1024 (V c main_arg10) p q ⟨a.val * 256 + j.val, by omega⟩ * cube (α := EReal) 2 2048 1024 (V c main_arg10) p q ⟨a.val * 256 + j.val, by omega⟩)
    fun a p t ht => Finset.sum_congr rfl fun q _ => Finset.sum_congr rfl fun j _ => by
      have h := (e ⟨t.val, lt_of_lt_of_eq t.isLt N_1.symm⟩ q j).trans (blk1_1 V c ⟨t.val, lt_of_lt_of_eq t.isLt N_1.symm⟩ q j p (by show p.val = t.val % 2; omega)
        ⟨a.val * 256 + j.val, by omega⟩ (by show a.val * 256 + j.val = t.val / 2 * 256 + j.val; omega))
      exact congrArg₂ (· * ·) h.symm h.symm
  refine s.trans ?_
  rw [Finset.sum_comm]
  unfold sumSq3 sumSq
  refine Finset.sum_congr rfl fun p _ => ?_
  rw [Finset.sum_comm]
  refine Finset.sum_congr rfl fun q _ => ?_
  refine (sum_blocks (k := 4) (m := 256) (fun k : Fin 1024 => cube (α := EReal) 2 2048 1024 (V c main_arg10) p q k * cube (α := EReal) 2 2048 1024 (V c main_arg10) p q k) _ fun a j k hk => ?_).symm
  exact congrArg (fun k : Fin 1024 => cube (α := EReal) 2 2048 1024 (V c main_arg10) p q k * cube (α := EReal) 2 2048 1024 (V c main_arg10) p q k)
    (Fin.ext hk.symm : (⟨a.val * 256 + j.val, by omega⟩ : Fin 1024) = k)

/-- The first launch's row is carried into the second whole. -/
theorem carried (t : Fin cfg1.N) : (ins V c t).x14 = V c main_v19_1 := by
  have h14 : ∀ t : Fin cfg1.N, win1_14.index t = ![0, 0] := (by decide +kernel : ∀ t : Fin grid1.N, win1_14.index t = ![0, 0])
  funext y
  dsimp only [ins, iblk1]
  blk_simp
  refine congrArg (V c _) ?_
  blk_ext [h14]

theorem finalRow : (dat1 V c).arrAt 20 cfg1.N = (final V c).o20 :=
  (dat1 V c).arrAt_eq_of_after_last 20 t1_7 (by decide +kernel) _ fun y => by rw [after1_20]; rfl

/-- The last point's row at a lane. -/
theorem final_at (j : Fin 128) (s : Fin 1024 → Fin 10 → EReal) (hs : ∀ i (j : Fin 10), mat 1024 128 (final V c).o16 i (j.castLE (by decide)) = s i j) :
    mat (α := EReal) 1 128 (final V c).o20 0 j = ((sumSq (mat 2048 128 (V c main_arg6)) + sumSq (mat 128 8 (V c main_v7))) * one (j.val = 9)
        + sumSq3 (cube (α := EReal) 2 2048 1024 (V c main_arg10)) * one (j.val = 10)
        + Ideal.div (0 - ∑ i, ∑ j, mat (α := EReal) 1024 10 (V c main_v2) i j * (s i j - (top (s i) + logZ (s i)))) (Ideal.ofBits .f32 0x44800000#32) * one (j.val = 1))
      + (decay * ((mat (α := EReal) 1 128 (ins V c t1_7).x14 0 1 + sumSq3 (cube (α := EReal) 2 2048 1024 (V c main_arg10))) + sumSq (mat 1024 512 (V c main_v15)))
        + decay * (((sumSq (mat 2048 128 (V c main_arg6)) + sumSq (mat 128 8 (V c main_v7))) + sumSq (mat 1024 128 (V c main_arg12))) + sumSq (mat 128 8 (V c main_v10)))) * one (j.val = 3) := by
  obtain ⟨-, -, -, -, -, e7, -, e9, -, e11, -, e13, -⟩ := whole V c t1_7
  have T : ∀ j : Fin 128, mat (α := EReal) 1 128 (last V c).o20 0 j = (sumSq (mat 2048 128 (V c main_arg6)) + sumSq (mat 128 8 (V c main_v7))) * one (j.val = 9)
      + sumSq3 (cube (α := EReal) 2 2048 1024 (V c main_arg10)) * one (j.val = 10) := fun j =>
    (totals_at V c j 7 _).trans (congrArg (fun z : EReal => _ + z * one (j.val = 10)) (paths_squares V c))
  have L : mat (α := EReal) 1 128 (k1_pay31 (F := Ideal) (last V c).lossRow) 0 j = mat (α := EReal) 1 128 (last V c).o20 0 j
      + Ideal.div (0 - ∑ i, ∑ j, mat (α := EReal) 1024 10 (V c main_v2) i j * (s i j - (top (s i) + logZ (s i)))) (Ideal.ofBits .f32 0x44800000#32) * one (j.val = 1) := by
    unfold k1_pay31
    rw [shapeCast_self]
    refine (pay30_at _ _ j).trans (congrArg (fun z : EReal => mat (α := EReal) 1 128 (last V c).o20 0 j + z * one (j.val = 1)) ?_)
    refine (pay23_at _ _ _ _ _ s hs).trans ?_
    unfold k1_pay9
    rw [shapeCast_self, show (last V c).x13 = V c main_v2 from e13]
  refine congrArg₂ (fun a b : EReal => a + b) (L.trans (congrArg (· + _) (T j))) ((pay32_at _ _ _ _ _ _ j).trans ?_)
  rw [show (last V c).x7 = V c main_arg12 from e7, show (last V c).x9 = V c main_v10 from e9, show (last V c).x11 = V c main_v15 from e11,
    pay26_at, pay27_at, pay28_at, pay29_at, T 9, T 10]
  simp [one]
  rfl

end

end Cert.KernelIdeal.Work

end
-- ==== Proof.KernelIdealWork.Losses.lean ====
/- The kernel's losses: the classification loss where the logits are real, and the weights' squares. -/
module

public import proofs.«01_k».proof.Proof.KernelIdealWork.Outputs
public import proofs.«01_k».proof.Proof.KernelIdealWork.Totals

@[expose] public section

set_option maxHeartbeats 1000000
set_option maxRecDepth 16384

noncomputable section

namespace Cert.KernelIdeal.Work

open Idealize.ShloMosaic
open Idealize.ShloMosaic.TcCoe Idealize.ShloMosaic.ValueIdx Idealize.ShloMosaic.StableHlo
open Cert.KernelIdeal Cert.KernelIdeal.Gen Cert.At
open Cert.KernelIdeal.Gen (V0)
open scoped BigOperators

/-! ### Padding adds zeros -/

theorem mat_padRest {n k w d : ℕ} (x : (⟨2, ![n, k]⟩ : Shape).Idx → EReal) {u : Shape} (v : u.Idx → EReal) (hv : ∀ i, v i = 0)
    (h : (⟨2, ![n, k]⟩ : Shape).Pads ![0, 0] ![0, d] ![0, 0] ⟨2, ![n, w]⟩) (hu : 0 < u.numel) (i : Fin n) (j : Fin w) (hj : k ≤ j.val) :
    mat n w (pad ⟨2, ![n, w]⟩ ![0, 0] ![0, d] ![0, 0] x v h hu) i j = 0 :=
  (pad_apply_of_not_inside _ _ _ x v h hu (ix2 i j) 1 fun e => by
    have := e.2.2; have e' : (j.val - 0) / (0 + 1) < k := this; omega).trans (hv _)

theorem cube_padRest {n p k w d : ℕ} (x : (⟨3, ![n, p, k]⟩ : Shape).Idx → EReal) {u : Shape} (v : u.Idx → EReal) (hv : ∀ i, v i = 0)
    (h : (⟨3, ![n, p, k]⟩ : Shape).Pads ![0, 0, 0] ![0, 0, d] ![0, 0, 0] ⟨3, ![n, p, w]⟩) (hu : 0 < u.numel) (i : Fin n) (q : Fin p) (j : Fin w) (hj : k ≤ j.val) :
    pad ⟨3, ![n, p, w]⟩ ![0, 0, 0] ![0, 0, d] ![0, 0, 0] x v h hu (ix3 i q j) = 0 :=
  (pad_apply_of_not_inside _ _ _ x v h hu (ix3 i q j) 2 fun e => by
    have := e.2.2; have e' : (j.val - 0) / (0 + 1) < k := this; omega).trans (hv _)

/-- The whole number zero as an extended real. -/
theorem zero_word (i : S_.Idx) : (sitofp (F := Ideal) .f32 (constantI S_ 32 0#32 : IVec S_ 32) i : EReal) = 0 := by
  show (((0#32 : BitVec 32).toInt : ℝ) : EReal) = 0
  norm_num

variable (m : (ℓ : Loc nD τ sig) → Buf (Elt Ideal) ℓ) (c : Dev nD)

theorem E_v7_rest (q : Fin 128) (j : Fin 8) (hj : 2 ≤ j.val) : mat (α := EReal) 128 8 (E m c main_v7) q j = 0 := by
  have e : E m c main_v7 = pad S128x8 ![0, 0] ![0, 6] ![0, 0] (E m c main_arg8 : FVec Ideal S128x2 .f32) (E m c main_call1_v0 : FVec Ideal S_ .f32) pads_S128x2_S128x8_000_060 h_S_ := by
    have h := Line.at_binary before_writes (V0 m c) 14 rfl (by decide +kernel) (by decide +kernel) (by decide +kernel)
    exact h
  have e0 : E m c main_call1_v0 = sitofp (F := Ideal) .f32 (E m c main_c : IVec S_ 32) := by
    have h := Line.at_unary before_writes (V0 m c) 13 rfl (by decide +kernel) (by decide +kernel)
    exact h
  have e1 : E m c main_c = _ := Line.at_nullary before_writes (V0 m c) 12 rfl (by decide +kernel)
  rw [e]
  refine mat_padRest (n := 128) (k := 2) (w := 8) _ _ (fun i => ?_) _ _ q j hj
  rw [e0, e1]
  exact zero_word i

theorem E_v10_rest (q : Fin 128) (j : Fin 8) (hj : 4 ≤ j.val) : mat (α := EReal) 128 8 (E m c main_v10) q j = 0 := by
  have e : E m c main_v10 = pad S128x8 ![0, 0] ![0, 4] ![0, 0] (E m c main_arg14 : FVec Ideal S128x4 .f32) (E m c main_call3_v0 : FVec Ideal S_ .f32) pads_S128x4_S128x8_000_040 h_S_ := by
    have h := Line.at_binary before_writes (V0 m c) 21 rfl (by decide +kernel) (by decide +kernel) (by decide +kernel)
    exact h
  have e0 : E m c main_call3_v0 = sitofp (F := Ideal) .f32 (E m c main_c_1 : IVec S_ 32) := by
    have h := Line.at_unary before_writes (V0 m c) 20 rfl (by decide +kernel) (by decide +kernel)
    exact h
  have e1 : E m c main_c_1 = _ := Line.at_nullary before_writes (V0 m c) 19 rfl (by decide +kernel)
  rw [e]
  refine mat_padRest (n := 128) (k := 4) (w := 8) _ _ (fun i => ?_) _ _ q j hj
  rw [e0, e1]
  exact zero_word i

theorem E_v15_rest (p : Fin 4) (q : Fin 1024) (j : Fin 128) (hj : 10 ≤ j.val) (k : Fin 512) (hk : k.val = p.val * 128 + j.val) :
    mat (α := EReal) 1024 512 (E m c main_v15) q k = 0 := by
  have e : E m c main_v15 = _ := Line.at_reshape before_writes (V0 m c) 30 rfl (by decide +kernel) (by decide +kernel)
  have e' : E m c main_v14 = pad S1024x4x128 ![0, 0, 0] ![0, 0, 118] ![0, 0, 0] (E m c main_v13 : FVec Ideal S1024x4x10 .f32) (E m c main_call5_v0 : FVec Ideal S_ .f32) pads_S1024x4x10_S1024x4x128_000_000_01180 h_S_ := by
    have h := Line.at_binary before_writes (V0 m c) 29 rfl (by decide +kernel) (by decide +kernel) (by decide +kernel)
    exact h
  have e0 : E m c main_call5_v0 = sitofp (F := Ideal) .f32 (E m c main_c_3 : IVec S_ 32) := by
    have h := Line.at_unary before_writes (V0 m c) 28 rfl (by decide +kernel) (by decide +kernel)
    exact h
  have e1 : E m c main_c_3 = _ := Line.at_nullary before_writes (V0 m c) 27 rfl (by decide +kernel)
  refine (congrArg (fun z => mat (α := EReal) 1024 512 z q k) e).trans ?_
  refine (shapeCast_apply (s := S1024x4x128) (E m c main_v14) shapeCasts_S1024x4x128_S1024x512 (ix2 q k) (ix3 q p j) (by
    rw [Shape.rowMajor_val_three, Shape.rowMajor_val_two]; show (q.val * 4 + p.val) * 128 + j.val = q.val * 512 + k.val; omega)).trans ?_
  refine (congrFun e' _).trans (cube_padRest (n := 1024) (p := 4) (k := 10) (w := 128) _ _ (fun i => ?_) _ _ q p j hj)
  rw [e0, e1]
  exact zero_word i

theorem squares_v7 : sumSq (mat (α := EReal) 128 8 (U17 m c main_v7)) = sumSq (net m c).wr0 :=
  Finset.sum_congr rfl fun q _ => sum_zeros (by decide) _ _ (fun j => congrArg₂ (· * ·) ((feeds m c).wr0 q j) ((feeds m c).wr0 q j)) fun j hj => by
    rw [mid m c main_v7 (by decide +kernel) (by decide +kernel), E_v7_rest m c q j hj, mul_zero]

theorem squares_v10 : sumSq (mat (α := EReal) 128 8 (U17 m c main_v10)) = sumSq (net m c).wr1 :=
  Finset.sum_congr rfl fun q _ => sum_zeros (by decide) _ _ (fun j => congrArg₂ (· * ·) ((feeds m c).wr1 q j) ((feeds m c).wr1 q j)) fun j hj => by
    rw [mid m c main_v10 (by decide +kernel) (by decide +kernel), E_v10_rest m c q j hj, mul_zero]

theorem squares_v15 : sumSq (mat (α := EReal) 1024 512 (U17 m c main_v15)) = sumSq3 (net m c).w2 := by
  unfold sumSq3 sumSq
  rw [Finset.sum_comm (s := (Finset.univ : Finset (Fin 4)))]
  refine Finset.sum_congr rfl fun q _ => ?_
  refine (sum_blocks (k := 4) (m := 128) (fun k : Fin 512 => mat (α := EReal) 1024 512 (U17 m c main_v15) q k * mat (α := EReal) 1024 512 (U17 m c main_v15) q k)
    (fun p j => mat (α := EReal) 1024 512 (U17 m c main_v15) q ⟨p.val * 128 + j.val, by omega⟩ * mat (α := EReal) 1024 512 (U17 m c main_v15) q ⟨p.val * 128 + j.val, by omega⟩)
    fun p j k hk => congrArg (fun k : Fin 512 => mat (α := EReal) 1024 512 (U17 m c main_v15) q k * mat (α := EReal) 1024 512 (U17 m c main_v15) q k)
      (Fin.ext hk.symm : (⟨p.val * 128 + j.val, by omega⟩ : Fin 512) = k)).trans ?_
  refine Finset.sum_congr rfl fun p _ => sum_zeros (by decide) _ _ (fun j => ?_) fun j hj => ?_
  · have h := (feeds m c).w2 p q j ⟨p.val * 128 + j.val, by omega⟩ (by show p.val * 128 + j.val = 128 * p.val + j.val; omega)
    exact congrArg₂ (· * ·) h h
  · rw [mid m c main_v15 (by decide +kernel) (by decide +kernel), E_v15_rest m c p q j hj _ rfl, mul_zero]

theorem mid_row : mat (α := EReal) 1 128 (U17 m c main_v19_1) 0 1 = sumSq (net m c).w0 := by
  have e : U17 m c main_v19_1 = (dat0 (U15 m) c).arrAt 4 cfg0.N := (W17_of m c main_v19_1 (by decide +kernel)).trans (W16_arr m c 4)
  rw [e]
  refine (sums_last (U15 m) c).trans (congrArg (fun z => sumSq (mat (α := EReal) 3072 2048 z)) ?_)
  exact (congrFun (V15_before m c) (Proc.devRef .tc main_arg4)).trans (E_arg m c main_arg4 (by decide +kernel))

/-- The labels' rows reach the second launch as they reach the information gains. -/
theorem E_v2 : E m c main_v2 = F m c main_v24 := by
  rw [F_v24, ← E_arg m c main_arg1 (by decide +kernel)]
  have e0 : E m c main_call0_v0 = broadcastInDim S1024x1 ![0] bcast_S1024_S1024x1_0 (E m c main_arg1 : IVec S1024 32) := by
    have h := Line.at_unary before_writes (V0 m c) 2 rfl (by decide +kernel) (by decide +kernel)
    exact h
  have e1 : E m c main_call0_v1 = iotaInDim S1x10 32 1 := by
    have h := Line.at_nullary before_writes (V0 m c) 3 rfl (by decide +kernel)
    exact h
  have e2 : E m c main_call0_v2 = broadcastInDim S1024x10 ![0, 1] bcast_S1024x1_S1024x10_0_1 (E m c main_call0_v0 : IVec S1024x1 32) := by
    have h := Line.at_unary before_writes (V0 m c) 4 rfl (by decide +kernel) (by decide +kernel)
    exact h
  have e3 : E m c main_call0_v3 = broadcastInDim S1024x10 ![0, 1] bcast_S1x10_S1024x10_0_1 (E m c main_call0_v1 : IVec S1x10 32) := by
    have h := Line.at_unary before_writes (V0 m c) 5 rfl (by decide +kernel) (by decide +kernel)
    exact h
  have e4 : E m c main_call0_v4 = cmpi .eq (E m c main_call0_v2 : IVec S1024x10 32) (E m c main_call0_v3 : IVec S1024x10 32) := by
    have h := Line.at_binary before_writes (V0 m c) 6 rfl (by decide +kernel) (by decide +kernel) (by decide +kernel)
    exact h
  have e5 : E m c main_v2 = uitofp (F := Ideal) .f32 (E m c main_call0_v4 : IVec S1024x10 1) := by
    have h := Line.at_unary before_writes (V0 m c) 7 rfl (by decide +kernel) (by decide +kernel)
    exact h
  rw [e5, e4, e3, e2, e1, e0]

/-- The last row at a lane, from the network. -/
theorem row_at (j : Fin 128) : mat (α := EReal) 1 128 (F m c main_v23_4) 0 j
    = ((sumSq (net m c).wh0 + sumSq (net m c).wr0) * one (j.val = 9) + sumSq3 (net m c).w1 * one (j.val = 10)
        + Ideal.div (0 - ∑ i, ∑ j, mat (α := EReal) 1024 10 (F m c main_v24) i j * ((net m c).logits i j - (top ((net m c).logits i) + logZ ((net m c).logits i))))
            (Ideal.ofBits .f32 0x44800000#32) * one (j.val = 1))
      + (net m c).reg * one (j.val = 3) := by
  have e' : F m c main_v23_4 = (final (U17 m) c).o20 := (F_out m c 20).trans (finalRow (U17 m) c)
  rw [e']
  refine (final_at (U17 m) c j (net m c).logits (logits_at (feeds m c))).trans ?_
  have e2 : U17 m c main_v2 = F m c main_v24 := (mid m c main_v2 (by decide +kernel) (by decide +kernel)).trans (E_v2 m c)
  rw [e2, carried, mid_row, squares_v7, squares_v10, squares_v15,
    show sumSq (mat (α := EReal) 2048 128 (U17 m c main_arg6)) = sumSq (net m c).wh0 from congrArg sumSq (feeds m c).wh0,
    show sumSq (mat (α := EReal) 1024 128 (U17 m c main_arg12)) = sumSq (net m c).wh1 from congrArg sumSq (feeds m c).wh1,
    show cube (α := EReal) 2 2048 1024 (U17 m c main_arg10) = (net m c).w1 from funext fun p => funext fun q => funext fun k => (feeds m c).w1 p q k]
  rfl

/-- A lane of the row, sliced out and reshaped to no axes. -/
theorem cell_lane (o : ℕ) (x : FVec Ideal S1x128 .f32) (h : S1x128.Slices ![0, o] S1x1) (h' : S1x1.ShapeCasts S_) (q : Fin 128) (hq : q.val = o) :
    cell (shapeCast S_ (extractStridedSlice S1x1 ![0, o] x h) h') = mat 1 128 x 0 q := by
  refine Eq.trans (congrArg (extractStridedSlice S1x1 ![0, o] x h) (show _ = ix2 0 0 from funext fun a => match a with
    | ⟨0, _⟩ => Fin.ext (Nat.lt_one_iff.1 (Fin.isLt _))
    | ⟨1, _⟩ => Fin.ext (Nat.lt_one_iff.1 (Fin.isLt _)))) ?_
  exact mat_slice (n := 1) (m := 1) (w := 128) o x h 0 0 q hq

/-- The classification loss. -/
theorem F_cls (h : (net m c).Real) : cell (α := EReal) (F m c main_v86) = cls (mat (α := EReal) 1024 10 (F m c main_v24)) (net m c).logits := by
  have e : F m c main_v86 = _ := Line.at_reshape behind_writes (W18 m c) 87 rfl (by decide +kernel) (by decide +kernel)
  have e' : F m c main_v85 = _ := F_unary m c 86 rfl
  refine (congrArg (cell (α := EReal)) e).trans ?_
  refine (congrArg (fun z => cell (α := EReal) (shapeCast S_ z _)) e').trans ((cell_lane 1 _ _ _ 1 rfl).trans ((row_at m c 1).trans ?_))
  rw [hits_once _ _ h.logits, neg_div]
  simp [one, cls]

/-- The weights' squares. -/
theorem F_reg : cell (α := EReal) (F m c main_v89) = (net m c).reg := by
  have e : F m c main_v89 = _ := Line.at_reshape behind_writes (W18 m c) 90 rfl (by decide +kernel) (by decide +kernel)
  have e' : F m c main_v88 = _ := F_unary m c 89 rfl
  refine (congrArg (cell (α := EReal)) e).trans ?_
  refine (congrArg (fun z => cell (α := EReal) (shapeCast S_ z _)) e').trans ((cell_lane 3 _ _ _ 3 rfl).trans ((row_at m c 3).trans ?_))
  simp [one]

end Cert.KernelIdeal.Work

end
-- ==== Proof.ReferenceWork.Losses.lean ====
/- The reference's losses: the classification loss and the weights' squares. -/
module

public import proofs.«01_k».proof.Proof.ReferenceWork.Value
public import proofs.«01_k».proof.Proof.Algebra.Loss

@[expose] public section

set_option maxHeartbeats 1000000
set_option maxRecDepth 16384

noncomputable section

namespace Cert.ReferenceIdeal.Work

open Idealize.ShloMosaic Idealize.ShloMosaic.TcCoe Idealize.ShloMosaic.ValueIdx Idealize.ShloMosaic.StableHlo
open Cert.ReferenceIdeal Cert.ReferenceIdeal.Gen Cert.At
open scoped BigOperators

variable (m : (ℓ : Loc nD τ sig) → Buf (Elt Ideal) ℓ) (c : Dev nD)

/-- Logits below their row's largest. -/
theorem below_at (i : Fin 1024) (j : Fin 10) : mat 1024 10 (S m c main_call11_v5) i j = below ((net m c).logits i) j := by
  rw [eq_call11_v5, eq_call11_v4, eq_call11_v3, eq_call11_v2, eq_call11_v1, eq_call11_v0, eq_call11_cst, eq_call11_cst_0, ← v121_at m c]
  exact mat_hostBelow _ _ (by decide) _ _ _ _ i j

/-- The logarithms of the rows' sums, repeated over the row. -/
theorem log_at (i : Fin 1024) (j : Fin 10) : mat 1024 10 (S m c main_call11_v10) i j = logZ ((net m c).logits i) := by
  rw [eq_call11_v10, eq_call11_v9, eq_call11_v8, eq_call11_v7, eq_call11_cst_1, eq_call11_v6]
  refine (mat_cols bcast_S1024_S1024x1_0 bcast_S1024x1_S1024x10_0_1 (Host.log (F := Ideal) (φ := .f32)
    (Host.reduceAdd (Host.exp (S m c main_call11_v5 : FVec Ideal S1024x10 .f32)) (constant (F := Ideal) S_ .f32 0x00000000#32) reducesTo_S1024x10_S1024_d1 h_S_)) i j).trans ?_
  refine congrArg Ideal.log ((vec_hostSum _ reducesTo_S1024x10_S1024_d1 (by decide) _ i).trans (Finset.sum_congr rfl fun q _ => ?_))
  exact congrArg Ideal.exp (below_at m c i q)

/-- The classification loss. -/
theorem v127_at : cell (α := EReal) (S m c main_v127) = cls (mat (α := EReal) 1024 10 (S m c main_v1)) (net m c).logits := by
  rw [eq_v127, eq_v126, eq_v125, eq_cst_26, eq_cst_27, eq_v124, eq_cst_25, eq_v123, eq_v122]
  refine congrArg (fun z : EReal => -Ideal.div z (Ideal.ofBits .f32 0x44800000#32)) ((cell_hostSum _ _ _).trans (Finset.sum_congr rfl fun i _ => ?_))
  refine (vec_hostSum _ reducesTo_S1024x10_S1024_d1 (by decide) _ i).trans (Finset.sum_congr rfl fun j _ => ?_)
  exact congrArg (mat (α := EReal) 1024 10 (S m c main_v1) i j * ·) (congrArg₂ (· - ·) (below_at m c i j) (log_at m c i j))

/-- The weights' squares. -/
theorem v160_at : cell (α := EReal) (S m c main_v160) = (net m c).reg := by
  rw [eq_v160, eq_v159, eq_v158, eq_v157, eq_v156, eq_v155, eq_v154, eq_v153, eq_v152, eq_v151, eq_v150, eq_v149, eq_v148, eq_v147, eq_v146, eq_v145, eq_v144,
    eq_v143, eq_v142, eq_v141, eq_v140, eq_v139, eq_cst_31, eq_cst_32, eq_cst_33, eq_cst_34, eq_cst_35, eq_cst_36, eq_cst_37, eq_cst_38, eq_cst_39]
  exact congrArg₂ (· + ·)
    (congrArg (decay * ·) (congrArg₂ (· + ·) (congrArg₂ (· + ·) (cell_sq _ _ _) (cell_sq3 _ _ _)) (cell_sq3 _ _ _)))
    (congrArg (decay * ·) (congrArg₂ (· + ·) (congrArg₂ (· + ·) (congrArg₂ (· + ·) (cell_sq _ _ _) (cell_sq _ _ _)) (cell_sq _ _ _)) (cell_sq _ _ _)))

end Cert.ReferenceIdeal.Work

end
-- ==== Proof.KernelIdealWork.Total.lean ====
/- The losses of the two programs, side by side: what the mask selects is finite, and there the classification loss and the
   total loss are the same. -/
module

public import proofs.«01_k».proof.On_settled
public import proofs.«01_k».proof.Proof.KernelIdealWork.Match
public import proofs.«01_k».proof.Proof.KernelIdealWork.Losses
public import proofs.«01_k».proof.Proof.ReferenceWork.Losses
public import Idealize.ShloMosaic.Lib.ReduceAll

@[expose] public section

set_option maxHeartbeats 1000000
set_option maxRecDepth 16384

noncomputable section

namespace Cert.KernelIdeal.Work

open Idealize.ShloMosaic
open Idealize.ShloMosaic.TcCoe Idealize.ShloMosaic.ValueIdx Idealize.ShloMosaic.StableHlo
open Cert.KernelIdeal Cert.KernelIdeal.Gen Cert.At
open Cert.ReferenceIdeal.Work
open scoped BigOperators

/-! ### What the mask selects -/

/-- A value whose absolute value is below plus infinity is real. -/
theorem isReal_of_below (x : EReal) (h : Ideal.cmp .olt (max x (-x)) (Ideal.ofBits .f32 0x7F800000#32) = 1#1) : IsReal x := by
  have e : Ideal.ofBits .f32 0x7F800000#32 = ⊤ := by simp [Ideal.ofBits, Ideal.ieee]
  have hl : max x (-x) < ⊤ := by
    by_contra hn
    rw [e] at h
    unfold Ideal.cmp at h
    simp [hn] at h
  refine isReal_of_ne (fun hx => ?_) fun hx => ?_ <;> · subst hx; simp at hl

/-- The host's test that every entry is finite, read back. -/
theorem isReal_of_all {s : Shape} {axes : List (Fin s.rank)} (x : FVec Ideal s .f32) (h : s.ReducesTo axes S_) (hb) (hu) (i : S_.Idx)
    (e : Host.reduce IntOp.andi (cmpf .olt (Host.absf x) (broadcastInDim s ![] hb (constant (F := Ideal) S_ .f32 0x7F800000#32))) (constantI S_ 1 1#1) h hu i = 1#1)
    (j : s.Idx) : IsReal (x j) := by
  haveI : Subsingleton S_.Idx := ⟨fun a b => funext fun k => k.elim0⟩
  have h1 := Host.reduce_andi_all _ _ h hu i e j
  refine isReal_of_below _ ((congrArg (Ideal.cmp .olt (max (x j) (-(x j)))) ?_).trans h1)
  exact (spread s hb (constant (F := Ideal) S_ .f32 0x7F800000#32) j).symm

/-- A bit made of two is set where both are. -/
theorem both_set {a b : BitVec 1} (h : IntOp.andi a b = 1#1) : a = 1#1 ∧ b = 1#1 := by
  revert a b; decide

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- Where the mask selects the losses, the network's inputs are real. -/
theorem real_of_settled [Cert.On_settled.Facts] (i : S_.Idx)
    (h : (Cert.On_settled.fn (F := Ideal) (A m c main_arg0) (A m c main_arg1) (A m c main_arg2) (A m c main_arg3) (A m c main_arg4) (A m c main_arg5)
      (A m c main_arg6) (A m c main_arg7) (A m c main_arg8) (A m c main_arg9) (A m c main_arg10) (A m c main_arg11) (A m c main_arg12) (A m c main_arg13)
      (A m c main_arg14) (A m c main_arg15) (A m c main_arg16) (A m c main_arg17)).1 i = 1#1) : (net m c).Real := by
  obtain ⟨h, e17⟩ := both_set h
  obtain ⟨h, e16⟩ := both_set h
  obtain ⟨h, e11⟩ := both_set h
  obtain ⟨h, e10⟩ := both_set h
  obtain ⟨h, e5⟩ := both_set h
  obtain ⟨h, e4⟩ := both_set h
  obtain ⟨-, e0⟩ := both_set h
  exact {
    x := fun i q => isReal_of_all (s := S1024x32x32x3) (A m c main_arg0) _ _ _ _ e0 _
    w0 := fun q j => isReal_of_all (s := S3072x2048) (A m c main_arg4) _ _ _ _ e4 _
    b0 := fun j => isReal_of_all (s := S2048) (A m c main_arg5) _ _ _ _ e5 _
    w1 := fun a q j => isReal_of_all (s := S2x2048x1024) (A m c main_arg10) _ _ _ _ e10 _
    b1 := fun a j => isReal_of_all (s := S2x1024) (A m c main_arg11) _ _ _ _ e11 _
    w2 := fun a q j => isReal_of_all (s := S4x1024x10) (A m c main_arg16) _ _ _ _ e16 _
    b2 := fun a j => isReal_of_all (s := S4x10) (A m c main_arg17) _ _ _ _ e17 _ }

/-! ### The losses -/

theorem cell_inj {x y : S_.Idx → EReal} (h : cell x = cell y) : x = y :=
  funext fun i => (congrArg x (funext fun k => k.elim0)).trans (h.trans (congrArg y (funext fun k => k.elim0)))

/-- The classification loss is the same in both. -/
theorem cls_same (hr : (net m c).Real) (hN : net m c = Cert.ReferenceIdeal.Work.net m' c)
    (h1 : A m c main_arg1 = (m' ((c.tc : Thread _ _).loc Cert.ReferenceIdeal.main_arg1) : IVec S1024 32)) :
    F m c main_v86 = (S m' c Cert.ReferenceIdeal.main_v127 : FVec Ideal S_ .f32) := by
  refine cell_inj ((F_cls m c hr).trans (Eq.trans ?_ (v127_at m' c).symm))
  rw [labels m m' c h1, hN]

/-- The weights' squares are the same in both. -/
theorem reg_same (hN : net m c = Cert.ReferenceIdeal.Work.net m' c) :
    F m c main_v89 = (S m' c Cert.ReferenceIdeal.main_v160 : FVec Ideal S_ .f32) :=
  cell_inj ((F_reg m c).trans ((congrArg Net.reg hN).trans (v160_at m' c).symm))

/-- The total loss is the same in both. -/
theorem loss_same (hr : (net m c).Real) (hN : net m c = Cert.ReferenceIdeal.Work.net m' c)
    (h1 : A m c main_arg1 = (m' ((c.tc : Thread _ _).loc Cert.ReferenceIdeal.main_arg1) : IVec S1024 32))
    (h3 : A m c main_arg3 = (m' ((c.tc : Thread _ _).loc Cert.ReferenceIdeal.main_arg3) : IVec S_ 1)) :
    F m c main_v90 = (S m' c Cert.ReferenceIdeal.main_v166 : FVec Ideal S_ .f32) := by
  rw [F_binary m c 91 rfl, F_binary m c 88 rfl, cls_same m m' c hr hN h1, gain_total m m' c hN h1 h3, reg_same m m' c hN, eq_v166, eq_v165]

end Cert.KernelIdeal.Work

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.KernelWork.Frame
public import proofs.«01_k».proof.Proof.KernelIdealWork.Run
public import proofs.«01_k».proof.Proof.KernelIdealWork.Match
public import proofs.«01_k».proof.Proof.KernelIdealWork.Total
public import proofs.«01_k».proof.Proof.ReferenceWork.Run
public import Idealize.ShloMosaic.Adequacy
public import Idealize.ShloMosaic.Init

@[expose] public section

noncomputable section

namespace Cert.Proof

open Idealize.ShloMosaic Idealize.SL.Sem Cert.Kernel

theorem frame_kernel : Cert.quiescent_Kernel := Cert.Kernel.Work.frame

theorem frame_kernelIdeal : Cert.quiescent_KernelIdeal := fun m g _ => Cert.KernelIdeal.Work.frame m g

/-- The reference is host code: it writes no argument and has no semaphore. -/
theorem frame_referenceIdeal : Cert.quiescent_ReferenceIdeal := fun m g _ =>
  (θ_run _ _ _).mono (fun r h => ⟨fun c => by
    and_intros <;> exact (h c _).trans (Cert.ReferenceIdeal.Work.S_arg m c _ (by decide)),
    funext fun s => (Cert.ReferenceIdeal.Work.no_sem.false s.2).elim⟩) (Cert.ReferenceIdeal.Work.run m g)

/-- The one named literal, the mask, stands for `−∞`. -/
theorem preserves : Cert.preserves_Kernel_KernelIdeal :=
  IdealRules.named_const.statement Cert.KernelIdeal.κ "mask" .f32 0xF149F2CA#32 ⊥ rfl

instance : Cert.On_settled.Facts := ⟨by decide, by decide, by decide, by decide, by decide, by decide, by decide, by decide, by decide, by decide, by decide, by decide, by decide, by decide, by decide, by decide, by decide, by decide⟩

open Cert.KernelIdeal.Work in
/-- THE VALUE: on equal arguments the two programs end with equal results, the first two where the mask selects them. -/
theorem algebraic : Cert.algebraic_KernelIdeal_ReferenceIdeal_on_settled := by
  intro m g m' g' _ hagree
  have e (c : Dev Cert.KernelIdeal.nD) := nets m m' c (hagree c)
  refine ⟨fun c => F m c Cert.KernelIdeal.main_v90, fun c => F m c Cert.KernelIdeal.main_v86, fun c => F m c Cert.KernelIdeal.main_v84,
    fun c => F m c Cert.KernelIdeal.main_v91, fun c => F m c Cert.KernelIdeal.main_v92, fun c => F m c Cert.KernelIdeal.main_v93,
    fun c => F m c Cert.KernelIdeal.main_v94, (θ_run _ _ _).mono (fun r h c => ?_) (Cert.KernelIdeal.Work.run m g),
    (θ_run _ _ _).mono (fun r h c => ?_) (Cert.ReferenceIdeal.Work.run m' g')⟩
  · have k (b : Ref Cert.KernelIdeal.sig .tc) (hb) := (h.1 c _ (mem_uc b hb)).trans (congrFun (W22_behind m c) _)
    have a (b : Ref Cert.KernelIdeal.sig .tc) (hb) (ha) := (h.1 c _ (mem_uc b hb)).trans (W22_args m c b ha)
    refine ⟨fun i _ => congrFun (k Cert.KernelIdeal.main_v90 (by decide)) i,
      fun i _ => congrFun (k Cert.KernelIdeal.main_v86 (by decide)) i,
      fun i _ => congrFun (k Cert.KernelIdeal.main_v84 (by decide)) i,
      fun i _ => congrFun (k Cert.KernelIdeal.main_v91 (by decide)) i,
      fun i _ => congrFun (k Cert.KernelIdeal.main_v92 (by decide)) i,
      fun i _ => congrFun (k Cert.KernelIdeal.main_v93 (by decide)) i,
      fun i _ => congrFun (k Cert.KernelIdeal.main_v94 (by decide)) i, ?_⟩
    and_intros <;> exact a _ (by decide) (by decide)
  · have k (b) := h c b
    refine ⟨fun i hi => congrFun ((k Cert.ReferenceIdeal.main_v166).trans (loss_same m m' c (real_of_settled m c i hi) (e c) (hagree c).2.1.symm (hagree c).2.2.2.1.symm).symm) i,
      fun i hi => congrFun ((k Cert.ReferenceIdeal.main_v127).trans (cls_same m m' c (real_of_settled m c i hi) (e c) (hagree c).2.1.symm).symm) i,
      fun i _ => congrFun ((k Cert.ReferenceIdeal.main_v164).trans (gain_total m m' c (e c) (hagree c).2.1.symm (hagree c).2.2.2.1.symm).symm) i,
      fun i _ => congrFun ((k Cert.ReferenceIdeal.main_v121).trans (Cert.At.mat_inj ((Cert.ReferenceIdeal.Work.v121_at m' c).trans ((congrArg _ (e c)).symm.trans (F_logits m c).symm)))) i,
      fun i _ => congrFun ((k Cert.ReferenceIdeal.main_v138).trans (Cert.At.mat_inj ((Cert.ReferenceIdeal.Work.v138_at m' c).trans ((congrArg _ (e c)).symm.trans (F_post m c).symm)))) i,
      fun i _ => congrFun ((k Cert.ReferenceIdeal.main_v58).trans (Cert.At.mat_inj ((Cert.ReferenceIdeal.Work.v58_at m' c).trans ((congrArg _ (e c)).symm.trans (F_hard m c).symm)))) i,
      fun i _ => congrFun ((k Cert.ReferenceIdeal.main_v116).trans (Cert.At.mat_inj ((Cert.ReferenceIdeal.Work.v116_at m' c).trans ((congrArg _ (e c)).symm.trans (F_rm1 m c).symm)))) i, ?_⟩
    and_intros <;> exact (k _).trans (Cert.ReferenceIdeal.Work.S_arg m' c _ (by decide))

theorem claim : Cert.Claim := ⟨Cert.Kernel.Gen.facts, Cert.KernelIdeal.Gen.facts, Cert.ReferenceIdeal.Gen.facts, inferInstance,
  frame_kernel, frame_kernelIdeal, frame_referenceIdeal, preserves, algebraic⟩

end Cert.Proof

end
